-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x16x6144 : Shape := ⟨3, ![32, 16, 6144]⟩
abbrev S32 : Shape := ⟨1, ![32]⟩
abbrev S32x768x6144 : Shape := ⟨3, ![32, 768, 6144]⟩
abbrev S32x768 : Shape := ⟨2, ![32, 768]⟩
abbrev S_ : Shape := ⟨0, ![]⟩

class Facts : Prop where
  bcast_S_S32x16x6144 : S_.BroadcastsInDim S32x16x6144 (![] : Fin 0 → Fin S32x16x6144.rank)

variable [Facts]

def fn {F : FTy → Type} [FloatOps F] (main_arg0 : FVec F S32x16x6144 .bf16) (main_arg1 : IVec S32 32) (main_arg2 : FVec F S32x768x6144 .fp8e4m3) (main_arg3 : FVec F S32x768 .f32) : IVec S32x16x6144 1 :=
  let main_cst : FVec F S_ .bf16 := constant S_ .bf16 0xFF7F#16
  let main_v0 : FVec F S32x16x6144 .bf16 := broadcastInDim S32x16x6144 ![] bcast_S_S32x16x6144 main_cst
  let main_v1 : IVec S32x16x6144 1 := cmpf .oge main_arg0 main_v0
  let main_cst_0 : FVec F S_ .bf16 := constant S_ .bf16 0x7F7F#16
  let main_v2 : FVec F S32x16x6144 .bf16 := broadcastInDim S32x16x6144 ![] bcast_S_S32x16x6144 main_cst_0
  let main_v3 : IVec S32x16x6144 1 := cmpf .ole main_arg0 main_v2
  let main_v4 : IVec S32x16x6144 1 := andi main_v1 main_v3
  main_v4
-- ==== Kernel.lean ====
abbrev S32x16x6144 : Shape := ⟨3, ![32, 16, 6144]⟩
abbrev S32 : Shape := ⟨1, ![32]⟩
abbrev S32x768x6144 : Shape := ⟨3, ![32, 768, 6144]⟩
abbrev S32x768 : Shape := ⟨2, ![32, 768]⟩
abbrev S32x2x8x6144 : Shape := ⟨4, ![32, 2, 8, 6144]⟩
abbrev S32x16x768 : Shape := ⟨3, ![32, 16, 768]⟩
abbrev S3x768x6144 : Shape := ⟨3, ![3, 768, 6144]⟩
abbrev S2x32x6144 : Shape := ⟨3, ![2, 32, 6144]⟩
abbrev S2x16x128 : Shape := ⟨3, ![2, 16, 128]⟩
abbrev S16x768 : Shape := ⟨2, ![16, 768]⟩
abbrev S_ : Shape := ⟨0, ![]⟩
abbrev S3x3 : Shape := ⟨2, ![3, 3]⟩
abbrev S1 : Shape := ⟨1, ![1]⟩
abbrev S1x1x8x6144 : Shape := ⟨4, ![1, 1, 8, 6144]⟩
abbrev S8x6144 : Shape := ⟨2, ![8, 6144]⟩
abbrev S1x1 : Shape := ⟨2, ![1, 1]⟩
abbrev S1x256x6144 : Shape := ⟨3, ![1, 256, 6144]⟩
abbrev S256x6144 : Shape := ⟨2, ![256, 6144]⟩
abbrev S1x16x768 : Shape := ⟨3, ![1, 16, 768]⟩
abbrev S1x2x8x6144 : Shape := ⟨4, ![1, 2, 8, 6144]⟩
abbrev S2x8x6144 : Shape := ⟨3, ![2, 8, 6144]⟩
abbrev S16x6144 : Shape := ⟨2, ![16, 6144]⟩
abbrev S16 : Shape := ⟨1, ![16]⟩
abbrev S16x1 : Shape := ⟨2, ![16, 1]⟩
abbrev S32x6144 : Shape := ⟨2, ![32, 6144]⟩
abbrev S1x32x6144 : Shape := ⟨3, ![1, 32, 6144]⟩
abbrev S16x128 : Shape := ⟨2, ![16, 128]⟩
abbrev S1x16x128 : Shape := ⟨3, ![1, 16, 128]⟩
abbrev S1x768 : Shape := ⟨2, ![1, 768]⟩
abbrev S32x256 : Shape := ⟨2, ![32, 256]⟩
abbrev S1x512x256 : Shape := ⟨3, ![1, 512, 256]⟩
abbrev S512x256 : Shape := ⟨2, ![512, 256]⟩
abbrev S32x512 : Shape := ⟨2, ![32, 512]⟩
abbrev S1x256x256 : Shape := ⟨3, ![1, 256, 256]⟩
abbrev S256x256 : Shape := ⟨2, ![256, 256]⟩
abbrev S256x32 : Shape := ⟨2, ![256, 32]⟩
abbrev S16x512 : Shape := ⟨2, ![16, 512]⟩
abbrev S16x256 : Shape := ⟨2, ![16, 256]⟩

abbrev nBuf : Space → Nat
  | .hbm => 6
  | .vmem => 7
  | .smem => 2
  | _ => 0

abbrev bufTy : (tb : Table) → Fin (tcTables nBuf tb) → BufTy
  | .hbm, ⟨0, _⟩ => ⟨S32x16x6144, .bf16⟩
  | .hbm, ⟨1, _⟩ => ⟨S32, .i32⟩
  | .hbm, ⟨2, _⟩ => ⟨S32x768x6144, .fp8e4m3⟩
  | .hbm, ⟨3, _⟩ => ⟨S32x768, .f32⟩
  | .hbm, ⟨4, _⟩ => ⟨S32x2x8x6144, .bf16⟩
  | .hbm, ⟨5, _⟩ => ⟨S32x16x768, .bf16⟩
  | .local _ .vmem, ⟨0, _⟩ => ⟨S3x768x6144, .fp8e4m3⟩
  | .local _ .vmem, ⟨1, _⟩ => ⟨S32x2x8x6144, .bf16⟩
  | .local _ .vmem, ⟨2, _⟩ => ⟨S2x32x6144, .fp8e4m3⟩
  | .local _ .vmem, ⟨3, _⟩ => ⟨S2x16x128, .f32⟩
  | .local _ .vmem, ⟨4, _⟩ => ⟨S32x768, .f32⟩
  | .local _ .vmem, ⟨5, _⟩ => ⟨S32x16x768, .bf16⟩
  | .local _ .vmem, ⟨6, _⟩ => ⟨S16x768, .bf16⟩
  | .local _ .smem, ⟨0, _⟩ => ⟨S32, .i32⟩
  | .local _ .smem, ⟨1, _⟩ => ⟨S32, .i32⟩
  | _, _ => ⟨S32x16x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_scratch2 : Ref sig .tc := ⟨.vmem, 0, rfl⟩
abbrev cc0_scratch3 : Ref sig .tc := ⟨.vmem, 1, rfl⟩
abbrev cc0_scratch4 : Ref sig .tc := ⟨.vmem, 2, rfl⟩
abbrev cc0_scratch5 : Ref sig .tc := ⟨.vmem, 3, rfl⟩
abbrev cc0_scratch6 : Ref sig .tc := ⟨.vmem, 4, rfl⟩
abbrev cc0_scratch7 : Ref sig .tc := ⟨.vmem, 5, rfl⟩
abbrev cc0_scratch8 : Ref sig .tc := ⟨.vmem, 6, rfl⟩
abbrev cc0_scratch0 : Ref sig .tc := ⟨.smem, 0, rfl⟩
abbrev cc0_scratch1 : Ref sig .tc := ⟨.smem, 1, rfl⟩

abbrev nD : Nat := 1
abbrev τ : Topo := Topo.v7x

variable {F : FTy → Type} [FloatOps F]

abbrev grid0 : Pipeline.Grid := .none

@[reducible] def k0_t1_loop : Scf.Loop 32 :=
  let c0_i32_258 : BitVec 32 := 0#32
  let c32_i32 : BitVec 32 := 32#32
  let v196 : BitVec 32 := Scalar.addi c0_i32_258 c32_i32
  let c1_i32_259 : BitVec 32 := 1#32
  ⟨c0_i32_258, v196, c1_i32_259⟩
def k0_off1 (k0_t1 : Fin k0_t1_loop.trips) : Fin 1 → Nat :=
  let c0_i32_258 : BitVec 32 := 0#32
  let c1_i32_259 : BitVec 32 := 1#32
  let arg19 : BitVec 32 := Scf.iv c0_i32_258 c1_i32_259 k0_t1
  let v402 : Index := Scalar.indexCast arg19
  ![v402.toNat]
def k0_off2 (arg20 : BitVec 32) : Fin 1 → Nat :=
  let v412 : Index := Scalar.indexCast arg20
  ![v412.toNat]
def k0_cond1 (v403 : BitVec 32) : BitVec 1 :=
  let c0_i32_562 : BitVec 32 := 0#32
  let v404 : BitVec 1 := Scalar.cmpi .sgt v403 c0_i32_562
  let v405 : BitVec 32 := Scalar.extui v404
  let c0_i32_563 : BitVec 32 := 0#32
  let v406 : BitVec 1 := Scalar.cmpi .ne v405 c0_i32_563
  v406

def k0_off3 (arg20 : BitVec 32) : Fin 1 → Nat :=
  let v417 : Index := Scalar.indexCast arg20
  ![v417.toNat]
def k0_cond2 (arg20 : BitVec 32) : BitVec 1 :=
  let c3_i32_565 : BitVec 32 := 3#32
  let v414 : BitVec 1 := Scalar.cmpi .slt arg20 c3_i32_565
  let v415 : BitVec 32 := Scalar.extui v414
  let c0_i32_566 : BitVec 32 := 0#32
  let v416 : BitVec 1 := Scalar.cmpi .ne v415 c0_i32_566
  v416

def k0_off4 (v418 : BitVec 32) : Fin 1 → Nat :=
  let v419 : Index := Scalar.indexCast v418
  ![v419.toNat]

def k0_chk2 (arg20 : BitVec 32) (v403 : BitVec 32) (v418 : BitVec 32) : Prop :=
  (∀ (k0_h1 : k0_cond1 v403 = 1#1), ∀ (k0_h2 : k0_cond2 arg20 = 1#1), ∀ a, (k0_off4 v418) a + S1.size a ≤ S32.size a)
theorem k0_off4_inb : ∀ (arg20 : BitVec 32) (v403 : BitVec 32) (v418 : BitVec 32) (k0_hw2 : k0_chk2 arg20 v403 v418), ∀ (k0_h1 : k0_cond1 v403 = 1#1), ∀ (k0_h2 : k0_cond2 arg20 = 1#1), ∀ a, (k0_off4 v418) a + S1.size a ≤ S32.size a := fun arg20 v403 v418 k0_hw2 k0_h1 k0_h2 => k0_hw2 k0_h1 k0_h2

def k0_off5 (v418 : BitVec 32) : Fin 1 → Nat :=
  ![v418.toNat]
def k0_cond3 (v420 : BitVec 32) : BitVec 1 :=
  let c8_i32_567 : BitVec 32 := 8#32
  let v421 : BitVec 1 := Scalar.cmpi .sgt v420 c8_i32_567
  let v422 : BitVec 32 := Scalar.extui v421
  let c0_i32_568 : BitVec 32 := 0#32
  let v423 : BitVec 1 := Scalar.cmpi .ne v422 c0_i32_568
  v423

def k0_off6 (v418 : BitVec 32) : Fin 4 → Nat :=
  let c1_i32_586 : BitVec 32 := 1#32
  let c0_i32_587 : BitVec 32 := 0#32
  let c0_i32_588 : BitVec 32 := 0#32
  ![v418.toNat, 1, 0, 0]

def k0_chk3 (arg20 : BitVec 32) (v403 : BitVec 32) (v418 : BitVec 32) (v420 : BitVec 32) : Prop :=
  (∀ (k0_h1 : k0_cond1 v403 = 1#1), ∀ (k0_h2 : k0_cond2 arg20 = 1#1), ∀ (k0_h3 : k0_cond3 v420 = 1#1), ∀ a, (k0_off5 v418) a + S1.size a ≤ S32.size a) ∧
  (∀ (k0_h1 : k0_cond1 v403 = 1#1), ∀ (k0_h2 : k0_cond2 arg20 = 1#1), ∀ (k0_h3 : k0_cond3 v420 = 1#1), ∀ a, (k0_off6 v418) a + S1x1x8x6144.size a ≤ S32x2x8x6144.size a) ∧
  (∀ (k0_h1 : k0_cond1 v403 = 1#1), ∀ (k0_h2 : k0_cond2 arg20 = 1#1), ∀ (k0_h3 : k0_cond3 v420 = 1#1), ∀ (hinb : ∀ a, (k0_off6 v418) a + S1x1x8x6144.size a ≤ S32x2x8x6144.size a), (Rect.unit (s := S32x2x8x6144) (k0_off6 v418) S1x1x8x6144.size hinb).WholeWords (EltTy.packing .bf16))
theorem k0_off5_inb : ∀ (arg20 : BitVec 32) (v403 : BitVec 32) (v418 : BitVec 32) (v420 : BitVec 32) (k0_hw3 : k0_chk3 arg20 v403 v418 v420), ∀ (k0_h1 : k0_cond1 v403 = 1#1), ∀ (k0_h2 : k0_cond2 arg20 = 1#1), ∀ (k0_h3 : k0_cond3 v420 = 1#1), ∀ a, (k0_off5 v418) a + S1.size a ≤ S32.size a := fun arg20 v403 v418 v420 k0_hw3 k0_h1 k0_h2 k0_h3 => k0_hw3.1 k0_h1 k0_h2 k0_h3
theorem k0_off6_inb : ∀ (arg20 : BitVec 32) (v403 : BitVec 32) (v418 : BitVec 32) (v420 : BitVec 32) (k0_hw3 : k0_chk3 arg20 v403 v418 v420), ∀ (k0_h1 : k0_cond1 v403 = 1#1), ∀ (k0_h2 : k0_cond2 arg20 = 1#1), ∀ (k0_h3 : k0_cond3 v420 = 1#1), ∀ a, (k0_off6 v418) a + S1x1x8x6144.size a ≤ S32x2x8x6144.size a := fun arg20 v403 v418 v420 k0_hw3 k0_h1 k0_h2 k0_h3 => k0_hw3.2.1 k0_h1 k0_h2 k0_h3
theorem k0_off6_wordsbf16 : ∀ (arg20 : BitVec 32) (v403 : BitVec 32) (v418 : BitVec 32) (v420 : BitVec 32) (k0_hw3 : k0_chk3 arg20 v403 v418 v420), ∀ (k0_h1 : k0_cond1 v403 = 1#1), ∀ (k0_h2 : k0_cond2 arg20 = 1#1), ∀ (k0_h3 : k0_cond3 v420 = 1#1), (Rect.unit (s := S32x2x8x6144) (k0_off6 v418) S1x1x8x6144.size (k0_off6_inb arg20 v403 v418 v420 k0_hw3 k0_h1 k0_h2 k0_h3)).WholeWords (EltTy.packing .bf16) := fun arg20 v403 v418 v420 k0_hw3 k0_h1 k0_h2 k0_h3 => k0_hw3.2.2 k0_h1 k0_h2 k0_h3 (k0_off6_inb arg20 v403 v418 v420 k0_hw3 k0_h1 k0_h2 k0_h3)

def k0_off7 (arg20 : BitVec 32) : Fin 1 → Nat :=
  let v425 : Index := Scalar.indexCast arg20
  ![v425.toNat]
def k0_off8 (arg20 : BitVec 32) : Fin 2 → Nat :=
  let c3_i32_569 : BitVec 32 := 3#32
  let v424 : BitVec 32 := Scalar.remsi arg20 c3_i32_569
  let c0_i32_570 : BitVec 32 := 0#32
  ![v424.toNat, 0]
def k0_off9 (arg20 : BitVec 32) : Fin 3 → Nat :=
  let c3_i32_569 : BitVec 32 := 3#32
  let v424 : BitVec 32 := Scalar.remsi arg20 c3_i32_569
  let c0_i32_571 : BitVec 32 := 0#32
  let c0_i32_572 : BitVec 32 := 0#32
  ![v424.toNat, 0, 0]
def k0_off10 (v426 : BitVec 32) : Fin 3 → Nat :=
  let c0_i32_573 : BitVec 32 := 0#32
  let c0_i32_574 : BitVec 32 := 0#32
  ![v426.toNat, 0, 0]

def k0_chk4 (arg20 : BitVec 32) (v403 : BitVec 32) (v426 : BitVec 32) : Prop :=
  (∀ (k0_h1 : k0_cond1 v403 = 1#1), ∀ (k0_h2 : k0_cond2 arg20 = 1#1), ∀ a, (k0_off10 v426) a + S1x256x6144.size a ≤ S32x768x6144.size a) ∧
  (∀ (k0_h1 : k0_cond1 v403 = 1#1), ∀ (k0_h2 : k0_cond2 arg20 = 1#1), ∀ (hinb : ∀ a, (k0_off10 v426) a + S1x256x6144.size a ≤ S32x768x6144.size a), (Rect.unit (s := S32x768x6144) (k0_off10 v426) S1x256x6144.size hinb).WholeWords (EltTy.packing .fp8e4m3))
theorem k0_off10_inb : ∀ (arg20 : BitVec 32) (v403 : BitVec 32) (v426 : BitVec 32) (k0_hw4 : k0_chk4 arg20 v403 v426), ∀ (k0_h1 : k0_cond1 v403 = 1#1), ∀ (k0_h2 : k0_cond2 arg20 = 1#1), ∀ a, (k0_off10 v426) a + S1x256x6144.size a ≤ S32x768x6144.size a := fun arg20 v403 v426 k0_hw4 k0_h1 k0_h2 => k0_hw4.1 k0_h1 k0_h2
theorem k0_off10_wordsfp8e4m3 : ∀ (arg20 : BitVec 32) (v403 : BitVec 32) (v426 : BitVec 32) (k0_hw4 : k0_chk4 arg20 v403 v426), ∀ (k0_h1 : k0_cond1 v403 = 1#1), ∀ (k0_h2 : k0_cond2 arg20 = 1#1), (Rect.unit (s := S32x768x6144) (k0_off10 v426) S1x256x6144.size (k0_off10_inb arg20 v403 v426 k0_hw4 k0_h1 k0_h2)).WholeWords (EltTy.packing .fp8e4m3) := fun arg20 v403 v426 k0_hw4 k0_h1 k0_h2 => k0_hw4.2 k0_h1 k0_h2 (k0_off10_inb arg20 v403 v426 k0_hw4 k0_h1 k0_h2)

def k0_off11 (arg20 : BitVec 32) : Fin 1 → Nat :=
  let v434 : Index := Scalar.indexCast arg20
  ![v434.toNat]
def k0_off12 (arg20 : BitVec 32) : Fin 2 → Nat :=
  let c3_i32_575 : BitVec 32 := 3#32
  let v433 : BitVec 32 := Scalar.remsi arg20 c3_i32_575
  let c1_i32_576 : BitVec 32 := 1#32
  ![v433.toNat, 1]
def k0_off13 (arg20 : BitVec 32) : Fin 3 → Nat :=
  let c3_i32_575 : BitVec 32 := 3#32
  let v433 : BitVec 32 := Scalar.remsi arg20 c3_i32_575
  let c256_i32 : BitVec 32 := 256#32
  let c0_i32_577 : BitVec 32 := 0#32
  ![v433.toNat, 256, 0]
def k0_off14 (v435 : BitVec 32) : Fin 3 → Nat :=
  let c256_i32_578 : BitVec 32 := 256#32
  let c0_i32_579 : BitVec 32 := 0#32
  ![v435.toNat, 256, 0]

def k0_chk5 (arg20 : BitVec 32) (v403 : BitVec 32) (v435 : BitVec 32) : Prop :=
  (∀ (k0_h1 : k0_cond1 v403 = 1#1), ∀ (k0_h2 : k0_cond2 arg20 = 1#1), ∀ a, (k0_off14 v435) a + S1x256x6144.size a ≤ S32x768x6144.size a) ∧
  (∀ (k0_h1 : k0_cond1 v403 = 1#1), ∀ (k0_h2 : k0_cond2 arg20 = 1#1), ∀ (hinb : ∀ a, (k0_off14 v435) a + S1x256x6144.size a ≤ S32x768x6144.size a), (Rect.unit (s := S32x768x6144) (k0_off14 v435) S1x256x6144.size hinb).WholeWords (EltTy.packing .fp8e4m3))
theorem k0_off14_inb : ∀ (arg20 : BitVec 32) (v403 : BitVec 32) (v435 : BitVec 32) (k0_hw5 : k0_chk5 arg20 v403 v435), ∀ (k0_h1 : k0_cond1 v403 = 1#1), ∀ (k0_h2 : k0_cond2 arg20 = 1#1), ∀ a, (k0_off14 v435) a + S1x256x6144.size a ≤ S32x768x6144.size a := fun arg20 v403 v435 k0_hw5 k0_h1 k0_h2 => k0_hw5.1 k0_h1 k0_h2
theorem k0_off14_wordsfp8e4m3 : ∀ (arg20 : BitVec 32) (v403 : BitVec 32) (v435 : BitVec 32) (k0_hw5 : k0_chk5 arg20 v403 v435), ∀ (k0_h1 : k0_cond1 v403 = 1#1), ∀ (k0_h2 : k0_cond2 arg20 = 1#1), (Rect.unit (s := S32x768x6144) (k0_off14 v435) S1x256x6144.size (k0_off14_inb arg20 v403 v435 k0_hw5 k0_h1 k0_h2)).WholeWords (EltTy.packing .fp8e4m3) := fun arg20 v403 v435 k0_hw5 k0_h1 k0_h2 => k0_hw5.2 k0_h1 k0_h2 (k0_off14_inb arg20 v403 v435 k0_hw5 k0_h1 k0_h2)

def k0_off15 (arg20 : BitVec 32) : Fin 1 → Nat :=
  let v443 : Index := Scalar.indexCast arg20
  ![v443.toNat]
def k0_off16 (arg20 : BitVec 32) : Fin 2 → Nat :=
  let c3_i32_580 : BitVec 32 := 3#32
  let v442 : BitVec 32 := Scalar.remsi arg20 c3_i32_580
  let c2_i32_581 : BitVec 32 := 2#32
  ![v442.toNat, 2]
def k0_off17 (arg20 : BitVec 32) : Fin 3 → Nat :=
  let c3_i32_580 : BitVec 32 := 3#32
  let v442 : BitVec 32 := Scalar.remsi arg20 c3_i32_580
  let c512_i32 : BitVec 32 := 512#32
  let c0_i32_582 : BitVec 32 := 0#32
  ![v442.toNat, 512, 0]
def k0_off18 (v444 : BitVec 32) : Fin 3 → Nat :=
  let c512_i32_583 : BitVec 32 := 512#32
  let c0_i32_584 : BitVec 32 := 0#32
  ![v444.toNat, 512, 0]

def k0_chk6 (arg20 : BitVec 32) (v403 : BitVec 32) (v444 : BitVec 32) : Prop :=
  (∀ (k0_h1 : k0_cond1 v403 = 1#1), ∀ (k0_h2 : k0_cond2 arg20 = 1#1), ∀ a, (k0_off18 v444) a + S1x256x6144.size a ≤ S32x768x6144.size a) ∧
  (∀ (k0_h1 : k0_cond1 v403 = 1#1), ∀ (k0_h2 : k0_cond2 arg20 = 1#1), ∀ (hinb : ∀ a, (k0_off18 v444) a + S1x256x6144.size a ≤ S32x768x6144.size a), (Rect.unit (s := S32x768x6144) (k0_off18 v444) S1x256x6144.size hinb).WholeWords (EltTy.packing .fp8e4m3))
theorem k0_off18_inb : ∀ (arg20 : BitVec 32) (v403 : BitVec 32) (v444 : BitVec 32) (k0_hw6 : k0_chk6 arg20 v403 v444), ∀ (k0_h1 : k0_cond1 v403 = 1#1), ∀ (k0_h2 : k0_cond2 arg20 = 1#1), ∀ a, (k0_off18 v444) a + S1x256x6144.size a ≤ S32x768x6144.size a := fun arg20 v403 v444 k0_hw6 k0_h1 k0_h2 => k0_hw6.1 k0_h1 k0_h2
theorem k0_off18_wordsfp8e4m3 : ∀ (arg20 : BitVec 32) (v403 : BitVec 32) (v444 : BitVec 32) (k0_hw6 : k0_chk6 arg20 v403 v444), ∀ (k0_h1 : k0_cond1 v403 = 1#1), ∀ (k0_h2 : k0_cond2 arg20 = 1#1), (Rect.unit (s := S32x768x6144) (k0_off18 v444) S1x256x6144.size (k0_off18_inb arg20 v403 v444 k0_hw6 k0_h1 k0_h2)).WholeWords (EltTy.packing .fp8e4m3) := fun arg20 v403 v444 k0_hw6 k0_h1 k0_h2 => k0_hw6.2 k0_h1 k0_h2 (k0_off18_inb arg20 v403 v444 k0_hw6 k0_h1 k0_h2)

def k0_chk1 (arg20 : BitVec 32) (v403 : BitVec 32) : Prop :=
  (∀ (k0_h1 : k0_cond1 v403 = 1#1), ∀ a, (k0_off2 arg20) a + S1.size a ≤ S32.size a) ∧
  (∀ (k0_h1 : k0_cond1 v403 = 1#1), ∀ (k0_h2 : k0_cond2 arg20 = 1#1), ∀ a, (k0_off3 arg20) a + S1.size a ≤ S32.size a) ∧
  (∀ (k0_h1 : k0_cond1 v403 = 1#1), ∀ (k0_h2 : k0_cond2 arg20 = 1#1), ∀ a, (k0_off7 arg20) a + S1.size a ≤ S32.size a) ∧
  (∀ (k0_h1 : k0_cond1 v403 = 1#1), ∀ (k0_h2 : k0_cond2 arg20 = 1#1), ∀ a, (k0_off8 arg20) a + S1x1.size a ≤ S3x3.size a) ∧
  (∀ (k0_h1 : k0_cond1 v403 = 1#1), ∀ (k0_h2 : k0_cond2 arg20 = 1#1), ∀ a, (k0_off9 arg20) a + S1x256x6144.size a ≤ S3x768x6144.size a) ∧
  (∀ (k0_h1 : k0_cond1 v403 = 1#1), ∀ (k0_h2 : k0_cond2 arg20 = 1#1), ∀ (hinb : ∀ a, (k0_off9 arg20) a + S1x256x6144.size a ≤ S3x768x6144.size a), (Rect.unit (s := S3x768x6144) (k0_off9 arg20) S1x256x6144.size hinb).WholeWords (EltTy.packing .fp8e4m3)) ∧
  (∀ (k0_h1 : k0_cond1 v403 = 1#1), ∀ (k0_h2 : k0_cond2 arg20 = 1#1), ∀ a, (k0_off11 arg20) a + S1.size a ≤ S32.size a) ∧
  (∀ (k0_h1 : k0_cond1 v403 = 1#1), ∀ (k0_h2 : k0_cond2 arg20 = 1#1), ∀ a, (k0_off12 arg20) a + S1x1.size a ≤ S3x3.size a) ∧
  (∀ (k0_h1 : k0_cond1 v403 = 1#1), ∀ (k0_h2 : k0_cond2 arg20 = 1#1), ∀ a, (k0_off13 arg20) a + S1x256x6144.size a ≤ S3x768x6144.size a) ∧
  (∀ (k0_h1 : k0_cond1 v403 = 1#1), ∀ (k0_h2 : k0_cond2 arg20 = 1#1), ∀ (hinb : ∀ a, (k0_off13 arg20) a + S1x256x6144.size a ≤ S3x768x6144.size a), (Rect.unit (s := S3x768x6144) (k0_off13 arg20) S1x256x6144.size hinb).WholeWords (EltTy.packing .fp8e4m3)) ∧
  (∀ (k0_h1 : k0_cond1 v403 = 1#1), ∀ (k0_h2 : k0_cond2 arg20 = 1#1), ∀ a, (k0_off15 arg20) a + S1.size a ≤ S32.size a) ∧
  (∀ (k0_h1 : k0_cond1 v403 = 1#1), ∀ (k0_h2 : k0_cond2 arg20 = 1#1), ∀ a, (k0_off16 arg20) a + S1x1.size a ≤ S3x3.size a) ∧
  (∀ (k0_h1 : k0_cond1 v403 = 1#1), ∀ (k0_h2 : k0_cond2 arg20 = 1#1), ∀ a, (k0_off17 arg20) a + S1x256x6144.size a ≤ S3x768x6144.size a) ∧
  (∀ (k0_h1 : k0_cond1 v403 = 1#1), ∀ (k0_h2 : k0_cond2 arg20 = 1#1), ∀ (hinb : ∀ a, (k0_off17 arg20) a + S1x256x6144.size a ≤ S3x768x6144.size a), (Rect.unit (s := S3x768x6144) (k0_off17 arg20) S1x256x6144.size hinb).WholeWords (EltTy.packing .fp8e4m3))
theorem k0_off2_inb : ∀ (arg20 : BitVec 32) (v403 : BitVec 32) (k0_hw1 : k0_chk1 arg20 v403), ∀ (k0_h1 : k0_cond1 v403 = 1#1), ∀ a, (k0_off2 arg20) a + S1.size a ≤ S32.size a := fun arg20 v403 k0_hw1 k0_h1 => k0_hw1.1 k0_h1
theorem k0_off3_inb : ∀ (arg20 : BitVec 32) (v403 : BitVec 32) (k0_hw1 : k0_chk1 arg20 v403), ∀ (k0_h1 : k0_cond1 v403 = 1#1), ∀ (k0_h2 : k0_cond2 arg20 = 1#1), ∀ a, (k0_off3 arg20) a + S1.size a ≤ S32.size a := fun arg20 v403 k0_hw1 k0_h1 k0_h2 => k0_hw1.2.1 k0_h1 k0_h2
theorem k0_off7_inb : ∀ (arg20 : BitVec 32) (v403 : BitVec 32) (k0_hw1 : k0_chk1 arg20 v403), ∀ (k0_h1 : k0_cond1 v403 = 1#1), ∀ (k0_h2 : k0_cond2 arg20 = 1#1), ∀ a, (k0_off7 arg20) a + S1.size a ≤ S32.size a := fun arg20 v403 k0_hw1 k0_h1 k0_h2 => k0_hw1.2.2.1 k0_h1 k0_h2
theorem k0_off8_inb : ∀ (arg20 : BitVec 32) (v403 : BitVec 32) (k0_hw1 : k0_chk1 arg20 v403), ∀ (k0_h1 : k0_cond1 v403 = 1#1), ∀ (k0_h2 : k0_cond2 arg20 = 1#1), ∀ a, (k0_off8 arg20) a + S1x1.size a ≤ S3x3.size a := fun arg20 v403 k0_hw1 k0_h1 k0_h2 => k0_hw1.2.2.2.1 k0_h1 k0_h2
theorem k0_off9_inb : ∀ (arg20 : BitVec 32) (v403 : BitVec 32) (k0_hw1 : k0_chk1 arg20 v403), ∀ (k0_h1 : k0_cond1 v403 = 1#1), ∀ (k0_h2 : k0_cond2 arg20 = 1#1), ∀ a, (k0_off9 arg20) a + S1x256x6144.size a ≤ S3x768x6144.size a := fun arg20 v403 k0_hw1 k0_h1 k0_h2 => k0_hw1.2.2.2.2.1 k0_h1 k0_h2
theorem k0_off9_wordsfp8e4m3 : ∀ (arg20 : BitVec 32) (v403 : BitVec 32) (k0_hw1 : k0_chk1 arg20 v403), ∀ (k0_h1 : k0_cond1 v403 = 1#1), ∀ (k0_h2 : k0_cond2 arg20 = 1#1), (Rect.unit (s := S3x768x6144) (k0_off9 arg20) S1x256x6144.size (k0_off9_inb arg20 v403 k0_hw1 k0_h1 k0_h2)).WholeWords (EltTy.packing .fp8e4m3) := fun arg20 v403 k0_hw1 k0_h1 k0_h2 => k0_hw1.2.2.2.2.2.1 k0_h1 k0_h2 (k0_off9_inb arg20 v403 k0_hw1 k0_h1 k0_h2)
theorem k0_off11_inb : ∀ (arg20 : BitVec 32) (v403 : BitVec 32) (k0_hw1 : k0_chk1 arg20 v403), ∀ (k0_h1 : k0_cond1 v403 = 1#1), ∀ (k0_h2 : k0_cond2 arg20 = 1#1), ∀ a, (k0_off11 arg20) a + S1.size a ≤ S32.size a := fun arg20 v403 k0_hw1 k0_h1 k0_h2 => k0_hw1.2.2.2.2.2.2.1 k0_h1 k0_h2
theorem k0_off12_inb : ∀ (arg20 : BitVec 32) (v403 : BitVec 32) (k0_hw1 : k0_chk1 arg20 v403), ∀ (k0_h1 : k0_cond1 v403 = 1#1), ∀ (k0_h2 : k0_cond2 arg20 = 1#1), ∀ a, (k0_off12 arg20) a + S1x1.size a ≤ S3x3.size a := fun arg20 v403 k0_hw1 k0_h1 k0_h2 => k0_hw1.2.2.2.2.2.2.2.1 k0_h1 k0_h2
theorem k0_off13_inb : ∀ (arg20 : BitVec 32) (v403 : BitVec 32) (k0_hw1 : k0_chk1 arg20 v403), ∀ (k0_h1 : k0_cond1 v403 = 1#1), ∀ (k0_h2 : k0_cond2 arg20 = 1#1), ∀ a, (k0_off13 arg20) a + S1x256x6144.size a ≤ S3x768x6144.size a := fun arg20 v403 k0_hw1 k0_h1 k0_h2 => k0_hw1.2.2.2.2.2.2.2.2.1 k0_h1 k0_h2
theorem k0_off13_wordsfp8e4m3 : ∀ (arg20 : BitVec 32) (v403 : BitVec 32) (k0_hw1 : k0_chk1 arg20 v403), ∀ (k0_h1 : k0_cond1 v403 = 1#1), ∀ (k0_h2 : k0_cond2 arg20 = 1#1), (Rect.unit (s := S3x768x6144) (k0_off13 arg20) S1x256x6144.size (k0_off13_inb arg20 v403 k0_hw1 k0_h1 k0_h2)).WholeWords (EltTy.packing .fp8e4m3) := fun arg20 v403 k0_hw1 k0_h1 k0_h2 => k0_hw1.2.2.2.2.2.2.2.2.2.1 k0_h1 k0_h2 (k0_off13_inb arg20 v403 k0_hw1 k0_h1 k0_h2)
theorem k0_off15_inb : ∀ (arg20 : BitVec 32) (v403 : BitVec 32) (k0_hw1 : k0_chk1 arg20 v403), ∀ (k0_h1 : k0_cond1 v403 = 1#1), ∀ (k0_h2 : k0_cond2 arg20 = 1#1), ∀ a, (k0_off15 arg20) a + S1.size a ≤ S32.size a := fun arg20 v403 k0_hw1 k0_h1 k0_h2 => k0_hw1.2.2.2.2.2.2.2.2.2.2.1 k0_h1 k0_h2
theorem k0_off16_inb : ∀ (arg20 : BitVec 32) (v403 : BitVec 32) (k0_hw1 : k0_chk1 arg20 v403), ∀ (k0_h1 : k0_cond1 v403 = 1#1), ∀ (k0_h2 : k0_cond2 arg20 = 1#1), ∀ a, (k0_off16 arg20) a + S1x1.size a ≤ S3x3.size a := fun arg20 v403 k0_hw1 k0_h1 k0_h2 => k0_hw1.2.2.2.2.2.2.2.2.2.2.2.1 k0_h1 k0_h2
theorem k0_off17_inb : ∀ (arg20 : BitVec 32) (v403 : BitVec 32) (k0_hw1 : k0_chk1 arg20 v403), ∀ (k0_h1 : k0_cond1 v403 = 1#1), ∀ (k0_h2 : k0_cond2 arg20 = 1#1), ∀ a, (k0_off17 arg20) a + S1x256x6144.size a ≤ S3x768x6144.size a := fun arg20 v403 k0_hw1 k0_h1 k0_h2 => k0_hw1.2.2.2.2.2.2.2.2.2.2.2.2.1 k0_h1 k0_h2
theorem k0_off17_wordsfp8e4m3 : ∀ (arg20 : BitVec 32) (v403 : BitVec 32) (k0_hw1 : k0_chk1 arg20 v403), ∀ (k0_h1 : k0_cond1 v403 = 1#1), ∀ (k0_h2 : k0_cond2 arg20 = 1#1), (Rect.unit (s := S3x768x6144) (k0_off17 arg20) S1x256x6144.size (k0_off17_inb arg20 v403 k0_hw1 k0_h1 k0_h2)).WholeWords (EltTy.packing .fp8e4m3) := fun arg20 v403 k0_hw1 k0_h1 k0_h2 => k0_hw1.2.2.2.2.2.2.2.2.2.2.2.2.2 k0_h1 k0_h2 (k0_off17_inb arg20 v403 k0_hw1 k0_h1 k0_h2)

def k0_off19 (k0_t1 : Fin k0_t1_loop.trips) : Fin 3 → Nat :=
  let c0_i32_258 : BitVec 32 := 0#32
  let c1_i32_259 : BitVec 32 := 1#32
  let arg19 : BitVec 32 := Scf.iv c0_i32_258 c1_i32_259 k0_t1
  let c0_i32_565 : BitVec 32 := 0#32
  let c0_i32_566 : BitVec 32 := 0#32
  ![arg19.toNat, 0, 0]
def k0_off20 (v402 : BitVec 32) : Fin 1 → Nat :=
  let v403 : Index := Scalar.indexCast v402
  ![v403.toNat]
def k0_cond5 (v197 : BitVec 32) : BitVec 1 :=
  let c0_i32_549 : BitVec 32 := 0#32
  let v390 : BitVec 1 := Scalar.cmpi .sgt v197 c0_i32_549
  let v391 : BitVec 32 := Scalar.extui v390
  let c0_i32_550 : BitVec 32 := 0#32
  let v392 : BitVec 1 := Scalar.cmpi .ne v391 c0_i32_550
  v392

def k0_off21 (v402 : BitVec 32) : Fin 1 → Nat :=
  ![v402.toNat]
def k0_cond6 (v404 : BitVec 32) : BitVec 1 :=
  let c8_i32_563 : BitVec 32 := 8#32
  let v405 : BitVec 1 := Scalar.cmpi .sgt v404 c8_i32_563
  let v406 : BitVec 32 := Scalar.extui v405
  let c0_i32_564 : BitVec 32 := 0#32
  let v407 : BitVec 1 := Scalar.cmpi .ne v406 c0_i32_564
  v407

def k0_off22 (v402 : BitVec 32) : Fin 4 → Nat :=
  let c1_i32_609 : BitVec 32 := 1#32
  let c0_i32_610 : BitVec 32 := 0#32
  let c0_i32_611 : BitVec 32 := 0#32
  ![v402.toNat, 1, 0, 0]

def k0_chk8 (v197 : BitVec 32) (v402 : BitVec 32) (v404 : BitVec 32) : Prop :=
  (∀ (k0_h5 : k0_cond5 v197 = 1#1), ∀ (k0_h6 : k0_cond6 v404 = 1#1), ∀ a, (k0_off21 v402) a + S1.size a ≤ S32.size a) ∧
  (∀ (k0_h5 : k0_cond5 v197 = 1#1), ∀ (k0_h6 : k0_cond6 v404 = 1#1), ∀ a, (k0_off22 v402) a + S1x1x8x6144.size a ≤ S32x2x8x6144.size a) ∧
  (∀ (k0_h5 : k0_cond5 v197 = 1#1), ∀ (k0_h6 : k0_cond6 v404 = 1#1), ∀ (hinb : ∀ a, (k0_off22 v402) a + S1x1x8x6144.size a ≤ S32x2x8x6144.size a), (Rect.unit (s := S32x2x8x6144) (k0_off22 v402) S1x1x8x6144.size hinb).WholeWords (EltTy.packing .bf16))
theorem k0_off21_inb : ∀ (v197 : BitVec 32) (v402 : BitVec 32) (v404 : BitVec 32) (k0_hw8 : k0_chk8 v197 v402 v404), ∀ (k0_h5 : k0_cond5 v197 = 1#1), ∀ (k0_h6 : k0_cond6 v404 = 1#1), ∀ a, (k0_off21 v402) a + S1.size a ≤ S32.size a := fun v197 v402 v404 k0_hw8 k0_h5 k0_h6 => k0_hw8.1 k0_h5 k0_h6
theorem k0_off22_inb : ∀ (v197 : BitVec 32) (v402 : BitVec 32) (v404 : BitVec 32) (k0_hw8 : k0_chk8 v197 v402 v404), ∀ (k0_h5 : k0_cond5 v197 = 1#1), ∀ (k0_h6 : k0_cond6 v404 = 1#1), ∀ a, (k0_off22 v402) a + S1x1x8x6144.size a ≤ S32x2x8x6144.size a := fun v197 v402 v404 k0_hw8 k0_h5 k0_h6 => k0_hw8.2.1 k0_h5 k0_h6
theorem k0_off22_wordsbf16 : ∀ (v197 : BitVec 32) (v402 : BitVec 32) (v404 : BitVec 32) (k0_hw8 : k0_chk8 v197 v402 v404), ∀ (k0_h5 : k0_cond5 v197 = 1#1), ∀ (k0_h6 : k0_cond6 v404 = 1#1), (Rect.unit (s := S32x2x8x6144) (k0_off22 v402) S1x1x8x6144.size (k0_off22_inb v197 v402 v404 k0_hw8 k0_h5 k0_h6)).WholeWords (EltTy.packing .bf16) := fun v197 v402 v404 k0_hw8 k0_h5 k0_h6 => k0_hw8.2.2 k0_h5 k0_h6 (k0_off22_inb v197 v402 v404 k0_hw8 k0_h5 k0_h6)

def k0_off23 (v402 : BitVec 32) : Fin 1 → Nat :=
  let v408 : Index := Scalar.indexCast v402
  ![v408.toNat]
def k0_off24 (v402 : BitVec 32) : Fin 4 → Nat :=
  let v410 : Index := Scalar.indexCast v402
  let c0_565 : Index := 0#32
  let c0_566 : Index := 0#32
  let c0_567 : Index := 0#32
  ![v410.toNat, 0, 0, 0]

def k0_chk7 (v197 : BitVec 32) (v402 : BitVec 32) : Prop :=
  (∀ (k0_h5 : k0_cond5 v197 = 1#1), ∀ a, (k0_off20 v402) a + S1.size a ≤ S32.size a) ∧
  (∀ (k0_h5 : k0_cond5 v197 = 1#1), ∀ a, (k0_off23 v402) a + S1.size a ≤ S32.size a) ∧
  (∀ (k0_h5 : k0_cond5 v197 = 1#1), ∀ a, (k0_off24 v402) a + S1x2x8x6144.size a ≤ S32x2x8x6144.size a)
theorem k0_off20_inb : ∀ (v197 : BitVec 32) (v402 : BitVec 32) (k0_hw7 : k0_chk7 v197 v402), ∀ (k0_h5 : k0_cond5 v197 = 1#1), ∀ a, (k0_off20 v402) a + S1.size a ≤ S32.size a := fun v197 v402 k0_hw7 k0_h5 => k0_hw7.1 k0_h5
theorem k0_off23_inb : ∀ (v197 : BitVec 32) (v402 : BitVec 32) (k0_hw7 : k0_chk7 v197 v402), ∀ (k0_h5 : k0_cond5 v197 = 1#1), ∀ a, (k0_off23 v402) a + S1.size a ≤ S32.size a := fun v197 v402 k0_hw7 k0_h5 => k0_hw7.2.1 k0_h5
theorem k0_off24_inb : ∀ (v197 : BitVec 32) (v402 : BitVec 32) (k0_hw7 : k0_chk7 v197 v402), ∀ (k0_h5 : k0_cond5 v197 = 1#1), ∀ a, (k0_off24 v402) a + S1x2x8x6144.size a ≤ S32x2x8x6144.size a := fun v197 v402 k0_hw7 k0_h5 => k0_hw7.2.2 k0_h5

@[reducible] def k0_t2_loop (v197 : BitVec 32) : Scf.Loop 32 :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_554 : BitVec 32 := 1#32
  ⟨c0_i32_552, v397, c1_i32_554⟩

def k0_off25 (v197 : BitVec 32) (k0_t2 : Fin (k0_t2_loop v197).trips) : Fin 1 → Nat :=
  let c0_i32_552 : BitVec 32 := 0#32
  let c1_i32_554 : BitVec 32 := 1#32
  let arg19 : BitVec 32 := Scf.iv c0_i32_552 c1_i32_554 k0_t2
  let v404 : Index := Scalar.indexCast arg19
  ![v404.toNat]
def k0_off26 (v197 : BitVec 32) (k0_t2 : Fin (k0_t2_loop v197).trips) : Fin 1 → Nat :=
  let c0_i32_552 : BitVec 32 := 0#32
  let c1_i32_554 : BitVec 32 := 1#32
  let arg19 : BitVec 32 := Scf.iv c0_i32_552 c1_i32_554 k0_t2
  let c1_i32_564 : BitVec 32 := 1#32
  let v406 : BitVec 32 := Scalar.addi arg19 c1_i32_564
  let c1_i32_565 : BitVec 32 := 1#32
  let v407 : BitVec 32 := Scalar.subi v197 c1_i32_565
  let v408 : BitVec 32 := Scalar.minsi v406 v407
  let v409 : Index := Scalar.indexCast v408
  ![v409.toNat]
def k0_cond7 (v197 : BitVec 32) (k0_t2 : Fin (k0_t2_loop v197).trips) : BitVec 1 :=
  let c0_i32_552 : BitVec 32 := 0#32
  let c1_i32_554 : BitVec 32 := 1#32
  let arg19 : BitVec 32 := Scf.iv c0_i32_552 c1_i32_554 k0_t2
  let c0_i32_566 : BitVec 32 := 0#32
  let v411 : BitVec 1 := Scalar.cmpi .sgt arg19 c0_i32_566
  let v412 : BitVec 32 := Scalar.extui v411
  let c0_i32_567 : BitVec 32 := 0#32
  let v413 : BitVec 1 := Scalar.cmpi .ne v412 c0_i32_567
  v413

def k0_off27 (v197 : BitVec 32) (k0_t2 : Fin (k0_t2_loop v197).trips) : Fin 1 → Nat :=
  let c0_i32_552 : BitVec 32 := 0#32
  let c1_i32_554 : BitVec 32 := 1#32
  let arg19 : BitVec 32 := Scf.iv c0_i32_552 c1_i32_554 k0_t2
  let c1_i32_758 : BitVec 32 := 1#32
  let v865 : BitVec 32 := Scalar.subi arg19 c1_i32_758
  let v866 : Index := Scalar.indexCast v865
  ![v866.toNat]
def k0_off28 (v867 : BitVec 32) : Fin 3 → Nat :=
  let c0_i32_759 : BitVec 32 := 0#32
  let c0_i32_760 : BitVec 32 := 0#32
  ![v867.toNat, 0, 0]

def k0_chk10 (v197 : BitVec 32) (k0_t2 : Fin (k0_t2_loop v197).trips) (v867 : BitVec 32) : Prop :=
  (∀ (k0_h7 : k0_cond7 v197 k0_t2 = 1#1), ∀ a, (k0_off28 v867) a + S1x16x768.size a ≤ S32x16x768.size a) ∧
  (∀ (k0_h7 : k0_cond7 v197 k0_t2 = 1#1), ∀ (hinb : ∀ a, (k0_off28 v867) a + S1x16x768.size a ≤ S32x16x768.size a), (Rect.unit (s := S32x16x768) (k0_off28 v867) S1x16x768.size hinb).WholeWords (EltTy.packing .bf16))
theorem k0_off28_inb : ∀ (v197 : BitVec 32) (k0_t2 : Fin (k0_t2_loop v197).trips) (v867 : BitVec 32) (k0_hw10 : k0_chk10 v197 k0_t2 v867), ∀ (k0_h7 : k0_cond7 v197 k0_t2 = 1#1), ∀ a, (k0_off28 v867) a + S1x16x768.size a ≤ S32x16x768.size a := fun v197 k0_t2 v867 k0_hw10 k0_h7 => k0_hw10.1 k0_h7
theorem k0_off28_wordsbf16 : ∀ (v197 : BitVec 32) (k0_t2 : Fin (k0_t2_loop v197).trips) (v867 : BitVec 32) (k0_hw10 : k0_chk10 v197 k0_t2 v867), ∀ (k0_h7 : k0_cond7 v197 k0_t2 = 1#1), (Rect.unit (s := S32x16x768) (k0_off28 v867) S1x16x768.size (k0_off28_inb v197 k0_t2 v867 k0_hw10 k0_h7)).WholeWords (EltTy.packing .bf16) := fun v197 k0_t2 v867 k0_hw10 k0_h7 => k0_hw10.2 k0_h7 (k0_off28_inb v197 k0_t2 v867 k0_hw10 k0_h7)

def k0_off29 (v197 : BitVec 32) (k0_t2 : Fin (k0_t2_loop v197).trips) : Fin 1 → Nat :=
  let c0_i32_552 : BitVec 32 := 0#32
  let c1_i32_554 : BitVec 32 := 1#32
  let arg19 : BitVec 32 := Scf.iv c0_i32_552 c1_i32_554 k0_t2
  let c1_i32_766 : BitVec 32 := 1#32
  let v877 : BitVec 32 := Scalar.subi arg19 c1_i32_766
  let c3_i32_767 : BitVec 32 := 3#32
  let v878 : BitVec 32 := Scalar.addi v877 c3_i32_767
  let v879 : Index := Scalar.indexCast v878
  ![v879.toNat]
def k0_cond8 (v197 : BitVec 32) (k0_t2 : Fin (k0_t2_loop v197).trips) : BitVec 1 :=
  let c0_i32_552 : BitVec 32 := 0#32
  let c1_i32_554 : BitVec 32 := 1#32
  let arg19 : BitVec 32 := Scf.iv c0_i32_552 c1_i32_554 k0_t2
  let c1_i32_763 : BitVec 32 := 1#32
  let v872 : BitVec 32 := Scalar.subi arg19 c1_i32_763
  let c3_i32_764 : BitVec 32 := 3#32
  let v873 : BitVec 32 := Scalar.addi v872 c3_i32_764
  let v874 : BitVec 1 := Scalar.cmpi .slt v873 v197
  let v875 : BitVec 32 := Scalar.extui v874
  let c0_i32_765 : BitVec 32 := 0#32
  let v876 : BitVec 1 := Scalar.cmpi .ne v875 c0_i32_765
  v876

def k0_off30 (v880 : BitVec 32) : Fin 1 → Nat :=
  let v881 : Index := Scalar.indexCast v880
  ![v881.toNat]

def k0_chk11 (v197 : BitVec 32) (k0_t2 : Fin (k0_t2_loop v197).trips) (v880 : BitVec 32) : Prop :=
  (∀ (k0_h7 : k0_cond7 v197 k0_t2 = 1#1), ∀ (k0_h8 : k0_cond8 v197 k0_t2 = 1#1), ∀ a, (k0_off30 v880) a + S1.size a ≤ S32.size a)
theorem k0_off30_inb : ∀ (v197 : BitVec 32) (k0_t2 : Fin (k0_t2_loop v197).trips) (v880 : BitVec 32) (k0_hw11 : k0_chk11 v197 k0_t2 v880), ∀ (k0_h7 : k0_cond7 v197 k0_t2 = 1#1), ∀ (k0_h8 : k0_cond8 v197 k0_t2 = 1#1), ∀ a, (k0_off30 v880) a + S1.size a ≤ S32.size a := fun v197 k0_t2 v880 k0_hw11 k0_h7 k0_h8 => k0_hw11 k0_h7 k0_h8

def k0_off31 (v880 : BitVec 32) : Fin 1 → Nat :=
  ![v880.toNat]
def k0_cond9 (v882 : BitVec 32) : BitVec 1 :=
  let c8_i32_768 : BitVec 32 := 8#32
  let v883 : BitVec 1 := Scalar.cmpi .sgt v882 c8_i32_768
  let v884 : BitVec 32 := Scalar.extui v883
  let c0_i32_769 : BitVec 32 := 0#32
  let v885 : BitVec 1 := Scalar.cmpi .ne v884 c0_i32_769
  v885

def k0_off32 (v880 : BitVec 32) : Fin 4 → Nat :=
  let c1_i32_789 : BitVec 32 := 1#32
  let c0_i32_790 : BitVec 32 := 0#32
  let c0_i32_791 : BitVec 32 := 0#32
  ![v880.toNat, 1, 0, 0]

def k0_chk12 (v197 : BitVec 32) (k0_t2 : Fin (k0_t2_loop v197).trips) (v880 : BitVec 32) (v882 : BitVec 32) : Prop :=
  (∀ (k0_h7 : k0_cond7 v197 k0_t2 = 1#1), ∀ (k0_h8 : k0_cond8 v197 k0_t2 = 1#1), ∀ (k0_h9 : k0_cond9 v882 = 1#1), ∀ a, (k0_off31 v880) a + S1.size a ≤ S32.size a) ∧
  (∀ (k0_h7 : k0_cond7 v197 k0_t2 = 1#1), ∀ (k0_h8 : k0_cond8 v197 k0_t2 = 1#1), ∀ (k0_h9 : k0_cond9 v882 = 1#1), ∀ a, (k0_off32 v880) a + S1x1x8x6144.size a ≤ S32x2x8x6144.size a) ∧
  (∀ (k0_h7 : k0_cond7 v197 k0_t2 = 1#1), ∀ (k0_h8 : k0_cond8 v197 k0_t2 = 1#1), ∀ (k0_h9 : k0_cond9 v882 = 1#1), ∀ (hinb : ∀ a, (k0_off32 v880) a + S1x1x8x6144.size a ≤ S32x2x8x6144.size a), (Rect.unit (s := S32x2x8x6144) (k0_off32 v880) S1x1x8x6144.size hinb).WholeWords (EltTy.packing .bf16))
theorem k0_off31_inb : ∀ (v197 : BitVec 32) (k0_t2 : Fin (k0_t2_loop v197).trips) (v880 : BitVec 32) (v882 : BitVec 32) (k0_hw12 : k0_chk12 v197 k0_t2 v880 v882), ∀ (k0_h7 : k0_cond7 v197 k0_t2 = 1#1), ∀ (k0_h8 : k0_cond8 v197 k0_t2 = 1#1), ∀ (k0_h9 : k0_cond9 v882 = 1#1), ∀ a, (k0_off31 v880) a + S1.size a ≤ S32.size a := fun v197 k0_t2 v880 v882 k0_hw12 k0_h7 k0_h8 k0_h9 => k0_hw12.1 k0_h7 k0_h8 k0_h9
theorem k0_off32_inb : ∀ (v197 : BitVec 32) (k0_t2 : Fin (k0_t2_loop v197).trips) (v880 : BitVec 32) (v882 : BitVec 32) (k0_hw12 : k0_chk12 v197 k0_t2 v880 v882), ∀ (k0_h7 : k0_cond7 v197 k0_t2 = 1#1), ∀ (k0_h8 : k0_cond8 v197 k0_t2 = 1#1), ∀ (k0_h9 : k0_cond9 v882 = 1#1), ∀ a, (k0_off32 v880) a + S1x1x8x6144.size a ≤ S32x2x8x6144.size a := fun v197 k0_t2 v880 v882 k0_hw12 k0_h7 k0_h8 k0_h9 => k0_hw12.2.1 k0_h7 k0_h8 k0_h9
theorem k0_off32_wordsbf16 : ∀ (v197 : BitVec 32) (k0_t2 : Fin (k0_t2_loop v197).trips) (v880 : BitVec 32) (v882 : BitVec 32) (k0_hw12 : k0_chk12 v197 k0_t2 v880 v882), ∀ (k0_h7 : k0_cond7 v197 k0_t2 = 1#1), ∀ (k0_h8 : k0_cond8 v197 k0_t2 = 1#1), ∀ (k0_h9 : k0_cond9 v882 = 1#1), (Rect.unit (s := S32x2x8x6144) (k0_off32 v880) S1x1x8x6144.size (k0_off32_inb v197 k0_t2 v880 v882 k0_hw12 k0_h7 k0_h8 k0_h9)).WholeWords (EltTy.packing .bf16) := fun v197 k0_t2 v880 v882 k0_hw12 k0_h7 k0_h8 k0_h9 => k0_hw12.2.2 k0_h7 k0_h8 k0_h9 (k0_off32_inb v197 k0_t2 v880 v882 k0_hw12 k0_h7 k0_h8 k0_h9)

def k0_off33 (v197 : BitVec 32) (k0_t2 : Fin (k0_t2_loop v197).trips) : Fin 1 → Nat :=
  let c0_i32_552 : BitVec 32 := 0#32
  let c1_i32_554 : BitVec 32 := 1#32
  let arg19 : BitVec 32 := Scf.iv c0_i32_552 c1_i32_554 k0_t2
  let c1_i32_766 : BitVec 32 := 1#32
  let v877 : BitVec 32 := Scalar.subi arg19 c1_i32_766
  let c3_i32_767 : BitVec 32 := 3#32
  let v878 : BitVec 32 := Scalar.addi v877 c3_i32_767
  let v887 : Index := Scalar.indexCast v878
  ![v887.toNat]
def k0_off34 (v197 : BitVec 32) (k0_t2 : Fin (k0_t2_loop v197).trips) : Fin 2 → Nat :=
  let c0_i32_552 : BitVec 32 := 0#32
  let c1_i32_554 : BitVec 32 := 1#32
  let arg19 : BitVec 32 := Scf.iv c0_i32_552 c1_i32_554 k0_t2
  let c1_i32_766 : BitVec 32 := 1#32
  let v877 : BitVec 32 := Scalar.subi arg19 c1_i32_766
  let c3_i32_767 : BitVec 32 := 3#32
  let v878 : BitVec 32 := Scalar.addi v877 c3_i32_767
  let c3_i32_770 : BitVec 32 := 3#32
  let v886 : BitVec 32 := Scalar.remsi v878 c3_i32_770
  let c0_i32_771 : BitVec 32 := 0#32
  ![v886.toNat, 0]
def k0_off35 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c1_i32_766 : BitVec 32 := 1#32
  let v877 : BitVec 32 := Scalar.subi arg19 c1_i32_766
  let c3_i32_767 : BitVec 32 := 3#32
  let v878 : BitVec 32 := Scalar.addi v877 c3_i32_767
  let c3_i32_770 : BitVec 32 := 3#32
  let v886 : BitVec 32 := Scalar.remsi v878 c3_i32_770
  let c0_i32_772 : BitVec 32 := 0#32
  let c0_i32_773 : BitVec 32 := 0#32
  ![v886.toNat, 0, 0]
def k0_off36 (v888 : BitVec 32) : Fin 3 → Nat :=
  let c0_i32_774 : BitVec 32 := 0#32
  let c0_i32_775 : BitVec 32 := 0#32
  ![v888.toNat, 0, 0]

def k0_chk13 (v197 : BitVec 32) (k0_t2 : Fin (k0_t2_loop v197).trips) (v888 : BitVec 32) : Prop :=
  (∀ (k0_h7 : k0_cond7 v197 k0_t2 = 1#1), ∀ (k0_h8 : k0_cond8 v197 k0_t2 = 1#1), ∀ a, (k0_off36 v888) a + S1x256x6144.size a ≤ S32x768x6144.size a) ∧
  (∀ (k0_h7 : k0_cond7 v197 k0_t2 = 1#1), ∀ (k0_h8 : k0_cond8 v197 k0_t2 = 1#1), ∀ (hinb : ∀ a, (k0_off36 v888) a + S1x256x6144.size a ≤ S32x768x6144.size a), (Rect.unit (s := S32x768x6144) (k0_off36 v888) S1x256x6144.size hinb).WholeWords (EltTy.packing .fp8e4m3))
theorem k0_off36_inb : ∀ (v197 : BitVec 32) (k0_t2 : Fin (k0_t2_loop v197).trips) (v888 : BitVec 32) (k0_hw13 : k0_chk13 v197 k0_t2 v888), ∀ (k0_h7 : k0_cond7 v197 k0_t2 = 1#1), ∀ (k0_h8 : k0_cond8 v197 k0_t2 = 1#1), ∀ a, (k0_off36 v888) a + S1x256x6144.size a ≤ S32x768x6144.size a := fun v197 k0_t2 v888 k0_hw13 k0_h7 k0_h8 => k0_hw13.1 k0_h7 k0_h8
theorem k0_off36_wordsfp8e4m3 : ∀ (v197 : BitVec 32) (k0_t2 : Fin (k0_t2_loop v197).trips) (v888 : BitVec 32) (k0_hw13 : k0_chk13 v197 k0_t2 v888), ∀ (k0_h7 : k0_cond7 v197 k0_t2 = 1#1), ∀ (k0_h8 : k0_cond8 v197 k0_t2 = 1#1), (Rect.unit (s := S32x768x6144) (k0_off36 v888) S1x256x6144.size (k0_off36_inb v197 k0_t2 v888 k0_hw13 k0_h7 k0_h8)).WholeWords (EltTy.packing .fp8e4m3) := fun v197 k0_t2 v888 k0_hw13 k0_h7 k0_h8 => k0_hw13.2 k0_h7 k0_h8 (k0_off36_inb v197 k0_t2 v888 k0_hw13 k0_h7 k0_h8)

def k0_off37 (v197 : BitVec 32) (k0_t2 : Fin (k0_t2_loop v197).trips) : Fin 1 → Nat :=
  let c0_i32_552 : BitVec 32 := 0#32
  let c1_i32_554 : BitVec 32 := 1#32
  let arg19 : BitVec 32 := Scf.iv c0_i32_552 c1_i32_554 k0_t2
  let c1_i32_766 : BitVec 32 := 1#32
  let v877 : BitVec 32 := Scalar.subi arg19 c1_i32_766
  let c3_i32_767 : BitVec 32 := 3#32
  let v878 : BitVec 32 := Scalar.addi v877 c3_i32_767
  let v896 : Index := Scalar.indexCast v878
  ![v896.toNat]
def k0_off38 (v197 : BitVec 32) (k0_t2 : Fin (k0_t2_loop v197).trips) : Fin 2 → Nat :=
  let c0_i32_552 : BitVec 32 := 0#32
  let c1_i32_554 : BitVec 32 := 1#32
  let arg19 : BitVec 32 := Scf.iv c0_i32_552 c1_i32_554 k0_t2
  let c1_i32_766 : BitVec 32 := 1#32
  let v877 : BitVec 32 := Scalar.subi arg19 c1_i32_766
  let c3_i32_767 : BitVec 32 := 3#32
  let v878 : BitVec 32 := Scalar.addi v877 c3_i32_767
  let c3_i32_776 : BitVec 32 := 3#32
  let v895 : BitVec 32 := Scalar.remsi v878 c3_i32_776
  let c1_i32_777 : BitVec 32 := 1#32
  ![v895.toNat, 1]
def k0_off39 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c1_i32_766 : BitVec 32 := 1#32
  let v877 : BitVec 32 := Scalar.subi arg19 c1_i32_766
  let c3_i32_767 : BitVec 32 := 3#32
  let v878 : BitVec 32 := Scalar.addi v877 c3_i32_767
  let c3_i32_776 : BitVec 32 := 3#32
  let v895 : BitVec 32 := Scalar.remsi v878 c3_i32_776
  let c256_i32_778 : BitVec 32 := 256#32
  let c0_i32_779 : BitVec 32 := 0#32
  ![v895.toNat, 256, 0]
def k0_off40 (v897 : BitVec 32) : Fin 3 → Nat :=
  let c256_i32_780 : BitVec 32 := 256#32
  let c0_i32_781 : BitVec 32 := 0#32
  ![v897.toNat, 256, 0]

def k0_chk14 (v197 : BitVec 32) (k0_t2 : Fin (k0_t2_loop v197).trips) (v897 : BitVec 32) : Prop :=
  (∀ (k0_h7 : k0_cond7 v197 k0_t2 = 1#1), ∀ (k0_h8 : k0_cond8 v197 k0_t2 = 1#1), ∀ a, (k0_off40 v897) a + S1x256x6144.size a ≤ S32x768x6144.size a) ∧
  (∀ (k0_h7 : k0_cond7 v197 k0_t2 = 1#1), ∀ (k0_h8 : k0_cond8 v197 k0_t2 = 1#1), ∀ (hinb : ∀ a, (k0_off40 v897) a + S1x256x6144.size a ≤ S32x768x6144.size a), (Rect.unit (s := S32x768x6144) (k0_off40 v897) S1x256x6144.size hinb).WholeWords (EltTy.packing .fp8e4m3))
theorem k0_off40_inb : ∀ (v197 : BitVec 32) (k0_t2 : Fin (k0_t2_loop v197).trips) (v897 : BitVec 32) (k0_hw14 : k0_chk14 v197 k0_t2 v897), ∀ (k0_h7 : k0_cond7 v197 k0_t2 = 1#1), ∀ (k0_h8 : k0_cond8 v197 k0_t2 = 1#1), ∀ a, (k0_off40 v897) a + S1x256x6144.size a ≤ S32x768x6144.size a := fun v197 k0_t2 v897 k0_hw14 k0_h7 k0_h8 => k0_hw14.1 k0_h7 k0_h8
theorem k0_off40_wordsfp8e4m3 : ∀ (v197 : BitVec 32) (k0_t2 : Fin (k0_t2_loop v197).trips) (v897 : BitVec 32) (k0_hw14 : k0_chk14 v197 k0_t2 v897), ∀ (k0_h7 : k0_cond7 v197 k0_t2 = 1#1), ∀ (k0_h8 : k0_cond8 v197 k0_t2 = 1#1), (Rect.unit (s := S32x768x6144) (k0_off40 v897) S1x256x6144.size (k0_off40_inb v197 k0_t2 v897 k0_hw14 k0_h7 k0_h8)).WholeWords (EltTy.packing .fp8e4m3) := fun v197 k0_t2 v897 k0_hw14 k0_h7 k0_h8 => k0_hw14.2 k0_h7 k0_h8 (k0_off40_inb v197 k0_t2 v897 k0_hw14 k0_h7 k0_h8)

def k0_off41 (v197 : BitVec 32) (k0_t2 : Fin (k0_t2_loop v197).trips) : Fin 1 → Nat :=
  let c0_i32_552 : BitVec 32 := 0#32
  let c1_i32_554 : BitVec 32 := 1#32
  let arg19 : BitVec 32 := Scf.iv c0_i32_552 c1_i32_554 k0_t2
  let c1_i32_766 : BitVec 32 := 1#32
  let v877 : BitVec 32 := Scalar.subi arg19 c1_i32_766
  let c3_i32_767 : BitVec 32 := 3#32
  let v878 : BitVec 32 := Scalar.addi v877 c3_i32_767
  let v905 : Index := Scalar.indexCast v878
  ![v905.toNat]
def k0_off42 (v197 : BitVec 32) (k0_t2 : Fin (k0_t2_loop v197).trips) : Fin 2 → Nat :=
  let c0_i32_552 : BitVec 32 := 0#32
  let c1_i32_554 : BitVec 32 := 1#32
  let arg19 : BitVec 32 := Scf.iv c0_i32_552 c1_i32_554 k0_t2
  let c1_i32_766 : BitVec 32 := 1#32
  let v877 : BitVec 32 := Scalar.subi arg19 c1_i32_766
  let c3_i32_767 : BitVec 32 := 3#32
  let v878 : BitVec 32 := Scalar.addi v877 c3_i32_767
  let c3_i32_782 : BitVec 32 := 3#32
  let v904 : BitVec 32 := Scalar.remsi v878 c3_i32_782
  let c2_i32_783 : BitVec 32 := 2#32
  ![v904.toNat, 2]
def k0_off43 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c1_i32_766 : BitVec 32 := 1#32
  let v877 : BitVec 32 := Scalar.subi arg19 c1_i32_766
  let c3_i32_767 : BitVec 32 := 3#32
  let v878 : BitVec 32 := Scalar.addi v877 c3_i32_767
  let c3_i32_782 : BitVec 32 := 3#32
  let v904 : BitVec 32 := Scalar.remsi v878 c3_i32_782
  let c512_i32_784 : BitVec 32 := 512#32
  let c0_i32_785 : BitVec 32 := 0#32
  ![v904.toNat, 512, 0]
def k0_off44 (v906 : BitVec 32) : Fin 3 → Nat :=
  let c512_i32_786 : BitVec 32 := 512#32
  let c0_i32_787 : BitVec 32 := 0#32
  ![v906.toNat, 512, 0]

def k0_chk15 (v197 : BitVec 32) (k0_t2 : Fin (k0_t2_loop v197).trips) (v906 : BitVec 32) : Prop :=
  (∀ (k0_h7 : k0_cond7 v197 k0_t2 = 1#1), ∀ (k0_h8 : k0_cond8 v197 k0_t2 = 1#1), ∀ a, (k0_off44 v906) a + S1x256x6144.size a ≤ S32x768x6144.size a) ∧
  (∀ (k0_h7 : k0_cond7 v197 k0_t2 = 1#1), ∀ (k0_h8 : k0_cond8 v197 k0_t2 = 1#1), ∀ (hinb : ∀ a, (k0_off44 v906) a + S1x256x6144.size a ≤ S32x768x6144.size a), (Rect.unit (s := S32x768x6144) (k0_off44 v906) S1x256x6144.size hinb).WholeWords (EltTy.packing .fp8e4m3))
theorem k0_off44_inb : ∀ (v197 : BitVec 32) (k0_t2 : Fin (k0_t2_loop v197).trips) (v906 : BitVec 32) (k0_hw15 : k0_chk15 v197 k0_t2 v906), ∀ (k0_h7 : k0_cond7 v197 k0_t2 = 1#1), ∀ (k0_h8 : k0_cond8 v197 k0_t2 = 1#1), ∀ a, (k0_off44 v906) a + S1x256x6144.size a ≤ S32x768x6144.size a := fun v197 k0_t2 v906 k0_hw15 k0_h7 k0_h8 => k0_hw15.1 k0_h7 k0_h8
theorem k0_off44_wordsfp8e4m3 : ∀ (v197 : BitVec 32) (k0_t2 : Fin (k0_t2_loop v197).trips) (v906 : BitVec 32) (k0_hw15 : k0_chk15 v197 k0_t2 v906), ∀ (k0_h7 : k0_cond7 v197 k0_t2 = 1#1), ∀ (k0_h8 : k0_cond8 v197 k0_t2 = 1#1), (Rect.unit (s := S32x768x6144) (k0_off44 v906) S1x256x6144.size (k0_off44_inb v197 k0_t2 v906 k0_hw15 k0_h7 k0_h8)).WholeWords (EltTy.packing .fp8e4m3) := fun v197 k0_t2 v906 k0_hw15 k0_h7 k0_h8 => k0_hw15.2 k0_h7 k0_h8 (k0_off44_inb v197 k0_t2 v906 k0_hw15 k0_h7 k0_h8)

def k0_off45 (v410 : BitVec 32) : Fin 1 → Nat :=
  let v865 : Index := Scalar.indexCast v410
  ![v865.toNat]
def k0_cond10 (v197 : BitVec 32) (k0_t2 : Fin (k0_t2_loop v197).trips) : BitVec 1 :=
  let c0_i32_552 : BitVec 32 := 0#32
  let c1_i32_554 : BitVec 32 := 1#32
  let arg19 : BitVec 32 := Scf.iv c0_i32_552 c1_i32_554 k0_t2
  let c1_i32_568 : BitVec 32 := 1#32
  let v414 : BitVec 32 := Scalar.addi arg19 c1_i32_568
  let v415 : BitVec 1 := Scalar.cmpi .slt v414 v197
  let v416 : BitVec 32 := Scalar.extui v415
  let c0_i32_569 : BitVec 32 := 0#32
  let v417 : BitVec 1 := Scalar.cmpi .ne v416 c0_i32_569
  v417

def k0_off46 (v410 : BitVec 32) : Fin 1 → Nat :=
  ![v410.toNat]
def k0_cond11 (v866 : BitVec 32) : BitVec 1 :=
  let c8_i32_758 : BitVec 32 := 8#32
  let v867 : BitVec 1 := Scalar.cmpi .sgt v866 c8_i32_758
  let v868 : BitVec 32 := Scalar.extui v867
  let c0_i32_759 : BitVec 32 := 0#32
  let v869 : BitVec 1 := Scalar.cmpi .ne v868 c0_i32_759
  v869

def k0_off47 (v410 : BitVec 32) : Fin 4 → Nat :=
  let c1_i32_761 : BitVec 32 := 1#32
  let c0_i32_762 : BitVec 32 := 0#32
  let c0_i32_763 : BitVec 32 := 0#32
  ![v410.toNat, 1, 0, 0]

def k0_chk17 (v197 : BitVec 32) (k0_t2 : Fin (k0_t2_loop v197).trips) (v410 : BitVec 32) (v866 : BitVec 32) : Prop :=
  (∀ (k0_h10 : k0_cond10 v197 k0_t2 = 1#1), ∀ (k0_h11 : k0_cond11 v866 = 1#1), ∀ a, (k0_off46 v410) a + S1.size a ≤ S32.size a) ∧
  (∀ (k0_h10 : k0_cond10 v197 k0_t2 = 1#1), ∀ (k0_h11 : k0_cond11 v866 = 1#1), ∀ a, (k0_off47 v410) a + S1x1x8x6144.size a ≤ S32x2x8x6144.size a) ∧
  (∀ (k0_h10 : k0_cond10 v197 k0_t2 = 1#1), ∀ (k0_h11 : k0_cond11 v866 = 1#1), ∀ (hinb : ∀ a, (k0_off47 v410) a + S1x1x8x6144.size a ≤ S32x2x8x6144.size a), (Rect.unit (s := S32x2x8x6144) (k0_off47 v410) S1x1x8x6144.size hinb).WholeWords (EltTy.packing .bf16))
theorem k0_off46_inb : ∀ (v197 : BitVec 32) (k0_t2 : Fin (k0_t2_loop v197).trips) (v410 : BitVec 32) (v866 : BitVec 32) (k0_hw17 : k0_chk17 v197 k0_t2 v410 v866), ∀ (k0_h10 : k0_cond10 v197 k0_t2 = 1#1), ∀ (k0_h11 : k0_cond11 v866 = 1#1), ∀ a, (k0_off46 v410) a + S1.size a ≤ S32.size a := fun v197 k0_t2 v410 v866 k0_hw17 k0_h10 k0_h11 => k0_hw17.1 k0_h10 k0_h11
theorem k0_off47_inb : ∀ (v197 : BitVec 32) (k0_t2 : Fin (k0_t2_loop v197).trips) (v410 : BitVec 32) (v866 : BitVec 32) (k0_hw17 : k0_chk17 v197 k0_t2 v410 v866), ∀ (k0_h10 : k0_cond10 v197 k0_t2 = 1#1), ∀ (k0_h11 : k0_cond11 v866 = 1#1), ∀ a, (k0_off47 v410) a + S1x1x8x6144.size a ≤ S32x2x8x6144.size a := fun v197 k0_t2 v410 v866 k0_hw17 k0_h10 k0_h11 => k0_hw17.2.1 k0_h10 k0_h11
theorem k0_off47_wordsbf16 : ∀ (v197 : BitVec 32) (k0_t2 : Fin (k0_t2_loop v197).trips) (v410 : BitVec 32) (v866 : BitVec 32) (k0_hw17 : k0_chk17 v197 k0_t2 v410 v866), ∀ (k0_h10 : k0_cond10 v197 k0_t2 = 1#1), ∀ (k0_h11 : k0_cond11 v866 = 1#1), (Rect.unit (s := S32x2x8x6144) (k0_off47 v410) S1x1x8x6144.size (k0_off47_inb v197 k0_t2 v410 v866 k0_hw17 k0_h10 k0_h11)).WholeWords (EltTy.packing .bf16) := fun v197 k0_t2 v410 v866 k0_hw17 k0_h10 k0_h11 => k0_hw17.2.2 k0_h10 k0_h11 (k0_off47_inb v197 k0_t2 v410 v866 k0_hw17 k0_h10 k0_h11)

def k0_off48 (v197 : BitVec 32) (k0_t2 : Fin (k0_t2_loop v197).trips) : Fin 1 → Nat :=
  let c0_i32_552 : BitVec 32 := 0#32
  let c1_i32_554 : BitVec 32 := 1#32
  let arg19 : BitVec 32 := Scf.iv c0_i32_552 c1_i32_554 k0_t2
  let v419 : Index := Scalar.indexCast arg19
  ![v419.toNat]
def k0_off49 (v197 : BitVec 32) (k0_t2 : Fin (k0_t2_loop v197).trips) : Fin 2 → Nat :=
  let c0_i32_552 : BitVec 32 := 0#32
  let c1_i32_554 : BitVec 32 := 1#32
  let arg19 : BitVec 32 := Scf.iv c0_i32_552 c1_i32_554 k0_t2
  let c3_i32_570 : BitVec 32 := 3#32
  let v418 : BitVec 32 := Scalar.remsi arg19 c3_i32_570
  let c0_i32_571 : BitVec 32 := 0#32
  ![v418.toNat, 0]
def k0_off50 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_570 : BitVec 32 := 3#32
  let v418 : BitVec 32 := Scalar.remsi arg19 c3_i32_570
  let c0_i32_572 : BitVec 32 := 0#32
  let c0_i32_573 : BitVec 32 := 0#32
  ![v418.toNat, 0, 0]
def k0_off51 (v420 : BitVec 32) : Fin 3 → Nat :=
  let c0_i32_574 : BitVec 32 := 0#32
  let c0_i32_575 : BitVec 32 := 0#32
  ![v420.toNat, 0, 0]

def k0_chk18 (v420 : BitVec 32) : Prop :=
  (∀ a, (k0_off51 v420) a + S1x256x6144.size a ≤ S32x768x6144.size a) ∧
  (∀ (hinb : ∀ a, (k0_off51 v420) a + S1x256x6144.size a ≤ S32x768x6144.size a), (Rect.unit (s := S32x768x6144) (k0_off51 v420) S1x256x6144.size hinb).WholeWords (EltTy.packing .fp8e4m3))
theorem k0_off51_inb : ∀ (v420 : BitVec 32) (k0_hw18 : k0_chk18 v420), ∀ a, (k0_off51 v420) a + S1x256x6144.size a ≤ S32x768x6144.size a := fun v420 k0_hw18 => k0_hw18.1
theorem k0_off51_wordsfp8e4m3 : ∀ (v420 : BitVec 32) (k0_hw18 : k0_chk18 v420), (Rect.unit (s := S32x768x6144) (k0_off51 v420) S1x256x6144.size (k0_off51_inb v420 k0_hw18)).WholeWords (EltTy.packing .fp8e4m3) := fun v420 k0_hw18 => k0_hw18.2 (k0_off51_inb v420 k0_hw18)

def k0_off52 (v197 : BitVec 32) (k0_t2 : Fin (k0_t2_loop v197).trips) : Fin 1 → Nat :=
  let c0_i32_552 : BitVec 32 := 0#32
  let c1_i32_554 : BitVec 32 := 1#32
  let arg19 : BitVec 32 := Scf.iv c0_i32_552 c1_i32_554 k0_t2
  let v428 : Index := Scalar.indexCast arg19
  ![v428.toNat]
def k0_off53 (v197 : BitVec 32) (k0_t2 : Fin (k0_t2_loop v197).trips) : Fin 2 → Nat :=
  let c0_i32_552 : BitVec 32 := 0#32
  let c1_i32_554 : BitVec 32 := 1#32
  let arg19 : BitVec 32 := Scf.iv c0_i32_552 c1_i32_554 k0_t2
  let c3_i32_576 : BitVec 32 := 3#32
  let v427 : BitVec 32 := Scalar.remsi arg19 c3_i32_576
  let c1_i32_577 : BitVec 32 := 1#32
  ![v427.toNat, 1]
def k0_off54 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_576 : BitVec 32 := 3#32
  let v427 : BitVec 32 := Scalar.remsi arg19 c3_i32_576
  let c256_i32 : BitVec 32 := 256#32
  let c0_i32_578 : BitVec 32 := 0#32
  ![v427.toNat, 256, 0]
def k0_off55 (v429 : BitVec 32) : Fin 3 → Nat :=
  let c256_i32_579 : BitVec 32 := 256#32
  let c0_i32_580 : BitVec 32 := 0#32
  ![v429.toNat, 256, 0]

def k0_chk19 (v429 : BitVec 32) : Prop :=
  (∀ a, (k0_off55 v429) a + S1x256x6144.size a ≤ S32x768x6144.size a) ∧
  (∀ (hinb : ∀ a, (k0_off55 v429) a + S1x256x6144.size a ≤ S32x768x6144.size a), (Rect.unit (s := S32x768x6144) (k0_off55 v429) S1x256x6144.size hinb).WholeWords (EltTy.packing .fp8e4m3))
theorem k0_off55_inb : ∀ (v429 : BitVec 32) (k0_hw19 : k0_chk19 v429), ∀ a, (k0_off55 v429) a + S1x256x6144.size a ≤ S32x768x6144.size a := fun v429 k0_hw19 => k0_hw19.1
theorem k0_off55_wordsfp8e4m3 : ∀ (v429 : BitVec 32) (k0_hw19 : k0_chk19 v429), (Rect.unit (s := S32x768x6144) (k0_off55 v429) S1x256x6144.size (k0_off55_inb v429 k0_hw19)).WholeWords (EltTy.packing .fp8e4m3) := fun v429 k0_hw19 => k0_hw19.2 (k0_off55_inb v429 k0_hw19)

def k0_off56 (v197 : BitVec 32) (k0_t2 : Fin (k0_t2_loop v197).trips) : Fin 1 → Nat :=
  let c0_i32_552 : BitVec 32 := 0#32
  let c1_i32_554 : BitVec 32 := 1#32
  let arg19 : BitVec 32 := Scf.iv c0_i32_552 c1_i32_554 k0_t2
  let v437 : Index := Scalar.indexCast arg19
  ![v437.toNat]
def k0_off57 (v197 : BitVec 32) (k0_t2 : Fin (k0_t2_loop v197).trips) : Fin 2 → Nat :=
  let c0_i32_552 : BitVec 32 := 0#32
  let c1_i32_554 : BitVec 32 := 1#32
  let arg19 : BitVec 32 := Scf.iv c0_i32_552 c1_i32_554 k0_t2
  let c3_i32_581 : BitVec 32 := 3#32
  let v436 : BitVec 32 := Scalar.remsi arg19 c3_i32_581
  let c2_i32_582 : BitVec 32 := 2#32
  ![v436.toNat, 2]
def k0_off58 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_581 : BitVec 32 := 3#32
  let v436 : BitVec 32 := Scalar.remsi arg19 c3_i32_581
  let c512_i32 : BitVec 32 := 512#32
  let c0_i32_583 : BitVec 32 := 0#32
  ![v436.toNat, 512, 0]
def k0_off59 (v438 : BitVec 32) : Fin 3 → Nat :=
  let c512_i32_584 : BitVec 32 := 512#32
  let c0_i32_585 : BitVec 32 := 0#32
  ![v438.toNat, 512, 0]

def k0_chk20 (v438 : BitVec 32) : Prop :=
  (∀ a, (k0_off59 v438) a + S1x256x6144.size a ≤ S32x768x6144.size a) ∧
  (∀ (hinb : ∀ a, (k0_off59 v438) a + S1x256x6144.size a ≤ S32x768x6144.size a), (Rect.unit (s := S32x768x6144) (k0_off59 v438) S1x256x6144.size hinb).WholeWords (EltTy.packing .fp8e4m3))
theorem k0_off59_inb : ∀ (v438 : BitVec 32) (k0_hw20 : k0_chk20 v438), ∀ a, (k0_off59 v438) a + S1x256x6144.size a ≤ S32x768x6144.size a := fun v438 k0_hw20 => k0_hw20.1
theorem k0_off59_wordsfp8e4m3 : ∀ (v438 : BitVec 32) (k0_hw20 : k0_chk20 v438), (Rect.unit (s := S32x768x6144) (k0_off59 v438) S1x256x6144.size (k0_off59_inb v438 k0_hw20)).WholeWords (EltTy.packing .fp8e4m3) := fun v438 k0_hw20 => k0_hw20.2 (k0_off59_inb v438 k0_hw20)

def k0_off60 (v405 : BitVec 32) : Fin 2 → Nat :=
  let v445 : Index := Scalar.indexCast v405
  let c0_586 : Index := 0#32
  ![v445.toNat, 0]

def k0_off61 (v405 : BitVec 32) : Fin 1 → Nat :=
  let v448 : Index := Scalar.indexCast v405
  ![v448.toNat]
def k0_off62 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c2_i32_563 : BitVec 32 := 2#32
  let v403 : BitVec 32 := Scalar.remsi arg19 c2_i32_563
  let v452 : Index := Scalar.indexCast v403
  let c0_587 : Index := 0#32
  let c0_588 : Index := 0#32
  ![v452.toNat, 0, 0]
def k0_off63 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c2_i32_563 : BitVec 32 := 2#32
  let v403 : BitVec 32 := Scalar.remsi arg19 c2_i32_563
  let v456 : Index := Scalar.indexCast v403
  let c0_589 : Index := 0#32
  let c0_590 : Index := 0#32
  ![v456.toNat, 0, 0]
def k0_off64 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v460 : Index := Scalar.indexCast v402
  let c0_591 : Index := 0#32
  let c0_592 : Index := 0#32
  ![v460.toNat, 0, 0]
def k0_off65 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v464 : Index := Scalar.indexCast v402
  let c512 : Index := 512#32
  let c0_594 : Index := 0#32
  ![v464.toNat, 512, 0]
def k0_off66 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v469 : Index := Scalar.indexCast v402
  let c0_596 : Index := 0#32
  let c256 : Index := 256#32
  ![v469.toNat, 0, 256]
def k0_off67 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v473 : Index := Scalar.indexCast v402
  let c512_598 : Index := 512#32
  let c256_599 : Index := 256#32
  ![v473.toNat, 512, 256]
def k0_off68 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v480 : Index := Scalar.indexCast v402
  let c0_601 : Index := 0#32
  let c512_602 : Index := 512#32
  ![v480.toNat, 0, 512]
def k0_off69 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v484 : Index := Scalar.indexCast v402
  let c512_604 : Index := 512#32
  let c512_605 : Index := 512#32
  ![v484.toNat, 512, 512]
def k0_off70 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v491 : Index := Scalar.indexCast v402
  let c0_607 : Index := 0#32
  let c768 : Index := 768#32
  ![v491.toNat, 0, 768]
def k0_off71 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v495 : Index := Scalar.indexCast v402
  let c512_609 : Index := 512#32
  let c768_610 : Index := 768#32
  ![v495.toNat, 512, 768]
def k0_off72 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v502 : Index := Scalar.indexCast v402
  let c0_612 : Index := 0#32
  let c1024 : Index := 1024#32
  ![v502.toNat, 0, 1024]
def k0_off73 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v506 : Index := Scalar.indexCast v402
  let c512_614 : Index := 512#32
  let c1024_615 : Index := 1024#32
  ![v506.toNat, 512, 1024]
def k0_off74 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v513 : Index := Scalar.indexCast v402
  let c0_617 : Index := 0#32
  let c1280 : Index := 1280#32
  ![v513.toNat, 0, 1280]
def k0_off75 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v517 : Index := Scalar.indexCast v402
  let c512_619 : Index := 512#32
  let c1280_620 : Index := 1280#32
  ![v517.toNat, 512, 1280]
def k0_off76 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v524 : Index := Scalar.indexCast v402
  let c0_622 : Index := 0#32
  let c1536 : Index := 1536#32
  ![v524.toNat, 0, 1536]
def k0_off77 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v528 : Index := Scalar.indexCast v402
  let c512_624 : Index := 512#32
  let c1536_625 : Index := 1536#32
  ![v528.toNat, 512, 1536]
def k0_off78 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v535 : Index := Scalar.indexCast v402
  let c0_627 : Index := 0#32
  let c1792 : Index := 1792#32
  ![v535.toNat, 0, 1792]
def k0_off79 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v539 : Index := Scalar.indexCast v402
  let c512_629 : Index := 512#32
  let c1792_630 : Index := 1792#32
  ![v539.toNat, 512, 1792]
def k0_off80 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v546 : Index := Scalar.indexCast v402
  let c0_632 : Index := 0#32
  let c2048 : Index := 2048#32
  ![v546.toNat, 0, 2048]
def k0_off81 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v550 : Index := Scalar.indexCast v402
  let c512_634 : Index := 512#32
  let c2048_635 : Index := 2048#32
  ![v550.toNat, 512, 2048]
def k0_off82 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v557 : Index := Scalar.indexCast v402
  let c0_637 : Index := 0#32
  let c2304 : Index := 2304#32
  ![v557.toNat, 0, 2304]
def k0_off83 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v561 : Index := Scalar.indexCast v402
  let c512_639 : Index := 512#32
  let c2304_640 : Index := 2304#32
  ![v561.toNat, 512, 2304]
def k0_off84 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v568 : Index := Scalar.indexCast v402
  let c0_642 : Index := 0#32
  let c2560 : Index := 2560#32
  ![v568.toNat, 0, 2560]
def k0_off85 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v572 : Index := Scalar.indexCast v402
  let c512_644 : Index := 512#32
  let c2560_645 : Index := 2560#32
  ![v572.toNat, 512, 2560]
def k0_off86 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v579 : Index := Scalar.indexCast v402
  let c0_647 : Index := 0#32
  let c2816 : Index := 2816#32
  ![v579.toNat, 0, 2816]
def k0_off87 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v583 : Index := Scalar.indexCast v402
  let c512_649 : Index := 512#32
  let c2816_650 : Index := 2816#32
  ![v583.toNat, 512, 2816]
def k0_off88 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v590 : Index := Scalar.indexCast v402
  let c0_652 : Index := 0#32
  let c3072 : Index := 3072#32
  ![v590.toNat, 0, 3072]
def k0_off89 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v594 : Index := Scalar.indexCast v402
  let c512_654 : Index := 512#32
  let c3072_655 : Index := 3072#32
  ![v594.toNat, 512, 3072]
def k0_off90 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v601 : Index := Scalar.indexCast v402
  let c0_657 : Index := 0#32
  let c3328 : Index := 3328#32
  ![v601.toNat, 0, 3328]
def k0_off91 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v605 : Index := Scalar.indexCast v402
  let c512_659 : Index := 512#32
  let c3328_660 : Index := 3328#32
  ![v605.toNat, 512, 3328]
def k0_off92 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v612 : Index := Scalar.indexCast v402
  let c0_662 : Index := 0#32
  let c3584 : Index := 3584#32
  ![v612.toNat, 0, 3584]
def k0_off93 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v616 : Index := Scalar.indexCast v402
  let c512_664 : Index := 512#32
  let c3584_665 : Index := 3584#32
  ![v616.toNat, 512, 3584]
def k0_off94 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v623 : Index := Scalar.indexCast v402
  let c0_667 : Index := 0#32
  let c3840 : Index := 3840#32
  ![v623.toNat, 0, 3840]
def k0_off95 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v627 : Index := Scalar.indexCast v402
  let c512_669 : Index := 512#32
  let c3840_670 : Index := 3840#32
  ![v627.toNat, 512, 3840]
def k0_off96 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v634 : Index := Scalar.indexCast v402
  let c0_672 : Index := 0#32
  let c4096 : Index := 4096#32
  ![v634.toNat, 0, 4096]
def k0_off97 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v638 : Index := Scalar.indexCast v402
  let c512_674 : Index := 512#32
  let c4096_675 : Index := 4096#32
  ![v638.toNat, 512, 4096]
def k0_off98 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v645 : Index := Scalar.indexCast v402
  let c0_677 : Index := 0#32
  let c4352 : Index := 4352#32
  ![v645.toNat, 0, 4352]
def k0_off99 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v649 : Index := Scalar.indexCast v402
  let c512_679 : Index := 512#32
  let c4352_680 : Index := 4352#32
  ![v649.toNat, 512, 4352]
def k0_off100 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v656 : Index := Scalar.indexCast v402
  let c0_682 : Index := 0#32
  let c4608 : Index := 4608#32
  ![v656.toNat, 0, 4608]
def k0_off101 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v660 : Index := Scalar.indexCast v402
  let c512_684 : Index := 512#32
  let c4608_685 : Index := 4608#32
  ![v660.toNat, 512, 4608]
def k0_off102 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v667 : Index := Scalar.indexCast v402
  let c0_687 : Index := 0#32
  let c4864 : Index := 4864#32
  ![v667.toNat, 0, 4864]
def k0_off103 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v671 : Index := Scalar.indexCast v402
  let c512_689 : Index := 512#32
  let c4864_690 : Index := 4864#32
  ![v671.toNat, 512, 4864]
def k0_off104 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v678 : Index := Scalar.indexCast v402
  let c0_692 : Index := 0#32
  let c5120 : Index := 5120#32
  ![v678.toNat, 0, 5120]
def k0_off105 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v682 : Index := Scalar.indexCast v402
  let c512_694 : Index := 512#32
  let c5120_695 : Index := 5120#32
  ![v682.toNat, 512, 5120]
def k0_off106 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v689 : Index := Scalar.indexCast v402
  let c0_697 : Index := 0#32
  let c5376 : Index := 5376#32
  ![v689.toNat, 0, 5376]
def k0_off107 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v693 : Index := Scalar.indexCast v402
  let c512_699 : Index := 512#32
  let c5376_700 : Index := 5376#32
  ![v693.toNat, 512, 5376]
def k0_off108 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v700 : Index := Scalar.indexCast v402
  let c0_702 : Index := 0#32
  let c5632 : Index := 5632#32
  ![v700.toNat, 0, 5632]
def k0_off109 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v704 : Index := Scalar.indexCast v402
  let c512_704 : Index := 512#32
  let c5632_705 : Index := 5632#32
  ![v704.toNat, 512, 5632]
def k0_off110 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v711 : Index := Scalar.indexCast v402
  let c0_707 : Index := 0#32
  let c5888 : Index := 5888#32
  ![v711.toNat, 0, 5888]
def k0_off111 (v197 : BitVec 32) (k0_t2 : Fin (k0_t2_loop v197).trips) : Fin 3 → Nat :=
  let c0_i32_552 : BitVec 32 := 0#32
  let c1_i32_554 : BitVec 32 := 1#32
  let arg19 : BitVec 32 := Scf.iv c0_i32_552 c1_i32_554 k0_t2
  let c3_i32_562 : BitVec 32 := 3#32
  let v402 : BitVec 32 := Scalar.remsi arg19 c3_i32_562
  let v715 : Index := Scalar.indexCast v402
  let c512_709 : Index := 512#32
  let c5888_710 : Index := 5888#32
  ![v715.toNat, 512, 5888]
def k0_off112 (v405 : BitVec 32) : Fin 3 → Nat :=
  let v731 : Index := Scalar.indexCast v405
  let c0_713 : Index := 0#32
  let c0_714 : Index := 0#32
  ![v731.toNat, 0, 0]

def k0_chk21 (v405 : BitVec 32) : Prop :=
  (∀ a, (k0_off60 v405) a + S1x768.size a ≤ S32x768.size a) ∧
  (∀ a, (k0_off61 v405) a + S1.size a ≤ S32.size a) ∧
  (∀ a, (k0_off112 v405) a + S1x16x768.size a ≤ S32x16x768.size a) ∧
  (∀ (hinb : ∀ a, (k0_off112 v405) a + S1x16x768.size a ≤ S32x16x768.size a), (Rect.unit (s := S32x16x768) (k0_off112 v405) S1x16x768.size hinb).PackedRows (EltTy.packing .bf16))
theorem k0_off60_inb : ∀ (v405 : BitVec 32) (k0_hw21 : k0_chk21 v405), ∀ a, (k0_off60 v405) a + S1x768.size a ≤ S32x768.size a := fun v405 k0_hw21 => k0_hw21.1
theorem k0_off61_inb : ∀ (v405 : BitVec 32) (k0_hw21 : k0_chk21 v405), ∀ a, (k0_off61 v405) a + S1.size a ≤ S32.size a := fun v405 k0_hw21 => k0_hw21.2.1
theorem k0_off112_inb : ∀ (v405 : BitVec 32) (k0_hw21 : k0_chk21 v405), ∀ a, (k0_off112 v405) a + S1x16x768.size a ≤ S32x16x768.size a := fun v405 k0_hw21 => k0_hw21.2.2.1
theorem k0_off112_packedbf16 : ∀ (v405 : BitVec 32) (k0_hw21 : k0_chk21 v405), (Rect.unit (s := S32x16x768) (k0_off112 v405) S1x16x768.size (k0_off112_inb v405 k0_hw21)).PackedRows (EltTy.packing .bf16) := fun v405 k0_hw21 => k0_hw21.2.2.2 (k0_off112_inb v405 k0_hw21)

def k0_off113 (v410 : BitVec 32) : Fin 1 → Nat :=
  let v735 : Index := Scalar.indexCast v410
  ![v735.toNat]
def k0_off114 (v410 : BitVec 32) : Fin 4 → Nat :=
  let v739 : Index := Scalar.indexCast v410
  let c0_717 : Index := 0#32
  let c0_718 : Index := 0#32
  let c0_719 : Index := 0#32
  ![v739.toNat, 0, 0, 0]

def k0_chk16 (v197 : BitVec 32) (k0_t2 : Fin (k0_t2_loop v197).trips) (v410 : BitVec 32) : Prop :=
  (∀ (k0_h10 : k0_cond10 v197 k0_t2 = 1#1), ∀ a, (k0_off45 v410) a + S1.size a ≤ S32.size a) ∧
  (∀ a, (k0_off113 v410) a + S1.size a ≤ S32.size a) ∧
  (∀ a, (k0_off114 v410) a + S1x2x8x6144.size a ≤ S32x2x8x6144.size a)
theorem k0_off45_inb : ∀ (v197 : BitVec 32) (k0_t2 : Fin (k0_t2_loop v197).trips) (v410 : BitVec 32) (k0_hw16 : k0_chk16 v197 k0_t2 v410), ∀ (k0_h10 : k0_cond10 v197 k0_t2 = 1#1), ∀ a, (k0_off45 v410) a + S1.size a ≤ S32.size a := fun v197 k0_t2 v410 k0_hw16 k0_h10 => k0_hw16.1 k0_h10
theorem k0_off113_inb : ∀ (v197 : BitVec 32) (k0_t2 : Fin (k0_t2_loop v197).trips) (v410 : BitVec 32) (k0_hw16 : k0_chk16 v197 k0_t2 v410), ∀ a, (k0_off113 v410) a + S1.size a ≤ S32.size a := fun v197 k0_t2 v410 k0_hw16 => k0_hw16.2.1
theorem k0_off114_inb : ∀ (v197 : BitVec 32) (k0_t2 : Fin (k0_t2_loop v197).trips) (v410 : BitVec 32) (k0_hw16 : k0_chk16 v197 k0_t2 v410), ∀ a, (k0_off114 v410) a + S1x2x8x6144.size a ≤ S32x2x8x6144.size a := fun v197 k0_t2 v410 k0_hw16 => k0_hw16.2.2

def k0_off115 (v197 : BitVec 32) (k0_t2 : Fin (k0_t2_loop v197).trips) : Fin 3 → Nat :=
  let c1_i32_715 : BitVec 32 := 1#32
  let c0_i32_552 : BitVec 32 := 0#32
  let c1_i32_554 : BitVec 32 := 1#32
  let arg19 : BitVec 32 := Scf.iv c0_i32_552 c1_i32_554 k0_t2
  let c2_i32_563 : BitVec 32 := 2#32
  let v403 : BitVec 32 := Scalar.remsi arg19 c2_i32_563
  let v737 : BitVec 32 := Scalar.subi c1_i32_715 v403
  let v855 : Index := Scalar.indexCast v737
  let c0_754 : Index := 0#32
  let c0_755 : Index := 0#32
  ![v855.toNat, 0, 0]
def k0_off116 (v197 : BitVec 32) (k0_t2 : Fin (k0_t2_loop v197).trips) : Fin 3 → Nat :=
  let c1_i32_716 : BitVec 32 := 1#32
  let c0_i32_552 : BitVec 32 := 0#32
  let c1_i32_554 : BitVec 32 := 1#32
  let arg19 : BitVec 32 := Scf.iv c0_i32_552 c1_i32_554 k0_t2
  let c2_i32_563 : BitVec 32 := 2#32
  let v403 : BitVec 32 := Scalar.remsi arg19 c2_i32_563
  let v738 : BitVec 32 := Scalar.subi c1_i32_716 v403
  let v861 : Index := Scalar.indexCast v738
  let c0_756 : Index := 0#32
  let c0_757 : Index := 0#32
  ![v861.toNat, 0, 0]
@[reducible] def k0_t3_loop (v197 : BitVec 32) : Scf.Loop 32 :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let v394 : BitVec 32 := Scalar.addi c0_i32_552 v393
  let c1_i32_555 : BitVec 32 := 1#32
  ⟨v397, v394, c1_i32_555⟩
def k0_off117 (v197 : BitVec 32) (k0_t3 : Fin (k0_t3_loop v197).trips) : Fin 1 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let v404 : Index := Scalar.indexCast arg19
  ![v404.toNat]
def k0_off118 (v197 : BitVec 32) (k0_t3 : Fin (k0_t3_loop v197).trips) : Fin 1 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c1_i32_564 : BitVec 32 := 1#32
  let v406 : BitVec 32 := Scalar.addi arg19 c1_i32_564
  let c1_i32_565 : BitVec 32 := 1#32
  let v407 : BitVec 32 := Scalar.subi v197 c1_i32_565
  let v408 : BitVec 32 := Scalar.minsi v406 v407
  let v409 : Index := Scalar.indexCast v408
  ![v409.toNat]
def k0_off119 (v197 : BitVec 32) (k0_t3 : Fin (k0_t3_loop v197).trips) : Fin 1 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c1_i32_758 : BitVec 32 := 1#32
  let v865 : BitVec 32 := Scalar.subi arg19 c1_i32_758
  let v866 : Index := Scalar.indexCast v865
  ![v866.toNat]
def k0_cond12 (v197 : BitVec 32) (k0_t3 : Fin (k0_t3_loop v197).trips) : BitVec 1 :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c0_i32_566 : BitVec 32 := 0#32
  let v411 : BitVec 1 := Scalar.cmpi .sgt arg19 c0_i32_566
  let v412 : BitVec 32 := Scalar.extui v411
  let c0_i32_567 : BitVec 32 := 0#32
  let v413 : BitVec 1 := Scalar.cmpi .ne v412 c0_i32_567
  v413

def k0_off120 (v867 : BitVec 32) : Fin 3 → Nat :=
  let c0_i32_759 : BitVec 32 := 0#32
  let c0_i32_760 : BitVec 32 := 0#32
  ![v867.toNat, 0, 0]

def k0_chk22 (v197 : BitVec 32) (k0_t3 : Fin (k0_t3_loop v197).trips) (v867 : BitVec 32) : Prop :=
  (∀ (k0_h12 : k0_cond12 v197 k0_t3 = 1#1), ∀ a, (k0_off120 v867) a + S1x16x768.size a ≤ S32x16x768.size a) ∧
  (∀ (k0_h12 : k0_cond12 v197 k0_t3 = 1#1), ∀ (hinb : ∀ a, (k0_off120 v867) a + S1x16x768.size a ≤ S32x16x768.size a), (Rect.unit (s := S32x16x768) (k0_off120 v867) S1x16x768.size hinb).WholeWords (EltTy.packing .bf16))
theorem k0_off120_inb : ∀ (v197 : BitVec 32) (k0_t3 : Fin (k0_t3_loop v197).trips) (v867 : BitVec 32) (k0_hw22 : k0_chk22 v197 k0_t3 v867), ∀ (k0_h12 : k0_cond12 v197 k0_t3 = 1#1), ∀ a, (k0_off120 v867) a + S1x16x768.size a ≤ S32x16x768.size a := fun v197 k0_t3 v867 k0_hw22 k0_h12 => k0_hw22.1 k0_h12
theorem k0_off120_wordsbf16 : ∀ (v197 : BitVec 32) (k0_t3 : Fin (k0_t3_loop v197).trips) (v867 : BitVec 32) (k0_hw22 : k0_chk22 v197 k0_t3 v867), ∀ (k0_h12 : k0_cond12 v197 k0_t3 = 1#1), (Rect.unit (s := S32x16x768) (k0_off120 v867) S1x16x768.size (k0_off120_inb v197 k0_t3 v867 k0_hw22 k0_h12)).WholeWords (EltTy.packing .bf16) := fun v197 k0_t3 v867 k0_hw22 k0_h12 => k0_hw22.2 k0_h12 (k0_off120_inb v197 k0_t3 v867 k0_hw22 k0_h12)

def k0_off121 (v197 : BitVec 32) (k0_t3 : Fin (k0_t3_loop v197).trips) : Fin 1 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c1_i32_766 : BitVec 32 := 1#32
  let v877 : BitVec 32 := Scalar.subi arg19 c1_i32_766
  let c3_i32_767 : BitVec 32 := 3#32
  let v878 : BitVec 32 := Scalar.addi v877 c3_i32_767
  let v879 : Index := Scalar.indexCast v878
  ![v879.toNat]
def k0_cond13 (v197 : BitVec 32) (k0_t3 : Fin (k0_t3_loop v197).trips) : BitVec 1 :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c1_i32_763 : BitVec 32 := 1#32
  let v872 : BitVec 32 := Scalar.subi arg19 c1_i32_763
  let c3_i32_764 : BitVec 32 := 3#32
  let v873 : BitVec 32 := Scalar.addi v872 c3_i32_764
  let v874 : BitVec 1 := Scalar.cmpi .slt v873 v197
  let v875 : BitVec 32 := Scalar.extui v874
  let c0_i32_765 : BitVec 32 := 0#32
  let v876 : BitVec 1 := Scalar.cmpi .ne v875 c0_i32_765
  v876

def k0_off122 (v880 : BitVec 32) : Fin 1 → Nat :=
  let v881 : Index := Scalar.indexCast v880
  ![v881.toNat]

def k0_chk23 (v197 : BitVec 32) (k0_t3 : Fin (k0_t3_loop v197).trips) (v880 : BitVec 32) : Prop :=
  (∀ (k0_h12 : k0_cond12 v197 k0_t3 = 1#1), ∀ (k0_h13 : k0_cond13 v197 k0_t3 = 1#1), ∀ a, (k0_off122 v880) a + S1.size a ≤ S32.size a)
theorem k0_off122_inb : ∀ (v197 : BitVec 32) (k0_t3 : Fin (k0_t3_loop v197).trips) (v880 : BitVec 32) (k0_hw23 : k0_chk23 v197 k0_t3 v880), ∀ (k0_h12 : k0_cond12 v197 k0_t3 = 1#1), ∀ (k0_h13 : k0_cond13 v197 k0_t3 = 1#1), ∀ a, (k0_off122 v880) a + S1.size a ≤ S32.size a := fun v197 k0_t3 v880 k0_hw23 k0_h12 k0_h13 => k0_hw23 k0_h12 k0_h13

def k0_off123 (v880 : BitVec 32) : Fin 1 → Nat :=
  ![v880.toNat]
def k0_cond14 (v882 : BitVec 32) : BitVec 1 :=
  let c8_i32_768 : BitVec 32 := 8#32
  let v883 : BitVec 1 := Scalar.cmpi .sgt v882 c8_i32_768
  let v884 : BitVec 32 := Scalar.extui v883
  let c0_i32_769 : BitVec 32 := 0#32
  let v885 : BitVec 1 := Scalar.cmpi .ne v884 c0_i32_769
  v885

def k0_off124 (v880 : BitVec 32) : Fin 4 → Nat :=
  let c1_i32_789 : BitVec 32 := 1#32
  let c0_i32_790 : BitVec 32 := 0#32
  let c0_i32_791 : BitVec 32 := 0#32
  ![v880.toNat, 1, 0, 0]

def k0_chk24 (v197 : BitVec 32) (k0_t3 : Fin (k0_t3_loop v197).trips) (v880 : BitVec 32) (v882 : BitVec 32) : Prop :=
  (∀ (k0_h12 : k0_cond12 v197 k0_t3 = 1#1), ∀ (k0_h13 : k0_cond13 v197 k0_t3 = 1#1), ∀ (k0_h14 : k0_cond14 v882 = 1#1), ∀ a, (k0_off123 v880) a + S1.size a ≤ S32.size a) ∧
  (∀ (k0_h12 : k0_cond12 v197 k0_t3 = 1#1), ∀ (k0_h13 : k0_cond13 v197 k0_t3 = 1#1), ∀ (k0_h14 : k0_cond14 v882 = 1#1), ∀ a, (k0_off124 v880) a + S1x1x8x6144.size a ≤ S32x2x8x6144.size a) ∧
  (∀ (k0_h12 : k0_cond12 v197 k0_t3 = 1#1), ∀ (k0_h13 : k0_cond13 v197 k0_t3 = 1#1), ∀ (k0_h14 : k0_cond14 v882 = 1#1), ∀ (hinb : ∀ a, (k0_off124 v880) a + S1x1x8x6144.size a ≤ S32x2x8x6144.size a), (Rect.unit (s := S32x2x8x6144) (k0_off124 v880) S1x1x8x6144.size hinb).WholeWords (EltTy.packing .bf16))
theorem k0_off123_inb : ∀ (v197 : BitVec 32) (k0_t3 : Fin (k0_t3_loop v197).trips) (v880 : BitVec 32) (v882 : BitVec 32) (k0_hw24 : k0_chk24 v197 k0_t3 v880 v882), ∀ (k0_h12 : k0_cond12 v197 k0_t3 = 1#1), ∀ (k0_h13 : k0_cond13 v197 k0_t3 = 1#1), ∀ (k0_h14 : k0_cond14 v882 = 1#1), ∀ a, (k0_off123 v880) a + S1.size a ≤ S32.size a := fun v197 k0_t3 v880 v882 k0_hw24 k0_h12 k0_h13 k0_h14 => k0_hw24.1 k0_h12 k0_h13 k0_h14
theorem k0_off124_inb : ∀ (v197 : BitVec 32) (k0_t3 : Fin (k0_t3_loop v197).trips) (v880 : BitVec 32) (v882 : BitVec 32) (k0_hw24 : k0_chk24 v197 k0_t3 v880 v882), ∀ (k0_h12 : k0_cond12 v197 k0_t3 = 1#1), ∀ (k0_h13 : k0_cond13 v197 k0_t3 = 1#1), ∀ (k0_h14 : k0_cond14 v882 = 1#1), ∀ a, (k0_off124 v880) a + S1x1x8x6144.size a ≤ S32x2x8x6144.size a := fun v197 k0_t3 v880 v882 k0_hw24 k0_h12 k0_h13 k0_h14 => k0_hw24.2.1 k0_h12 k0_h13 k0_h14
theorem k0_off124_wordsbf16 : ∀ (v197 : BitVec 32) (k0_t3 : Fin (k0_t3_loop v197).trips) (v880 : BitVec 32) (v882 : BitVec 32) (k0_hw24 : k0_chk24 v197 k0_t3 v880 v882), ∀ (k0_h12 : k0_cond12 v197 k0_t3 = 1#1), ∀ (k0_h13 : k0_cond13 v197 k0_t3 = 1#1), ∀ (k0_h14 : k0_cond14 v882 = 1#1), (Rect.unit (s := S32x2x8x6144) (k0_off124 v880) S1x1x8x6144.size (k0_off124_inb v197 k0_t3 v880 v882 k0_hw24 k0_h12 k0_h13 k0_h14)).WholeWords (EltTy.packing .bf16) := fun v197 k0_t3 v880 v882 k0_hw24 k0_h12 k0_h13 k0_h14 => k0_hw24.2.2 k0_h12 k0_h13 k0_h14 (k0_off124_inb v197 k0_t3 v880 v882 k0_hw24 k0_h12 k0_h13 k0_h14)

def k0_off125 (v197 : BitVec 32) (k0_t3 : Fin (k0_t3_loop v197).trips) : Fin 1 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c1_i32_766 : BitVec 32 := 1#32
  let v877 : BitVec 32 := Scalar.subi arg19 c1_i32_766
  let c3_i32_767 : BitVec 32 := 3#32
  let v878 : BitVec 32 := Scalar.addi v877 c3_i32_767
  let v887 : Index := Scalar.indexCast v878
  ![v887.toNat]
def k0_off126 (v197 : BitVec 32) (k0_t3 : Fin (k0_t3_loop v197).trips) : Fin 2 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c1_i32_766 : BitVec 32 := 1#32
  let v877 : BitVec 32 := Scalar.subi arg19 c1_i32_766
  let c3_i32_767 : BitVec 32 := 3#32
  let v878 : BitVec 32 := Scalar.addi v877 c3_i32_767
  let c3_i32_770 : BitVec 32 := 3#32
  let v886 : BitVec 32 := Scalar.remsi v878 c3_i32_770
  let c0_i32_771 : BitVec 32 := 0#32
  ![v886.toNat, 0]
def k0_off127 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c1_i32_766 : BitVec 32 := 1#32
  let v877 : BitVec 32 := Scalar.subi arg19 c1_i32_766
  let c3_i32_767 : BitVec 32 := 3#32
  let v878 : BitVec 32 := Scalar.addi v877 c3_i32_767
  let c3_i32_770 : BitVec 32 := 3#32
  let v886 : BitVec 32 := Scalar.remsi v878 c3_i32_770
  let c0_i32_772 : BitVec 32 := 0#32
  let c0_i32_773 : BitVec 32 := 0#32
  ![v886.toNat, 0, 0]
def k0_off128 (v888 : BitVec 32) : Fin 3 → Nat :=
  let c0_i32_774 : BitVec 32 := 0#32
  let c0_i32_775 : BitVec 32 := 0#32
  ![v888.toNat, 0, 0]

def k0_chk25 (v197 : BitVec 32) (k0_t3 : Fin (k0_t3_loop v197).trips) (v888 : BitVec 32) : Prop :=
  (∀ (k0_h12 : k0_cond12 v197 k0_t3 = 1#1), ∀ (k0_h13 : k0_cond13 v197 k0_t3 = 1#1), ∀ a, (k0_off128 v888) a + S1x256x6144.size a ≤ S32x768x6144.size a) ∧
  (∀ (k0_h12 : k0_cond12 v197 k0_t3 = 1#1), ∀ (k0_h13 : k0_cond13 v197 k0_t3 = 1#1), ∀ (hinb : ∀ a, (k0_off128 v888) a + S1x256x6144.size a ≤ S32x768x6144.size a), (Rect.unit (s := S32x768x6144) (k0_off128 v888) S1x256x6144.size hinb).WholeWords (EltTy.packing .fp8e4m3))
theorem k0_off128_inb : ∀ (v197 : BitVec 32) (k0_t3 : Fin (k0_t3_loop v197).trips) (v888 : BitVec 32) (k0_hw25 : k0_chk25 v197 k0_t3 v888), ∀ (k0_h12 : k0_cond12 v197 k0_t3 = 1#1), ∀ (k0_h13 : k0_cond13 v197 k0_t3 = 1#1), ∀ a, (k0_off128 v888) a + S1x256x6144.size a ≤ S32x768x6144.size a := fun v197 k0_t3 v888 k0_hw25 k0_h12 k0_h13 => k0_hw25.1 k0_h12 k0_h13
theorem k0_off128_wordsfp8e4m3 : ∀ (v197 : BitVec 32) (k0_t3 : Fin (k0_t3_loop v197).trips) (v888 : BitVec 32) (k0_hw25 : k0_chk25 v197 k0_t3 v888), ∀ (k0_h12 : k0_cond12 v197 k0_t3 = 1#1), ∀ (k0_h13 : k0_cond13 v197 k0_t3 = 1#1), (Rect.unit (s := S32x768x6144) (k0_off128 v888) S1x256x6144.size (k0_off128_inb v197 k0_t3 v888 k0_hw25 k0_h12 k0_h13)).WholeWords (EltTy.packing .fp8e4m3) := fun v197 k0_t3 v888 k0_hw25 k0_h12 k0_h13 => k0_hw25.2 k0_h12 k0_h13 (k0_off128_inb v197 k0_t3 v888 k0_hw25 k0_h12 k0_h13)

def k0_off129 (v197 : BitVec 32) (k0_t3 : Fin (k0_t3_loop v197).trips) : Fin 1 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c1_i32_766 : BitVec 32 := 1#32
  let v877 : BitVec 32 := Scalar.subi arg19 c1_i32_766
  let c3_i32_767 : BitVec 32 := 3#32
  let v878 : BitVec 32 := Scalar.addi v877 c3_i32_767
  let v896 : Index := Scalar.indexCast v878
  ![v896.toNat]
def k0_off130 (v197 : BitVec 32) (k0_t3 : Fin (k0_t3_loop v197).trips) : Fin 2 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c1_i32_766 : BitVec 32 := 1#32
  let v877 : BitVec 32 := Scalar.subi arg19 c1_i32_766
  let c3_i32_767 : BitVec 32 := 3#32
  let v878 : BitVec 32 := Scalar.addi v877 c3_i32_767
  let c3_i32_776 : BitVec 32 := 3#32
  let v895 : BitVec 32 := Scalar.remsi v878 c3_i32_776
  let c1_i32_777 : BitVec 32 := 1#32
  ![v895.toNat, 1]
def k0_off131 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c1_i32_766 : BitVec 32 := 1#32
  let v877 : BitVec 32 := Scalar.subi arg19 c1_i32_766
  let c3_i32_767 : BitVec 32 := 3#32
  let v878 : BitVec 32 := Scalar.addi v877 c3_i32_767
  let c3_i32_776 : BitVec 32 := 3#32
  let v895 : BitVec 32 := Scalar.remsi v878 c3_i32_776
  let c256_i32_778 : BitVec 32 := 256#32
  let c0_i32_779 : BitVec 32 := 0#32
  ![v895.toNat, 256, 0]
def k0_off132 (v897 : BitVec 32) : Fin 3 → Nat :=
  let c256_i32_780 : BitVec 32 := 256#32
  let c0_i32_781 : BitVec 32 := 0#32
  ![v897.toNat, 256, 0]

def k0_chk26 (v197 : BitVec 32) (k0_t3 : Fin (k0_t3_loop v197).trips) (v897 : BitVec 32) : Prop :=
  (∀ (k0_h12 : k0_cond12 v197 k0_t3 = 1#1), ∀ (k0_h13 : k0_cond13 v197 k0_t3 = 1#1), ∀ a, (k0_off132 v897) a + S1x256x6144.size a ≤ S32x768x6144.size a) ∧
  (∀ (k0_h12 : k0_cond12 v197 k0_t3 = 1#1), ∀ (k0_h13 : k0_cond13 v197 k0_t3 = 1#1), ∀ (hinb : ∀ a, (k0_off132 v897) a + S1x256x6144.size a ≤ S32x768x6144.size a), (Rect.unit (s := S32x768x6144) (k0_off132 v897) S1x256x6144.size hinb).WholeWords (EltTy.packing .fp8e4m3))
theorem k0_off132_inb : ∀ (v197 : BitVec 32) (k0_t3 : Fin (k0_t3_loop v197).trips) (v897 : BitVec 32) (k0_hw26 : k0_chk26 v197 k0_t3 v897), ∀ (k0_h12 : k0_cond12 v197 k0_t3 = 1#1), ∀ (k0_h13 : k0_cond13 v197 k0_t3 = 1#1), ∀ a, (k0_off132 v897) a + S1x256x6144.size a ≤ S32x768x6144.size a := fun v197 k0_t3 v897 k0_hw26 k0_h12 k0_h13 => k0_hw26.1 k0_h12 k0_h13
theorem k0_off132_wordsfp8e4m3 : ∀ (v197 : BitVec 32) (k0_t3 : Fin (k0_t3_loop v197).trips) (v897 : BitVec 32) (k0_hw26 : k0_chk26 v197 k0_t3 v897), ∀ (k0_h12 : k0_cond12 v197 k0_t3 = 1#1), ∀ (k0_h13 : k0_cond13 v197 k0_t3 = 1#1), (Rect.unit (s := S32x768x6144) (k0_off132 v897) S1x256x6144.size (k0_off132_inb v197 k0_t3 v897 k0_hw26 k0_h12 k0_h13)).WholeWords (EltTy.packing .fp8e4m3) := fun v197 k0_t3 v897 k0_hw26 k0_h12 k0_h13 => k0_hw26.2 k0_h12 k0_h13 (k0_off132_inb v197 k0_t3 v897 k0_hw26 k0_h12 k0_h13)

def k0_off133 (v197 : BitVec 32) (k0_t3 : Fin (k0_t3_loop v197).trips) : Fin 1 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c1_i32_766 : BitVec 32 := 1#32
  let v877 : BitVec 32 := Scalar.subi arg19 c1_i32_766
  let c3_i32_767 : BitVec 32 := 3#32
  let v878 : BitVec 32 := Scalar.addi v877 c3_i32_767
  let v905 : Index := Scalar.indexCast v878
  ![v905.toNat]
def k0_off134 (v197 : BitVec 32) (k0_t3 : Fin (k0_t3_loop v197).trips) : Fin 2 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c1_i32_766 : BitVec 32 := 1#32
  let v877 : BitVec 32 := Scalar.subi arg19 c1_i32_766
  let c3_i32_767 : BitVec 32 := 3#32
  let v878 : BitVec 32 := Scalar.addi v877 c3_i32_767
  let c3_i32_782 : BitVec 32 := 3#32
  let v904 : BitVec 32 := Scalar.remsi v878 c3_i32_782
  let c2_i32_783 : BitVec 32 := 2#32
  ![v904.toNat, 2]
def k0_off135 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c1_i32_766 : BitVec 32 := 1#32
  let v877 : BitVec 32 := Scalar.subi arg19 c1_i32_766
  let c3_i32_767 : BitVec 32 := 3#32
  let v878 : BitVec 32 := Scalar.addi v877 c3_i32_767
  let c3_i32_782 : BitVec 32 := 3#32
  let v904 : BitVec 32 := Scalar.remsi v878 c3_i32_782
  let c512_i32_784 : BitVec 32 := 512#32
  let c0_i32_785 : BitVec 32 := 0#32
  ![v904.toNat, 512, 0]
def k0_off136 (v906 : BitVec 32) : Fin 3 → Nat :=
  let c512_i32_786 : BitVec 32 := 512#32
  let c0_i32_787 : BitVec 32 := 0#32
  ![v906.toNat, 512, 0]

def k0_chk27 (v197 : BitVec 32) (k0_t3 : Fin (k0_t3_loop v197).trips) (v906 : BitVec 32) : Prop :=
  (∀ (k0_h12 : k0_cond12 v197 k0_t3 = 1#1), ∀ (k0_h13 : k0_cond13 v197 k0_t3 = 1#1), ∀ a, (k0_off136 v906) a + S1x256x6144.size a ≤ S32x768x6144.size a) ∧
  (∀ (k0_h12 : k0_cond12 v197 k0_t3 = 1#1), ∀ (k0_h13 : k0_cond13 v197 k0_t3 = 1#1), ∀ (hinb : ∀ a, (k0_off136 v906) a + S1x256x6144.size a ≤ S32x768x6144.size a), (Rect.unit (s := S32x768x6144) (k0_off136 v906) S1x256x6144.size hinb).WholeWords (EltTy.packing .fp8e4m3))
theorem k0_off136_inb : ∀ (v197 : BitVec 32) (k0_t3 : Fin (k0_t3_loop v197).trips) (v906 : BitVec 32) (k0_hw27 : k0_chk27 v197 k0_t3 v906), ∀ (k0_h12 : k0_cond12 v197 k0_t3 = 1#1), ∀ (k0_h13 : k0_cond13 v197 k0_t3 = 1#1), ∀ a, (k0_off136 v906) a + S1x256x6144.size a ≤ S32x768x6144.size a := fun v197 k0_t3 v906 k0_hw27 k0_h12 k0_h13 => k0_hw27.1 k0_h12 k0_h13
theorem k0_off136_wordsfp8e4m3 : ∀ (v197 : BitVec 32) (k0_t3 : Fin (k0_t3_loop v197).trips) (v906 : BitVec 32) (k0_hw27 : k0_chk27 v197 k0_t3 v906), ∀ (k0_h12 : k0_cond12 v197 k0_t3 = 1#1), ∀ (k0_h13 : k0_cond13 v197 k0_t3 = 1#1), (Rect.unit (s := S32x768x6144) (k0_off136 v906) S1x256x6144.size (k0_off136_inb v197 k0_t3 v906 k0_hw27 k0_h12 k0_h13)).WholeWords (EltTy.packing .fp8e4m3) := fun v197 k0_t3 v906 k0_hw27 k0_h12 k0_h13 => k0_hw27.2 k0_h12 k0_h13 (k0_off136_inb v197 k0_t3 v906 k0_hw27 k0_h12 k0_h13)

def k0_off137 (v410 : BitVec 32) : Fin 1 → Nat :=
  let v865 : Index := Scalar.indexCast v410
  ![v865.toNat]
def k0_cond15 (v197 : BitVec 32) (k0_t3 : Fin (k0_t3_loop v197).trips) : BitVec 1 :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c1_i32_568 : BitVec 32 := 1#32
  let v414 : BitVec 32 := Scalar.addi arg19 c1_i32_568
  let v415 : BitVec 1 := Scalar.cmpi .slt v414 v197
  let v416 : BitVec 32 := Scalar.extui v415
  let c0_i32_569 : BitVec 32 := 0#32
  let v417 : BitVec 1 := Scalar.cmpi .ne v416 c0_i32_569
  v417

def k0_off138 (v410 : BitVec 32) : Fin 1 → Nat :=
  ![v410.toNat]
def k0_cond16 (v866 : BitVec 32) : BitVec 1 :=
  let c8_i32_758 : BitVec 32 := 8#32
  let v867 : BitVec 1 := Scalar.cmpi .sgt v866 c8_i32_758
  let v868 : BitVec 32 := Scalar.extui v867
  let c0_i32_759 : BitVec 32 := 0#32
  let v869 : BitVec 1 := Scalar.cmpi .ne v868 c0_i32_759
  v869

def k0_off139 (v410 : BitVec 32) : Fin 4 → Nat :=
  let c1_i32_761 : BitVec 32 := 1#32
  let c0_i32_762 : BitVec 32 := 0#32
  let c0_i32_763 : BitVec 32 := 0#32
  ![v410.toNat, 1, 0, 0]

def k0_chk29 (v197 : BitVec 32) (k0_t3 : Fin (k0_t3_loop v197).trips) (v410 : BitVec 32) (v866 : BitVec 32) : Prop :=
  (∀ (k0_h15 : k0_cond15 v197 k0_t3 = 1#1), ∀ (k0_h16 : k0_cond16 v866 = 1#1), ∀ a, (k0_off138 v410) a + S1.size a ≤ S32.size a) ∧
  (∀ (k0_h15 : k0_cond15 v197 k0_t3 = 1#1), ∀ (k0_h16 : k0_cond16 v866 = 1#1), ∀ a, (k0_off139 v410) a + S1x1x8x6144.size a ≤ S32x2x8x6144.size a) ∧
  (∀ (k0_h15 : k0_cond15 v197 k0_t3 = 1#1), ∀ (k0_h16 : k0_cond16 v866 = 1#1), ∀ (hinb : ∀ a, (k0_off139 v410) a + S1x1x8x6144.size a ≤ S32x2x8x6144.size a), (Rect.unit (s := S32x2x8x6144) (k0_off139 v410) S1x1x8x6144.size hinb).WholeWords (EltTy.packing .bf16))
theorem k0_off138_inb : ∀ (v197 : BitVec 32) (k0_t3 : Fin (k0_t3_loop v197).trips) (v410 : BitVec 32) (v866 : BitVec 32) (k0_hw29 : k0_chk29 v197 k0_t3 v410 v866), ∀ (k0_h15 : k0_cond15 v197 k0_t3 = 1#1), ∀ (k0_h16 : k0_cond16 v866 = 1#1), ∀ a, (k0_off138 v410) a + S1.size a ≤ S32.size a := fun v197 k0_t3 v410 v866 k0_hw29 k0_h15 k0_h16 => k0_hw29.1 k0_h15 k0_h16
theorem k0_off139_inb : ∀ (v197 : BitVec 32) (k0_t3 : Fin (k0_t3_loop v197).trips) (v410 : BitVec 32) (v866 : BitVec 32) (k0_hw29 : k0_chk29 v197 k0_t3 v410 v866), ∀ (k0_h15 : k0_cond15 v197 k0_t3 = 1#1), ∀ (k0_h16 : k0_cond16 v866 = 1#1), ∀ a, (k0_off139 v410) a + S1x1x8x6144.size a ≤ S32x2x8x6144.size a := fun v197 k0_t3 v410 v866 k0_hw29 k0_h15 k0_h16 => k0_hw29.2.1 k0_h15 k0_h16
theorem k0_off139_wordsbf16 : ∀ (v197 : BitVec 32) (k0_t3 : Fin (k0_t3_loop v197).trips) (v410 : BitVec 32) (v866 : BitVec 32) (k0_hw29 : k0_chk29 v197 k0_t3 v410 v866), ∀ (k0_h15 : k0_cond15 v197 k0_t3 = 1#1), ∀ (k0_h16 : k0_cond16 v866 = 1#1), (Rect.unit (s := S32x2x8x6144) (k0_off139 v410) S1x1x8x6144.size (k0_off139_inb v197 k0_t3 v410 v866 k0_hw29 k0_h15 k0_h16)).WholeWords (EltTy.packing .bf16) := fun v197 k0_t3 v410 v866 k0_hw29 k0_h15 k0_h16 => k0_hw29.2.2 k0_h15 k0_h16 (k0_off139_inb v197 k0_t3 v410 v866 k0_hw29 k0_h15 k0_h16)

def k0_off140 (v197 : BitVec 32) (k0_t3 : Fin (k0_t3_loop v197).trips) : Fin 1 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let v419 : Index := Scalar.indexCast arg19
  ![v419.toNat]
def k0_off141 (v197 : BitVec 32) (k0_t3 : Fin (k0_t3_loop v197).trips) : Fin 2 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_570 : BitVec 32 := 3#32
  let v418 : BitVec 32 := Scalar.remsi arg19 c3_i32_570
  let c0_i32_571 : BitVec 32 := 0#32
  ![v418.toNat, 0]
def k0_off142 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_570 : BitVec 32 := 3#32
  let v418 : BitVec 32 := Scalar.remsi arg19 c3_i32_570
  let c0_i32_572 : BitVec 32 := 0#32
  let c0_i32_573 : BitVec 32 := 0#32
  ![v418.toNat, 0, 0]
def k0_off143 (v420 : BitVec 32) : Fin 3 → Nat :=
  let c0_i32_574 : BitVec 32 := 0#32
  let c0_i32_575 : BitVec 32 := 0#32
  ![v420.toNat, 0, 0]

def k0_chk30 (v420 : BitVec 32) : Prop :=
  (∀ a, (k0_off143 v420) a + S1x256x6144.size a ≤ S32x768x6144.size a) ∧
  (∀ (hinb : ∀ a, (k0_off143 v420) a + S1x256x6144.size a ≤ S32x768x6144.size a), (Rect.unit (s := S32x768x6144) (k0_off143 v420) S1x256x6144.size hinb).WholeWords (EltTy.packing .fp8e4m3))
theorem k0_off143_inb : ∀ (v420 : BitVec 32) (k0_hw30 : k0_chk30 v420), ∀ a, (k0_off143 v420) a + S1x256x6144.size a ≤ S32x768x6144.size a := fun v420 k0_hw30 => k0_hw30.1
theorem k0_off143_wordsfp8e4m3 : ∀ (v420 : BitVec 32) (k0_hw30 : k0_chk30 v420), (Rect.unit (s := S32x768x6144) (k0_off143 v420) S1x256x6144.size (k0_off143_inb v420 k0_hw30)).WholeWords (EltTy.packing .fp8e4m3) := fun v420 k0_hw30 => k0_hw30.2 (k0_off143_inb v420 k0_hw30)

def k0_off144 (v197 : BitVec 32) (k0_t3 : Fin (k0_t3_loop v197).trips) : Fin 1 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let v428 : Index := Scalar.indexCast arg19
  ![v428.toNat]
def k0_off145 (v197 : BitVec 32) (k0_t3 : Fin (k0_t3_loop v197).trips) : Fin 2 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_576 : BitVec 32 := 3#32
  let v427 : BitVec 32 := Scalar.remsi arg19 c3_i32_576
  let c1_i32_577 : BitVec 32 := 1#32
  ![v427.toNat, 1]
def k0_off146 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_576 : BitVec 32 := 3#32
  let v427 : BitVec 32 := Scalar.remsi arg19 c3_i32_576
  let c256_i32 : BitVec 32 := 256#32
  let c0_i32_578 : BitVec 32 := 0#32
  ![v427.toNat, 256, 0]
def k0_off147 (v429 : BitVec 32) : Fin 3 → Nat :=
  let c256_i32_579 : BitVec 32 := 256#32
  let c0_i32_580 : BitVec 32 := 0#32
  ![v429.toNat, 256, 0]

def k0_chk31 (v429 : BitVec 32) : Prop :=
  (∀ a, (k0_off147 v429) a + S1x256x6144.size a ≤ S32x768x6144.size a) ∧
  (∀ (hinb : ∀ a, (k0_off147 v429) a + S1x256x6144.size a ≤ S32x768x6144.size a), (Rect.unit (s := S32x768x6144) (k0_off147 v429) S1x256x6144.size hinb).WholeWords (EltTy.packing .fp8e4m3))
theorem k0_off147_inb : ∀ (v429 : BitVec 32) (k0_hw31 : k0_chk31 v429), ∀ a, (k0_off147 v429) a + S1x256x6144.size a ≤ S32x768x6144.size a := fun v429 k0_hw31 => k0_hw31.1
theorem k0_off147_wordsfp8e4m3 : ∀ (v429 : BitVec 32) (k0_hw31 : k0_chk31 v429), (Rect.unit (s := S32x768x6144) (k0_off147 v429) S1x256x6144.size (k0_off147_inb v429 k0_hw31)).WholeWords (EltTy.packing .fp8e4m3) := fun v429 k0_hw31 => k0_hw31.2 (k0_off147_inb v429 k0_hw31)

def k0_off148 (v197 : BitVec 32) (k0_t3 : Fin (k0_t3_loop v197).trips) : Fin 1 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let v437 : Index := Scalar.indexCast arg19
  ![v437.toNat]
def k0_off149 (v197 : BitVec 32) (k0_t3 : Fin (k0_t3_loop v197).trips) : Fin 2 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_581 : BitVec 32 := 3#32
  let v436 : BitVec 32 := Scalar.remsi arg19 c3_i32_581
  let c2_i32_582 : BitVec 32 := 2#32
  ![v436.toNat, 2]
def k0_off150 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_581 : BitVec 32 := 3#32
  let v436 : BitVec 32 := Scalar.remsi arg19 c3_i32_581
  let c512_i32 : BitVec 32 := 512#32
  let c0_i32_583 : BitVec 32 := 0#32
  ![v436.toNat, 512, 0]
def k0_off151 (v438 : BitVec 32) : Fin 3 → Nat :=
  let c512_i32_584 : BitVec 32 := 512#32
  let c0_i32_585 : BitVec 32 := 0#32
  ![v438.toNat, 512, 0]

def k0_chk32 (v438 : BitVec 32) : Prop :=
  (∀ a, (k0_off151 v438) a + S1x256x6144.size a ≤ S32x768x6144.size a) ∧
  (∀ (hinb : ∀ a, (k0_off151 v438) a + S1x256x6144.size a ≤ S32x768x6144.size a), (Rect.unit (s := S32x768x6144) (k0_off151 v438) S1x256x6144.size hinb).WholeWords (EltTy.packing .fp8e4m3))
theorem k0_off151_inb : ∀ (v438 : BitVec 32) (k0_hw32 : k0_chk32 v438), ∀ a, (k0_off151 v438) a + S1x256x6144.size a ≤ S32x768x6144.size a := fun v438 k0_hw32 => k0_hw32.1
theorem k0_off151_wordsfp8e4m3 : ∀ (v438 : BitVec 32) (k0_hw32 : k0_chk32 v438), (Rect.unit (s := S32x768x6144) (k0_off151 v438) S1x256x6144.size (k0_off151_inb v438 k0_hw32)).WholeWords (EltTy.packing .fp8e4m3) := fun v438 k0_hw32 => k0_hw32.2 (k0_off151_inb v438 k0_hw32)

def k0_off152 (v405 : BitVec 32) : Fin 2 → Nat :=
  let v445 : Index := Scalar.indexCast v405
  let c0_586 : Index := 0#32
  ![v445.toNat, 0]

def k0_off153 (v405 : BitVec 32) : Fin 1 → Nat :=
  let v448 : Index := Scalar.indexCast v405
  ![v448.toNat]
def k0_off154 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c2_i32_563 : BitVec 32 := 2#32
  let v403 : BitVec 32 := Scalar.remsi arg19 c2_i32_563
  let v452 : Index := Scalar.indexCast v403
  let c0_587 : Index := 0#32
  let c0_588 : Index := 0#32
  ![v452.toNat, 0, 0]
def k0_off155 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c2_i32_563 : BitVec 32 := 2#32
  let v403 : BitVec 32 := Scalar.remsi arg19 c2_i32_563
  let v456 : Index := Scalar.indexCast v403
  let c0_589 : Index := 0#32
  let c0_590 : Index := 0#32
  ![v456.toNat, 0, 0]
def k0_off156 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v460 : Index := Scalar.indexCast v402
  let c0_591 : Index := 0#32
  let c0_592 : Index := 0#32
  ![v460.toNat, 0, 0]
def k0_off157 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v464 : Index := Scalar.indexCast v402
  let c512 : Index := 512#32
  let c0_594 : Index := 0#32
  ![v464.toNat, 512, 0]
def k0_off158 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v469 : Index := Scalar.indexCast v402
  let c0_596 : Index := 0#32
  let c256 : Index := 256#32
  ![v469.toNat, 0, 256]
def k0_off159 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v473 : Index := Scalar.indexCast v402
  let c512_598 : Index := 512#32
  let c256_599 : Index := 256#32
  ![v473.toNat, 512, 256]
def k0_off160 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v480 : Index := Scalar.indexCast v402
  let c0_601 : Index := 0#32
  let c512_602 : Index := 512#32
  ![v480.toNat, 0, 512]
def k0_off161 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v484 : Index := Scalar.indexCast v402
  let c512_604 : Index := 512#32
  let c512_605 : Index := 512#32
  ![v484.toNat, 512, 512]
def k0_off162 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v491 : Index := Scalar.indexCast v402
  let c0_607 : Index := 0#32
  let c768 : Index := 768#32
  ![v491.toNat, 0, 768]
def k0_off163 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v495 : Index := Scalar.indexCast v402
  let c512_609 : Index := 512#32
  let c768_610 : Index := 768#32
  ![v495.toNat, 512, 768]
def k0_off164 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v502 : Index := Scalar.indexCast v402
  let c0_612 : Index := 0#32
  let c1024 : Index := 1024#32
  ![v502.toNat, 0, 1024]
def k0_off165 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v506 : Index := Scalar.indexCast v402
  let c512_614 : Index := 512#32
  let c1024_615 : Index := 1024#32
  ![v506.toNat, 512, 1024]
def k0_off166 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v513 : Index := Scalar.indexCast v402
  let c0_617 : Index := 0#32
  let c1280 : Index := 1280#32
  ![v513.toNat, 0, 1280]
def k0_off167 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v517 : Index := Scalar.indexCast v402
  let c512_619 : Index := 512#32
  let c1280_620 : Index := 1280#32
  ![v517.toNat, 512, 1280]
def k0_off168 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v524 : Index := Scalar.indexCast v402
  let c0_622 : Index := 0#32
  let c1536 : Index := 1536#32
  ![v524.toNat, 0, 1536]
def k0_off169 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v528 : Index := Scalar.indexCast v402
  let c512_624 : Index := 512#32
  let c1536_625 : Index := 1536#32
  ![v528.toNat, 512, 1536]
def k0_off170 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v535 : Index := Scalar.indexCast v402
  let c0_627 : Index := 0#32
  let c1792 : Index := 1792#32
  ![v535.toNat, 0, 1792]
def k0_off171 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v539 : Index := Scalar.indexCast v402
  let c512_629 : Index := 512#32
  let c1792_630 : Index := 1792#32
  ![v539.toNat, 512, 1792]
def k0_off172 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v546 : Index := Scalar.indexCast v402
  let c0_632 : Index := 0#32
  let c2048 : Index := 2048#32
  ![v546.toNat, 0, 2048]
def k0_off173 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v550 : Index := Scalar.indexCast v402
  let c512_634 : Index := 512#32
  let c2048_635 : Index := 2048#32
  ![v550.toNat, 512, 2048]
def k0_off174 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v557 : Index := Scalar.indexCast v402
  let c0_637 : Index := 0#32
  let c2304 : Index := 2304#32
  ![v557.toNat, 0, 2304]
def k0_off175 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v561 : Index := Scalar.indexCast v402
  let c512_639 : Index := 512#32
  let c2304_640 : Index := 2304#32
  ![v561.toNat, 512, 2304]
def k0_off176 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v568 : Index := Scalar.indexCast v402
  let c0_642 : Index := 0#32
  let c2560 : Index := 2560#32
  ![v568.toNat, 0, 2560]
def k0_off177 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v572 : Index := Scalar.indexCast v402
  let c512_644 : Index := 512#32
  let c2560_645 : Index := 2560#32
  ![v572.toNat, 512, 2560]
def k0_off178 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v579 : Index := Scalar.indexCast v402
  let c0_647 : Index := 0#32
  let c2816 : Index := 2816#32
  ![v579.toNat, 0, 2816]
def k0_off179 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v583 : Index := Scalar.indexCast v402
  let c512_649 : Index := 512#32
  let c2816_650 : Index := 2816#32
  ![v583.toNat, 512, 2816]
def k0_off180 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v590 : Index := Scalar.indexCast v402
  let c0_652 : Index := 0#32
  let c3072 : Index := 3072#32
  ![v590.toNat, 0, 3072]
def k0_off181 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v594 : Index := Scalar.indexCast v402
  let c512_654 : Index := 512#32
  let c3072_655 : Index := 3072#32
  ![v594.toNat, 512, 3072]
def k0_off182 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v601 : Index := Scalar.indexCast v402
  let c0_657 : Index := 0#32
  let c3328 : Index := 3328#32
  ![v601.toNat, 0, 3328]
def k0_off183 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v605 : Index := Scalar.indexCast v402
  let c512_659 : Index := 512#32
  let c3328_660 : Index := 3328#32
  ![v605.toNat, 512, 3328]
def k0_off184 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v612 : Index := Scalar.indexCast v402
  let c0_662 : Index := 0#32
  let c3584 : Index := 3584#32
  ![v612.toNat, 0, 3584]
def k0_off185 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v616 : Index := Scalar.indexCast v402
  let c512_664 : Index := 512#32
  let c3584_665 : Index := 3584#32
  ![v616.toNat, 512, 3584]
def k0_off186 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v623 : Index := Scalar.indexCast v402
  let c0_667 : Index := 0#32
  let c3840 : Index := 3840#32
  ![v623.toNat, 0, 3840]
def k0_off187 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v627 : Index := Scalar.indexCast v402
  let c512_669 : Index := 512#32
  let c3840_670 : Index := 3840#32
  ![v627.toNat, 512, 3840]
def k0_off188 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v634 : Index := Scalar.indexCast v402
  let c0_672 : Index := 0#32
  let c4096 : Index := 4096#32
  ![v634.toNat, 0, 4096]
def k0_off189 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v638 : Index := Scalar.indexCast v402
  let c512_674 : Index := 512#32
  let c4096_675 : Index := 4096#32
  ![v638.toNat, 512, 4096]
def k0_off190 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v645 : Index := Scalar.indexCast v402
  let c0_677 : Index := 0#32
  let c4352 : Index := 4352#32
  ![v645.toNat, 0, 4352]
def k0_off191 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v649 : Index := Scalar.indexCast v402
  let c512_679 : Index := 512#32
  let c4352_680 : Index := 4352#32
  ![v649.toNat, 512, 4352]
def k0_off192 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v656 : Index := Scalar.indexCast v402
  let c0_682 : Index := 0#32
  let c4608 : Index := 4608#32
  ![v656.toNat, 0, 4608]
def k0_off193 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v660 : Index := Scalar.indexCast v402
  let c512_684 : Index := 512#32
  let c4608_685 : Index := 4608#32
  ![v660.toNat, 512, 4608]
def k0_off194 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v667 : Index := Scalar.indexCast v402
  let c0_687 : Index := 0#32
  let c4864 : Index := 4864#32
  ![v667.toNat, 0, 4864]
def k0_off195 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v671 : Index := Scalar.indexCast v402
  let c512_689 : Index := 512#32
  let c4864_690 : Index := 4864#32
  ![v671.toNat, 512, 4864]
def k0_off196 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v678 : Index := Scalar.indexCast v402
  let c0_692 : Index := 0#32
  let c5120 : Index := 5120#32
  ![v678.toNat, 0, 5120]
def k0_off197 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v682 : Index := Scalar.indexCast v402
  let c512_694 : Index := 512#32
  let c5120_695 : Index := 5120#32
  ![v682.toNat, 512, 5120]
def k0_off198 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v689 : Index := Scalar.indexCast v402
  let c0_697 : Index := 0#32
  let c5376 : Index := 5376#32
  ![v689.toNat, 0, 5376]
def k0_off199 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v693 : Index := Scalar.indexCast v402
  let c512_699 : Index := 512#32
  let c5376_700 : Index := 5376#32
  ![v693.toNat, 512, 5376]
def k0_off200 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v700 : Index := Scalar.indexCast v402
  let c0_702 : Index := 0#32
  let c5632 : Index := 5632#32
  ![v700.toNat, 0, 5632]
def k0_off201 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v704 : Index := Scalar.indexCast v402
  let c512_704 : Index := 512#32
  let c5632_705 : Index := 5632#32
  ![v704.toNat, 512, 5632]
def k0_off202 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v711 : Index := Scalar.indexCast v402
  let c0_707 : Index := 0#32
  let c5888 : Index := 5888#32
  ![v711.toNat, 0, 5888]
def k0_off203 (v197 : BitVec 32) (k0_t3 : Fin (k0_t3_loop v197).trips) : Fin 3 → Nat :=
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c3_i32_562 : BitVec 32 := 3#32
  let v402 : BitVec 32 := Scalar.remsi arg19 c3_i32_562
  let v715 : Index := Scalar.indexCast v402
  let c512_709 : Index := 512#32
  let c5888_710 : Index := 5888#32
  ![v715.toNat, 512, 5888]
def k0_off204 (v405 : BitVec 32) : Fin 3 → Nat :=
  let v731 : Index := Scalar.indexCast v405
  let c0_713 : Index := 0#32
  let c0_714 : Index := 0#32
  ![v731.toNat, 0, 0]

def k0_chk33 (v405 : BitVec 32) : Prop :=
  (∀ a, (k0_off152 v405) a + S1x768.size a ≤ S32x768.size a) ∧
  (∀ a, (k0_off153 v405) a + S1.size a ≤ S32.size a) ∧
  (∀ a, (k0_off204 v405) a + S1x16x768.size a ≤ S32x16x768.size a) ∧
  (∀ (hinb : ∀ a, (k0_off204 v405) a + S1x16x768.size a ≤ S32x16x768.size a), (Rect.unit (s := S32x16x768) (k0_off204 v405) S1x16x768.size hinb).PackedRows (EltTy.packing .bf16))
theorem k0_off152_inb : ∀ (v405 : BitVec 32) (k0_hw33 : k0_chk33 v405), ∀ a, (k0_off152 v405) a + S1x768.size a ≤ S32x768.size a := fun v405 k0_hw33 => k0_hw33.1
theorem k0_off153_inb : ∀ (v405 : BitVec 32) (k0_hw33 : k0_chk33 v405), ∀ a, (k0_off153 v405) a + S1.size a ≤ S32.size a := fun v405 k0_hw33 => k0_hw33.2.1
theorem k0_off204_inb : ∀ (v405 : BitVec 32) (k0_hw33 : k0_chk33 v405), ∀ a, (k0_off204 v405) a + S1x16x768.size a ≤ S32x16x768.size a := fun v405 k0_hw33 => k0_hw33.2.2.1
theorem k0_off204_packedbf16 : ∀ (v405 : BitVec 32) (k0_hw33 : k0_chk33 v405), (Rect.unit (s := S32x16x768) (k0_off204 v405) S1x16x768.size (k0_off204_inb v405 k0_hw33)).PackedRows (EltTy.packing .bf16) := fun v405 k0_hw33 => k0_hw33.2.2.2 (k0_off204_inb v405 k0_hw33)

def k0_off205 (v410 : BitVec 32) : Fin 1 → Nat :=
  let v735 : Index := Scalar.indexCast v410
  ![v735.toNat]
def k0_off206 (v410 : BitVec 32) : Fin 4 → Nat :=
  let v739 : Index := Scalar.indexCast v410
  let c0_717 : Index := 0#32
  let c0_718 : Index := 0#32
  let c0_719 : Index := 0#32
  ![v739.toNat, 0, 0, 0]

def k0_chk28 (v197 : BitVec 32) (k0_t3 : Fin (k0_t3_loop v197).trips) (v410 : BitVec 32) : Prop :=
  (∀ (k0_h15 : k0_cond15 v197 k0_t3 = 1#1), ∀ a, (k0_off137 v410) a + S1.size a ≤ S32.size a) ∧
  (∀ a, (k0_off205 v410) a + S1.size a ≤ S32.size a) ∧
  (∀ a, (k0_off206 v410) a + S1x2x8x6144.size a ≤ S32x2x8x6144.size a)
theorem k0_off137_inb : ∀ (v197 : BitVec 32) (k0_t3 : Fin (k0_t3_loop v197).trips) (v410 : BitVec 32) (k0_hw28 : k0_chk28 v197 k0_t3 v410), ∀ (k0_h15 : k0_cond15 v197 k0_t3 = 1#1), ∀ a, (k0_off137 v410) a + S1.size a ≤ S32.size a := fun v197 k0_t3 v410 k0_hw28 k0_h15 => k0_hw28.1 k0_h15
theorem k0_off205_inb : ∀ (v197 : BitVec 32) (k0_t3 : Fin (k0_t3_loop v197).trips) (v410 : BitVec 32) (k0_hw28 : k0_chk28 v197 k0_t3 v410), ∀ a, (k0_off205 v410) a + S1.size a ≤ S32.size a := fun v197 k0_t3 v410 k0_hw28 => k0_hw28.2.1
theorem k0_off206_inb : ∀ (v197 : BitVec 32) (k0_t3 : Fin (k0_t3_loop v197).trips) (v410 : BitVec 32) (k0_hw28 : k0_chk28 v197 k0_t3 v410), ∀ a, (k0_off206 v410) a + S1x2x8x6144.size a ≤ S32x2x8x6144.size a := fun v197 k0_t3 v410 k0_hw28 => k0_hw28.2.2

def k0_off207 (v197 : BitVec 32) (k0_t3 : Fin (k0_t3_loop v197).trips) : Fin 3 → Nat :=
  let c1_i32_715 : BitVec 32 := 1#32
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c2_i32_563 : BitVec 32 := 2#32
  let v403 : BitVec 32 := Scalar.remsi arg19 c2_i32_563
  let v737 : BitVec 32 := Scalar.subi c1_i32_715 v403
  let v855 : Index := Scalar.indexCast v737
  let c0_754 : Index := 0#32
  let c0_755 : Index := 0#32
  ![v855.toNat, 0, 0]
def k0_off208 (v197 : BitVec 32) (k0_t3 : Fin (k0_t3_loop v197).trips) : Fin 3 → Nat :=
  let c1_i32_716 : BitVec 32 := 1#32
  let c0_i32_552 : BitVec 32 := 0#32
  let v393 : BitVec 32 := Scalar.subi v197 c0_i32_552
  let c1_i32_553 : BitVec 32 := 1#32
  let v395 : BitVec 32 := Scalar.divsi v393 c1_i32_553
  let v396 : BitVec 32 := Scalar.muli v395 c1_i32_553
  let v397 : BitVec 32 := Scalar.addi c0_i32_552 v396
  let c1_i32_555 : BitVec 32 := 1#32
  let arg19 : BitVec 32 := Scf.iv v397 c1_i32_555 k0_t3
  let c2_i32_563 : BitVec 32 := 2#32
  let v403 : BitVec 32 := Scalar.remsi arg19 c2_i32_563
  let v738 : BitVec 32 := Scalar.subi c1_i32_716 v403
  let v861 : Index := Scalar.indexCast v738
  let c0_756 : Index := 0#32
  let c0_757 : Index := 0#32
  ![v861.toNat, 0, 0]
def k0_off209 (v197 : BitVec 32) : Fin 1 → Nat :=
  let c1_i32_562 : BitVec 32 := 1#32
  let v402 : BitVec 32 := Scalar.subi v197 c1_i32_562
  let v403 : Index := Scalar.indexCast v402
  ![v403.toNat]
def k0_cond17 (v197 : BitVec 32) : BitVec 1 :=
  let c0_i32_556 : BitVec 32 := 0#32
  let v398 : BitVec 1 := Scalar.cmpi .sgt v197 c0_i32_556
  let v399 : BitVec 32 := Scalar.extui v398
  let c0_i32_557 : BitVec 32 := 0#32
  let v400 : BitVec 1 := Scalar.cmpi .ne v399 c0_i32_557
  v400

def k0_chk9_0 (v197 : BitVec 32) : Prop :=
  ((k0_t2_loop v197).OK) ∧
  (∀ k0_t2 : Fin (k0_t2_loop v197).trips, ∀ a, (k0_off25 v197 k0_t2) a + S1.size a ≤ S32.size a) ∧
  (∀ k0_t2 : Fin (k0_t2_loop v197).trips, ∀ a, (k0_off26 v197 k0_t2) a + S1.size a ≤ S32.size a) ∧
  (∀ k0_t2 : Fin (k0_t2_loop v197).trips, ∀ (k0_h7 : k0_cond7 v197 k0_t2 = 1#1), ∀ a, (k0_off27 v197 k0_t2) a + S1.size a ≤ S32.size a) ∧
  (∀ k0_t2 : Fin (k0_t2_loop v197).trips, ∀ (k0_h7 : k0_cond7 v197 k0_t2 = 1#1), ∀ (k0_h8 : k0_cond8 v197 k0_t2 = 1#1), ∀ a, (k0_off29 v197 k0_t2) a + S1.size a ≤ S32.size a) ∧
  (∀ k0_t2 : Fin (k0_t2_loop v197).trips, ∀ (k0_h7 : k0_cond7 v197 k0_t2 = 1#1), ∀ (k0_h8 : k0_cond8 v197 k0_t2 = 1#1), ∀ a, (k0_off33 v197 k0_t2) a + S1.size a ≤ S32.size a) ∧
  (∀ k0_t2 : Fin (k0_t2_loop v197).trips, ∀ (k0_h7 : k0_cond7 v197 k0_t2 = 1#1), ∀ (k0_h8 : k0_cond8 v197 k0_t2 = 1#1), ∀ a, (k0_off34 v197 k0_t2) a + S1x1.size a ≤ S3x3.size a) ∧
  (∀ k0_t2 : Fin (k0_t2_loop v197).trips, ∀ (k0_h7 : k0_cond7 v197 k0_t2 = 1#1), ∀ (k0_h8 : k0_cond8 v197 k0_t2 = 1#1), ∀ a, (k0_off35 v197 k0_t2) a + S1x256x6144.size a ≤ S3x768x6144.size a) ∧
  (∀ k0_t2 : Fin (k0_t2_loop v197).trips, ∀ (k0_h7 : k0_cond7 v197 k0_t2 = 1#1), ∀ (k0_h8 : k0_cond8 v197 k0_t2 = 1#1), ∀ (hinb : ∀ a, (k0_off35 v197 k0_t2) a + S1x256x6144.size a ≤ S3x768x6144.size a), (Rect.unit (s := S3x768x6144) (k0_off35 v197 k0_t2) S1x256x6144.size hinb).WholeWords (EltTy.packing .fp8e4m3)) ∧
  (∀ k0_t2 : Fin (k0_t2_loop v197).trips, ∀ (k0_h7 : k0_cond7 v197 k0_t2 = 1#1), ∀ (k0_h8 : k0_cond8 v197 k0_t2 = 1#1), ∀ a, (k0_off37 v197 k0_t2) a + S1.size a ≤ S32.size a) ∧
  (∀ k0_t2 : Fin (k0_t2_loop v197).trips, ∀ (k0_h7 : k0_cond7 v197 k0_t2 = 1#1), ∀ (k0_h8 : k0_cond8 v197 k0_t2 = 1#1), ∀ a, (k0_off38 v197 k0_t2) a + S1x1.size a ≤ S3x3.size a) ∧
  (∀ k0_t2 : Fin (k0_t2_loop v197).trips, ∀ (k0_h7 : k0_cond7 v197 k0_t2 = 1#1), ∀ (k0_h8 : k0_cond8 v197 k0_t2 = 1#1), ∀ a, (k0_off39 v197 k0_t2) a + S1x256x6144.size a ≤ S3x768x6144.size a) ∧
  (∀ k0_t2 : Fin (k0_t2_loop v197).trips, ∀ (k0_h7 : k0_cond7 v197 k0_t2 = 1#1), ∀ (k0_h8 : k0_cond8 v197 k0_t2 = 1#1), ∀ (hinb : ∀ a, (k0_off39 v197 k0_t2) a + S1x256x6144.size a ≤ S3x768x6144.size a), (Rect.unit (s := S3x768x6144) (k0_off39 v197 k0_t2) S1x256x6144.size hinb).WholeWords (EltTy.packing .fp8e4m3)) ∧
  (∀ k0_t2 : Fin (k0_t2_loop v197).trips, ∀ (k0_h7 : k0_cond7 v197 k0_t2 = 1#1), ∀ (k0_h8 : k0_cond8 v197 k0_t2 = 1#1), ∀ a, (k0_off41 v197 k0_t2) a + S1.size a ≤ S32.size a) ∧
  (∀ k0_t2 : Fin (k0_t2_loop v197).trips, ∀ (k0_h7 : k0_cond7 v197 k0_t2 = 1#1), ∀ (k0_h8 : k0_cond8 v197 k0_t2 = 1#1), ∀ a, (k0_off42 v197 k0_t2) a + S1x1.size a ≤ S3x3.size a) ∧
  (∀ k0_t2 : Fin (k0_t2_loop v197).trips, ∀ (k0_h7 : k0_cond7 v197 k0_t2 = 1#1), ∀ (k0_h8 : k0_cond8 v197 k0_t2 = 1#1), ∀ a, (k0_off43 v197 k0_t2) a + S1x256x6144.size a ≤ S3x768x6144.size a) ∧
  (∀ k0_t2 : Fin (k0_t2_loop v197).trips, ∀ (k0_h7 : k0_cond7 v197 k0_t2 = 1#1), ∀ (k0_h8 : k0_cond8 v197 k0_t2 = 1#1), ∀ (hinb : ∀ a, (k0_off43 v197 k0_t2) a + S1x256x6144.size a ≤ S3x768x6144.size a), (Rect.unit (s := S3x768x6144) (k0_off43 v197 k0_t2) S1x256x6144.size hinb).WholeWords (EltTy.packing .fp8e4m3)) ∧
  (∀ k0_t2 : Fin (k0_t2_loop v197).trips, ∀ a, (k0_off48 v197 k0_t2) a + S1.size a ≤ S32.size a) ∧
  (∀ k0_t2 : Fin (k0_t2_loop v197).trips, ∀ a, (k0_off49 v197 k0_t2) a + S1x1.size a ≤ S3x3.size a) ∧
  (∀ k0_t2 : Fin (k0_t2_loop v197).trips, ∀ a, (k0_off50 v197 k0_t2) a + S1x256x6144.size a ≤ S3x768x6144.size a) ∧
  (∀ k0_t2 : Fin (k0_t2_loop v197).trips, ∀ (hinb : ∀ a, (k0_off50 v197 k0_t2) a + S1x256x6144.size a ≤ S3x768x6144.size a), (Rect.unit (s := S3x768x6144) (k0_off50 v197 k0_t2) S1x256x6144.size hinb).WholeWords (EltTy.packing .fp8e4m3)) ∧
  (∀ k0_t2 : Fin (k0_t2_loop v197).trips, ∀ a, (k0_off52 v197 k0_t2) a + S1.size a ≤ S32.size a) ∧
  (∀ k0_t2 : Fin (k0_t2_loop v197).trips, ∀ a, (k0_off53 v197 k0_t2) a + S1x1.size a ≤ S3x3.size a) ∧
  (∀ k0_t2 : Fin (k0_t2_loop v197).trips, ∀ a, (k0_off54 v197 k0_t2) a + S1x256x6144.size a ≤ S3x768x6144.size a) ∧
  (∀ k0_t2 : Fin (k0_t2_loop v197).trips, ∀ (hinb : ∀ a, (k0_off54 v197 k0_t2) a + S1x256x6144.size a ≤ S3x768x6144.size a), (Rect.unit (s := S3x768x6144) (k0_off54 v197 k0_t2) S1x256x6144.size hinb).WholeWords (EltTy.packing .fp8e4m3)) ∧
  (∀ k0_t2 : Fin (k0_t2_loop v197).trips, ∀ a, (k0_off56 v197 k0_t2) a + S1.size a ≤ S32.size a) ∧
  (∀ k0_t2 : Fin (k0_t2_loop v197).trips, ∀ a, (k0_off57 v197 k0_t2) a + S1x1.size a ≤ S3x3.size a) ∧
  (∀ k0_t2 : Fin (k0_t2_loop v197).trips, ∀ a, (k0_off58 v197 k0_t2) a + S1x256x6144.size a ≤ S3x768x6144.size a) ∧
  (∀ k0_t2 : Fin (k0_t2_loop v197).trips, ∀ (hinb : ∀ a, (k0_off58 v197 k0_t2) a + S1x256x6144.size a ≤ S3x768x6144.size a), (Rect.unit (s := S3x768x6144) (k0_off58 v197 k0_t2) S1x256x6144.size hinb).WholeWords (EltTy.packing .fp8e4m3)) ∧
  (∀ k0_t2 : Fin (k0_t2_loop v197).trips, ∀ a, (k0_off62 v197 k0_t2) a + S1x16x128.size a ≤ S2x16x128.size a) ∧
  (∀ k0_t2 : Fin (k0_t2_loop v197).trips, ∀ a, (k0_off63 v197 k0_t2) a + S1x32x6144.size a ≤ S2x32x6144.size a) ∧
  (∀ k0_t2 : Fin (k0_t2_loop v197).trips, ∀ a, (k0_off64 v197 k0_t2) a + S1x512x256.size a ≤ S3x768x6144.size a)
def k0_chk9_1 (v197 : BitVec 32) : Prop :=
  (∀ k0_t2 : Fin (k0_t2_loop v197).trips, ∀ a, (k0_off65 v197 k0_t2) a + S1x256x256.size a ≤ S3x768x6144.size a) ∧
  (∀ k0_t2 : Fin (k0_t2_loop v197).trips, ∀ a, (k0_off66 v197 k0_t2) a + S1x512x256.size a ≤ S3x768x6144.size a) ∧
  (∀ k0_t2 : Fin (k0_t2_loop v197).trips, ∀ a, (k0_off67 v197 k0_t2) a + S1x256x256.size a ≤ S3x768x6144.size a) ∧
  (∀ k0_t2 : Fin (k0_t2_loop v197).trips, ∀ a, (k0_off68 v197 k0_t2) a + S1x512x256.size a ≤ S3x768x6144.size a) ∧
  (∀ k0_t2 : Fin (k0_t2_loop v197).trips, ∀ a, (k0_off69 v197 k0_t2) a + S1x256x256.size a ≤ S3x768x6144.size a) ∧
  (∀ k0_t2 : Fin (k0_t2_loop v197).trips, ∀ a, (k0_off70 v197 k0_t2) a + S1x512x256.size a ≤ S3x768x6144.size a) ∧
  (∀ k0_t2 : Fin (k0_t2_loop v197).trips, ∀ a, (k0_off71 v197 k0_t2) a + S1x256x256.size a ≤ S3x768x6144.size a) ∧
  (∀ k0_t2 : Fin (k0_t2_loop v197).trips, ∀ a, (k0_off72 v197 k0_t2) a + S1x512x256.size a ≤ S3x768x6144.size a) ∧
  (∀ k0_t2 : Fin (k0_t2_loop v197).trips, ∀ a, (k0_off73 v197 k0_t2) a + S1x256x256.size a ≤ S3x768x6144.size a) ∧
  (∀ k0_t2 : Fin (k0_t2_loop v197).trips, ∀ a, (k0_off74 v197 k0_t2) a + S1x512x256.size a ≤ S3x768x6144.size a) ∧
  (∀ k0_t2 : Fin (k0_t2_loop v197).trips, ∀ a, (k0_off75 v197 k0_t2) a + S1x256x256.size a ≤ S3x768x6144.size a) ∧
  (∀ k0_t2 : Fin (k0_t2_loop v197).trips, ∀ a, (k0_off76 v197 k0_t2) a + S1x512x256.size a ≤ S3x768x6144.size a) ∧
  (∀ k0_t2 : Fin (k0_t2_loop v197).trips, ∀ a, (k0_off77 v197 k0_t2) a + S1x256x256.size a ≤ S3x768x6144.size a) ∧
  (∀ k0_t2 : Fin (k0_t2_loop v197).trips, ∀ a, (k0_off78 v197 k0_t2) a + S1x512x256.size a ≤ S3x768x6144.size a) ∧
  (∀ k0_t2 : Fin (k0_t2_loop v197).trips, ∀ a, (k0_off79 v197 k0_t2) a + S1x256x256.size a ≤ S3x768x6144.size a) ∧
  (∀ k0_t2 : Fin (k0_t2_loop v197).trips, ∀ a, (k0_off80 v197 k0_t2) a + S1x512x256.size a ≤ S3x768x6144.size a) ∧
  (∀ k0_t2 : Fin (k0_t2_loop v197).trips, ∀ a, (k0_off81 v197 k0_t2) a + S1x256x256.size a ≤ S3x768x6144.size a) ∧
  (∀ k0_t2 : Fin (k0_t2_loop v197).trips, ∀ a, (k0_off82 v197 k0_t2) a + S1x512x256.size a ≤ S3x768x6144.size a) ∧
  (∀ k0_t2 : Fin (k0_t2_loop v197).trips, ∀ a, (k0_off83 v197 k0_t2) a + S1x256x256.size a ≤ S3x768x6144.size a) ∧
  (∀ k0_t2 : Fin (k0_t2_loop v197).trips, ∀ a, (k0_off84 v197 k0_t2) a + S1x512x256.size a ≤ S3x768x6144.size a) ∧
  (∀ k0_t2 : Fin (k0_t2_loop v197).trips, ∀ a, (k0_off85 v197 k0_t2) a + S1x256x256.size a ≤ S3x768x6144.size a) ∧
  (∀ k0_t2 : Fin (k0_t2_loop v197).trips, ∀ a, (k0_off86 v197 k0_t2) a + S1x512x256.size a ≤ S3x768x6144.size a) ∧
  (∀ k0_t2 : Fin (k0_t2_loop v197).trips, ∀ a, (k0_off87 v197 k0_t2) a + S1x256x256.size a ≤ S3x768x6144.size a) ∧
  (∀ k0_t2 : Fin (k0_t2_loop v197).trips, ∀ a, (k0_off88 v197 k0_t2) a + S1x512x256.size a ≤ S3x768x6144.size a) ∧
  (∀ k0_t2 : Fin (k0_t2_loop v197).trips, ∀ a, (k0_off89 v197 k0_t2) a + S1x256x256.size a ≤ S3x768x6144.size a) ∧
  (∀ k0_t2 : Fin (k0_t2_loop v197).trips, ∀ a, (k0_off90 v197 k0_t2) a + S1x512x256.size a ≤ S3x768x6144.size a) ∧
  (∀ k0_t2 : Fin (k0_t2_loop v197).trips, ∀ a, (k0_off91 v197 k0_t2) a + S1x256x256.size a ≤ S3x768x6144.size a) ∧
  (∀ k0_t2 : Fin (k0_t2_loop v197).trips, ∀ a, (k0_off92 v197 k0_t2) a + S1x512x256.size a ≤ S3x768x6144.size a) ∧
  (∀ k0_t2 : Fin (k0_t2_loop v197).trips, ∀ a, (k0_off93 v197 k0_t2) a + S1x256x256.size a ≤ S3x768x6144.size a) ∧
  (∀ k0_t2 : Fin (k0_t2_loop v197).trips, ∀ a, (k0_off94 v197 k0_t2) a + S1x512x256.size a ≤ S3x768x6144.size a) ∧
  (∀ k0_t2 : Fin (k0_t2_loop v197).trips, ∀ a, (k0_off95 v197 k0_t2) a + S1x256x256.size a ≤ S3x768x6144.size a) ∧
  (∀ k0_t2 : Fin (k0_t2_loop v197).trips, ∀ a, (k0_off96 v197 k0_t2) a + S1x512x256.size a ≤ S3x768x6144.size a)
def k0_chk9_2 (v197 : BitVec 32) : Prop :=
  (∀ k0_t2 : Fin (k0_t2_loop v197).trips, ∀ a, (k0_off97 v197 k0_t2) a + S1x256x256.size a ≤ S3x768x6144.size a) ∧
  (∀ k0_t2 : Fin (k0_t2_loop v197).trips, ∀ a, (k0_off98 v197 k0_t2) a + S1x512x256.size a ≤ S3x768x6144.size a) ∧
  (∀ k0_t2 : Fin (k0_t2_loop v197).trips, ∀ a, (k0_off99 v197 k0_t2) a + S1x256x256.size a ≤ S3x768x6144.size a) ∧
  (∀ k0_t2 : Fin (k0_t2_loop v197).trips, ∀ a, (k0_off100 v197 k0_t2) a + S1x512x256.size a ≤ S3x768x6144.size a) ∧
  (∀ k0_t2 : Fin (k0_t2_loop v197).trips, ∀ a, (k0_off101 v197 k0_t2) a + S1x256x256.size a ≤ S3x768x6144.size a) ∧
  (∀ k0_t2 : Fin (k0_t2_loop v197).trips, ∀ a, (k0_off102 v197 k0_t2) a + S1x512x256.size a ≤ S3x768x6144.size a) ∧
  (∀ k0_t2 : Fin (k0_t2_loop v197).trips, ∀ a, (k0_off103 v197 k0_t2) a + S1x256x256.size a ≤ S3x768x6144.size a) ∧
  (∀ k0_t2 : Fin (k0_t2_loop v197).trips, ∀ a, (k0_off104 v197 k0_t2) a + S1x512x256.size a ≤ S3x768x6144.size a) ∧
  (∀ k0_t2 : Fin (k0_t2_loop v197).trips, ∀ a, (k0_off105 v197 k0_t2) a + S1x256x256.size a ≤ S3x768x6144.size a) ∧
  (∀ k0_t2 : Fin (k0_t2_loop v197).trips, ∀ a, (k0_off106 v197 k0_t2) a + S1x512x256.size a ≤ S3x768x6144.size a) ∧
  (∀ k0_t2 : Fin (k0_t2_loop v197).trips, ∀ a, (k0_off107 v197 k0_t2) a + S1x256x256.size a ≤ S3x768x6144.size a) ∧
  (∀ k0_t2 : Fin (k0_t2_loop v197).trips, ∀ a, (k0_off108 v197 k0_t2) a + S1x512x256.size a ≤ S3x768x6144.size a) ∧
  (∀ k0_t2 : Fin (k0_t2_loop v197).trips, ∀ a, (k0_off109 v197 k0_t2) a + S1x256x256.size a ≤ S3x768x6144.size a) ∧
  (∀ k0_t2 : Fin (k0_t2_loop v197).trips, ∀ a, (k0_off110 v197 k0_t2) a + S1x512x256.size a ≤ S3x768x6144.size a) ∧
  (∀ k0_t2 : Fin (k0_t2_loop v197).trips, ∀ a, (k0_off111 v197 k0_t2) a + S1x256x256.size a ≤ S3x768x6144.size a) ∧
  (∀ k0_t2 : Fin (k0_t2_loop v197).trips, ∀ a, (k0_off115 v197 k0_t2) a + S1x32x6144.size a ≤ S2x32x6144.size a) ∧
  (∀ k0_t2 : Fin (k0_t2_loop v197).trips, ∀ (hinb : ∀ a, (k0_off115 v197 k0_t2) a + S1x32x6144.size a ≤ S2x32x6144.size a), (Rect.unit (s := S2x32x6144) (k0_off115 v197 k0_t2) S1x32x6144.size hinb).PackedRows (EltTy.packing .fp8e4m3)) ∧
  (∀ k0_t2 : Fin (k0_t2_loop v197).trips, ∀ a, (k0_off116 v197 k0_t2) a + S1x16x128.size a ≤ S2x16x128.size a) ∧
  ((k0_t3_loop v197).OK) ∧
  (∀ k0_t3 : Fin (k0_t3_loop v197).trips, ∀ a, (k0_off117 v197 k0_t3) a + S1.size a ≤ S32.size a) ∧
  (∀ k0_t3 : Fin (k0_t3_loop v197).trips, ∀ a, (k0_off118 v197 k0_t3) a + S1.size a ≤ S32.size a) ∧
  (∀ k0_t3 : Fin (k0_t3_loop v197).trips, ∀ (k0_h12 : k0_cond12 v197 k0_t3 = 1#1), ∀ a, (k0_off119 v197 k0_t3) a + S1.size a ≤ S32.size a) ∧
  (∀ k0_t3 : Fin (k0_t3_loop v197).trips, ∀ (k0_h12 : k0_cond12 v197 k0_t3 = 1#1), ∀ (k0_h13 : k0_cond13 v197 k0_t3 = 1#1), ∀ a, (k0_off121 v197 k0_t3) a + S1.size a ≤ S32.size a) ∧
  (∀ k0_t3 : Fin (k0_t3_loop v197).trips, ∀ (k0_h12 : k0_cond12 v197 k0_t3 = 1#1), ∀ (k0_h13 : k0_cond13 v197 k0_t3 = 1#1), ∀ a, (k0_off125 v197 k0_t3) a + S1.size a ≤ S32.size a) ∧
  (∀ k0_t3 : Fin (k0_t3_loop v197).trips, ∀ (k0_h12 : k0_cond12 v197 k0_t3 = 1#1), ∀ (k0_h13 : k0_cond13 v197 k0_t3 = 1#1), ∀ a, (k0_off126 v197 k0_t3) a + S1x1.size a ≤ S3x3.size a) ∧
  (∀ k0_t3 : Fin (k0_t3_loop v197).trips, ∀ (k0_h12 : k0_cond12 v197 k0_t3 = 1#1), ∀ (k0_h13 : k0_cond13 v197 k0_t3 = 1#1), ∀ a, (k0_off127 v197 k0_t3) a + S1x256x6144.size a ≤ S3x768x6144.size a) ∧
  (∀ k0_t3 : Fin (k0_t3_loop v197).trips, ∀ (k0_h12 : k0_cond12 v197 k0_t3 = 1#1), ∀ (k0_h13 : k0_cond13 v197 k0_t3 = 1#1), ∀ (hinb : ∀ a, (k0_off127 v197 k0_t3) a + S1x256x6144.size a ≤ S3x768x6144.size a), (Rect.unit (s := S3x768x6144) (k0_off127 v197 k0_t3) S1x256x6144.size hinb).WholeWords (EltTy.packing .fp8e4m3)) ∧
  (∀ k0_t3 : Fin (k0_t3_loop v197).trips, ∀ (k0_h12 : k0_cond12 v197 k0_t3 = 1#1), ∀ (k0_h13 : k0_cond13 v197 k0_t3 = 1#1), ∀ a, (k0_off129 v197 k0_t3) a + S1.size a ≤ S32.size a) ∧
  (∀ k0_t3 : Fin (k0_t3_loop v197).trips, ∀ (k0_h12 : k0_cond12 v197 k0_t3 = 1#1), ∀ (k0_h13 : k0_cond13 v197 k0_t3 = 1#1), ∀ a, (k0_off130 v197 k0_t3) a + S1x1.size a ≤ S3x3.size a) ∧
  (∀ k0_t3 : Fin (k0_t3_loop v197).trips, ∀ (k0_h12 : k0_cond12 v197 k0_t3 = 1#1), ∀ (k0_h13 : k0_cond13 v197 k0_t3 = 1#1), ∀ a, (k0_off131 v197 k0_t3) a + S1x256x6144.size a ≤ S3x768x6144.size a) ∧
  (∀ k0_t3 : Fin (k0_t3_loop v197).trips, ∀ (k0_h12 : k0_cond12 v197 k0_t3 = 1#1), ∀ (k0_h13 : k0_cond13 v197 k0_t3 = 1#1), ∀ (hinb : ∀ a, (k0_off131 v197 k0_t3) a + S1x256x6144.size a ≤ S3x768x6144.size a), (Rect.unit (s := S3x768x6144) (k0_off131 v197 k0_t3) S1x256x6144.size hinb).WholeWords (EltTy.packing .fp8e4m3)) ∧
  (∀ k0_t3 : Fin (k0_t3_loop v197).trips, ∀ (k0_h12 : k0_cond12 v197 k0_t3 = 1#1), ∀ (k0_h13 : k0_cond13 v197 k0_t3 = 1#1), ∀ a, (k0_off133 v197 k0_t3) a + S1.size a ≤ S32.size a)
def k0_chk9_3 (v197 : BitVec 32) : Prop :=
  (∀ k0_t3 : Fin (k0_t3_loop v197).trips, ∀ (k0_h12 : k0_cond12 v197 k0_t3 = 1#1), ∀ (k0_h13 : k0_cond13 v197 k0_t3 = 1#1), ∀ a, (k0_off134 v197 k0_t3) a + S1x1.size a ≤ S3x3.size a) ∧
  (∀ k0_t3 : Fin (k0_t3_loop v197).trips, ∀ (k0_h12 : k0_cond12 v197 k0_t3 = 1#1), ∀ (k0_h13 : k0_cond13 v197 k0_t3 = 1#1), ∀ a, (k0_off135 v197 k0_t3) a + S1x256x6144.size a ≤ S3x768x6144.size a) ∧
  (∀ k0_t3 : Fin (k0_t3_loop v197).trips, ∀ (k0_h12 : k0_cond12 v197 k0_t3 = 1#1), ∀ (k0_h13 : k0_cond13 v197 k0_t3 = 1#1), ∀ (hinb : ∀ a, (k0_off135 v197 k0_t3) a + S1x256x6144.size a ≤ S3x768x6144.size a), (Rect.unit (s := S3x768x6144) (k0_off135 v197 k0_t3) S1x256x6144.size hinb).WholeWords (EltTy.packing .fp8e4m3)) ∧
  (∀ k0_t3 : Fin (k0_t3_loop v197).trips, ∀ a, (k0_off140 v197 k0_t3) a + S1.size a ≤ S32.size a) ∧
  (∀ k0_t3 : Fin (k0_t3_loop v197).trips, ∀ a, (k0_off141 v197 k0_t3) a + S1x1.size a ≤ S3x3.size a) ∧
  (∀ k0_t3 : Fin (k0_t3_loop v197).trips, ∀ a, (k0_off142 v197 k0_t3) a + S1x256x6144.size a ≤ S3x768x6144.size a) ∧
  (∀ k0_t3 : Fin (k0_t3_loop v197).trips, ∀ (hinb : ∀ a, (k0_off142 v197 k0_t3) a + S1x256x6144.size a ≤ S3x768x6144.size a), (Rect.unit (s := S3x768x6144) (k0_off142 v197 k0_t3) S1x256x6144.size hinb).WholeWords (EltTy.packing .fp8e4m3)) ∧
  (∀ k0_t3 : Fin (k0_t3_loop v197).trips, ∀ a, (k0_off144 v197 k0_t3) a + S1.size a ≤ S32.size a) ∧
  (∀ k0_t3 : Fin (k0_t3_loop v197).trips, ∀ a, (k0_off145 v197 k0_t3) a + S1x1.size a ≤ S3x3.size a) ∧
  (∀ k0_t3 : Fin (k0_t3_loop v197).trips, ∀ a, (k0_off146 v197 k0_t3) a + S1x256x6144.size a ≤ S3x768x6144.size a) ∧
  (∀ k0_t3 : Fin (k0_t3_loop v197).trips, ∀ (hinb : ∀ a, (k0_off146 v197 k0_t3) a + S1x256x6144.size a ≤ S3x768x6144.size a), (Rect.unit (s := S3x768x6144) (k0_off146 v197 k0_t3) S1x256x6144.size hinb).WholeWords (EltTy.packing .fp8e4m3)) ∧
  (∀ k0_t3 : Fin (k0_t3_loop v197).trips, ∀ a, (k0_off148 v197 k0_t3) a + S1.size a ≤ S32.size a) ∧
  (∀ k0_t3 : Fin (k0_t3_loop v197).trips, ∀ a, (k0_off149 v197 k0_t3) a + S1x1.size a ≤ S3x3.size a) ∧
  (∀ k0_t3 : Fin (k0_t3_loop v197).trips, ∀ a, (k0_off150 v197 k0_t3) a + S1x256x6144.size a ≤ S3x768x6144.size a) ∧
  (∀ k0_t3 : Fin (k0_t3_loop v197).trips, ∀ (hinb : ∀ a, (k0_off150 v197 k0_t3) a + S1x256x6144.size a ≤ S3x768x6144.size a), (Rect.unit (s := S3x768x6144) (k0_off150 v197 k0_t3) S1x256x6144.size hinb).WholeWords (EltTy.packing .fp8e4m3)) ∧
  (∀ k0_t3 : Fin (k0_t3_loop v197).trips, ∀ a, (k0_off154 v197 k0_t3) a + S1x16x128.size a ≤ S2x16x128.size a) ∧
  (∀ k0_t3 : Fin (k0_t3_loop v197).trips, ∀ a, (k0_off155 v197 k0_t3) a + S1x32x6144.size a ≤ S2x32x6144.size a) ∧
  (∀ k0_t3 : Fin (k0_t3_loop v197).trips, ∀ a, (k0_off156 v197 k0_t3) a + S1x512x256.size a ≤ S3x768x6144.size a) ∧
  (∀ k0_t3 : Fin (k0_t3_loop v197).trips, ∀ a, (k0_off157 v197 k0_t3) a + S1x256x256.size a ≤ S3x768x6144.size a) ∧
  (∀ k0_t3 : Fin (k0_t3_loop v197).trips, ∀ a, (k0_off158 v197 k0_t3) a + S1x512x256.size a ≤ S3x768x6144.size a) ∧
  (∀ k0_t3 : Fin (k0_t3_loop v197).trips, ∀ a, (k0_off159 v197 k0_t3) a + S1x256x256.size a ≤ S3x768x6144.size a) ∧
  (∀ k0_t3 : Fin (k0_t3_loop v197).trips, ∀ a, (k0_off160 v197 k0_t3) a + S1x512x256.size a ≤ S3x768x6144.size a) ∧
  (∀ k0_t3 : Fin (k0_t3_loop v197).trips, ∀ a, (k0_off161 v197 k0_t3) a + S1x256x256.size a ≤ S3x768x6144.size a) ∧
  (∀ k0_t3 : Fin (k0_t3_loop v197).trips, ∀ a, (k0_off162 v197 k0_t3) a + S1x512x256.size a ≤ S3x768x6144.size a) ∧
  (∀ k0_t3 : Fin (k0_t3_loop v197).trips, ∀ a, (k0_off163 v197 k0_t3) a + S1x256x256.size a ≤ S3x768x6144.size a) ∧
  (∀ k0_t3 : Fin (k0_t3_loop v197).trips, ∀ a, (k0_off164 v197 k0_t3) a + S1x512x256.size a ≤ S3x768x6144.size a) ∧
  (∀ k0_t3 : Fin (k0_t3_loop v197).trips, ∀ a, (k0_off165 v197 k0_t3) a + S1x256x256.size a ≤ S3x768x6144.size a) ∧
  (∀ k0_t3 : Fin (k0_t3_loop v197).trips, ∀ a, (k0_off166 v197 k0_t3) a + S1x512x256.size a ≤ S3x768x6144.size a) ∧
  (∀ k0_t3 : Fin (k0_t3_loop v197).trips, ∀ a, (k0_off167 v197 k0_t3) a + S1x256x256.size a ≤ S3x768x6144.size a) ∧
  (∀ k0_t3 : Fin (k0_t3_loop v197).trips, ∀ a, (k0_off168 v197 k0_t3) a + S1x512x256.size a ≤ S3x768x6144.size a) ∧
  (∀ k0_t3 : Fin (k0_t3_loop v197).trips, ∀ a, (k0_off169 v197 k0_t3) a + S1x256x256.size a ≤ S3x768x6144.size a) ∧
  (∀ k0_t3 : Fin (k0_t3_loop v197).trips, ∀ a, (k0_off170 v197 k0_t3) a + S1x512x256.size a ≤ S3x768x6144.size a)
def k0_chk9_4 (v197 : BitVec 32) : Prop :=
  (∀ k0_t3 : Fin (k0_t3_loop v197).trips, ∀ a, (k0_off171 v197 k0_t3) a + S1x256x256.size a ≤ S3x768x6144.size a) ∧
  (∀ k0_t3 : Fin (k0_t3_loop v197).trips, ∀ a, (k0_off172 v197 k0_t3) a + S1x512x256.size a ≤ S3x768x6144.size a) ∧
  (∀ k0_t3 : Fin (k0_t3_loop v197).trips, ∀ a, (k0_off173 v197 k0_t3) a + S1x256x256.size a ≤ S3x768x6144.size a) ∧
  (∀ k0_t3 : Fin (k0_t3_loop v197).trips, ∀ a, (k0_off174 v197 k0_t3) a + S1x512x256.size a ≤ S3x768x6144.size a) ∧
  (∀ k0_t3 : Fin (k0_t3_loop v197).trips, ∀ a, (k0_off175 v197 k0_t3) a + S1x256x256.size a ≤ S3x768x6144.size a) ∧
  (∀ k0_t3 : Fin (k0_t3_loop v197).trips, ∀ a, (k0_off176 v197 k0_t3) a + S1x512x256.size a ≤ S3x768x6144.size a) ∧
  (∀ k0_t3 : Fin (k0_t3_loop v197).trips, ∀ a, (k0_off177 v197 k0_t3) a + S1x256x256.size a ≤ S3x768x6144.size a) ∧
  (∀ k0_t3 : Fin (k0_t3_loop v197).trips, ∀ a, (k0_off178 v197 k0_t3) a + S1x512x256.size a ≤ S3x768x6144.size a) ∧
  (∀ k0_t3 : Fin (k0_t3_loop v197).trips, ∀ a, (k0_off179 v197 k0_t3) a + S1x256x256.size a ≤ S3x768x6144.size a) ∧
  (∀ k0_t3 : Fin (k0_t3_loop v197).trips, ∀ a, (k0_off180 v197 k0_t3) a + S1x512x256.size a ≤ S3x768x6144.size a) ∧
  (∀ k0_t3 : Fin (k0_t3_loop v197).trips, ∀ a, (k0_off181 v197 k0_t3) a + S1x256x256.size a ≤ S3x768x6144.size a) ∧
  (∀ k0_t3 : Fin (k0_t3_loop v197).trips, ∀ a, (k0_off182 v197 k0_t3) a + S1x512x256.size a ≤ S3x768x6144.size a) ∧
  (∀ k0_t3 : Fin (k0_t3_loop v197).trips, ∀ a, (k0_off183 v197 k0_t3) a + S1x256x256.size a ≤ S3x768x6144.size a) ∧
  (∀ k0_t3 : Fin (k0_t3_loop v197).trips, ∀ a, (k0_off184 v197 k0_t3) a + S1x512x256.size a ≤ S3x768x6144.size a) ∧
  (∀ k0_t3 : Fin (k0_t3_loop v197).trips, ∀ a, (k0_off185 v197 k0_t3) a + S1x256x256.size a ≤ S3x768x6144.size a) ∧
  (∀ k0_t3 : Fin (k0_t3_loop v197).trips, ∀ a, (k0_off186 v197 k0_t3) a + S1x512x256.size a ≤ S3x768x6144.size a) ∧
  (∀ k0_t3 : Fin (k0_t3_loop v197).trips, ∀ a, (k0_off187 v197 k0_t3) a + S1x256x256.size a ≤ S3x768x6144.size a) ∧
  (∀ k0_t3 : Fin (k0_t3_loop v197).trips, ∀ a, (k0_off188 v197 k0_t3) a + S1x512x256.size a ≤ S3x768x6144.size a) ∧
  (∀ k0_t3 : Fin (k0_t3_loop v197).trips, ∀ a, (k0_off189 v197 k0_t3) a + S1x256x256.size a ≤ S3x768x6144.size a) ∧
  (∀ k0_t3 : Fin (k0_t3_loop v197).trips, ∀ a, (k0_off190 v197 k0_t3) a + S1x512x256.size a ≤ S3x768x6144.size a) ∧
  (∀ k0_t3 : Fin (k0_t3_loop v197).trips, ∀ a, (k0_off191 v197 k0_t3) a + S1x256x256.size a ≤ S3x768x6144.size a) ∧
  (∀ k0_t3 : Fin (k0_t3_loop v197).trips, ∀ a, (k0_off192 v197 k0_t3) a + S1x512x256.size a ≤ S3x768x6144.size a) ∧
  (∀ k0_t3 : Fin (k0_t3_loop v197).trips, ∀ a, (k0_off193 v197 k0_t3) a + S1x256x256.size a ≤ S3x768x6144.size a) ∧
  (∀ k0_t3 : Fin (k0_t3_loop v197).trips, ∀ a, (k0_off194 v197 k0_t3) a + S1x512x256.size a ≤ S3x768x6144.size a) ∧
  (∀ k0_t3 : Fin (k0_t3_loop v197).trips, ∀ a, (k0_off195 v197 k0_t3) a + S1x256x256.size a ≤ S3x768x6144.size a) ∧
  (∀ k0_t3 : Fin (k0_t3_loop v197).trips, ∀ a, (k0_off196 v197 k0_t3) a + S1x512x256.size a ≤ S3x768x6144.size a) ∧
  (∀ k0_t3 : Fin (k0_t3_loop v197).trips, ∀ a, (k0_off197 v197 k0_t3) a + S1x256x256.size a ≤ S3x768x6144.size a) ∧
  (∀ k0_t3 : Fin (k0_t3_loop v197).trips, ∀ a, (k0_off198 v197 k0_t3) a + S1x512x256.size a ≤ S3x768x6144.size a) ∧
  (∀ k0_t3 : Fin (k0_t3_loop v197).trips, ∀ a, (k0_off199 v197 k0_t3) a + S1x256x256.size a ≤ S3x768x6144.size a) ∧
  (∀ k0_t3 : Fin (k0_t3_loop v197).trips, ∀ a, (k0_off200 v197 k0_t3) a + S1x512x256.size a ≤ S3x768x6144.size a) ∧
  (∀ k0_t3 : Fin (k0_t3_loop v197).trips, ∀ a, (k0_off201 v197 k0_t3) a + S1x256x256.size a ≤ S3x768x6144.size a) ∧
  (∀ k0_t3 : Fin (k0_t3_loop v197).trips, ∀ a, (k0_off202 v197 k0_t3) a + S1x512x256.size a ≤ S3x768x6144.size a)
def k0_chk9_5 (v197 : BitVec 32) : Prop :=
  (∀ k0_t3 : Fin (k0_t3_loop v197).trips, ∀ a, (k0_off203 v197 k0_t3) a + S1x256x256.size a ≤ S3x768x6144.size a) ∧
  (∀ k0_t3 : Fin (k0_t3_loop v197).trips, ∀ a, (k0_off207 v197 k0_t3) a + S1x32x6144.size a ≤ S2x32x6144.size a) ∧
  (∀ k0_t3 : Fin (k0_t3_loop v197).trips, ∀ (hinb : ∀ a, (k0_off207 v197 k0_t3) a + S1x32x6144.size a ≤ S2x32x6144.size a), (Rect.unit (s := S2x32x6144) (k0_off207 v197 k0_t3) S1x32x6144.size hinb).PackedRows (EltTy.packing .fp8e4m3)) ∧
  (∀ k0_t3 : Fin (k0_t3_loop v197).trips, ∀ a, (k0_off208 v197 k0_t3) a + S1x16x128.size a ≤ S2x16x128.size a) ∧
  (∀ (k0_h17 : k0_cond17 v197 = 1#1), ∀ a, (k0_off209 v197) a + S1.size a ≤ S32.size a)
def k0_chk9 (v197 : BitVec 32) : Prop :=
  k0_chk9_0 v197 ∧
  k0_chk9_1 v197 ∧
  k0_chk9_2 v197 ∧
  k0_chk9_3 v197 ∧
  k0_chk9_4 v197 ∧
  k0_chk9_5 v197
theorem k0_t2_ok : ∀ (v197 : BitVec 32) (k0_hw9 : k0_chk9 v197), (k0_t2_loop v197).OK := fun v197 k0_hw9 => k0_hw9.1.1
theorem k0_off25_inb : ∀ (v197 : BitVec 32) (k0_hw9 : k0_chk9 v197) (k0_t2 : Fin (k0_t2_loop v197).trips), ∀ a, (k0_off25 v197 k0_t2) a + S1.size a ≤ S32.size a := fun v197 k0_hw9 k0_t2 => k0_hw9.1.2.1 k0_t2
theorem k0_off26_inb : ∀ (v197 : BitVec 32) (k0_hw9 : k0_chk9 v197) (k0_t2 : Fin (k0_t2_loop v197).trips), ∀ a, (k0_off26 v197 k0_t2) a + S1.size a ≤ S32.size a := fun v197 k0_hw9 k0_t2 => k0_hw9.1.2.2.1 k0_t2
theorem k0_off27_inb : ∀ (v197 : BitVec 32) (k0_hw9 : k0_chk9 v197) (k0_t2 : Fin (k0_t2_loop v197).trips), ∀ (k0_h7 : k0_cond7 v197 k0_t2 = 1#1), ∀ a, (k0_off27 v197 k0_t2) a + S1.size a ≤ S32.size a := fun v197 k0_hw9 k0_t2 k0_h7 => k0_hw9.1.2.2.2.1 k0_t2 k0_h7
theorem k0_off29_inb : ∀ (v197 : BitVec 32) (k0_hw9 : k0_chk9 v197) (k0_t2 : Fin (k0_t2_loop v197).trips), ∀ (k0_h7 : k0_cond7 v197 k0_t2 = 1#1), ∀ (k0_h8 : k0_cond8 v197 k0_t2 = 1#1), ∀ a, (k0_off29 v197 k0_t2) a + S1.size a ≤ S32.size a := fun v197 k0_hw9 k0_t2 k0_h7 k0_h8 => k0_hw9.1.2.2.2.2.1 k0_t2 k0_h7 k0_h8
theorem k0_off33_inb : ∀ (v197 : BitVec 32) (k0_hw9 : k0_chk9 v197) (k0_t2 : Fin (k0_t2_loop v197).trips), ∀ (k0_h7 : k0_cond7 v197 k0_t2 = 1#1), ∀ (k0_h8 : k0_cond8 v197 k0_t2 = 1#1), ∀ a, (k0_off33 v197 k0_t2) a + S1.size a ≤ S32.size a := fun v197 k0_hw9 k0_t2 k0_h7 k0_h8 => k0_hw9.1.2.2.2.2.2.1 k0_t2 k0_h7 k0_h8
theorem k0_off34_inb : ∀ (v197 : BitVec 32) (k0_hw9 : k0_chk9 v197) (k0_t2 : Fin (k0_t2_loop v197).trips), ∀ (k0_h7 : k0_cond7 v197 k0_t2 = 1#1), ∀ (k0_h8 : k0_cond8 v197 k0_t2 = 1#1), ∀ a, (k0_off34 v197 k0_t2) a + S1x1.size a ≤ S3x3.size a := fun v197 k0_hw9 k0_t2 k0_h7 k0_h8 => k0_hw9.1.2.2.2.2.2.2.1 k0_t2 k0_h7 k0_h8
theorem k0_off35_inb : ∀ (v197 : BitVec 32) (k0_hw9 : k0_chk9 v197) (k0_t2 : Fin (k0_t2_loop v197).trips), ∀ (k0_h7 : k0_cond7 v197 k0_t2 = 1#1), ∀ (k0_h8 : k0_cond8 v197 k0_t2 = 1#1), ∀ a, (k0_off35 v197 k0_t2) a + S1x256x6144.size a ≤ S3x768x6144.size a := fun v197 k0_hw9 k0_t2 k0_h7 k0_h8 => k0_hw9.1.2.2.2.2.2.2.2.1 k0_t2 k0_h7 k0_h8
theorem k0_off35_wordsfp8e4m3 : ∀ (v197 : BitVec 32) (k0_hw9 : k0_chk9 v197) (k0_t2 : Fin (k0_t2_loop v197).trips), ∀ (k0_h7 : k0_cond7 v197 k0_t2 = 1#1), ∀ (k0_h8 : k0_cond8 v197 k0_t2 = 1#1), (Rect.unit (s := S3x768x6144) (k0_off35 v197 k0_t2) S1x256x6144.size (k0_off35_inb v197 k0_hw9 k0_t2 k0_h7 k0_h8)).WholeWords (EltTy.packing .fp8e4m3) := fun v197 k0_hw9 k0_t2 k0_h7 k0_h8 => k0_hw9.1.2.2.2.2.2.2.2.2.1 k0_t2 k0_h7 k0_h8 (k0_off35_inb v197 k0_hw9 k0_t2 k0_h7 k0_h8)
theorem k0_off37_inb : ∀ (v197 : BitVec 32) (k0_hw9 : k0_chk9 v197) (k0_t2 : Fin (k0_t2_loop v197).trips), ∀ (k0_h7 : k0_cond7 v197 k0_t2 = 1#1), ∀ (k0_h8 : k0_cond8 v197 k0_t2 = 1#1), ∀ a, (k0_off37 v197 k0_t2) a + S1.size a ≤ S32.size a := fun v197 k0_hw9 k0_t2 k0_h7 k0_h8 => k0_hw9.1.2.2.2.2.2.2.2.2.2.1 k0_t2 k0_h7 k0_h8
theorem k0_off38_inb : ∀ (v197 : BitVec 32) (k0_hw9 : k0_chk9 v197) (k0_t2 : Fin (k0_t2_loop v197).trips), ∀ (k0_h7 : k0_cond7 v197 k0_t2 = 1#1), ∀ (k0_h8 : k0_cond8 v197 k0_t2 = 1#1), ∀ a, (k0_off38 v197 k0_t2) a + S1x1.size a ≤ S3x3.size a := fun v197 k0_hw9 k0_t2 k0_h7 k0_h8 => k0_hw9.1.2.2.2.2.2.2.2.2.2.2.1 k0_t2 k0_h7 k0_h8
theorem k0_off39_inb : ∀ (v197 : BitVec 32) (k0_hw9 : k0_chk9 v197) (k0_t2 : Fin (k0_t2_loop v197).trips), ∀ (k0_h7 : k0_cond7 v197 k0_t2 = 1#1), ∀ (k0_h8 : k0_cond8 v197 k0_t2 = 1#1), ∀ a, (k0_off39 v197 k0_t2) a + S1x256x6144.size a ≤ S3x768x6144.size a := fun v197 k0_hw9 k0_t2 k0_h7 k0_h8 => k0_hw9.1.2.2.2.2.2.2.2.2.2.2.2.1 k0_t2 k0_h7 k0_h8
theorem k0_off39_wordsfp8e4m3 : ∀ (v197 : BitVec 32) (k0_hw9 : k0_chk9 v197) (k0_t2 : Fin (k0_t2_loop v197).trips), ∀ (k0_h7 : k0_cond7 v197 k0_t2 = 1#1), ∀ (k0_h8 : k0_cond8 v197 k0_t2 = 1#1), (Rect.unit (s := S3x768x6144) (k0_off39 v197 k0_t2) S1x256x6144.size (k0_off39_inb v197 k0_hw9 k0_t2 k0_h7 k0_h8)).WholeWords (EltTy.packing .fp8e4m3) := fun v197 k0_hw9 k0_t2 k0_h7 k0_h8 => k0_hw9.1.2.2.2.2.2.2.2.2.2.2.2.2.1 k0_t2 k0_h7 k0_h8 (k0_off39_inb v197 k0_hw9 k0_t2 k0_h7 k0_h8)
theorem k0_off41_inb : ∀ (v197 : BitVec 32) (k0_hw9 : k0_chk9 v197) (k0_t2 : Fin (k0_t2_loop v197).trips), ∀ (k0_h7 : k0_cond7 v197 k0_t2 = 1#1), ∀ (k0_h8 : k0_cond8 v197 k0_t2 = 1#1), ∀ a, (k0_off41 v197 k0_t2) a + S1.size a ≤ S32.size a := fun v197 k0_hw9 k0_t2 k0_h7 k0_h8 => k0_hw9.1.2.2.2.2.2.2.2.2.2.2.2.2.2.1 k0_t2 k0_h7 k0_h8
theorem k0_off42_inb : ∀ (v197 : BitVec 32) (k0_hw9 : k0_chk9 v197) (k0_t2 : Fin (k0_t2_loop v197).trips), ∀ (k0_h7 : k0_cond7 v197 k0_t2 = 1#1), ∀ (k0_h8 : k0_cond8 v197 k0_t2 = 1#1), ∀ a, (k0_off42 v197 k0_t2) a + S1x1.size a ≤ S3x3.size a := fun v197 k0_hw9 k0_t2 k0_h7 k0_h8 => k0_hw9.1.2.2.2.2.2.2.2.2.2.2.2.2.2.2.1 k0_t2 k0_h7 k0_h8
theorem k0_off43_inb : ∀ (v197 : BitVec 32) (k0_hw9 : k0_chk9 v197) (k0_t2 : Fin (k0_t2_loop v197).trips), ∀ (k0_h7 : k0_cond7 v197 k0_t2 = 1#1), ∀ (k0_h8 : k0_cond8 v197 k0_t2 = 1#1), ∀ a, (k0_off43 v197 k0_t2) a + S1x256x6144.size a ≤ S3x768x6144.size a := fun v197 k0_hw9 k0_t2 k0_h7 k0_h8 => k0_hw9.1.2.2.2.2.2.2.2.2.2.2.2.2.2.2.2.1 k0_t2 k0_h7 k0_h8
theorem k0_off43_wordsfp8e4m3 : ∀ (v197 : BitVec 32) (k0_hw9 : k0_chk9 v197) (k0_t2 : Fin (k0_t2_loop v197).trips), ∀ (k0_h7 : k0_cond7 v197 k0_t2 = 1#1), ∀ (k0_h8 : k0_cond8 v197 k0_t2 = 1#1), (Rect.unit (s := S3x768x6144) (k0_off43 v197 k0_t2) S1x256x6144.size (k0_off43_inb v197 k0_hw9 k0_t2 k0_h7 k0_h8)).WholeWords (EltTy.packing .fp8e4m3) := fun v197 k0_hw9 k0_t2 k0_h7 k0_h8 => k0_hw9.1.2.2.2.2.2.2.2.2.2.2.2.2.2.2.2.2.1 k0_t2 k0_h7 k0_h8 (k0_off43_inb v197 k0_hw9 k0_t2 k0_h7 k0_h8)
theorem k0_off48_inb : ∀ (v197 : BitVec 32) (k0_hw9 : k0_chk9 v197) (k0_t2 : Fin (k0_t2_loop v197).trips), ∀ a, (k0_off48 v197 k0_t2) a + S1.size a ≤ S32.size a := fun v197 k0_hw9 k0_t2 => k0_hw9.1.2.2.2.2.2.2.2.2.2.2.2.2.2.2.2.2.2.1 k0_t2
theorem k0_off49_inb : ∀ (v197 : BitVec 32) (k0_hw9 : k0_chk9 v197) (k0_t2 : Fin (k0_t2_loop v197).trips), ∀ a, (k0_off49 v197 k0_t2) a + S1x1.size a ≤ S3x3.size a := fun v197 k0_hw9 k0_t2 => k0_hw9.1.2.2.2.2.2.2.2.2.2.2.2.2.2.2.2.2.2.2.1 k0_t2
theorem k0_off50_inb : ∀ (v197 : BitVec 32) (k0_hw9 : k0_chk9 v197) (k0_t2 : Fin (k0_t2_loop v197).trips), ∀ a, (k0_off50 v197 k0_t2) a + S1x256x6144.size a ≤ S3x768x6144.size a := fun v197 k0_hw9 k0_t2 => k0_hw9.1.2.2.2.2.2.2.2.2.2.2.2.2.2.2.2.2.2.2.2.1 k0_t2
theorem k0_off50_wordsfp8e4m3 : ∀ (v197 : BitVec 32) (k0_hw9 : k0_chk9 v197) (k0_t2 : Fin (k0_t2_loop v197).trips), (Rect.unit (s := S3x768x6144) (k0_off50 v197 k0_t2) S1x256x6144.size (k0_off50_inb v197 k0_hw9 k0_t2)).WholeWords (EltTy.packing .fp8e4m3) := fun v197 k0_hw9 k0_t2 => k0_hw9.1.2.2.2.2.2.2.2.2.2.2.2.2.2.2.2.2.2.2.2.2.1 k0_t2 (k0_off50_inb v197 k0_hw9 k0_t2)
theorem k0_off52_inb : ∀ (v197 : BitVec 32) (k0_hw9 : k0_chk9 v197) (k0_t2 : Fin (k0_t2_loop v197).trips), ∀ a, (k0_off52 v197 k0_t2) a + S1.size a ≤ S32.size a := fun v197 k0_hw9 k0_t2 => k0_hw9.1.2.2.2.2.2.2.2.2.2.2.2.2.2.2.2.2.2.2.2.2.2.1 k0_t2
theorem k0_off53_inb : ∀ (v197 : BitVec 32) (k0_hw9 : k0_chk9 v197) (k0_t2 : Fin (k0_t2_loop v197).trips), ∀ a, (k0_off53 v197 k0_t2) a + S1x1.size a ≤ S3x3.size a := fun v197 k0_hw9 k0_t2 => k0_hw9.1.2.2.2.2.2.2.2.2.2.2.2.2.2.2.2.2.2.2.2.2.2.2.1 k0_t2
theorem k0_off54_inb : ∀ (v197 : BitVec 32) (k0_hw9 : k0_chk9 v197) (k0_t2 : Fin (k0_t2_loop v197).trips), ∀ a, (k0_off54 v197 k0_t2) a + S1x256x6144.size a ≤ S3x768x6144.size a := fun v197 k0_hw9 k0_t2 => k0_hw9.1.2.2.2.2.2.2.2.2.2.2.2.2.2.2.2.2.2.2.2.2.2.2.2.1 k0_t2
theorem k0_off54_wordsfp8e4m3 : ∀ (v197 : BitVec 32) (k0_hw9 : k0_chk9 v197) (k0_t2 : Fin (k0_t2_loop v197).trips), (Rect.unit (s := S3x768x6144) (k0_off54 v197 k0_t2) S1x256x6144.size (k0_off54_inb v197 k0_hw9 k0_t2)).WholeWords (EltTy.packing .fp8e4m3) := fun v197 k0_hw9 k0_t2 => k0_hw9.1.2.2.2.2.2.2.2.2.2.2.2.2.2.2.2.2.2.2.2.2.2.2.2.2.1 k0_t2 (k0_off54_inb v197 k0_hw9 k0_t2)
theorem k0_off56_inb : ∀ (v197 : BitVec 32) (k0_hw9 : k0_chk9 v197) (k0_t2 : Fin (k0_t2_loop v197).trips), ∀ a, (k0_off56 v197 k0_t2) a + S1.size a ≤ S32.size a := fun v197 k0_hw9 k0_t2 => k0_hw9.1.2.2.2.2.2.2.2.2.2.2.2.2.2.2.2.2.2.2.2.2.2.2.2.2.2.1 k0_t2
theorem k0_off57_inb : ∀ (v197 : BitVec 32) (k0_hw9 : k0_chk9 v197) (k0_t2 : Fin (k0_t2_loop v197).trips), ∀ a, (k0_off57 v197 k0_t2) a + S1x1.size a ≤ S3x3.size a := fun v197 k0_hw9 k0_t2 => k0_hw9.1.2.2.2.2.2.2.2.2.2.2.2.2.2.2.2.2.2.2.2.2.2.2.2.2.2.2.1 k0_t2
theorem k0_off58_inb : ∀ (v197 : BitVec 32) (k0_hw9 : k0_chk9 v197) (k0_t2 : Fin (k0_t2_loop v197).trips), ∀ a, (k0_off58 v197 k0_t2) a + S1x256x6144.size a ≤ S3x768x6144.size a := fun v197 k0_hw9 k0_t2 => k0_hw9.1.2.2.2.2.2.2.2.2.2.2.2.2.2.2.2.2.2.2.2.2.2.2.2.2.2.2.2.1 k0_t2
theorem k0_off58_wordsfp8e4m3 : ∀ (v197 : BitVec 32) (k0_hw9 : k0_chk9 v197) (k0_t2 : Fin (k0_t2_loop v197).trips), (Rect.unit (s := S3x768x6144) (k0_off58 v197 k0_t2) S1x256x6144.size (k0_off58_inb v197 k0_hw9 k0_t2)).WholeWords (EltTy.packing .fp8e4m3) := fun v197 k0_hw9 k0_t2 => k0_hw9.1.2.2.2.2.2.2.2.2.2.2.2.2.2.2.2.2.2.2.2.2.2.2.2.2.2.2.2.2.1 k0_t2 (k0_off58_inb v197 k0_hw9 k0_t2)
theorem k0_off62_inb : ∀ (v197 : BitVec 32) (k0_hw9 : k0_chk9 v197) (k0_t2 : Fin (k0_t2_loop v197).trips), ∀ a, (k0_off62 v197 k0_t2) a + S1x16x128.size a ≤ S2x16x128.size a := fun v197 k0_hw9 k0_t2 => k0_hw9.1.2.2.2.2.2.2.2.2.2.2.2.2.2.2.2.2.2.2.2.2.2.2.2.2.2.2.2.2.2.1 k0_t2
theorem k0_off63_inb : ∀ (v197 : BitVec 32) (k0_hw9 : k0_chk9 v197) (k0_t2 : Fin (k0_t2_loop v197).trips), ∀ a, (k0_off63 v197 k0_t2) a + S1x32x6144.size a ≤ S2x32x6144.size a := fun v197 k0_hw9 k0_t2 => k0_hw9.1.2.2.2.2.2.2.2.2.2.2.2.2.2.2.2.2.2.2.2.2.2.2.2.2.2.2.2.2.2.2.1 k0_t2
theorem k0_off64_inb : ∀ (v197 : BitVec 32) (k0_hw9 : k0_chk9 v197) (k0_t2 : Fin (k0_t2_loop v197).trips), ∀ a, (k0_off64 v197 k0_t2) a + S1x512x256.size a ≤ S3x768x6144.size a := fun v197 k0_hw9 k0_t2 => k0_hw9.1.2.2.2.2.2.2.2.2.2.2.2.2.2.2.2.2.2.2.2.2.2.2.2.2.2.2.2.2.2.2.2 k0_t2
theorem k0_off65_inb : ∀ (v197 : BitVec 32) (k0_hw9 : k0_chk9 v197) (k0_t2 : Fin (k0_t2_loop v197).trips), ∀ a, (k0_off65 v197 k0_t2) a + S1x256x256.size a ≤ S3x768x6144.size a := fun v197 k0_hw9 k0_t2 => k0_hw9.2.1.1 k0_t2
theorem k0_off66_inb : ∀ (v197 : BitVec 32) (k0_hw9 : k0_chk9 v197) (k0_t2 : Fin (k0_t2_loop v197).trips), ∀ a, (k0_off66 v197 k0_t2) a + S1x512x256.size a ≤ S3x768x6144.size a := fun v197 k0_hw9 k0_t2 => k0_hw9.2.1.2.1 k0_t2
theorem k0_off67_inb : ∀ (v197 : BitVec 32) (k0_hw9 : k0_chk9 v197) (k0_t2 : Fin (k0_t2_loop v197).trips), ∀ a, (k0_off67 v197 k0_t2) a + S1x256x256.size a ≤ S3x768x6144.size a := fun v197 k0_hw9 k0_t2 => k0_hw9.2.1.2.2.1 k0_t2
theorem k0_off68_inb : ∀ (v197 : BitVec 32) (k0_hw9 : k0_chk9 v197) (k0_t2 : Fin (k0_t2_loop v197).trips), ∀ a, (k0_off68 v197 k0_t2) a + S1x512x256.size a ≤ S3x768x6144.size a := fun v197 k0_hw9 k0_t2 => k0_hw9.2.1.2.2.2.1 k0_t2
theorem k0_off69_inb : ∀ (v197 : BitVec 32) (k0_hw9 : k0_chk9 v197) (k0_t2 : Fin (k0_t2_loop v197).trips), ∀ a, (k0_off69 v197 k0_t2) a + S1x256x256.size a ≤ S3x768x6144.size a := fun v197 k0_hw9 k0_t2 => k0_hw9.2.1.2.2.2.2.1 k0_t2
theorem k0_off70_inb : ∀ (v197 : BitVec 32) (k0_hw9 : k0_chk9 v197) (k0_t2 : Fin (k0_t2_loop v197).trips), ∀ a, (k0_off70 v197 k0_t2) a + S1x512x256.size a ≤ S3x768x6144.size a := fun v197 k0_hw9 k0_t2 => k0_hw9.2.1.2.2.2.2.2.1 k0_t2
theorem k0_off71_inb : ∀ (v197 : BitVec 32) (k0_hw9 : k0_chk9 v197) (k0_t2 : Fin (k0_t2_loop v197).trips), ∀ a, (k0_off71 v197 k0_t2) a + S1x256x256.size a ≤ S3x768x6144.size a := fun v197 k0_hw9 k0_t2 => k0_hw9.2.1.2.2.2.2.2.2.1 k0_t2
theorem k0_off72_inb : ∀ (v197 : BitVec 32) (k0_hw9 : k0_chk9 v197) (k0_t2 : Fin (k0_t2_loop v197).trips), ∀ a, (k0_off72 v197 k0_t2) a + S1x512x256.size a ≤ S3x768x6144.size a := fun v197 k0_hw9 k0_t2 => k0_hw9.2.1.2.2.2.2.2.2.2.1 k0_t2
theorem k0_off73_inb : ∀ (v197 : BitVec 32) (k0_hw9 : k0_chk9 v197) (k0_t2 : Fin (k0_t2_loop v197).trips), ∀ a, (k0_off73 v197 k0_t2) a + S1x256x256.size a ≤ S3x768x6144.size a := fun v197 k0_hw9 k0_t2 => k0_hw9.2.1.2.2.2.2.2.2.2.2.1 k0_t2
theorem k0_off74_inb : ∀ (v197 : BitVec 32) (k0_hw9 : k0_chk9 v197) (k0_t2 : Fin (k0_t2_loop v197).trips), ∀ a, (k0_off74 v197 k0_t2) a + S1x512x256.size a ≤ S3x768x6144.size a := fun v197 k0_hw9 k0_t2 => k0_hw9.2.1.2.2.2.2.2.2.2.2.2.1 k0_t2
theorem k0_off75_inb : ∀ (v197 : BitVec 32) (k0_hw9 : k0_chk9 v197) (k0_t2 : Fin (k0_t2_loop v197).trips), ∀ a, (k0_off75 v197 k0_t2) a + S1x256x256.size a ≤ S3x768x6144.size a := fun v197 k0_hw9 k0_t2 => k0_hw9.2.1.2.2.2.2.2.2.2.2.2.2.1 k0_t2
theorem k0_off76_inb : ∀ (v197 : BitVec 32) (k0_hw9 : k0_chk9 v197) (k0_t2 : Fin (k0_t2_loop v197).trips), ∀ a, (k0_off76 v197 k0_t2) a + S1x512x256.size a ≤ S3x768x6144.size a := fun v197 k0_hw9 k0_t2 => k0_hw9.2.1.2.2.2.2.2.2.2.2.2.2.2.1 k0_t2
theorem k0_off77_inb : ∀ (v197 : BitVec 32) (k0_hw9 : k0_chk9 v197) (k0_t2 : Fin (k0_t2_loop v197).trips), ∀ a, (k0_off77 v197 k0_t2) a + S1x256x256.size a ≤ S3x768x6144.size a := fun v197 k0_hw9 k0_t2 => k0_hw9.2.1.2.2.2.2.2.2.2.2.2.2.2.2.1 k0_t2
theorem k0_off78_inb : ∀ (v197 : BitVec 32) (k0_hw9 : k0_chk9 v197) (k0_t2 : Fin (k0_t2_loop v197).trips), ∀ a, (k0_off78 v197 k0_t2) a + S1x512x256.size a ≤ S3x768x6144.size a := fun v197 k0_hw9 k0_t2 => k0_hw9.2.1.2.2.2.2.2.2.2.2.2.2.2.2.2.1 k0_t2
theorem k0_off79_inb : ∀ (v197 : BitVec 32) (k0_hw9 : k0_chk9 v197) (k0_t2 : Fin (k0_t2_loop v197).trips), ∀ a, (k0_off79 v197 k0_t2) a + S1x256x256.size a ≤ S3x768x6144.size a := fun v197 k0_hw9 k0_t2 => k0_hw9.2.1.2.2.2.2.2.2.2.2.2.2.2.2.2.2.1 k0_t2
theorem k0_off80_inb : ∀ (v197 : BitVec 32) (k0_hw9 : k0_chk9 v197) (k0_t2 : Fin (k0_t2_loop v197).trips), ∀ a, (k0_off80 v197 k0_t2) a + S1x512x256.size a ≤ S3x768x6144.size a := fun v197 k0_hw9 k0_t2 => k0_hw9.2.1.2.2.2.2.2.2.2.2.2.2.2.2.2.2.2.1 k0_t2
theorem k0_off81_inb : ∀ (v197 : BitVec 32) (k0_hw9 : k0_chk9 v197) (k0_t2 : Fin (k0_t2_loop v197).trips), ∀ a, (k0_off81 v197 k0_t2) a + S1x256x256.size a ≤ S3x768x6144.size a := fun v197 k0_hw9 k0_t2 => k0_hw9.2.1.2.2.2.2.2.2.2.2.2.2.2.2.2.2.2.2.1 k0_t2
theorem k0_off82_inb : ∀ (v197 : BitVec 32) (k0_hw9 : k0_chk9 v197) (k0_t2 : Fin (k0_t2_loop v197).trips), ∀ a, (k0_off82 v197 k0_t2) a + S1x512x256.size a ≤ S3x768x6144.size a := fun v197 k0_hw9 k0_t2 => k0_hw9.2.1.2.2.2.2.2.2.2.2.2.2.2.2.2.2.2.2.2.1 k0_t2
theorem k0_off83_inb : ∀ (v197 : BitVec 32) (k0_hw9 : k0_chk9 v197) (k0_t2 : Fin (k0_t2_loop v197).trips), ∀ a, (k0_off83 v197 k0_t2) a + S1x256x256.size a ≤ S3x768x6144.size a := fun v197 k0_hw9 k0_t2 => k0_hw9.2.1.2.2.2.2.2.2.2.2.2.2.2.2.2.2.2.2.2.2.1 k0_t2
theorem k0_off84_inb : ∀ (v197 : BitVec 32) (k0_hw9 : k0_chk9 v197) (k0_t2 : Fin (k0_t2_loop v197).trips), ∀ a, (k0_off84 v197 k0_t2) a + S1x512x256.size a ≤ S3x768x6144.size a := fun v197 k0_hw9 k0_t2 => k0_hw9.2.1.2.2.2.2.2.2.2.2.2.2.2.2.2.2.2.2.2.2.2.1 k0_t2
theorem k0_off85_inb : ∀ (v197 : BitVec 32) (k0_hw9 : k0_chk9 v197) (k0_t2 : Fin (k0_t2_loop v197).trips), ∀ a, (k0_off85 v197 k0_t2) a + S1x256x256.size a ≤ S3x768x6144.size a := fun v197 k0_hw9 k0_t2 => k0_hw9.2.1.2.2.2.2.2.2.2.2.2.2.2.2.2.2.2.2.2.2.2.2.1 k0_t2
theorem k0_off86_inb : ∀ (v197 : BitVec 32) (k0_hw9 : k0_chk9 v197) (k0_t2 : Fin (k0_t2_loop v197).trips), ∀ a, (k0_off86 v197 k0_t2) a + S1x512x256.size a ≤ S3x768x6144.size a := fun v197 k0_hw9 k0_t2 => k0_hw9.2.1.2.2.2.2.2.2.2.2.2.2.2.2.2.2.2.2.2.2.2.2.2.1 k0_t2
theorem k0_off87_inb : ∀ (v197 : BitVec 32) (k0_hw9 : k0_chk9 v197) (k0_t2 : Fin (k0_t2_loop v197).trips), ∀ a, (k0_off87 v197 k0_t2) a + S1x256x256.size a ≤ S3x768x6144.size a := fun v197 k0_hw9 k0_t2 => k0_hw9.2.1.2.2.2.2.2.2.2.2.2.2.2.2.2.2.2.2.2.2.2.2.2.2.1 k0_t2
theorem k0_off88_inb : ∀ (v197 : BitVec 32) (k0_hw9 : k0_chk9 v197) (k0_t2 : Fin (k0_t2_loop v197).trips), ∀ a, (k0_off88 v197 k0_t2) a + S1x512x256.size a ≤ S3x768x6144.size a := fun v197 k0_hw9 k0_t2 => k0_hw9.2.1.2.2.2.2.2.2.2.2.2.2.2.2.2.2.2.2.2.2.2.2.2.2.2.1 k0_t2
theorem k0_off89_inb : ∀ (v197 : BitVec 32) (k0_hw9 : k0_chk9 v197) (k0_t2 : Fin (k0_t2_loop v197).trips), ∀ a, (k0_off89 v197 k0_t2) a + S1x256x256.size a ≤ S3x768x6144.size a := fun v197 k0_hw9 k0_t2 => k0_hw9.2.1.2.2.2.2.2.2.2.2.2.2.2.2.2.2.2.2.2.2.2.2.2.2.2.2.1 k0_t2
theorem k0_off90_inb : ∀ (v197 : BitVec 32) (k0_hw9 : k0_chk9 v197) (k0_t2 : Fin (k0_t2_loop v197).trips), ∀ a, (k0_off90 v197 k0_t2) a + S1x512x256.size a ≤ S3x768x6144.size a := fun v197 k0_hw9 k0_t2 => k0_hw9.2.1.2.2.2.2.2.2.2.2.2.2.2.2.2.2.2.2.2.2.2.2.2.2.2.2.2.1 k0_t2
theorem k0_off91_inb : ∀ (v197 : BitVec 32) (k0_hw9 : k0_chk9 v197) (k0_t2 : Fin (k0_t2_loop v197).trips), ∀ a, (k0_off91 v197 k0_t2) a + S1x256x256.size a ≤ S3x768x6144.size a := fun v197 k0_hw9 k0_t2 => k0_hw9.2.1.2.2.2.2.2.2.2.2.2.2.2.2.2.2.2.2.2.2.2.2.2.2.2.2.2.2.1 k0_t2
theorem k0_off92_inb : ∀ (v197 : BitVec 32) (k0_hw9 : k0_chk9 v197) (k0_t2 : Fin (k0_t2_loop v197).trips), ∀ a, (k0_off92 v197 k0_t2) a + S1x512x256.size a ≤ S3x768x6144.size a := fun v197 k0_hw9 k0_t2 => k0_hw9.2.1.2.2.2.2.2.2.2.2.2.2.2.2.2.2.2.2.2.2.2.2.2.2.2.2.2.2.2.1 k0_t2
theorem k0_off93_inb : ∀ (v197 : BitVec 32) (k0_hw9 : k0_chk9 v197) (k0_t2 : Fin (k0_t2_loop v197).trips), ∀ a, (k0_off93 v197 k0_t2) a + S1x256x256.size a ≤ S3x768x6144.size a := fun v197 k0_hw9 k0_t2 => k0_hw9.2.1.2.2.2.2.2.2.2.2.2.2.2.2.2.2.2.2.2.2.2.2.2.2.2.2.2.2.2.2.1 k0_t2
theorem k0_off94_inb : ∀ (v197 : BitVec 32) (k0_hw9 : k0_chk9 v197) (k0_t2 : Fin (k0_t2_loop v197).trips), ∀ a, (k0_off94 v197 k0_t2) a + S1x512x256.size a ≤ S3x768x6144.size a := fun v197 k0_hw9 k0_t2 => k0_hw9.2.1.2.2.2.2.2.2.2.2.2.2.2.2.2.2.2.2.2.2.2.2.2.2.2.2.2.2.2.2.2.1 k0_t2
theorem k0_off95_inb : ∀ (v197 : BitVec 32) (k0_hw9 : k0_chk9 v197) (k0_t2 : Fin (k0_t2_loop v197).trips), ∀ a, (k0_off95 v197 k0_t2) a + S1x256x256.size a ≤ S3x768x6144.size a := fun v197 k0_hw9 k0_t2 => k0_hw9.2.1.2.2.2.2.2.2.2.2.2.2.2.2.2.2.2.2.2.2.2.2.2.2.2.2.2.2.2.2.2.2.1 k0_t2
theorem k0_off96_inb : ∀ (v197 : BitVec 32) (k0_hw9 : k0_chk9 v197) (k0_t2 : Fin (k0_t2_loop v197).trips), ∀ a, (k0_off96 v197 k0_t2) a + S1x512x256.size a ≤ S3x768x6144.size a := fun v197 k0_hw9 k0_t2 => k0_hw9.2.1.2.2.2.2.2.2.2.2.2.2.2.2.2.2.2.2.2.2.2.2.2.2.2.2.2.2.2.2.2.2.2 k0_t2
theorem k0_off97_inb : ∀ (v197 : BitVec 32) (k0_hw9 : k0_chk9 v197) (k0_t2 : Fin (k0_t2_loop v197).trips), ∀ a, (k0_off97 v197 k0_t2) a + S1x256x256.size a ≤ S3x768x6144.size a := fun v197 k0_hw9 k0_t2 => k0_hw9.2.2.1.1 k0_t2
theorem k0_off98_inb : ∀ (v197 : BitVec 32) (k0_hw9 : k0_chk9 v197) (k0_t2 : Fin (k0_t2_loop v197).trips), ∀ a, (k0_off98 v197 k0_t2) a + S1x512x256.size a ≤ S3x768x6144.size a := fun v197 k0_hw9 k0_t2 => k0_hw9.2.2.1.2.1 k0_t2
theorem k0_off99_inb : ∀ (v197 : BitVec 32) (k0_hw9 : k0_chk9 v197) (k0_t2 : Fin (k0_t2_loop v197).trips), ∀ a, (k0_off99 v197 k0_t2) a + S1x256x256.size a ≤ S3x768x6144.size a := fun v197 k0_hw9 k0_t2 => k0_hw9.2.2.1.2.2.1 k0_t2
theorem k0_off100_inb : ∀ (v197 : BitVec 32) (k0_hw9 : k0_chk9 v197) (k0_t2 : Fin (k0_t2_loop v197).trips), ∀ a, (k0_off100 v197 k0_t2) a + S1x512x256.size a ≤ S3x768x6144.size a := fun v197 k0_hw9 k0_t2 => k0_hw9.2.2.1.2.2.2.1 k0_t2
theorem k0_off101_inb : ∀ (v197 : BitVec 32) (k0_hw9 : k0_chk9 v197) (k0_t2 : Fin (k0_t2_loop v197).trips), ∀ a, (k0_off101 v197 k0_t2) a + S1x256x256.size a ≤ S3x768x6144.size a := fun v197 k0_hw9 k0_t2 => k0_hw9.2.2.1.2.2.2.2.1 k0_t2
theorem k0_off102_inb : ∀ (v197 : BitVec 32) (k0_hw9 : k0_chk9 v197) (k0_t2 : Fin (k0_t2_loop v197).trips), ∀ a, (k0_off102 v197 k0_t2) a + S1x512x256.size a ≤ S3x768x6144.size a := fun v197 k0_hw9 k0_t2 => k0_hw9.2.2.1.2.2.2.2.2.1 k0_t2
theorem k0_off103_inb : ∀ (v197 : BitVec 32) (k0_hw9 : k0_chk9 v197) (k0_t2 : Fin (k0_t2_loop v197).trips), ∀ a, (k0_off103 v197 k0_t2) a + S1x256x256.size a ≤ S3x768x6144.size a := fun v197 k0_hw9 k0_t2 => k0_hw9.2.2.1.2.2.2.2.2.2.1 k0_t2
theorem k0_off104_inb : ∀ (v197 : BitVec 32) (k0_hw9 : k0_chk9 v197) (k0_t2 : Fin (k0_t2_loop v197).trips), ∀ a, (k0_off104 v197 k0_t2) a + S1x512x256.size a ≤ S3x768x6144.size a := fun v197 k0_hw9 k0_t2 => k0_hw9.2.2.1.2.2.2.2.2.2.2.1 k0_t2
theorem k0_off105_inb : ∀ (v197 : BitVec 32) (k0_hw9 : k0_chk9 v197) (k0_t2 : Fin (k0_t2_loop v197).trips), ∀ a, (k0_off105 v197 k0_t2) a + S1x256x256.size a ≤ S3x768x6144.size a := fun v197 k0_hw9 k0_t2 => k0_hw9.2.2.1.2.2.2.2.2.2.2.2.1 k0_t2
theorem k0_off106_inb : ∀ (v197 : BitVec 32) (k0_hw9 : k0_chk9 v197) (k0_t2 : Fin (k0_t2_loop v197).trips), ∀ a, (k0_off106 v197 k0_t2) a + S1x512x256.size a ≤ S3x768x6144.size a := fun v197 k0_hw9 k0_t2 => k0_hw9.2.2.1.2.2.2.2.2.2.2.2.2.1 k0_t2
theorem k0_off107_inb : ∀ (v197 : BitVec 32) (k0_hw9 : k0_chk9 v197) (k0_t2 : Fin (k0_t2_loop v197).trips), ∀ a, (k0_off107 v197 k0_t2) a + S1x256x256.size a ≤ S3x768x6144.size a := fun v197 k0_hw9 k0_t2 => k0_hw9.2.2.1.2.2.2.2.2.2.2.2.2.2.1 k0_t2
theorem k0_off108_inb : ∀ (v197 : BitVec 32) (k0_hw9 : k0_chk9 v197) (k0_t2 : Fin (k0_t2_loop v197).trips), ∀ a, (k0_off108 v197 k0_t2) a + S1x512x256.size a ≤ S3x768x6144.size a := fun v197 k0_hw9 k0_t2 => k0_hw9.2.2.1.2.2.2.2.2.2.2.2.2.2.2.1 k0_t2
theorem k0_off109_inb : ∀ (v197 : BitVec 32) (k0_hw9 : k0_chk9 v197) (k0_t2 : Fin (k0_t2_loop v197).trips), ∀ a, (k0_off109 v197 k0_t2) a + S1x256x256.size a ≤ S3x768x6144.size a := fun v197 k0_hw9 k0_t2 => k0_hw9.2.2.1.2.2.2.2.2.2.2.2.2.2.2.2.1 k0_t2
theorem k0_off110_inb : ∀ (v197 : BitVec 32) (k0_hw9 : k0_chk9 v197) (k0_t2 : Fin (k0_t2_loop v197).trips), ∀ a, (k0_off110 v197 k0_t2) a + S1x512x256.size a ≤ S3x768x6144.size a := fun v197 k0_hw9 k0_t2 => k0_hw9.2.2.1.2.2.2.2.2.2.2.2.2.2.2.2.2.1 k0_t2
theorem k0_off111_inb : ∀ (v197 : BitVec 32) (k0_hw9 : k0_chk9 v197) (k0_t2 : Fin (k0_t2_loop v197).trips), ∀ a, (k0_off111 v197 k0_t2) a + S1x256x256.size a ≤ S3x768x6144.size a := fun v197 k0_hw9 k0_t2 => k0_hw9.2.2.1.2.2.2.2.2.2.2.2.2.2.2.2.2.2.1 k0_t2
theorem k0_off115_inb : ∀ (v197 : BitVec 32) (k0_hw9 : k0_chk9 v197) (k0_t2 : Fin (k0_t2_loop v197).trips), ∀ a, (k0_off115 v197 k0_t2) a + S1x32x6144.size a ≤ S2x32x6144.size a := fun v197 k0_hw9 k0_t2 => k0_hw9.2.2.1.2.2.2.2.2.2.2.2.2.2.2.2.2.2.2.1 k0_t2
theorem k0_off115_packedfp8e4m3 : ∀ (v197 : BitVec 32) (k0_hw9 : k0_chk9 v197) (k0_t2 : Fin (k0_t2_loop v197).trips), (Rect.unit (s := S2x32x6144) (k0_off115 v197 k0_t2) S1x32x6144.size (k0_off115_inb v197 k0_hw9 k0_t2)).PackedRows (EltTy.packing .fp8e4m3) := fun v197 k0_hw9 k0_t2 => k0_hw9.2.2.1.2.2.2.2.2.2.2.2.2.2.2.2.2.2.2.2.1 k0_t2 (k0_off115_inb v197 k0_hw9 k0_t2)
theorem k0_off116_inb : ∀ (v197 : BitVec 32) (k0_hw9 : k0_chk9 v197) (k0_t2 : Fin (k0_t2_loop v197).trips), ∀ a, (k0_off116 v197 k0_t2) a + S1x16x128.size a ≤ S2x16x128.size a := fun v197 k0_hw9 k0_t2 => k0_hw9.2.2.1.2.2.2.2.2.2.2.2.2.2.2.2.2.2.2.2.2.1 k0_t2
theorem k0_t3_ok : ∀ (v197 : BitVec 32) (k0_hw9 : k0_chk9 v197), (k0_t3_loop v197).OK := fun v197 k0_hw9 => k0_hw9.2.2.1.2.2.2.2.2.2.2.2.2.2.2.2.2.2.2.2.2.2.1
theorem k0_off117_inb : ∀ (v197 : BitVec 32) (k0_hw9 : k0_chk9 v197) (k0_t3 : Fin (k0_t3_loop v197).trips), ∀ a, (k0_off117 v197 k0_t3) a + S1.size a ≤ S32.size a := fun v197 k0_hw9 k0_t3 => k0_hw9.2.2.1.2.2.2.2.2.2.2.2.2.2.2.2.2.2.2.2.2.2.2.1 k0_t3
theorem k0_off118_inb : ∀ (v197 : BitVec 32) (k0_hw9 : k0_chk9 v197) (k0_t3 : Fin (k0_t3_loop v197).trips), ∀ a, (k0_off118 v197 k0_t3) a + S1.size a ≤ S32.size a := fun v197 k0_hw9 k0_t3 => k0_hw9.2.2.1.2.2.2.2.2.2.2.2.2.2.2.2.2.2.2.2.2.2.2.2.1 k0_t3
theorem k0_off119_inb : ∀ (v197 : BitVec 32) (k0_hw9 : k0_chk9 v197) (k0_t3 : Fin (k0_t3_loop v197).trips), ∀ (k0_h12 : k0_cond12 v197 k0_t3 = 1#1), ∀ a, (k0_off119 v197 k0_t3) a + S1.size a ≤ S32.size a := fun v197 k0_hw9 k0_t3 k0_h12 => k0_hw9.2.2.1.2.2.2.2.2.2.2.2.2.2.2.2.2.2.2.2.2.2.2.2.2.1 k0_t3 k0_h12
theorem k0_off121_inb : ∀ (v197 : BitVec 32) (k0_hw9 : k0_chk9 v197) (k0_t3 : Fin (k0_t3_loop v197).trips), ∀ (k0_h12 : k0_cond12 v197 k0_t3 = 1#1), ∀ (k0_h13 : k0_cond13 v197 k0_t3 = 1#1), ∀ a, (k0_off121 v197 k0_t3) a + S1.size a ≤ S32.size a := fun v197 k0_hw9 k0_t3 k0_h12 k0_h13 => k0_hw9.2.2.1.2.2.2.2.2.2.2.2.2.2.2.2.2.2.2.2.2.2.2.2.2.2.1 k0_t3 k0_h12 k0_h13
theorem k0_off125_inb : ∀ (v197 : BitVec 32) (k0_hw9 : k0_chk9 v197) (k0_t3 : Fin (k0_t3_loop v197).trips), ∀ (k0_h12 : k0_cond12 v197 k0_t3 = 1#1), ∀ (k0_h13 : k0_cond13 v197 k0_t3 = 1#1), ∀ a, (k0_off125 v197 k0_t3) a + S1.size a ≤ S32.size a := fun v197 k0_hw9 k0_t3 k0_h12 k0_h13 => k0_hw9.2.2.1.2.2.2.2.2.2.2.2.2.2.2.2.2.2.2.2.2.2.2.2.2.2.2.1 k0_t3 k0_h12 k0_h13
theorem k0_off126_inb : ∀ (v197 : BitVec 32) (k0_hw9 : k0_chk9 v197) (k0_t3 : Fin (k0_t3_loop v197).trips), ∀ (k0_h12 : k0_cond12 v197 k0_t3 = 1#1), ∀ (k0_h13 : k0_cond13 v197 k0_t3 = 1#1), ∀ a, (k0_off126 v197 k0_t3) a + S1x1.size a ≤ S3x3.size a := fun v197 k0_hw9 k0_t3 k0_h12 k0_h13 => k0_hw9.2.2.1.2.2.2.2.2.2.2.2.2.2.2.2.2.2.2.2.2.2.2.2.2.2.2.2.1 k0_t3 k0_h12 k0_h13
theorem k0_off127_inb : ∀ (v197 : BitVec 32) (k0_hw9 : k0_chk9 v197) (k0_t3 : Fin (k0_t3_loop v197).trips), ∀ (k0_h12 : k0_cond12 v197 k0_t3 = 1#1), ∀ (k0_h13 : k0_cond13 v197 k0_t3 = 1#1), ∀ a, (k0_off127 v197 k0_t3) a + S1x256x6144.size a ≤ S3x768x6144.size a := fun v197 k0_hw9 k0_t3 k0_h12 k0_h13 => k0_hw9.2.2.1.2.2.2.2.2.2.2.2.2.2.2.2.2.2.2.2.2.2.2.2.2.2.2.2.2.1 k0_t3 k0_h12 k0_h13
theorem k0_off127_wordsfp8e4m3 : ∀ (v197 : BitVec 32) (k0_hw9 : k0_chk9 v197) (k0_t3 : Fin (k0_t3_loop v197).trips), ∀ (k0_h12 : k0_cond12 v197 k0_t3 = 1#1), ∀ (k0_h13 : k0_cond13 v197 k0_t3 = 1#1), (Rect.unit (s := S3x768x6144) (k0_off127 v197 k0_t3) S1x256x6144.size (k0_off127_inb v197 k0_hw9 k0_t3 k0_h12 k0_h13)).WholeWords (EltTy.packing .fp8e4m3) := fun v197 k0_hw9 k0_t3 k0_h12 k0_h13 => k0_hw9.2.2.1.2.2.2.2.2.2.2.2.2.2.2.2.2.2.2.2.2.2.2.2.2.2.2.2.2.2.1 k0_t3 k0_h12 k0_h13 (k0_off127_inb v197 k0_hw9 k0_t3 k0_h12 k0_h13)
theorem k0_off129_inb : ∀ (v197 : BitVec 32) (k0_hw9 : k0_chk9 v197) (k0_t3 : Fin (k0_t3_loop v197).trips), ∀ (k0_h12 : k0_cond12 v197 k0_t3 = 1#1), ∀ (k0_h13 : k0_cond13 v197 k0_t3 = 1#1), ∀ a, (k0_off129 v197 k0_t3) a + S1.size a ≤ S32.size a := fun v197 k0_hw9 k0_t3 k0_h12 k0_h13 => k0_hw9.2.2.1.2.2.2.2.2.2.2.2.2.2.2.2.2.2.2.2.2.2.2.2.2.2.2.2.2.2.2.1 k0_t3 k0_h12 k0_h13
theorem k0_off130_inb : ∀ (v197 : BitVec 32) (k0_hw9 : k0_chk9 v197) (k0_t3 : Fin (k0_t3_loop v197).trips), ∀ (k0_h12 : k0_cond12 v197 k0_t3 = 1#1), ∀ (k0_h13 : k0_cond13 v197 k0_t3 = 1#1), ∀ a, (k0_off130 v197 k0_t3) a + S1x1.size a ≤ S3x3.size a := fun v197 k0_hw9 k0_t3 k0_h12 k0_h13 => k0_hw9.2.2.1.2.2.2.2.2.2.2.2.2.2.2.2.2.2.2.2.2.2.2.2.2.2.2.2.2.2.2.2.1 k0_t3 k0_h12 k0_h13
theorem k0_off131_inb : ∀ (v197 : BitVec 32) (k0_hw9 : k0_chk9 v197) (k0_t3 : Fin (k0_t3_loop v197).trips), ∀ (k0_h12 : k0_cond12 v197 k0_t3 = 1#1), ∀ (k0_h13 : k0_cond13 v197 k0_t3 = 1#1), ∀ a, (k0_off131 v197 k0_t3) a + S1x256x6144.size a ≤ S3x768x6144.size a := fun v197 k0_hw9 k0_t3 k0_h12 k0_h13 => k0_hw9.2.2.1.2.2.2.2.2.2.2.2.2.2.2.2.2.2.2.2.2.2.2.2.2.2.2.2.2.2.2.2.2.1 k0_t3 k0_h12 k0_h13
theorem k0_off131_wordsfp8e4m3 : ∀ (v197 : BitVec 32) (k0_hw9 : k0_chk9 v197) (k0_t3 : Fin (k0_t3_loop v197).trips), ∀ (k0_h12 : k0_cond12 v197 k0_t3 = 1#1), ∀ (k0_h13 : k0_cond13 v197 k0_t3 = 1#1), (Rect.unit (s := S3x768x6144) (k0_off131 v197 k0_t3) S1x256x6144.size (k0_off131_inb v197 k0_hw9 k0_t3 k0_h12 k0_h13)).WholeWords (EltTy.packing .fp8e4m3) := fun v197 k0_hw9 k0_t3 k0_h12 k0_h13 => k0_hw9.2.2.1.2.2.2.2.2.2.2.2.2.2.2.2.2.2.2.2.2.2.2.2.2.2.2.2.2.2.2.2.2.2.1 k0_t3 k0_h12 k0_h13 (k0_off131_inb v197 k0_hw9 k0_t3 k0_h12 k0_h13)
theorem k0_off133_inb : ∀ (v197 : BitVec 32) (k0_hw9 : k0_chk9 v197) (k0_t3 : Fin (k0_t3_loop v197).trips), ∀ (k0_h12 : k0_cond12 v197 k0_t3 = 1#1), ∀ (k0_h13 : k0_cond13 v197 k0_t3 = 1#1), ∀ a, (k0_off133 v197 k0_t3) a + S1.size a ≤ S32.size a := fun v197 k0_hw9 k0_t3 k0_h12 k0_h13 => k0_hw9.2.2.1.2.2.2.2.2.2.2.2.2.2.2.2.2.2.2.2.2.2.2.2.2.2.2.2.2.2.2.2.2.2.2 k0_t3 k0_h12 k0_h13
theorem k0_off134_inb : ∀ (v197 : BitVec 32) (k0_hw9 : k0_chk9 v197) (k0_t3 : Fin (k0_t3_loop v197).trips), ∀ (k0_h12 : k0_cond12 v197 k0_t3 = 1#1), ∀ (k0_h13 : k0_cond13 v197 k0_t3 = 1#1), ∀ a, (k0_off134 v197 k0_t3) a + S1x1.size a ≤ S3x3.size a := fun v197 k0_hw9 k0_t3 k0_h12 k0_h13 => k0_hw9.2.2.2.1.1 k0_t3 k0_h12 k0_h13
theorem k0_off135_inb : ∀ (v197 : BitVec 32) (k0_hw9 : k0_chk9 v197) (k0_t3 : Fin (k0_t3_loop v197).trips), ∀ (k0_h12 : k0_cond12 v197 k0_t3 = 1#1), ∀ (k0_h13 : k0_cond13 v197 k0_t3 = 1#1), ∀ a, (k0_off135 v197 k0_t3) a + S1x256x6144.size a ≤ S3x768x6144.size a := fun v197 k0_hw9 k0_t3 k0_h12 k0_h13 => k0_hw9.2.2.2.1.2.1 k0_t3 k0_h12 k0_h13
theorem k0_off135_wordsfp8e4m3 : ∀ (v197 : BitVec 32) (k0_hw9 : k0_chk9 v197) (k0_t3 : Fin (k0_t3_loop v197).trips), ∀ (k0_h12 : k0_cond12 v197 k0_t3 = 1#1), ∀ (k0_h13 : k0_cond13 v197 k0_t3 = 1#1), (Rect.unit (s := S3x768x6144) (k0_off135 v197 k0_t3) S1x256x6144.size (k0_off135_inb v197 k0_hw9 k0_t3 k0_h12 k0_h13)).WholeWords (EltTy.packing .fp8e4m3) := fun v197 k0_hw9 k0_t3 k0_h12 k0_h13 => k0_hw9.2.2.2.1.2.2.1 k0_t3 k0_h12 k0_h13 (k0_off135_inb v197 k0_hw9 k0_t3 k0_h12 k0_h13)
theorem k0_off140_inb : ∀ (v197 : BitVec 32) (k0_hw9 : k0_chk9 v197) (k0_t3 : Fin (k0_t3_loop v197).trips), ∀ a, (k0_off140 v197 k0_t3) a + S1.size a ≤ S32.size a := fun v197 k0_hw9 k0_t3 => k0_hw9.2.2.2.1.2.2.2.1 k0_t3
theorem k0_off141_inb : ∀ (v197 : BitVec 32) (k0_hw9 : k0_chk9 v197) (k0_t3 : Fin (k0_t3_loop v197).trips), ∀ a, (k0_off141 v197 k0_t3) a + S1x1.size a ≤ S3x3.size a := fun v197 k0_hw9 k0_t3 => k0_hw9.2.2.2.1.2.2.2.2.1 k0_t3
theorem k0_off142_inb : ∀ (v197 : BitVec 32) (k0_hw9 : k0_chk9 v197) (k0_t3 : Fin (k0_t3_loop v197).trips), ∀ a, (k0_off142 v197 k0_t3) a + S1x256x6144.size a ≤ S3x768x6144.size a := fun v197 k0_hw9 k0_t3 => k0_hw9.2.2.2.1.2.2.2.2.2.1 k0_t3
theorem k0_off142_wordsfp8e4m3 : ∀ (v197 : BitVec 32) (k0_hw9 : k0_chk9 v197) (k0_t3 : Fin (k0_t3_loop v197).trips), (Rect.unit (s := S3x768x6144) (k0_off142 v197 k0_t3) S1x256x6144.size (k0_off142_inb v197 k0_hw9 k0_t3)).WholeWords (EltTy.packing .fp8e4m3) := fun v197 k0_hw9 k0_t3 => k0_hw9.2.2.2.1.2.2.2.2.2.2.1 k0_t3 (k0_off142_inb v197 k0_hw9 k0_t3)
theorem k0_off144_inb : ∀ (v197 : BitVec 32) (k0_hw9 : k0_chk9 v197) (k0_t3 : Fin (k0_t3_loop v197).trips), ∀ a, (k0_off144 v197 k0_t3) a + S1.size a ≤ S32.size a := fun v197 k0_hw9 k0_t3 => k0_hw9.2.2.2.1.2.2.2.2.2.2.2.1 k0_t3
theorem k0_off145_inb : ∀ (v197 : BitVec 32) (k0_hw9 : k0_chk9 v197) (k0_t3 : Fin (k0_t3_loop v197).trips), ∀ a, (k0_off145 v197 k0_t3) a + S1x1.size a ≤ S3x3.size a := fun v197 k0_hw9 k0_t3 => k0_hw9.2.2.2.1.2.2.2.2.2.2.2.2.1 k0_t3
theorem k0_off146_inb : ∀ (v197 : BitVec 32) (k0_hw9 : k0_chk9 v197) (k0_t3 : Fin (k0_t3_loop v197).trips), ∀ a, (k0_off146 v197 k0_t3) a + S1x256x6144.size a ≤ S3x768x6144.size a := fun v197 k0_hw9 k0_t3 => k0_hw9.2.2.2.1.2.2.2.2.2.2.2.2.2.1 k0_t3
theorem k0_off146_wordsfp8e4m3 : ∀ (v197 : BitVec 32) (k0_hw9 : k0_chk9 v197) (k0_t3 : Fin (k0_t3_loop v197).trips), (Rect.unit (s := S3x768x6144) (k0_off146 v197 k0_t3) S1x256x6144.size (k0_off146_inb v197 k0_hw9 k0_t3)).WholeWords (EltTy.packing .fp8e4m3) := fun v197 k0_hw9 k0_t3 => k0_hw9.2.2.2.1.2.2.2.2.2.2.2.2.2.2.1 k0_t3 (k0_off146_inb v197 k0_hw9 k0_t3)
theorem k0_off148_inb : ∀ (v197 : BitVec 32) (k0_hw9 : k0_chk9 v197) (k0_t3 : Fin (k0_t3_loop v197).trips), ∀ a, (k0_off148 v197 k0_t3) a + S1.size a ≤ S32.size a := fun v197 k0_hw9 k0_t3 => k0_hw9.2.2.2.1.2.2.2.2.2.2.2.2.2.2.2.1 k0_t3
theorem k0_off149_inb : ∀ (v197 : BitVec 32) (k0_hw9 : k0_chk9 v197) (k0_t3 : Fin (k0_t3_loop v197).trips), ∀ a, (k0_off149 v197 k0_t3) a + S1x1.size a ≤ S3x3.size a := fun v197 k0_hw9 k0_t3 => k0_hw9.2.2.2.1.2.2.2.2.2.2.2.2.2.2.2.2.1 k0_t3
theorem k0_off150_inb : ∀ (v197 : BitVec 32) (k0_hw9 : k0_chk9 v197) (k0_t3 : Fin (k0_t3_loop v197).trips), ∀ a, (k0_off150 v197 k0_t3) a + S1x256x6144.size a ≤ S3x768x6144.size a := fun v197 k0_hw9 k0_t3 => k0_hw9.2.2.2.1.2.2.2.2.2.2.2.2.2.2.2.2.2.1 k0_t3
theorem k0_off150_wordsfp8e4m3 : ∀ (v197 : BitVec 32) (k0_hw9 : k0_chk9 v197) (k0_t3 : Fin (k0_t3_loop v197).trips), (Rect.unit (s := S3x768x6144) (k0_off150 v197 k0_t3) S1x256x6144.size (k0_off150_inb v197 k0_hw9 k0_t3)).WholeWords (EltTy.packing .fp8e4m3) := fun v197 k0_hw9 k0_t3 => k0_hw9.2.2.2.1.2.2.2.2.2.2.2.2.2.2.2.2.2.2.1 k0_t3 (k0_off150_inb v197 k0_hw9 k0_t3)
theorem k0_off154_inb : ∀ (v197 : BitVec 32) (k0_hw9 : k0_chk9 v197) (k0_t3 : Fin (k0_t3_loop v197).trips), ∀ a, (k0_off154 v197 k0_t3) a + S1x16x128.size a ≤ S2x16x128.size a := fun v197 k0_hw9 k0_t3 => k0_hw9.2.2.2.1.2.2.2.2.2.2.2.2.2.2.2.2.2.2.2.1 k0_t3
theorem k0_off155_inb : ∀ (v197 : BitVec 32) (k0_hw9 : k0_chk9 v197) (k0_t3 : Fin (k0_t3_loop v197).trips), ∀ a, (k0_off155 v197 k0_t3) a + S1x32x6144.size a ≤ S2x32x6144.size a := fun v197 k0_hw9 k0_t3 => k0_hw9.2.2.2.1.2.2.2.2.2.2.2.2.2.2.2.2.2.2.2.2.1 k0_t3
theorem k0_off156_inb : ∀ (v197 : BitVec 32) (k0_hw9 : k0_chk9 v197) (k0_t3 : Fin (k0_t3_loop v197).trips), ∀ a, (k0_off156 v197 k0_t3) a + S1x512x256.size a ≤ S3x768x6144.size a := fun v197 k0_hw9 k0_t3 => k0_hw9.2.2.2.1.2.2.2.2.2.2.2.2.2.2.2.2.2.2.2.2.2.1 k0_t3
theorem k0_off157_inb : ∀ (v197 : BitVec 32) (k0_hw9 : k0_chk9 v197) (k0_t3 : Fin (k0_t3_loop v197).trips), ∀ a, (k0_off157 v197 k0_t3) a + S1x256x256.size a ≤ S3x768x6144.size a := fun v197 k0_hw9 k0_t3 => k0_hw9.2.2.2.1.2.2.2.2.2.2.2.2.2.2.2.2.2.2.2.2.2.2.1 k0_t3
theorem k0_off158_inb : ∀ (v197 : BitVec 32) (k0_hw9 : k0_chk9 v197) (k0_t3 : Fin (k0_t3_loop v197).trips), ∀ a, (k0_off158 v197 k0_t3) a + S1x512x256.size a ≤ S3x768x6144.size a := fun v197 k0_hw9 k0_t3 => k0_hw9.2.2.2.1.2.2.2.2.2.2.2.2.2.2.2.2.2.2.2.2.2.2.2.1 k0_t3
theorem k0_off159_inb : ∀ (v197 : BitVec 32) (k0_hw9 : k0_chk9 v197) (k0_t3 : Fin (k0_t3_loop v197).trips), ∀ a, (k0_off159 v197 k0_t3) a + S1x256x256.size a ≤ S3x768x6144.size a := fun v197 k0_hw9 k0_t3 => k0_hw9.2.2.2.1.2.2.2.2.2.2.2.2.2.2.2.2.2.2.2.2.2.2.2.2.1 k0_t3
theorem k0_off160_inb : ∀ (v197 : BitVec 32) (k0_hw9 : k0_chk9 v197) (k0_t3 : Fin (k0_t3_loop v197).trips), ∀ a, (k0_off160 v197 k0_t3) a + S1x512x256.size a ≤ S3x768x6144.size a := fun v197 k0_hw9 k0_t3 => k0_hw9.2.2.2.1.2.2.2.2.2.2.2.2.2.2.2.2.2.2.2.2.2.2.2.2.2.1 k0_t3
theorem k0_off161_inb : ∀ (v197 : BitVec 32) (k0_hw9 : k0_chk9 v197) (k0_t3 : Fin (k0_t3_loop v197).trips), ∀ a, (k0_off161 v197 k0_t3) a + S1x256x256.size a ≤ S3x768x6144.size a := fun v197 k0_hw9 k0_t3 => k0_hw9.2.2.2.1.2.2.2.2.2.2.2.2.2.2.2.2.2.2.2.2.2.2.2.2.2.2.1 k0_t3
theorem k0_off162_inb : ∀ (v197 : BitVec 32) (k0_hw9 : k0_chk9 v197) (k0_t3 : Fin (k0_t3_loop v197).trips), ∀ a, (k0_off162 v197 k0_t3) a + S1x512x256.size a ≤ S3x768x6144.size a := fun v197 k0_hw9 k0_t3 => k0_hw9.2.2.2.1.2.2.2.2.2.2.2.2.2.2.2.2.2.2.2.2.2.2.2.2.2.2.2.1 k0_t3
theorem k0_off163_inb : ∀ (v197 : BitVec 32) (k0_hw9 : k0_chk9 v197) (k0_t3 : Fin (k0_t3_loop v197).trips), ∀ a, (k0_off163 v197 k0_t3) a + S1x256x256.size a ≤ S3x768x6144.size a := fun v197 k0_hw9 k0_t3 => k0_hw9.2.2.2.1.2.2.2.2.2.2.2.2.2.2.2.2.2.2.2.2.2.2.2.2.2.2.2.2.1 k0_t3
theorem k0_off164_inb : ∀ (v197 : BitVec 32) (k0_hw9 : k0_chk9 v197) (k0_t3 : Fin (k0_t3_loop v197).trips), ∀ a, (k0_off164 v197 k0_t3) a + S1x512x256.size a ≤ S3x768x6144.size a := fun v197 k0_hw9 k0_t3 => k0_hw9.2.2.2.1.2.2.2.2.2.2.2.2.2.2.2.2.2.2.2.2.2.2.2.2.2.2.2.2.2.1 k0_t3
theorem k0_off165_inb : ∀ (v197 : BitVec 32) (k0_hw9 : k0_chk9 v197) (k0_t3 : Fin (k0_t3_loop v197).trips), ∀ a, (k0_off165 v197 k0_t3) a + S1x256x256.size a ≤ S3x768x6144.size a := fun v197 k0_hw9 k0_t3 => k0_hw9.2.2.2.1.2.2.2.2.2.2.2.2.2.2.2.2.2.2.2.2.2.2.2.2.2.2.2.2.2.2.1 k0_t3
theorem k0_off166_inb : ∀ (v197 : BitVec 32) (k0_hw9 : k0_chk9 v197) (k0_t3 : Fin (k0_t3_loop v197).trips), ∀ a, (k0_off166 v197 k0_t3) a + S1x512x256.size a ≤ S3x768x6144.size a := fun v197 k0_hw9 k0_t3 => k0_hw9.2.2.2.1.2.2.2.2.2.2.2.2.2.2.2.2.2.2.2.2.2.2.2.2.2.2.2.2.2.2.2.1 k0_t3
theorem k0_off167_inb : ∀ (v197 : BitVec 32) (k0_hw9 : k0_chk9 v197) (k0_t3 : Fin (k0_t3_loop v197).trips), ∀ a, (k0_off167 v197 k0_t3) a + S1x256x256.size a ≤ S3x768x6144.size a := fun v197 k0_hw9 k0_t3 => k0_hw9.2.2.2.1.2.2.2.2.2.2.2.2.2.2.2.2.2.2.2.2.2.2.2.2.2.2.2.2.2.2.2.2.1 k0_t3
theorem k0_off168_inb : ∀ (v197 : BitVec 32) (k0_hw9 : k0_chk9 v197) (k0_t3 : Fin (k0_t3_loop v197).trips), ∀ a, (k0_off168 v197 k0_t3) a + S1x512x256.size a ≤ S3x768x6144.size a := fun v197 k0_hw9 k0_t3 => k0_hw9.2.2.2.1.2.2.2.2.2.2.2.2.2.2.2.2.2.2.2.2.2.2.2.2.2.2.2.2.2.2.2.2.2.1 k0_t3
theorem k0_off169_inb : ∀ (v197 : BitVec 32) (k0_hw9 : k0_chk9 v197) (k0_t3 : Fin (k0_t3_loop v197).trips), ∀ a, (k0_off169 v197 k0_t3) a + S1x256x256.size a ≤ S3x768x6144.size a := fun v197 k0_hw9 k0_t3 => k0_hw9.2.2.2.1.2.2.2.2.2.2.2.2.2.2.2.2.2.2.2.2.2.2.2.2.2.2.2.2.2.2.2.2.2.2.1 k0_t3
theorem k0_off170_inb : ∀ (v197 : BitVec 32) (k0_hw9 : k0_chk9 v197) (k0_t3 : Fin (k0_t3_loop v197).trips), ∀ a, (k0_off170 v197 k0_t3) a + S1x512x256.size a ≤ S3x768x6144.size a := fun v197 k0_hw9 k0_t3 => k0_hw9.2.2.2.1.2.2.2.2.2.2.2.2.2.2.2.2.2.2.2.2.2.2.2.2.2.2.2.2.2.2.2.2.2.2.2 k0_t3
theorem k0_off171_inb : ∀ (v197 : BitVec 32) (k0_hw9 : k0_chk9 v197) (k0_t3 : Fin (k0_t3_loop v197).trips), ∀ a, (k0_off171 v197 k0_t3) a + S1x256x256.size a ≤ S3x768x6144.size a := fun v197 k0_hw9 k0_t3 => k0_hw9.2.2.2.2.1.1 k0_t3
theorem k0_off172_inb : ∀ (v197 : BitVec 32) (k0_hw9 : k0_chk9 v197) (k0_t3 : Fin (k0_t3_loop v197).trips), ∀ a, (k0_off172 v197 k0_t3) a + S1x512x256.size a ≤ S3x768x6144.size a := fun v197 k0_hw9 k0_t3 => k0_hw9.2.2.2.2.1.2.1 k0_t3
theorem k0_off173_inb : ∀ (v197 : BitVec 32) (k0_hw9 : k0_chk9 v197) (k0_t3 : Fin (k0_t3_loop v197).trips), ∀ a, (k0_off173 v197 k0_t3) a + S1x256x256.size a ≤ S3x768x6144.size a := fun v197 k0_hw9 k0_t3 => k0_hw9.2.2.2.2.1.2.2.1 k0_t3
theorem k0_off174_inb : ∀ (v197 : BitVec 32) (k0_hw9 : k0_chk9 v197) (k0_t3 : Fin (k0_t3_loop v197).trips), ∀ a, (k0_off174 v197 k0_t3) a + S1x512x256.size a ≤ S3x768x6144.size a := fun v197 k0_hw9 k0_t3 => k0_hw9.2.2.2.2.1.2.2.2.1 k0_t3
theorem k0_off175_inb : ∀ (v197 : BitVec 32) (k0_hw9 : k0_chk9 v197) (k0_t3 : Fin (k0_t3_loop v197).trips), ∀ a, (k0_off175 v197 k0_t3) a + S1x256x256.size a ≤ S3x768x6144.size a := fun v197 k0_hw9 k0_t3 => k0_hw9.2.2.2.2.1.2.2.2.2.1 k0_t3
theorem k0_off176_inb : ∀ (v197 : BitVec 32) (k0_hw9 : k0_chk9 v197) (k0_t3 : Fin (k0_t3_loop v197).trips), ∀ a, (k0_off176 v197 k0_t3) a + S1x512x256.size a ≤ S3x768x6144.size a := fun v197 k0_hw9 k0_t3 => k0_hw9.2.2.2.2.1.2.2.2.2.2.1 k0_t3
theorem k0_off177_inb : ∀ (v197 : BitVec 32) (k0_hw9 : k0_chk9 v197) (k0_t3 : Fin (k0_t3_loop v197).trips), ∀ a, (k0_off177 v197 k0_t3) a + S1x256x256.size a ≤ S3x768x6144.size a := fun v197 k0_hw9 k0_t3 => k0_hw9.2.2.2.2.1.2.2.2.2.2.2.1 k0_t3
theorem k0_off178_inb : ∀ (v197 : BitVec 32) (k0_hw9 : k0_chk9 v197) (k0_t3 : Fin (k0_t3_loop v197).trips), ∀ a, (k0_off178 v197 k0_t3) a + S1x512x256.size a ≤ S3x768x6144.size a := fun v197 k0_hw9 k0_t3 => k0_hw9.2.2.2.2.1.2.2.2.2.2.2.2.1 k0_t3
theorem k0_off179_inb : ∀ (v197 : BitVec 32) (k0_hw9 : k0_chk9 v197) (k0_t3 : Fin (k0_t3_loop v197).trips), ∀ a, (k0_off179 v197 k0_t3) a + S1x256x256.size a ≤ S3x768x6144.size a := fun v197 k0_hw9 k0_t3 => k0_hw9.2.2.2.2.1.2.2.2.2.2.2.2.2.1 k0_t3
theorem k0_off180_inb : ∀ (v197 : BitVec 32) (k0_hw9 : k0_chk9 v197) (k0_t3 : Fin (k0_t3_loop v197).trips), ∀ a, (k0_off180 v197 k0_t3) a + S1x512x256.size a ≤ S3x768x6144.size a := fun v197 k0_hw9 k0_t3 => k0_hw9.2.2.2.2.1.2.2.2.2.2.2.2.2.2.1 k0_t3
theorem k0_off181_inb : ∀ (v197 : BitVec 32) (k0_hw9 : k0_chk9 v197) (k0_t3 : Fin (k0_t3_loop v197).trips), ∀ a, (k0_off181 v197 k0_t3) a + S1x256x256.size a ≤ S3x768x6144.size a := fun v197 k0_hw9 k0_t3 => k0_hw9.2.2.2.2.1.2.2.2.2.2.2.2.2.2.2.1 k0_t3
theorem k0_off182_inb : ∀ (v197 : BitVec 32) (k0_hw9 : k0_chk9 v197) (k0_t3 : Fin (k0_t3_loop v197).trips), ∀ a, (k0_off182 v197 k0_t3) a + S1x512x256.size a ≤ S3x768x6144.size a := fun v197 k0_hw9 k0_t3 => k0_hw9.2.2.2.2.1.2.2.2.2.2.2.2.2.2.2.2.1 k0_t3
theorem k0_off183_inb : ∀ (v197 : BitVec 32) (k0_hw9 : k0_chk9 v197) (k0_t3 : Fin (k0_t3_loop v197).trips), ∀ a, (k0_off183 v197 k0_t3) a + S1x256x256.size a ≤ S3x768x6144.size a := fun v197 k0_hw9 k0_t3 => k0_hw9.2.2.2.2.1.2.2.2.2.2.2.2.2.2.2.2.2.1 k0_t3
theorem k0_off184_inb : ∀ (v197 : BitVec 32) (k0_hw9 : k0_chk9 v197) (k0_t3 : Fin (k0_t3_loop v197).trips), ∀ a, (k0_off184 v197 k0_t3) a + S1x512x256.size a ≤ S3x768x6144.size a := fun v197 k0_hw9 k0_t3 => k0_hw9.2.2.2.2.1.2.2.2.2.2.2.2.2.2.2.2.2.2.1 k0_t3
theorem k0_off185_inb : ∀ (v197 : BitVec 32) (k0_hw9 : k0_chk9 v197) (k0_t3 : Fin (k0_t3_loop v197).trips), ∀ a, (k0_off185 v197 k0_t3) a + S1x256x256.size a ≤ S3x768x6144.size a := fun v197 k0_hw9 k0_t3 => k0_hw9.2.2.2.2.1.2.2.2.2.2.2.2.2.2.2.2.2.2.2.1 k0_t3
theorem k0_off186_inb : ∀ (v197 : BitVec 32) (k0_hw9 : k0_chk9 v197) (k0_t3 : Fin (k0_t3_loop v197).trips), ∀ a, (k0_off186 v197 k0_t3) a + S1x512x256.size a ≤ S3x768x6144.size a := fun v197 k0_hw9 k0_t3 => k0_hw9.2.2.2.2.1.2.2.2.2.2.2.2.2.2.2.2.2.2.2.2.1 k0_t3
theorem k0_off187_inb : ∀ (v197 : BitVec 32) (k0_hw9 : k0_chk9 v197) (k0_t3 : Fin (k0_t3_loop v197).trips), ∀ a, (k0_off187 v197 k0_t3) a + S1x256x256.size a ≤ S3x768x6144.size a := fun v197 k0_hw9 k0_t3 => k0_hw9.2.2.2.2.1.2.2.2.2.2.2.2.2.2.2.2.2.2.2.2.2.1 k0_t3
theorem k0_off188_inb : ∀ (v197 : BitVec 32) (k0_hw9 : k0_chk9 v197) (k0_t3 : Fin (k0_t3_loop v197).trips), ∀ a, (k0_off188 v197 k0_t3) a + S1x512x256.size a ≤ S3x768x6144.size a := fun v197 k0_hw9 k0_t3 => k0_hw9.2.2.2.2.1.2.2.2.2.2.2.2.2.2.2.2.2.2.2.2.2.2.1 k0_t3
theorem k0_off189_inb : ∀ (v197 : BitVec 32) (k0_hw9 : k0_chk9 v197) (k0_t3 : Fin (k0_t3_loop v197).trips), ∀ a, (k0_off189 v197 k0_t3) a + S1x256x256.size a ≤ S3x768x6144.size a := fun v197 k0_hw9 k0_t3 => k0_hw9.2.2.2.2.1.2.2.2.2.2.2.2.2.2.2.2.2.2.2.2.2.2.2.1 k0_t3
theorem k0_off190_inb : ∀ (v197 : BitVec 32) (k0_hw9 : k0_chk9 v197) (k0_t3 : Fin (k0_t3_loop v197).trips), ∀ a, (k0_off190 v197 k0_t3) a + S1x512x256.size a ≤ S3x768x6144.size a := fun v197 k0_hw9 k0_t3 => k0_hw9.2.2.2.2.1.2.2.2.2.2.2.2.2.2.2.2.2.2.2.2.2.2.2.2.1 k0_t3
theorem k0_off191_inb : ∀ (v197 : BitVec 32) (k0_hw9 : k0_chk9 v197) (k0_t3 : Fin (k0_t3_loop v197).trips), ∀ a, (k0_off191 v197 k0_t3) a + S1x256x256.size a ≤ S3x768x6144.size a := fun v197 k0_hw9 k0_t3 => k0_hw9.2.2.2.2.1.2.2.2.2.2.2.2.2.2.2.2.2.2.2.2.2.2.2.2.2.1 k0_t3
theorem k0_off192_inb : ∀ (v197 : BitVec 32) (k0_hw9 : k0_chk9 v197) (k0_t3 : Fin (k0_t3_loop v197).trips), ∀ a, (k0_off192 v197 k0_t3) a + S1x512x256.size a ≤ S3x768x6144.size a := fun v197 k0_hw9 k0_t3 => k0_hw9.2.2.2.2.1.2.2.2.2.2.2.2.2.2.2.2.2.2.2.2.2.2.2.2.2.2.1 k0_t3
theorem k0_off193_inb : ∀ (v197 : BitVec 32) (k0_hw9 : k0_chk9 v197) (k0_t3 : Fin (k0_t3_loop v197).trips), ∀ a, (k0_off193 v197 k0_t3) a + S1x256x256.size a ≤ S3x768x6144.size a := fun v197 k0_hw9 k0_t3 => k0_hw9.2.2.2.2.1.2.2.2.2.2.2.2.2.2.2.2.2.2.2.2.2.2.2.2.2.2.2.1 k0_t3
theorem k0_off194_inb : ∀ (v197 : BitVec 32) (k0_hw9 : k0_chk9 v197) (k0_t3 : Fin (k0_t3_loop v197).trips), ∀ a, (k0_off194 v197 k0_t3) a + S1x512x256.size a ≤ S3x768x6144.size a := fun v197 k0_hw9 k0_t3 => k0_hw9.2.2.2.2.1.2.2.2.2.2.2.2.2.2.2.2.2.2.2.2.2.2.2.2.2.2.2.2.1 k0_t3
theorem k0_off195_inb : ∀ (v197 : BitVec 32) (k0_hw9 : k0_chk9 v197) (k0_t3 : Fin (k0_t3_loop v197).trips), ∀ a, (k0_off195 v197 k0_t3) a + S1x256x256.size a ≤ S3x768x6144.size a := fun v197 k0_hw9 k0_t3 => k0_hw9.2.2.2.2.1.2.2.2.2.2.2.2.2.2.2.2.2.2.2.2.2.2.2.2.2.2.2.2.2.1 k0_t3
theorem k0_off196_inb : ∀ (v197 : BitVec 32) (k0_hw9 : k0_chk9 v197) (k0_t3 : Fin (k0_t3_loop v197).trips), ∀ a, (k0_off196 v197 k0_t3) a + S1x512x256.size a ≤ S3x768x6144.size a := fun v197 k0_hw9 k0_t3 => k0_hw9.2.2.2.2.1.2.2.2.2.2.2.2.2.2.2.2.2.2.2.2.2.2.2.2.2.2.2.2.2.2.1 k0_t3
theorem k0_off197_inb : ∀ (v197 : BitVec 32) (k0_hw9 : k0_chk9 v197) (k0_t3 : Fin (k0_t3_loop v197).trips), ∀ a, (k0_off197 v197 k0_t3) a + S1x256x256.size a ≤ S3x768x6144.size a := fun v197 k0_hw9 k0_t3 => k0_hw9.2.2.2.2.1.2.2.2.2.2.2.2.2.2.2.2.2.2.2.2.2.2.2.2.2.2.2.2.2.2.2.1 k0_t3
theorem k0_off198_inb : ∀ (v197 : BitVec 32) (k0_hw9 : k0_chk9 v197) (k0_t3 : Fin (k0_t3_loop v197).trips), ∀ a, (k0_off198 v197 k0_t3) a + S1x512x256.size a ≤ S3x768x6144.size a := fun v197 k0_hw9 k0_t3 => k0_hw9.2.2.2.2.1.2.2.2.2.2.2.2.2.2.2.2.2.2.2.2.2.2.2.2.2.2.2.2.2.2.2.2.1 k0_t3
theorem k0_off199_inb : ∀ (v197 : BitVec 32) (k0_hw9 : k0_chk9 v197) (k0_t3 : Fin (k0_t3_loop v197).trips), ∀ a, (k0_off199 v197 k0_t3) a + S1x256x256.size a ≤ S3x768x6144.size a := fun v197 k0_hw9 k0_t3 => k0_hw9.2.2.2.2.1.2.2.2.2.2.2.2.2.2.2.2.2.2.2.2.2.2.2.2.2.2.2.2.2.2.2.2.2.1 k0_t3
theorem k0_off200_inb : ∀ (v197 : BitVec 32) (k0_hw9 : k0_chk9 v197) (k0_t3 : Fin (k0_t3_loop v197).trips), ∀ a, (k0_off200 v197 k0_t3) a + S1x512x256.size a ≤ S3x768x6144.size a := fun v197 k0_hw9 k0_t3 => k0_hw9.2.2.2.2.1.2.2.2.2.2.2.2.2.2.2.2.2.2.2.2.2.2.2.2.2.2.2.2.2.2.2.2.2.2.1 k0_t3
theorem k0_off201_inb : ∀ (v197 : BitVec 32) (k0_hw9 : k0_chk9 v197) (k0_t3 : Fin (k0_t3_loop v197).trips), ∀ a, (k0_off201 v197 k0_t3) a + S1x256x256.size a ≤ S3x768x6144.size a := fun v197 k0_hw9 k0_t3 => k0_hw9.2.2.2.2.1.2.2.2.2.2.2.2.2.2.2.2.2.2.2.2.2.2.2.2.2.2.2.2.2.2.2.2.2.2.2.1 k0_t3
theorem k0_off202_inb : ∀ (v197 : BitVec 32) (k0_hw9 : k0_chk9 v197) (k0_t3 : Fin (k0_t3_loop v197).trips), ∀ a, (k0_off202 v197 k0_t3) a + S1x512x256.size a ≤ S3x768x6144.size a := fun v197 k0_hw9 k0_t3 => k0_hw9.2.2.2.2.1.2.2.2.2.2.2.2.2.2.2.2.2.2.2.2.2.2.2.2.2.2.2.2.2.2.2.2.2.2.2.2 k0_t3
theorem k0_off203_inb : ∀ (v197 : BitVec 32) (k0_hw9 : k0_chk9 v197) (k0_t3 : Fin (k0_t3_loop v197).trips), ∀ a, (k0_off203 v197 k0_t3) a + S1x256x256.size a ≤ S3x768x6144.size a := fun v197 k0_hw9 k0_t3 => k0_hw9.2.2.2.2.2.1 k0_t3
theorem k0_off207_inb : ∀ (v197 : BitVec 32) (k0_hw9 : k0_chk9 v197) (k0_t3 : Fin (k0_t3_loop v197).trips), ∀ a, (k0_off207 v197 k0_t3) a + S1x32x6144.size a ≤ S2x32x6144.size a := fun v197 k0_hw9 k0_t3 => k0_hw9.2.2.2.2.2.2.1 k0_t3
theorem k0_off207_packedfp8e4m3 : ∀ (v197 : BitVec 32) (k0_hw9 : k0_chk9 v197) (k0_t3 : Fin (k0_t3_loop v197).trips), (Rect.unit (s := S2x32x6144) (k0_off207 v197 k0_t3) S1x32x6144.size (k0_off207_inb v197 k0_hw9 k0_t3)).PackedRows (EltTy.packing .fp8e4m3) := fun v197 k0_hw9 k0_t3 => k0_hw9.2.2.2.2.2.2.2.1 k0_t3 (k0_off207_inb v197 k0_hw9 k0_t3)
theorem k0_off208_inb : ∀ (v197 : BitVec 32) (k0_hw9 : k0_chk9 v197) (k0_t3 : Fin (k0_t3_loop v197).trips), ∀ a, (k0_off208 v197 k0_t3) a + S1x16x128.size a ≤ S2x16x128.size a := fun v197 k0_hw9 k0_t3 => k0_hw9.2.2.2.2.2.2.2.2.1 k0_t3
theorem k0_off209_inb : ∀ (v197 : BitVec 32) (k0_hw9 : k0_chk9 v197), ∀ (k0_h17 : k0_cond17 v197 = 1#1), ∀ a, (k0_off209 v197) a + S1.size a ≤ S32.size a := fun v197 k0_hw9 k0_h17 => k0_hw9.2.2.2.2.2.2.2.2.2 k0_h17

def k0_off210 (v404 : BitVec 32) : Fin 3 → Nat :=
  let c0_i32_563 : BitVec 32 := 0#32
  let c0_i32_564 : BitVec 32 := 0#32
  ![v404.toNat, 0, 0]

def k0_chk34 (v197 : BitVec 32) (v404 : BitVec 32) : Prop :=
  (∀ (k0_h17 : k0_cond17 v197 = 1#1), ∀ a, (k0_off210 v404) a + S1x16x768.size a ≤ S32x16x768.size a) ∧
  (∀ (k0_h17 : k0_cond17 v197 = 1#1), ∀ (hinb : ∀ a, (k0_off210 v404) a + S1x16x768.size a ≤ S32x16x768.size a), (Rect.unit (s := S32x16x768) (k0_off210 v404) S1x16x768.size hinb).WholeWords (EltTy.packing .bf16))
theorem k0_off210_inb : ∀ (v197 : BitVec 32) (v404 : BitVec 32) (k0_hw34 : k0_chk34 v197 v404), ∀ (k0_h17 : k0_cond17 v197 = 1#1), ∀ a, (k0_off210 v404) a + S1x16x768.size a ≤ S32x16x768.size a := fun v197 v404 k0_hw34 k0_h17 => k0_hw34.1 k0_h17
theorem k0_off210_wordsbf16 : ∀ (v197 : BitVec 32) (v404 : BitVec 32) (k0_hw34 : k0_chk34 v197 v404), ∀ (k0_h17 : k0_cond17 v197 = 1#1), (Rect.unit (s := S32x16x768) (k0_off210 v404) S1x16x768.size (k0_off210_inb v197 v404 k0_hw34 k0_h17)).WholeWords (EltTy.packing .bf16) := fun v197 v404 k0_hw34 k0_h17 => k0_hw34.2 k0_h17 (k0_off210_inb v197 v404 k0_hw34 k0_h17)

@[reducible] def k0_t4_loop : Scf.Loop 32 :=
  let c0_i32_558 : BitVec 32 := 0#32
  let c32_i32_559 : BitVec 32 := 32#32
  let v401 : BitVec 32 := Scalar.addi c0_i32_558 c32_i32_559
  let c1_i32_560 : BitVec 32 := 1#32
  ⟨c0_i32_558, v401, c1_i32_560⟩
def k0_off211 (k0_t4 : Fin k0_t4_loop.trips) : Fin 3 → Nat :=
  let c0_i32_558 : BitVec 32 := 0#32
  let c1_i32_560 : BitVec 32 := 1#32
  let arg19 : BitVec 32 := Scf.iv c0_i32_558 c1_i32_560 k0_t4
  let c0_i32_562 : BitVec 32 := 0#32
  let c0_i32_563 : BitVec 32 := 0#32
  ![arg19.toNat, 0, 0]
-- ==== ReferenceIdeal.lean ====
abbrev S32x16x6144 : Shape := ⟨3, ![32, 16, 6144]⟩
abbrev S32 : Shape := ⟨1, ![32]⟩
abbrev S32x768x6144 : Shape := ⟨3, ![32, 768, 6144]⟩
abbrev S32x768 : Shape := ⟨2, ![32, 768]⟩
abbrev S32x16x768 : Shape := ⟨3, ![32, 16, 768]⟩
abbrev S32x16 : Shape := ⟨2, ![32, 16]⟩
abbrev S32x16x1 : Shape := ⟨3, ![32, 16, 1]⟩
abbrev S32x1x768 : Shape := ⟨3, ![32, 1, 768]⟩
abbrev S32x1x1 : Shape := ⟨3, ![32, 1, 1]⟩

abbrev nBuf : Space → Nat
  | .hbm => 5
  | .vmem => 5
  | .smem => 0
  | _ => 0

abbrev bufTy : (tb : Table) → Fin (tcTables nBuf tb) → BufTy
  | .hbm, ⟨0, _⟩ => ⟨S32x16x6144, .bf16⟩
  | .hbm, ⟨1, _⟩ => ⟨S32, .i32⟩
  | .hbm, ⟨2, _⟩ => ⟨S32x768x6144, .fp8e4m3⟩
  | .hbm, ⟨3, _⟩ => ⟨S32x768, .f32⟩
  | .hbm, ⟨4, _⟩ => ⟨S32x16x768, .bf16⟩
  | .local _ .vmem, ⟨0, _⟩ => ⟨S32x16x6144, .bf16⟩
  | .local _ .vmem, ⟨1, _⟩ => ⟨S32, .i32⟩
  | .local _ .vmem, ⟨2, _⟩ => ⟨S32x768x6144, .fp8e4m3⟩
  | .local _ .vmem, ⟨3, _⟩ => ⟨S32x768, .f32⟩
  | .local _ .vmem, ⟨4, _⟩ => ⟨S32x16x768, .bf16⟩
  | _, _ => ⟨S32x16x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S32x16x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x768x6144 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Base.lean ====
/-
  The arrays of the kernel as the body sees them, the windows its transfers move, and what lies in a window once a
  transfer has landed: every window is stated by the coordinates of its elements, every landed content as a function
  of the whole array's index.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.ValueKit
public import Idealize.ShloMosaic.Lib.MixedBatch
public import Idealize.ShloMosaic.Lib.Transfers
public import Idealize.ShloMosaic.Lib.ValueIdxCoords
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-! ## Windows -/

/-- Rows `256 t … 256 t + 255` of plane `s` of the weight buffer. -/
def wbWin (s t : ℕ) : Finset S3x768x6144.Idx := Finset.univ.filter fun i => (i 0).val = s ∧ (i 1).val / 256 = t
/-- Half `h` of plane `e` of the activations. -/
def xWin (e h : ℕ) : Finset S32x2x8x6144.Idx := Finset.univ.filter fun i => (i 0).val = e ∧ (i 1).val = h
/-- Plane `e` of the results. -/
def oWin (e : ℕ) : Finset S32x16x768.Idx := Finset.univ.filter fun i => (i 0).val = e
/-- Rows `256 t … 256 t + 255` of plane `e` of the weights. -/
def wWin (e t : ℕ) : Finset S32x768x6144.Idx := Finset.univ.filter fun i => (i 0).val = e ∧ (i 1).val / 256 = t

theorem wb_set {off inb} {s t : ℕ} (ho : off = ![s, 256 * t, 0]) :
    (Rect.unit (s := S3x768x6144) off S1x256x6144.size inb).set = wbWin s t := by
  subst ho; ext i
  rw [Rect.mem_set_unit]
  simp only [wbWin, Finset.mem_filter, Finset.mem_univ, true_and]
  have h2 := (i 2).isLt
  constructor
  · intro h
    have a := h 0; have b := h 1
    simp [S3x768x6144, S1x256x6144] at a b h2
    omega
  · rintro ⟨a, b⟩ d
    fin_cases d <;> simp [S3x768x6144, S1x256x6144] at a b h2 ⊢ <;> omega

theorem w_set {off inb} {e t : ℕ} (ho : off = ![e, 256 * t, 0]) :
    (Rect.unit (s := S32x768x6144) off S1x256x6144.size inb).set = wWin e t := by
  subst ho; ext i
  rw [Rect.mem_set_unit]
  simp only [wWin, Finset.mem_filter, Finset.mem_univ, true_and]
  have h2 := (i 2).isLt
  constructor
  · intro h
    have a := h 0; have b := h 1
    simp [S32x768x6144, S1x256x6144] at a b h2
    omega
  · rintro ⟨a, b⟩ d
    fin_cases d <;> simp [S32x768x6144, S1x256x6144] at a b h2 ⊢ <;> omega

theorem x_set {off inb} {e h : ℕ} (ho : off = ![e, h, 0, 0]) :
    (Rect.unit (s := S32x2x8x6144) off S1x1x8x6144.size inb).set = xWin e h := by
  subst ho; ext i
  rw [Rect.mem_set_unit]
  simp only [xWin, Finset.mem_filter, Finset.mem_univ, true_and]
  have h2 := (i 2).isLt
  have h3 := (i 3).isLt
  constructor
  · intro h
    have a := h 0; have b := h 1
    simp [S32x2x8x6144, S1x1x8x6144] at a b h2
    omega
  · rintro ⟨a, b⟩ d
    fin_cases d <;> simp [S32x2x8x6144, S1x1x8x6144] at a b h2 h3 ⊢ <;> omega

theorem o_set {off inb} {e : ℕ} (ho : off = ![e, 0, 0]) :
    (Rect.unit (s := S32x16x768) off S1x16x768.size inb).set = oWin e := by
  subst ho; ext i
  rw [Rect.mem_set_unit]
  simp only [oWin, Finset.mem_filter, Finset.mem_univ, true_and]
  have h2 := (i 2).isLt
  have h1 := (i 1).isLt
  constructor
  · intro h
    have a := h 0
    simp [S32x16x768, S1x16x768] at a h2
    omega
  · rintro a d
    fin_cases d <;> simp [S32x16x768, S1x16x768] at a h1 h2 ⊢ <;> omega

/-! ## The views the transfers name -/

abbrev wSrc (off : Fin 3 → ℕ) (inb : ∀ a, off a + S1x256x6144.size a ≤ S32x768x6144.size a) : Memref sig .tc .hbm S256x6144 .fp8e4m3 :=
  ((Memref.whole main_arg2 : Memref sig .tc .hbm S32x768x6144 .fp8e4m3).slice (Rect.unit (s := S32x768x6144) off S1x256x6144.size inb) (fun _ => rfl)).squeeze S256x6144 squeezes_S1x256x6144_S256x6144
abbrev wDst (off : Fin 3 → ℕ) (inb : ∀ a, off a + S1x256x6144.size a ≤ S3x768x6144.size a) : Memref sig .tc .vmem S256x6144 .fp8e4m3 :=
  ((Memref.whole cc0_scratch2 : Memref sig .tc .vmem S3x768x6144 .fp8e4m3).slice (Rect.unit (s := S3x768x6144) off S1x256x6144.size inb) (fun _ => rfl)).squeeze S256x6144 squeezes_S1x256x6144_S256x6144
abbrev xSrc (off : Fin 4 → ℕ) (inb : ∀ a, off a + S1x1x8x6144.size a ≤ S32x2x8x6144.size a) : Memref sig .tc .hbm S8x6144 .bf16 :=
  ((Memref.whole main_call0_v0 : Memref sig .tc .hbm S32x2x8x6144 .bf16).slice (Rect.unit (s := S32x2x8x6144) off S1x1x8x6144.size inb) (fun _ => rfl)).squeeze S8x6144 squeezes_S1x1x8x6144_S8x6144
abbrev xDst (off : Fin 4 → ℕ) (inb : ∀ a, off a + S1x1x8x6144.size a ≤ S32x2x8x6144.size a) : Memref sig .tc .vmem S8x6144 .bf16 :=
  ((Memref.whole cc0_scratch3 : Memref sig .tc .vmem S32x2x8x6144 .bf16).slice (Rect.unit (s := S32x2x8x6144) off S1x1x8x6144.size inb) (fun _ => rfl)).squeeze S8x6144 squeezes_S1x1x8x6144_S8x6144
abbrev oSrc (off : Fin 3 → ℕ) (inb : ∀ a, off a + S1x16x768.size a ≤ S32x16x768.size a) : Memref sig .tc .vmem S16x768 .bf16 :=
  ((Memref.whole cc0_scratch7 : Memref sig .tc .vmem S32x16x768 .bf16).slice (Rect.unit (s := S32x16x768) off S1x16x768.size inb) (fun _ => rfl)).squeeze S16x768 squeezes_S1x16x768_S16x768
abbrev oDst (off : Fin 3 → ℕ) (inb : ∀ a, off a + S1x16x768.size a ≤ S32x16x768.size a) : Memref sig .tc .hbm S16x768 .bf16 :=
  ((Memref.whole main_v0 : Memref sig .tc .hbm S32x16x768 .bf16).slice (Rect.unit (s := S32x16x768) off S1x16x768.size inb) (fun _ => rfl)).squeeze S16x768 squeezes_S1x16x768_S16x768
abbrev zSrc : Memref sig .tc .vmem S16x768 .bf16 := Memref.whole cc0_scratch8

theorem wSrc_set {off inb} {e t : ℕ} (ho : off = ![e, 256 * t, 0]) : (wSrc off inb).view.set = wWin e t := by
  rw [← w_set (inb := inb) ho]
  exact (View.set_reshape _ _).trans (View.set_slice_whole _ _)
theorem wDst_set {off inb} {s t : ℕ} (ho : off = ![s, 256 * t, 0]) : (wDst off inb).view.set = wbWin s t := by
  rw [← wb_set (inb := inb) ho]
  exact (View.set_reshape _ _).trans (View.set_slice_whole _ _)
theorem xSrc_set {off inb} {e h : ℕ} (ho : off = ![e, h, 0, 0]) : (xSrc off inb).view.set = xWin e h := by
  rw [← x_set (inb := inb) ho]
  exact (View.set_reshape _ _).trans (View.set_slice_whole _ _)
theorem xDst_set {off inb} {e h : ℕ} (ho : off = ![e, h, 0, 0]) : (xDst off inb).view.set = xWin e h := by
  rw [← x_set (inb := inb) ho]
  exact (View.set_reshape _ _).trans (View.set_slice_whole _ _)
theorem oSrc_set {off inb} {e : ℕ} (ho : off = ![e, 0, 0]) : (oSrc off inb).view.set = oWin e := by
  rw [← o_set (inb := inb) ho]
  exact (View.set_reshape _ _).trans (View.set_slice_whole _ _)
theorem oDst_set {off inb} {e : ℕ} (ho : off = ![e, 0, 0]) : (oDst off inb).view.set = oWin e := by
  rw [← o_set (inb := inb) ho]
  exact (View.set_reshape _ _).trans (View.set_slice_whole _ _)

/-! ## What lies in a window once a transfer has landed -/

/-- Expert `e`, read as an index (the experts are the numbers below 32). -/
def fe (e : ℕ) : Fin 32 := ⟨e % 32, Nat.mod_lt _ (by decide)⟩

theorem fe_val {e : ℕ} (h : e < 32) : (fe e).val = e := Nat.mod_eq_of_lt h

/-- Plane `e` of the weights, at the coordinates of the weight buffer. -/
def wOf (W : S32x768x6144.Idx → Elt F .fp8e4m3) (e : ℕ) : S3x768x6144.Idx → Elt F .fp8e4m3 :=
  fun i => W (ValueIdx.ix3 (fe e) (i 1) (i 2))

/-- The results' array at the coordinates of a plane. -/
def oOf (Z : S16x768.Idx → Elt F .bf16) : S32x16x768.Idx → Elt F .bf16 := fun i => Z (ValueIdx.ix2 (i 1) (i 2))

theorem land_w {offs inbs offd inbd} {e s t : ℕ} (he : e < 32) (hs : offs = ![e, 256 * t, 0]) (hd : offd = ![s, 256 * t, 0])
    (W : S32x768x6144.Idx → Elt F .fp8e4m3) (fd : S3x768x6144.Idx → Elt F .fp8e4m3) :
    ∀ i ∈ wbWin s t, (wDst offd inbd).view.write (Elt F) fd ((wSrc offs inbs).view.read (Elt F) W) Finset.univ i = wOf W e i := by
  intro i hi
  rw [← wb_set (inb := inbd) hd] at hi
  obtain ⟨y, rfl⟩ := LoadRect.exists_idx_of_mem _ hi
  obtain ⟨x, rfl⟩ := (Shape.reshapeEquiv (squeezes_S1x256x6144_S256x6144).numel_eq).surjective y
  refine (View.write_emb_of_mem (v := (wDst offd inbd).view) (Val := Elt F) fd ((wSrc offs inbs).view.read (Elt F) W) (M := Finset.univ)
    (x := x) (Finset.mem_univ _)).trans ?_
  refine congrArg W (funext fun a => Fin.ext ?_)
  generalize hz : (Shape.reshapeEquiv (squeezes_S1x256x6144_S256x6144).numel_eq) x = z
  have h0 := (z 0).isLt
  subst hs hd
  fin_cases a <;> simp [wOf, fe, S1x256x6144, hz] at h0 ⊢ <;> omega

theorem land_x {offs inbs offd inbd} {e h : ℕ} (hs : offs = ![e, h, 0, 0]) (hd : offd = ![e, h, 0, 0])
    (X fd : S32x2x8x6144.Idx → Elt F .bf16) :
    ∀ i ∈ xWin e h, (xDst offd inbd).view.write (Elt F) fd ((xSrc offs inbs).view.read (Elt F) X) Finset.univ i = X i := by
  intro i hi
  rw [← x_set (inb := inbd) hd] at hi
  obtain ⟨y, rfl⟩ := LoadRect.exists_idx_of_mem _ hi
  obtain ⟨x, rfl⟩ := (Shape.reshapeEquiv (squeezes_S1x1x8x6144_S8x6144).numel_eq).surjective y
  refine (View.write_emb_of_mem (v := (xDst offd inbd).view) (Val := Elt F) fd ((xSrc offs inbs).view.read (Elt F) X) (M := Finset.univ)
    (x := x) (Finset.mem_univ _)).trans ?_
  subst hs hd
  rfl

theorem land_o {offs inbs offd inbd} {e : ℕ} (hs : offs = ![e, 0, 0]) (hd : offd = ![e, 0, 0])
    (X fd : S32x16x768.Idx → Elt F .bf16) :
    ∀ i ∈ oWin e, (oDst offd inbd).view.write (Elt F) fd ((oSrc offs inbs).view.read (Elt F) X) Finset.univ i = X i := by
  intro i hi
  rw [← o_set (inb := inbd) hd] at hi
  obtain ⟨y, rfl⟩ := LoadRect.exists_idx_of_mem _ hi
  obtain ⟨x, rfl⟩ := (Shape.reshapeEquiv (squeezes_S1x16x768_S16x768).numel_eq).surjective y
  refine (View.write_emb_of_mem (v := (oDst offd inbd).view) (Val := Elt F) fd ((oSrc offs inbs).view.read (Elt F) X) (M := Finset.univ)
    (x := x) (Finset.mem_univ _)).trans ?_
  subst hs hd
  rfl

theorem land_z {offd inbd} {e : ℕ} (hd : offd = ![e, 0, 0])
    (z : Elt F .bf16) (fd : S32x16x768.Idx → Elt F .bf16) :
    ∀ i ∈ oWin e, (oDst offd inbd).view.write (Elt F) fd (zSrc.view.read (Elt F) (fun _ => z)) Finset.univ i = z := by
  intro i hi
  rw [← o_set (inb := inbd) hd] at hi
  obtain ⟨y, rfl⟩ := LoadRect.exists_idx_of_mem _ hi
  obtain ⟨x, rfl⟩ := (Shape.reshapeEquiv (squeezes_S1x16x768_S16x768).numel_eq).surjective y
  exact (View.write_emb_of_mem (v := (oDst offd inbd).view) (Val := Elt F) fd (zSrc.view.read (Elt F) (fun _ => z)) (M := Finset.univ)
    (x := x) (Finset.mem_univ _)).trans rfl

/-! ## The counters -/

abbrev wSem (off : Fin 2 → ℕ) (inb : ∀ a, off a + S1x1.size a ≤ S3x3.size a) : DmaSem sig :=
  ((cc0_scratch10.slice (Rect.unit (s := S3x3) off S1x1.size inb)).squeeze S_ squeezes_S1x1_S_).sem
abbrev xSem (off : Fin 1 → ℕ) (inb : ∀ a, off a + S1.size a ≤ S32.size a) : DmaSem sig :=
  ((cc0_scratch11.slice (Rect.unit (s := S32) off S1.size inb)).squeeze S_ squeezes_S1_S_).sem

/-- The DMA semaphore of number `n`. -/
def dsem (n : ℕ) : DmaSem sig := if h : n < 44 then ⟨n, h⟩ else ⟨0, by decide⟩

theorem wSem_eq {off inb} {s t : ℕ} (ho : off = ![s, t]) : wSem off inb = dsem (1 + 3 * s + t) := by
  subst ho
  have hs : s < 3 := by have := inb 0; simp [S1x1, S3x3] at this; omega
  have ht : t < 3 := by have := inb 1; simp [S1x1, S3x3] at this; omega
  refine Fin.ext ?_
  show 1 + (S3x3.rowMajor ((Rect.unit (s := S3x3) ![s, t] S1x1.size inb).emb _)).val = _
  generalize Shape.reshapeEquiv squeezes_S1x1_S_.numel_eq _ = z
  have hj : (Rect.unit (s := S3x3) ![s, t] S1x1.size inb).emb z = ValueIdx.ix2 ⟨s, hs⟩ ⟨t, ht⟩ := by
    have h0 := (z 0).isLt; have h1 := (z 1).isLt
    funext a; refine Fin.ext ?_
    fin_cases a <;> simp [S1x1] at h0 h1 ⊢ <;> omega
  rw [hj]
  interval_cases s <;> interval_cases t <;> rfl

theorem xSem_eq {off inb} {e : ℕ} (ho : off = ![e]) : xSem off inb = dsem (10 + e) := by
  subst ho
  have he : e < 32 := by have := inb 0; simp [S1, S32] at this; omega
  refine Fin.ext ?_
  show 10 + (S32.rowMajor ((Rect.unit (s := S32) ![e] S1.size inb).emb _)).val = _
  generalize Shape.reshapeEquiv squeezes_S1_S_.numel_eq _ = z
  have hj : (Rect.unit (s := S32) ![e] S1.size inb).emb z = ValueIdx.ix1 ⟨e, he⟩ := by
    have h0 := (z 0).isLt
    funext a; refine Fin.ext ?_
    fin_cases a; simp [S1] at h0 ⊢
  rw [hj]
  interval_cases e <;> rfl

theorem oSem_eq : (cc0_scratch13 : DmaSems sig S_).sem = dsem 43 := rfl

/-- What one transfer of each kind credits its counter by. -/
def NW : ℕ := (wDst ![0, 0, 0] (by decide)).view.dmaCredit
def NX : ℕ := (xDst ![0, 0, 0, 0] (by decide)).view.dmaCredit
def NO : ℕ := (oDst ![0, 0, 0] (by decide)).view.dmaCredit

theorem wDst_N {off inb} (sm : DmaSem sig) : (wDst off inb).view.amount (.dma sm) = NW := rfl
theorem xDst_N {off inb} (sm : DmaSem sig) : (xDst off inb).view.amount (.dma sm) = NX := rfl
theorem oDst_N {off inb} (sm : DmaSem sig) : (oDst off inb).view.amount (.dma sm) = NO := rfl
theorem wDst_credit {off inb} : (wDst off inb).view.dmaCredit = NW := rfl
theorem xDst_credit {off inb} : (xDst off inb).view.dmaCredit = NX := rfl
theorem oDst_credit {off inb} : (oDst off inb).view.dmaCredit = NO := rfl
theorem NW_pos : 0 < NW := View.dmaCredit_pos _ (by decide)
theorem NX_pos : 0 < NX := View.dmaCredit_pos _ (by decide)
theorem NO_pos : 0 < NO := View.dmaCredit_pos _ (by decide)

end Cert.Kernel.Hand

end
-- ==== Proof.Listing.lean ====
/-
  Selecting from the numbers below 32: how many below `k` are selected, which is the `j`-th selected one, and that the
  two are inverse to each other. Both the order in which the experts with rows are visited and the order in which the
  results' transfers are issued are stated with these.
-/
module

public import Mathlib.Data.List.Nodup
public import Mathlib.Data.List.Range
public import Mathlib.Data.List.GetD
public import Mathlib.Tactic.IntervalCases

@[expose] public section

namespace Cert.Listing

/-- The selected numbers below `k`, ascending. -/
def sel (p : ℕ → Bool) (k : ℕ) : List ℕ := (List.range k).filter p
/-- How many numbers below `k` are selected. -/
def cnt (p : ℕ → Bool) (k : ℕ) : ℕ := (sel p k).length
/-- The `j`-th selected number below 32 (0 past the last). -/
def nthOf (p : ℕ → Bool) (j : ℕ) : ℕ := (sel p 32).getD j 0

variable {p : ℕ → Bool}

theorem sel_succ (p : ℕ → Bool) (k : ℕ) : sel p (k + 1) = sel p k ++ (if p k then [k] else []) := by
  unfold sel
  rw [List.range_succ, List.filter_append]
  by_cases h : p k <;> simp [h]

@[simp] theorem cnt_zero : cnt p 0 = 0 := rfl

theorem cnt_succ (p : ℕ → Bool) (k : ℕ) : cnt p (k + 1) = cnt p k + (if p k then 1 else 0) := by
  unfold cnt
  rw [sel_succ, List.length_append]
  by_cases h : p k <;> simp [h]

theorem cnt_succ_of {k : ℕ} (h : p k = true) : cnt p (k + 1) = cnt p k + 1 := by rw [cnt_succ, if_pos h]
theorem cnt_succ_not {k : ℕ} (h : ¬ p k = true) : cnt p (k + 1) = cnt p k := by rw [cnt_succ, if_neg h]; rfl

theorem cnt_mono {a b : ℕ} (h : a ≤ b) : cnt p a ≤ cnt p b := by
  induction b, h using Nat.le_induction with
  | base => exact le_rfl
  | succ n _ ih => rw [cnt_succ]; omega

theorem cnt_le (p : ℕ → Bool) (k : ℕ) : cnt p k ≤ k := by
  induction k with
  | zero => exact le_rfl
  | succ n ih => rw [cnt_succ]; split <;> omega

theorem cnt_lt {e : ℕ} (he : e < 32) (h : p e = true) : cnt p e < cnt p 32 := by
  have := cnt_mono (p := p) (show e + 1 ≤ 32 from he)
  rw [cnt_succ_of h] at this
  omega

theorem sel_prefix {a b : ℕ} (h : a ≤ b) : sel p a <+: sel p b := by
  induction b, h using Nat.le_induction with
  | base => exact List.prefix_rfl
  | succ n _ ih => rw [sel_succ]; exact ih.trans (List.prefix_append _ _)

theorem nthOf_cnt {e : ℕ} (he : e < 32) (h : p e = true) : nthOf p (cnt p e) = e := by
  obtain ⟨r, hr⟩ := sel_prefix (p := p) (show e + 1 ≤ 32 from he)
  unfold nthOf
  rw [← hr, sel_succ, if_pos h]
  unfold cnt
  simp

theorem nthOf_mem {j : ℕ} (hj : j < cnt p 32) : nthOf p j ∈ sel p 32 := by
  unfold nthOf
  rw [List.getD_eq_getElem _ _ hj]
  exact List.getElem_mem _

theorem nthOf_lt {j : ℕ} (hj : j < cnt p 32) : nthOf p j < 32 := by
  have := nthOf_mem hj
  unfold sel at this
  exact List.mem_range.mp (List.mem_filter.mp this).1

theorem nthOf_sel {j : ℕ} (hj : j < cnt p 32) : p (nthOf p j) = true := by
  have := nthOf_mem hj
  unfold sel at this
  exact (List.mem_filter.mp this).2

theorem nthOf_inj {i j : ℕ} (hi : i < cnt p 32) (hj : j < cnt p 32) (h : nthOf p i = nthOf p j) : i = j := by
  unfold nthOf at h
  rw [List.getD_eq_getElem _ _ hi, List.getD_eq_getElem _ _ hj] at h
  exact (List.Nodup.getElem_inj_iff (List.Nodup.filter _ List.nodup_range)).mp h

theorem cnt_nthOf {j : ℕ} (hj : j < cnt p 32) : cnt p (nthOf p j) = j :=
  nthOf_inj (cnt_lt (nthOf_lt hj) (nthOf_sel hj)) hj (nthOf_cnt (nthOf_lt hj) (nthOf_sel hj))

/-- Every number below `k` is selected or not. -/
theorem cnt_not (p : ℕ → Bool) (k : ℕ) : cnt (fun e => !p e) k = k - cnt p k := by
  induction k with
  | zero => rfl
  | succ n ih =>
    rw [cnt_succ, cnt_succ, ih]
    have := cnt_le p n
    by_cases h : p n <;> simp [h] <;> omega

/-- First the numbers that are not selected, then the selected ones. -/
def both (p : ℕ → Bool) (t : ℕ) : ℕ :=
  if t < 32 - cnt p 32 then nthOf (fun e => !p e) t else nthOf p (t - (32 - cnt p 32))

theorem both_lt {t : ℕ} (ht : t < 32) : both p t < 32 := by
  unfold both
  split
  · exact nthOf_lt (by rw [cnt_not]; assumption)
  · exact nthOf_lt (by have := cnt_le p 32; omega)

theorem both_inj {t t' : ℕ} (ht : t < 32) (ht' : t' < 32) (h : both p t = both p t') : t = t' := by
  have hle := cnt_le p 32
  unfold both at h
  split at h <;> split at h
  · exact nthOf_inj (by rw [cnt_not]; assumption) (by rw [cnt_not]; assumption) h
  · have a := nthOf_sel (p := fun e => !p e) (j := t) (by rw [cnt_not]; assumption)
    have b := nthOf_sel (p := p) (j := t' - (32 - cnt p 32)) (by omega)
    rw [h] at a; simp [b] at a
  · have a := nthOf_sel (p := fun e => !p e) (j := t') (by rw [cnt_not]; assumption)
    have b := nthOf_sel (p := p) (j := t - (32 - cnt p 32)) (by omega)
    rw [← h] at a; simp [b] at a
  · have := nthOf_inj (p := p) (by omega) (by omega) h
    omega

end Cert.Listing
-- ==== Proof.State.lean ====
/-
  What the body holds between two of its statements: the copies in flight, the windows it owns, what they contain; and
  one rule for each kind of transfer and wait, stated over those.
-/
module

public import proofs.«01_k».proof.Proof.Base
public import proofs.«01_k».proof.Proof.Listing

@[expose] public section

set_option maxRecDepth 16384

noncomputable section

namespace Cert.Kernel.Hand

open Cert.Kernel Cert.Kernel.Gen Cert.Listing
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ
local notation "EC" => countersEmb (U := Pipeline.UD sig nD τ)

/-! ## The problem's data -/

/-- The arrays a launch is run on: the row counts, the activations by half-planes, the weights. -/
structure Arrays (F : FTy → Type) where
  GS : S32.Idx → BitVec 32
  X : S32x2x8x6144.Idx → Elt F .bf16
  W : S32x768x6144.Idx → Elt F .fp8e4m3
  WS : S32x768.Idx → Elt F .f32

variable (A : Arrays F) (c : Dev nD)

/-- Expert `e`'s row count, as a word. -/
def gw (e : ℕ) : BitVec 32 := A.GS (ValueIdx.ix1 (fe e))
/-- Expert `e` has rows. -/
def live (e : ℕ) : Bool := decide (0 < (gw A e).toInt)
/-- Expert `e` has rows in its second half-plane. -/
def long (e : ℕ) : Bool := decide (8 < (gw A e).toInt)

theorem live_of_long {e : ℕ} (h : long A e = true) : live A e = true := by
  unfold long at h; unfold live
  have := of_decide_eq_true h
  exact decide_eq_true (by omega)

/-- How many experts have rows. -/
def nl : ℕ := cnt (live A) 32
/-- The `j`-th expert with rows. -/
def ord (j : ℕ) : ℕ := nthOf (live A) j
/-- Expert `e`'s place among those with rows. -/
def pos (e : ℕ) : ℕ := cnt (live A) e

theorem nl_le : nl A ≤ 32 := cnt_le _ _
theorem ord_lt {j : ℕ} (h : j < nl A) : ord A j < 32 := nthOf_lt h
theorem ord_live {j : ℕ} (h : j < nl A) : live A (ord A j) = true := nthOf_sel h
theorem pos_ord {j : ℕ} (h : j < nl A) : pos A (ord A j) = j := cnt_nthOf h

/-! ## Short names -/

abbrev th : Thread nD τ := (c : Thread nD τ)
/-- A copy in flight on DMA semaphore `n`. -/
def FL (n N : ℕ) (D : sProp 𝕄) : sProp 𝕄 := Flight EC (th c) (.dma (dsem n)) () N D
/-- DMA semaphore `n` at zero. -/
def sv (n : ℕ) : sProp 𝕄 := semVal (th c, .dma (dsem n)) 0
/-- The tally of the waits made. -/
def Ow : sProp 𝕄 := iprop(∃ Wt, owes (th c) 0 Wt)

/-! ## The weights' three slots -/

abbrev wTok (s t : ℕ) : PosShare TreeShare := shareTokN fullShare (3 * s + t)

/-- Tile `t` of slot `s`, at rest. -/
def WfreeT (s t : ℕ) : sProp 𝕄 :=
  iprop(((th c).loc main_arg2 ↦[Finset.univ]{wTok s t} A.W) ∗ (∃ f, (th c).loc cc0_scratch2 ↦[wbWin s t]{fullShare} f) ∗ sv c (1 + 3 * s + t))
/-- Tile `t` of slot `s`, being filled with expert `e`'s weights. -/
def WflyT (e s t : ℕ) : sProp 𝕄 :=
  iprop(FL c (1 + 3 * s + t) NW iprop(((th c).loc cc0_scratch2 ↦[wbWin s t]{fullShare} wOf A.W e) ∗ ((th c).loc main_arg2 ↦[wWin e t]{wTok s t} A.W))
    ∗ ((th c).loc main_arg2 ↦[Finset.univ \ wWin e t]{wTok s t} A.W))
/-- Tile `t` of slot `s`, holding expert `e`'s weights. -/
def WheldT (e s t : ℕ) : sProp 𝕄 :=
  iprop(((th c).loc main_arg2 ↦[Finset.univ]{wTok s t} A.W) ∗ ((th c).loc cc0_scratch2 ↦[wbWin s t]{fullShare} wOf A.W e) ∗ sv c (1 + 3 * s + t))

theorem Wheld_free (e s t : ℕ) : WheldT A c e s t ⊢ WfreeT A c s t := by
  unfold WheldT WfreeT
  iintro ⟨H1, H2, H3⟩
  isplitl [H1]; · iexact H1
  isplitl [H2]; · iexists _; iexact H2
  iexact H3

section Rules

variable {α : Type} {Λ : Labels} {defs : Defs nD τ sig (Elt F) Λ} {𝒱 : Variants} {bd : Option 𝒱.V}

theorem wp_wIssue {offs inbs offd inbd offq inbq h1 h2 h3} {k : PUnit → Prog (TpuEff nD τ sig (Elt F) Λ (th c).2) α} {Q : α → sProp 𝕄}
    (e s t : ℕ) (he : e < 32) (hs : offs = ![e, 256 * t, 0]) (hd : offd = ![s, 256 * t, 0]) (hq : offq = ![s, t]) :
    iprop(WfreeT A c s t ∗ (WflyT A c e s t -∗ wp frame (wpE defs 𝒱 (th c) bd) Set.univ (k ⟨⟩) Q))
      ⊢ wp frame (wpE defs 𝒱 (th c) bd) Set.univ
          (.op (.enqueueDmaAs (wSrc offs inbs) (.here (wDst offd inbd)) .same (.dma (wSem offq inbq)) h1 h2 h3) k) Q := by
  unfold WfreeT WflyT FL sv
  rw [← wSem_eq (inb := inbq) hq]
  iintro ⟨⟨Hw, ⟨%f, Hb⟩, Hs⟩, Hk⟩
  ihave Hw := ((pointsTo_split_subset (Finset.subset_univ (wWin e t))).1) $$ Hw
  icases Hw with ⟨Hw, Hrest⟩
  have key := wp_dmaLocal EC 𝒱 (th c) bd (src := wSrc offs inbs) (via := .same) (dst := wDst offd inbd) (sm := .dma (wSem offq inbq)) (hsrc := h1) (hdst := h2) (hsem := h3) (k := k) (Q := Q) (defs := defs) () NW (wDst_N _) NW_pos (Sd := wbWin s t) (wDst_set hd).subset (q := wTok s t) (fs := A.W) (fd := f)
  iapply key $$ [Hw Hb Hs]
  · isplitl [Hw]; · rw [wSrc_set hs]; iexact Hw
    isplitl [Hb]; · iexact Hb
    iexact Hs
  iintro HF
  iapply Hk
  isplitl [HF]
  · rw [wSrc_set hs, pointsTo_congr (land_w (inbs := inbs) (inbd := inbd) he hs hd A.W f)]
    iexact HF
  · iexact Hrest

theorem wp_wWait {offs inbs offd inbd offq inbq h1 h2} {k : PUnit → Prog (TpuEff nD τ sig (Elt F) Λ (th c).2) α} {Q : α → sProp 𝕄}
    (e s t : ℕ) (hq : offq = ![s, t]) :
    iprop(WflyT A c e s t ∗ Ow c ∗ ((WheldT A c e s t ∗ Ow c) -∗ wp frame (wpE defs 𝒱 (th c) bd) Set.univ (k ⟨⟩) Q))
      ⊢ wp frame (wpE defs 𝒱 (th c) bd) Set.univ
          (.op (.waitDma2 (wSem offq inbq) (wSrc offs inbs) (wDst offd inbd) h1 h2) k) Q := by
  unfold WflyT WheldT FL sv Ow
  rw [← wSem_eq (inb := inbq) hq]
  iintro ⟨⟨Hf, Hrest⟩, ⟨%Wt, HO⟩, Hk⟩
  iapply (wp_waitLocal EC 𝒱 (th c) bd () (wDst_credit (off := offd) (inb := inbd))) $$ [Hf HO]
  · isplitl [Hf]; · iexact Hf
    iexact HO
  iintro ⟨⟨Hb, Hw⟩, Hs, HO⟩
  iapply Hk
  isplitl [Hb Hw Hs Hrest]
  · isplitl [Hw Hrest]
    · iapply ((pointsTo_split_subset (Finset.subset_univ (wWin e t))).2)
      isplitl [Hw]; · iexact Hw
      iexact Hrest
    isplitl [Hb]; · iexact Hb
    iexact Hs
  · iexists _; iexact HO

end Rules

/-! ## The activations -/

/-- What one half-plane's copy delivers. -/
def xD (e t : ℕ) : sProp 𝕄 :=
  iprop(((th c).loc cc0_scratch3 ↦[xWin e t]{fullShare} A.X) ∗ ((th c).loc main_call0_v0 ↦[xWin e t]{fullShare} A.X))

instance (e t : ℕ) : Storable (upEmb : UEmb _ 𝕄) (xD A c e t) := by unfold xD; infer_instance

/-- How many half-planes of expert `e` are copied. -/
def nx (e : ℕ) : ℕ := if long A e then 2 else 1

theorem nx_long {e : ℕ} (h : long A e = true) : nx A e = 2 := if_pos h
theorem nx_short {e : ℕ} (h : ¬ long A e = true) : nx A e = 1 := if_neg h
theorem nx_pos (e : ℕ) : 0 < nx A e := by unfold nx; split <;> decide

/-- Expert `e`'s half-planes: `j` copies issued, `u` units of the counter consumed. -/
def XB (e j u : ℕ) : sProp 𝕄 :=
  Batch EC (th c) (.dma (dsem (10 + e))) () NX (fun t : Fin (nx A e) => xD A c e t.val) j u
/-- A half-plane not being copied. -/
def X1 (e h : ℕ) : sProp 𝕄 :=
  iprop(((th c).loc main_call0_v0 ↦[xWin e h]{fullShare} A.X) ∗ (∃ f, (th c).loc cc0_scratch3 ↦[xWin e h]{fullShare} f))
/-- Expert `e`'s half-planes, all that are copied having landed. -/
def XFin (e : ℕ) : sProp 𝕄 :=
  iprop(((th c).loc main_call0_v0 ↦[xWin e 0]{fullShare} A.X) ∗ ((th c).loc main_call0_v0 ↦[xWin e 1]{fullShare} A.X) ∗ sv c (10 + e)
    ∗ (∃ g, ⌜∀ i : S32x2x8x6144.Idx, (i 0).val = e → ((i 1).val = 0 ∨ long A e = true) → g i = A.X i⌝
        ∗ ((th c).loc cc0_scratch3 ↦[xWin e 0 ∪ xWin e 1]{fullShare} g)))

theorem xWin_disj (e : ℕ) : Disjoint (xWin e 0) (xWin e 1) := by
  rw [Finset.disjoint_left]
  intro i h h'
  simp only [xWin, Finset.mem_filter] at h h'
  omega

section RulesX

variable {α : Type} {Λ : Labels} {defs : Defs nD τ sig (Elt F) Λ} {𝒱 : Variants} {bd : Option 𝒱.V}

theorem wp_xIssue0 {offs inbs offd inbd offq inbq h1 h2 h3} {k : PUnit → Prog (TpuEff nD τ sig (Elt F) Λ (th c).2) α} {Q : α → sProp 𝕄}
    (e : ℕ) (hs : offs = ![e, 0, 0, 0]) (hd : offd = ![e, 0, 0, 0]) (hq : offq = ![e]) :
    iprop(X1 A c e 0 ∗ sv c (10 + e) ∗ (XB A c e 1 0 -∗ wp frame (wpE defs 𝒱 (th c) bd) Set.univ (k ⟨⟩) Q))
      ⊢ wp frame (wpE defs 𝒱 (th c) bd) Set.univ
          (.op (.enqueueDmaAs (xSrc offs inbs) (.here (xDst offd inbd)) .same (.dma (xSem offq inbq)) h1 h2 h3) k) Q := by
  unfold X1 sv XB
  rw [← xSem_eq (inb := inbq) hq]
  iintro ⟨⟨Hx, ⟨%f, Hb⟩⟩, Hs, Hk⟩
  imod (batch_alloc' (Lvl := ℕ) EC (th c) () NX (fun t : Fin (nx A e) => xD A c e t.val) (sm := .dma (xSem offq inbq)) (E := Set.univ)) $$ Hs with HB
  iapply (wp_dmaBatch EC 𝒱 (th c) bd () NX (xDst_N _) (Sd := xWin e 0) (xDst_set hd).subset (nx_pos A e) (Nat.zero_le _)
    (D := fun t : Fin (nx A e) => xD A c e t.val) (q := fullShare) (fs := A.X) (fd := f)
    (by
      unfold xD
      rw [xSrc_set hs, pointsTo_congr (land_x (inbs := inbs) (inbd := inbd) hs hd A.X f)])) $$ [Hx Hb HB]
  · isplitl [Hx]; · rw [xSrc_set hs]; iexact Hx
    isplitl [Hb]; · iexact Hb
    iexact HB
  iexact Hk

theorem wp_xIssue1 {offs inbs offd inbd offq inbq h1 h2 h3} {k : PUnit → Prog (TpuEff nD τ sig (Elt F) Λ (th c).2) α} {Q : α → sProp 𝕄}
    (e u : ℕ) (he : long A e = true) (hu : u ≤ NX) (hs : offs = ![e, 1, 0, 0]) (hd : offd = ![e, 1, 0, 0]) (hq : offq = ![e]) :
    iprop(XB A c e 1 u ∗ X1 A c e 1 ∗ (XB A c e 2 u -∗ wp frame (wpE defs 𝒱 (th c) bd) Set.univ (k ⟨⟩) Q))
      ⊢ wp frame (wpE defs 𝒱 (th c) bd) Set.univ
          (.op (.enqueueDmaAs (xSrc offs inbs) (.here (xDst offd inbd)) .same (.dma (xSem offq inbq)) h1 h2 h3) k) Q := by
  unfold X1 XB
  rw [← xSem_eq (inb := inbq) hq]
  iintro ⟨HB, ⟨Hx, ⟨%f, Hb⟩⟩, Hk⟩
  iapply (wp_dmaBatch EC 𝒱 (th c) bd () NX (xDst_N _) (Sd := xWin e 1) (xDst_set hd).subset (j := 1) (u := u) (by rw [nx_long A he]; decide) (by omega)
    (D := fun t : Fin (nx A e) => xD A c e t.val) (q := fullShare) (fs := A.X) (fd := f)
    (by
      unfold xD
      rw [xSrc_set hs, pointsTo_congr (land_x (inbs := inbs) (inbd := inbd) hs hd A.X f)])) $$ [Hx Hb HB]
  · isplitl [Hx]; · rw [xSrc_set hs]; iexact Hx
    isplitl [Hb]; · iexact Hb
    iexact HB
  iexact Hk

theorem wp_xWait {offs inbs offd inbd offq inbq h1 h2} {k : PUnit → Prog (TpuEff nD τ sig (Elt F) Λ (th c).2) α} {Q : α → sProp 𝕄}
    (e j u : ℕ) (hu : u + NX ≤ NX * j) (hq : offq = ![e]) :
    iprop(XB A c e j u ∗ Ow c ∗ ((XB A c e j (u + NX) ∗ Ow c) -∗ wp frame (wpE defs 𝒱 (th c) bd) Set.univ (k ⟨⟩) Q))
      ⊢ wp frame (wpE defs 𝒱 (th c) bd) Set.univ
          (.op (.waitDma2 (xSem offq inbq) (xSrc offs inbs) (xDst offd inbd) h1 h2) k) Q := by
  unfold XB Ow
  rw [← xSem_eq (inb := inbq) hq]
  iintro ⟨HB, ⟨%Wt, HO⟩, Hk⟩
  iapply (wp_waitBatchMul EC 𝒱 (th c) bd () 1 ((xDst_credit (off := offd) (inb := inbd)).trans (Nat.one_mul _).symm)
    (D := fun t : Fin (nx A e) => xD A c e t.val) (j := j) (u := u) (by omega)) $$ [HB HO]
  · isplitl [HB]; · iexact HB
    iexact HO
  iintro ⟨HB, HO⟩
  iapply Hk
  rw [Nat.one_mul]
  isplitl [HB]; · iexact HB
  iexists _; iexact HO

end RulesX

theorem bigSep_fin_one' {n : ℕ} (hn : n = 1) (Φ : ℕ → sProp 𝕄) : bigSep Finset.univ (fun t : Fin n => Φ t.val) = Φ 0 := by
  subst hn; exact bigSep_univ_of_subsingleton 0
theorem bigSep_fin_two' {n : ℕ} (hn : n = 2) (Φ : ℕ → sProp 𝕄) :
    bigSep Finset.univ (fun t : Fin n => Φ t.val) = iprop(Φ 0 ∗ Φ 1) := by
  subst hn; exact bigSep_fin_two _

theorem x_collect (e : ℕ) :
    XB A c e (nx A e) (NX * nx A e) ⊢ (|={Set.univ}=> iprop(bigSep Finset.univ (fun t : Fin (nx A e) => xD A c e t.val) ∗ sv c (10 + e)) : sProp 𝕄) :=
  batch_collect' EC (th c) NX_pos

theorem x_collect_short {e : ℕ} (h : ¬ long A e = true) :
    iprop(XB A c e 1 NX ∗ X1 A c e 1) ⊢ (|={Set.univ}=> XFin A c e : sProp 𝕄) := by
  have key := x_collect A c e
  rw [bigSep_fin_one' (nx_short A h), nx_short A h, Nat.mul_one] at key
  unfold X1 XFin
  iintro ⟨HB, Hx1, ⟨%f, Hb1⟩⟩
  imod key $$ HB with ⟨HD, Hs⟩
  unfold xD
  icases HD with ⟨Hb0, Hx0⟩
  imodintro
  isplitl [Hx0]; · iexact Hx0
  isplitl [Hx1]; · iexact Hx1
  isplitl [Hs]; · iexact Hs
  iexists ((xWin e 1).piecewise f A.X)
  isplitr
  · ipureintro
    intro i hi h'
    have h0 : (i 1).val = 0 := h'.resolve_right h
    refine Finset.piecewise_eq_of_notMem _ _ _ ?_
    simp only [xWin, Finset.mem_filter]
    omega
  · iapply (pointsTo_join (xWin_disj e)) $$ [Hb0 Hb1]
    isplitl [Hb0]; · iexact Hb0
    iexact Hb1

theorem x_collect_long {e : ℕ} (h : long A e = true) :
    XB A c e 2 (NX + NX) ⊢ (|={Set.univ}=> XFin A c e : sProp 𝕄) := by
  have key := x_collect A c e
  rw [bigSep_fin_two' (nx_long A h), nx_long A h, Nat.mul_two] at key
  unfold XFin
  iintro HB
  imod key $$ HB with ⟨HD, Hs⟩
  unfold xD
  icases HD with ⟨⟨Hb0, Hx0⟩, ⟨Hb1, Hx1⟩⟩
  imodintro
  isplitl [Hx0]; · iexact Hx0
  isplitl [Hx1]; · iexact Hx1
  isplitl [Hs]; · iexact Hs
  iexists A.X
  isplitr
  · ipureintro
    intro i hi h'
    rfl
  · iapply (pointsTo_union (xWin_disj e)).2 $$ [Hb0 Hb1]
    isplitl [Hb0]; · iexact Hb0
    iexact Hb1

/-! ## The results -/

variable (G : S32x16x768.Idx → Elt F .bf16) (z : Elt F .bf16)

/-- How many experts have no rows. -/
def nd : ℕ := 32 - nl A

/-- What the `t`-th transfer of a plane of results delivers: a plane of zeros to an expert without rows for the first
    ones, a computed plane for the later ones. -/
def oD (t : ℕ) : sProp 𝕄 :=
  iprop(((th c).loc main_v0 ↦[oWin (both (live A) t)]{fullShare} G)
    ∗ (if t < nd A then ((th c).loc cc0_scratch8 ↦[Finset.univ]{shareTokN fullShare t} (fun _ => z))
       else ((th c).loc cc0_scratch7 ↦[oWin (both (live A) t)]{fullShare} G)))

instance (t : ℕ) : Storable (upEmb : UEmb _ 𝕄) (oD A c G z t) := by
  unfold oD; split <;> infer_instance

/-- The results' transfers: `j` issued, `u` units consumed. -/
def OB (j u : ℕ) : sProp 𝕄 := Batch EC (th c) (.dma (cc0_scratch13 : DmaSems sig S_).sem) () NO (fun t : Fin 32 => oD A c G z t.val) j u
/-- A plane of the results, not yet written. -/
def oAny (e : ℕ) : sProp 𝕄 := iprop(∃ f, (th c).loc main_v0 ↦[oWin e]{fullShare} f)
def zRest (t : ℕ) : sProp 𝕄 := iprop((th c).loc cc0_scratch8 ↦[Finset.univ]{shareDrop fullShare t} (fun _ => z))

section RulesO

variable {α : Type} {Λ : Labels} {defs : Defs nD τ sig (Elt F) Λ} {𝒱 : Variants} {bd : Option 𝒱.V}

theorem wp_zIssue {offd inbd h1 h2 h3} {k : PUnit → Prog (TpuEff nD τ sig (Elt F) Λ (th c).2) α} {Q : α → sProp 𝕄}
    (e t : ℕ) (he : e < 32) (hl : ¬ live A e = true) (ht : t = e - cnt (live A) e) (hG : ∀ i ∈ oWin e, G i = z) (hd : offd = ![e, 0, 0]) :
    iprop(zRest c z t ∗ oAny c e ∗ OB A c G z t 0 ∗ ((zRest c z (t + 1) ∗ OB A c G z (t + 1) 0) -∗ wp frame (wpE defs 𝒱 (th c) bd) Set.univ (k ⟨⟩) Q))
      ⊢ wp frame (wpE defs 𝒱 (th c) bd) Set.univ
          (.op (.enqueueDmaAs zSrc (.here (oDst offd inbd)) .same (.dma (cc0_scratch13 : DmaSems sig S_).sem) h1 h2 h3) k) Q := by
  have hl' : (fun e => !live A e) e = true := by simp [hl]
  have hnd : nd A = 32 - cnt (live A) 32 := rfl
  have hte : t = cnt (fun e => !live A e) e := by rw [ht, cnt_not]
  have htd : t < nd A := by
    have := cnt_lt (p := fun e => !live A e) he hl'
    rw [← hte, cnt_not] at this
    exact this
  have hb : both (live A) t = e := by
    unfold both
    rw [if_pos (hnd ▸ htd), hte]
    exact nthOf_cnt (p := fun e => !live A e) he hl'
  have ht32 : t < 32 := by unfold nd at htd; omega
  unfold zRest oAny OB
  iintro ⟨Hz, ⟨%f, Hd⟩, HB, Hk⟩
  ihave Hz := (pointsTo_share (PosShare.mem_left_op_right (shareDrop fullShare t))).1 $$ Hz
  icases Hz with ⟨Hz1, Hz2⟩
  iapply (wp_dmaBatch EC 𝒱 (th c) bd () NO (oDst_N _) (Sd := oWin e) (oDst_set hd).subset (j := t) (u := 0) ht32 (Nat.zero_le _)
    (D := fun t : Fin 32 => oD A c G z t.val) (q := shareTokN fullShare t) (fs := fun _ => z) (fd := f)
    (by
      unfold oD
      rw [if_pos htd, hb, pointsTo_congr (g := G) (fun i hi => (land_z (inbd := inbd) hd z f i hi).trans (hG i hi).symm), View.set_whole])) $$ [Hz2 Hd HB]
  · isplitl [Hz2]; · rw [View.set_whole]; iexact Hz2
    isplitl [Hd]; · iexact Hd
    iexact HB
  iintro HB
  iapply Hk
  isplitl [Hz1]; · iexact Hz1
  iexact HB

theorem wp_oIssue {offs inbs offd inbd h1 h2 h3} {k : PUnit → Prog (TpuEff nD τ sig (Elt F) Λ (th c).2) α} {Q : α → sProp 𝕄}
    (e i j : ℕ) (hi : i < nl A) (he : e = ord A i) (hj : j = nd A + i) (hs : offs = ![e, 0, 0]) (hd : offd = ![e, 0, 0]) :
    iprop(((th c).loc cc0_scratch7 ↦[oWin e]{fullShare} G) ∗ oAny c e ∗ OB A c G z j 0 ∗ (OB A c G z (j + 1) 0 -∗ wp frame (wpE defs 𝒱 (th c) bd) Set.univ (k ⟨⟩) Q))
      ⊢ wp frame (wpE defs 𝒱 (th c) bd) Set.univ
          (.op (.enqueueDmaAs (oSrc offs inbs) (.here (oDst offd inbd)) .same (.dma (cc0_scratch13 : DmaSems sig S_).sem) h1 h2 h3) k) Q := by
  have hn := nl_le A
  have hnl : nl A = cnt (live A) 32 := rfl
  have hnd : nd A = 32 - nl A := rfl
  have hb : both (live A) j = e := by
    unfold both
    rw [if_neg (by omega), he, hj]
    unfold ord
    congr 1
    omega
  unfold oAny OB
  iintro ⟨Hs, ⟨%f, Hd⟩, HB, Hk⟩
  iapply (wp_dmaBatch EC 𝒱 (th c) bd () NO (oDst_N _) (Sd := oWin e) (oDst_set hd).subset (j := j) (u := 0) (by omega) (Nat.zero_le _)
    (D := fun t : Fin 32 => oD A c G z t.val) (q := fullShare) (fs := G) (fd := f)
    (by
      unfold oD
      rw [if_neg (show ¬ j < nd A by omega), hb, oSrc_set hs, pointsTo_congr (land_o (inbs := inbs) (inbd := inbd) hs hd G f)])) $$ [Hs Hd HB]
  · isplitl [Hs]; · rw [oSrc_set hs]; iexact Hs
    isplitl [Hd]; · iexact Hd
    iexact HB
  iexact Hk

/-- A wait for one plane of the results, whatever plane it names. -/
theorem wp_oWait {s' : Shape} {e' : EltTy} {sp' : Space} {srcw : Memref sig (th c).2.kind sp' s' e'} {offd inbd h1 h2}
    {k : PUnit → Prog (TpuEff nD τ sig (Elt F) Λ (th c).2) α} {Q : α → sProp 𝕄} (u : ℕ) (hu : u < 32) :
    iprop(OB A c G z 32 (NO * u) ∗ Ow c ∗ ((OB A c G z 32 (NO * (u + 1)) ∗ Ow c) -∗ wp frame (wpE defs 𝒱 (th c) bd) Set.univ (k ⟨⟩) Q))
      ⊢ wp frame (wpE defs 𝒱 (th c) bd) Set.univ
          (.op (.waitDma2 (cc0_scratch13 : DmaSems sig S_).sem srcw (oDst offd inbd) h1 h2) k) Q := by
  unfold OB Ow
  iintro ⟨HB, ⟨%Wt, HO⟩, Hk⟩
  have hle : NO * (u + 1) ≤ NO * 32 := Nat.mul_le_mul_left _ hu
  have hs : NO * (u + 1) = NO * u + 1 * NO := by rw [Nat.mul_add, Nat.mul_one, Nat.one_mul]
  rw [hs] at hle ⊢
  iapply (wp_waitBatchMul EC 𝒱 (th c) bd () 1 ((oDst_credit (off := offd) (inb := inbd)).trans (Nat.one_mul _).symm)
    (D := fun t : Fin 32 => oD A c G z t.val) (j := 32) (u := NO * u) hle) $$ [HB HO]
  · isplitl [HB]; · iexact HB
    iexact HO
  iintro ⟨HB, HO⟩
  iapply Hk
  isplitl [HB]; · iexact HB
  iexists _; iexact HO

end RulesO

end Cert.Kernel.Hand

end
-- ==== Proof.Hold.lean ====
/-
  The states of all experts together, and each transfer's rule over the whole collection.
-/
module

public import proofs.«01_k».proof.Proof.State

@[expose] public section

set_option maxRecDepth 16384

noncomputable section

namespace Cert.Kernel.Hand

open Cert.Kernel Cert.Kernel.Gen Cert.Listing
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ
local notation "EC" => countersEmb (U := Pipeline.UD sig nD τ)

variable (A : Arrays F) (c : Dev nD)

/-- Take one member out of a collection and put it back changed. -/
theorem take_out {Φ Φ' : ℕ → sProp 𝕄} (k : ℕ) (hk : k < 32) (h : ∀ e, e < 32 → e ≠ k → Φ e = Φ' e) :
    bigSep (Finset.range 32) Φ ⊢ iprop(Φ k ∗ (Φ' k -∗ bigSep (Finset.range 32) Φ')) := by
  have h1 : bigSep (Finset.range 32) Φ = iprop(Φ k ∗ bigSep ((Finset.range 32).erase k) Φ') := by
    rw [← bigSep_congr (s := (Finset.range 32).erase k) (Φ := Φ) (Ψ := Φ') (fun e he => h e (Finset.mem_range.1 (Finset.mem_of_mem_erase he)) (Finset.ne_of_mem_erase he))]
    exact bigSep_erase (Finset.mem_range.2 hk)
  have h2 : bigSep (Finset.range 32) Φ' = iprop(Φ' k ∗ bigSep ((Finset.range 32).erase k) Φ') := bigSep_erase (Finset.mem_range.2 hk)
  rw [h1, h2]
  iintro ⟨H1, H2⟩
  isplitl [H1]; · iexact H1
  iintro H3
  isplitl [H3]; · iexact H3
  iexact H2

theorem bigSep_mono' {s : Finset ℕ} {Φ Ψ : ℕ → sProp 𝕄} (h : ∀ i ∈ s, Φ i ⊢ Ψ i) : bigSep s Φ ⊢ bigSep s Ψ := bigSep_mono h

theorem pos_ne {e j : ℕ} (he : e < 32) (hl : live A e = true) (h : e ≠ ord A j) : pos A e ≠ j := by
  intro hj
  refine h ?_
  unfold ord
  rw [← hj]
  exact (nthOf_cnt he hl).symm

theorem pos_lt_nl {e : ℕ} (he : e < 32) (hl : live A e = true) : pos A e < nl A := cnt_lt he hl
theorem ord_pos {e : ℕ} (he : e < 32) (hl : live A e = true) : ord A (pos A e) = e := nthOf_cnt he hl

/-! ## The activations -/

/-- Before its first copy is issued. -/
def XS0 (e : ℕ) : sProp 𝕄 := iprop(X1 A c e 0 ∗ X1 A c e 1 ∗ sv c (10 + e))
/-- Afterwards: `b` once the first wait is over, `f` experts fetched, `x` of them waited for. -/
def XSt (b : Bool) (f x e : ℕ) : sProp 𝕄 :=
  if long A e = true then
    (if pos A e < x then XFin A c e
      else if pos A e < f then XB A c e 2 (if b then NX else 0)
      else iprop(XB A c e 1 (if b then NX else 0) ∗ X1 A c e 1))
  else (if b then XFin A c e else iprop(XB A c e 1 0 ∗ X1 A c e 1))

/-- The first copies of the experts below `k` are issued. -/
def XP (k : ℕ) : sProp 𝕄 := bigSep (Finset.range 32) (fun e => if e < k then XSt A c false 0 0 e else XS0 A c e)
/-- The first waits of the experts below `k` are over, `f` experts are fetched, `x` waited for. -/
def XG (k f x : ℕ) : sProp 𝕄 := bigSep (Finset.range 32) (fun e => XSt A c (decide (e < k)) f x e)

theorem XSt_start (e : ℕ) : XSt A c false 0 0 e = iprop(XB A c e 1 0 ∗ X1 A c e 1) := by
  unfold XSt; split <;> simp

theorem XP_done : XP A c 32 = XG A c 0 0 0 := by
  unfold XP XG
  refine bigSep_congr fun e he => ?_
  rw [if_pos (Finset.mem_range.1 he)]
  simp

/-- A fetch that finds no second half-plane to copy changes nothing. -/
theorem XG_short {k f x e : ℕ} (hf : f < nl A) (he : e = ord A f) (h : ¬ long A e = true) : XG A c k f x = XG A c k (f + 1) x := by
  unfold XG
  refine bigSep_congr fun a ha => ?_
  unfold XSt
  by_cases hl : long A a = true
  · rw [if_pos hl, if_pos hl]
    have hne : a ≠ ord A f := fun hh => h (by rw [he, ← hh]; exact hl)
    have := pos_ne A (Finset.mem_range.1 ha) (live_of_long A hl) hne
    have : (pos A a < f) = (pos A a < f + 1) := by apply propext; omega
    simp only [this]
  · rw [if_neg hl, if_neg hl]

theorem XG_short_wait {k f x e : ℕ} (hf : x < nl A) (he : e = ord A x) (h : ¬ long A e = true) : XG A c k f x = XG A c k f (x + 1) := by
  unfold XG
  refine bigSep_congr fun a ha => ?_
  unfold XSt
  by_cases hl : long A a = true
  · rw [if_pos hl, if_pos hl]
    have hne : a ≠ ord A x := fun hh => h (by rw [he, ← hh]; exact hl)
    have := pos_ne A (Finset.mem_range.1 ha) (live_of_long A hl) hne
    have : (pos A a < x) = (pos A a < x + 1) := by apply propext; omega
    simp only [this]
  · rw [if_neg hl, if_neg hl]

/-- An expert that is waited for, to read and give back. -/
theorem XG_take {f x j : ℕ} (hj : j < x) (hn : j < nl A) :
    XG A c 32 f x ⊢ iprop(XFin A c (ord A j) ∗ (XFin A c (ord A j) -∗ XG A c 32 f x)) := by
  unfold XG
  have h := take_out (F := F) (Φ := fun e => XSt A c (decide (e < 32)) f x e) (Φ' := fun e => XSt A c (decide (e < 32)) f x e) (ord A j) (ord_lt A hn) (fun _ _ _ => rfl)
  have e1 : XSt A c (decide (ord A j < 32)) f x (ord A j) = XFin A c (ord A j) := by
    unfold XSt
    rw [pos_ord A hn, if_pos hj, if_pos (show decide (ord A j < 32) = true from decide_eq_true (ord_lt A hn)), ite_self]
  rw [← e1]
  exact h

theorem XG_end {f : ℕ} (hf : nl A ≤ f) : XG A c 32 f f ⊢ bigSep (Finset.range 32) (fun e => XFin A c e) := by
  unfold XG
  refine bigSep_mono' fun e he => ?_
  have he' := Finset.mem_range.1 he
  unfold XSt
  by_cases hl : long A e = true
  · rw [if_pos hl, if_pos (lt_of_lt_of_le (pos_lt_nl A he' (live_of_long A hl)) hf)]
  · rw [if_neg hl, if_pos (show decide (e < 32) = true from decide_eq_true he')]

section RulesX

variable {α : Type} {Λ : Labels} {defs : Defs nD τ sig (Elt F) Λ} {𝒱 : Variants} {bd : Option 𝒱.V}

theorem wp_X0 {offs inbs offd inbd offq inbq h1 h2 h3} {k : PUnit → Prog (TpuEff nD τ sig (Elt F) Λ (th c).2) α} {Q : α → sProp 𝕄}
    (e : ℕ) (he : e < 32) (hs : offs = ![e, 0, 0, 0]) (hd : offd = ![e, 0, 0, 0]) (hq : offq = ![e]) :
    iprop(XP A c e ∗ (XP A c (e + 1) -∗ wp frame (wpE defs 𝒱 (th c) bd) Set.univ (k ⟨⟩) Q))
      ⊢ wp frame (wpE defs 𝒱 (th c) bd) Set.univ
          (.op (.enqueueDmaAs (xSrc offs inbs) (.here (xDst offd inbd)) .same (.dma (xSem offq inbq)) h1 h2 h3) k) Q := by
  unfold XP
  iintro ⟨HX, Hk⟩
  ihave HX := (take_out (F := F) (Φ := fun a => if a < e then XSt A c false 0 0 a else XS0 A c a) (Φ' := fun a => if a < e + 1 then XSt A c false 0 0 a else XS0 A c a) e he
    (fun a _ ha => by have : (a < e) = (a < e + 1) := by { apply propext; omega }
                      simp only [this])) $$ HX
  simp only [if_neg (Nat.lt_irrefl e), if_pos (Nat.lt_succ_self e)]
  rw [XSt_start]
  unfold XS0
  icases HX with ⟨⟨H0, H1, Hs⟩, Hback⟩
  iapply (wp_xIssue0 A c e hs hd hq) $$ [H0 Hs H1 Hback Hk]
  isplitl [H0]; · iexact H0
  isplitl [Hs]; · iexact Hs
  iintro HB
  iapply Hk
  iapply Hback
  isplitl [HB]; · iexact HB
  iexact H1

theorem wp_X1 {offs inbs offd inbd offq inbq h1 h2 h3} {k : PUnit → Prog (TpuEff nD τ sig (Elt F) Λ (th c).2) α} {Q : α → sProp 𝕄}
    (m f x e : ℕ) (hf : f < nl A) (hx : x ≤ f) (ho : e = ord A f) (hl : long A e = true)
    (hs : offs = ![e, 1, 0, 0]) (hd : offd = ![e, 1, 0, 0]) (hq : offq = ![e]) :
    iprop(XG A c m f x ∗ (XG A c m (f + 1) x -∗ wp frame (wpE defs 𝒱 (th c) bd) Set.univ (k ⟨⟩) Q))
      ⊢ wp frame (wpE defs 𝒱 (th c) bd) Set.univ
          (.op (.enqueueDmaAs (xSrc offs inbs) (.here (xDst offd inbd)) .same (.dma (xSem offq inbq)) h1 h2 h3) k) Q := by
  have he : e < 32 := ho ▸ ord_lt A hf
  have hp : pos A e = f := ho ▸ pos_ord A hf
  unfold XG
  iintro ⟨HX, Hk⟩
  ihave HX := (take_out (F := F) (Φ := fun e => XSt A c (decide (e < m)) f x e) (Φ' := fun e => XSt A c (decide (e < m)) (f + 1) x e) e he
    (fun a ha hne => by
      unfold XSt
      by_cases hl : long A a = true
      · rw [if_pos hl, if_pos hl]
        have := pos_ne A ha (live_of_long A hl) (ho ▸ hne)
        have : (pos A a < f) = (pos A a < f + 1) := by apply propext; omega
        simp only [this]
      · rw [if_neg hl, if_neg hl])) $$ HX
  have e1 : XSt A c (decide (e < m)) f x e = iprop(XB A c e 1 (if decide (e < m) then NX else 0) ∗ X1 A c e 1) := by
    unfold XSt; rw [if_pos hl, hp, if_neg (by omega), if_neg (by omega)]
  have e2 : XSt A c (decide (e < m)) (f + 1) x e = XB A c e 2 (if decide (e < m) then NX else 0) := by
    unfold XSt; rw [if_pos hl, hp, if_neg (by omega), if_pos (by omega)]
  simp only [e1, e2]
  icases HX with ⟨⟨HB, H1⟩, Hback⟩
  iapply (wp_xIssue1 A c e (if decide (e < m) then NX else 0) hl (by split <;> omega) hs hd hq) $$ [HB H1 Hback Hk]
  isplitl [HB]; · iexact HB
  isplitl [H1]; · iexact H1
  iintro HB
  iapply Hk
  iapply Hback
  iexact HB

/-- The wait for an expert's first copy. -/
theorem wp_XW0 {offs inbs offd inbd offq inbq h1 h2} {k : PUnit → Prog (TpuEff nD τ sig (Elt F) Λ (th c).2) α} {Q : α → sProp 𝕄}
    (e f : ℕ) (he : e < 32) (hq : offq = ![e]) :
    iprop(XG A c e f 0 ∗ Ow c ∗ ((XG A c (e + 1) f 0 ∗ Ow c) -∗ wp frame (wpE defs 𝒱 (th c) bd) Set.univ (k ⟨⟩) Q))
      ⊢ wp frame (wpE defs 𝒱 (th c) bd) Set.univ
          (.op (.waitDma2 (xSem offq inbq) (xSrc offs inbs) (xDst offd inbd) h1 h2) k) Q := by
  unfold XG
  iintro ⟨HX, HO, Hk⟩
  ihave HX := (take_out (F := F) (Φ := fun a => XSt A c (decide (a < e)) f 0 a) (Φ' := fun a => XSt A c (decide (a < e + 1)) f 0 a) e he
    (fun a _ ha => by have : (a < e) = (a < e + 1) := by { apply propext; omega }
                      simp only [this])) $$ HX
  simp only [decide_eq_false (Nat.lt_irrefl e), decide_eq_true (Nat.lt_succ_self e)]
  unfold XSt
  by_cases hl : long A e = true
  · simp only [if_pos hl, Nat.not_lt_zero, if_false]
    by_cases hp : pos A e < f
    · simp only [if_pos hp]
      icases HX with ⟨HB, Hback⟩
      iapply (wp_xWait A c e 2 0 (by omega) hq) $$ [HB HO Hback Hk]
      isplitl [HB]; · iexact HB
      isplitl [HO]; · iexact HO
      iintro ⟨HB, HO⟩
      iapply Hk
      isplitl [HB Hback]
      · iapply Hback; rw [Nat.zero_add]; iexact HB
      iexact HO
    · simp only [if_neg hp]
      icases HX with ⟨⟨HB, H1⟩, Hback⟩
      iapply (wp_xWait A c e 1 0 (by omega) hq) $$ [HB HO H1 Hback Hk]
      isplitl [HB]; · iexact HB
      isplitl [HO]; · iexact HO
      iintro ⟨HB, HO⟩
      iapply Hk
      isplitl [HB H1 Hback]
      · iapply Hback; rw [Nat.zero_add]
        isplitl [HB]; · iexact HB
        iexact H1
      iexact HO
  · simp only [if_neg hl, if_true, if_false, Bool.false_eq_true]
    icases HX with ⟨⟨HB, H1⟩, Hback⟩
    iapply (wp_xWait A c e 1 0 (by omega) hq) $$ [HB HO H1 Hback Hk]
    isplitl [HB]; · iexact HB
    isplitl [HO]; · iexact HO
    iintro ⟨HB, HO⟩
    rw [Nat.zero_add]
    imod (x_collect_short A c hl) $$ [HB H1] with HF
    · isplitl [HB]; · iexact HB
      iexact H1
    iapply Hk
    isplitl [HF Hback]
    · iapply Hback; iexact HF
    iexact HO

/-- The wait for an expert's second copy. -/
theorem wp_XW1 {offs inbs offd inbd offq inbq h1 h2} {k : PUnit → Prog (TpuEff nD τ sig (Elt F) Λ (th c).2) α} {Q : α → sProp 𝕄}
    (f x e : ℕ) (hx : x < f) (hf : x < nl A) (ho : e = ord A x) (hl : long A e = true) (hq : offq = ![e]) :
    iprop(XG A c 32 f x ∗ Ow c ∗ ((XG A c 32 f (x + 1) ∗ Ow c) -∗ wp frame (wpE defs 𝒱 (th c) bd) Set.univ (k ⟨⟩) Q))
      ⊢ wp frame (wpE defs 𝒱 (th c) bd) Set.univ
          (.op (.waitDma2 (xSem offq inbq) (xSrc offs inbs) (xDst offd inbd) h1 h2) k) Q := by
  have he : e < 32 := ho ▸ ord_lt A hf
  have hp : pos A e = x := ho ▸ pos_ord A hf
  unfold XG
  iintro ⟨HX, HO, Hk⟩
  ihave HX := (take_out (F := F) (Φ := fun e => XSt A c (decide (e < 32)) f x e) (Φ' := fun e => XSt A c (decide (e < 32)) f (x + 1) e) e he
    (fun a ha hne => by
      unfold XSt
      by_cases hl : long A a = true
      · rw [if_pos hl, if_pos hl]
        have := pos_ne A ha (live_of_long A hl) (ho ▸ hne)
        have : (pos A a < x) = (pos A a < x + 1) := by apply propext; omega
        simp only [this]
      · rw [if_neg hl, if_neg hl])) $$ HX
  have e1 : XSt A c (decide (e < 32)) f x e = XB A c e 2 NX := by
    unfold XSt; rw [if_pos hl, hp, if_neg (by omega), if_pos (by omega), if_pos (show decide (e < 32) = true from decide_eq_true he)]
  have e2 : XSt A c (decide (e < 32)) f (x + 1) e = XFin A c e := by
    unfold XSt; rw [if_pos hl, hp, if_pos (by omega)]
  simp only [e1, e2]
  icases HX with ⟨HB, Hback⟩
  iapply (wp_xWait A c e 2 NX (by omega) hq) $$ [HB HO Hback Hk]
  isplitl [HB]; · iexact HB
  isplitl [HO]; · iexact HO
  iintro ⟨HB, HO⟩
  imod (x_collect_long A c hl) $$ HB with HF
  iapply Hk
  isplitl [HF Hback]
  · iapply Hback; iexact HF
  iexact HO

end RulesX

/-! ## The weights -/

def WfreeS (s : ℕ) : sProp 𝕄 := iprop(WfreeT A c s 0 ∗ WfreeT A c s 1 ∗ WfreeT A c s 2)
def WflyS (e s : ℕ) : sProp 𝕄 := iprop(WflyT A c e s 0 ∗ WflyT A c e s 1 ∗ WflyT A c e s 2)
def WheldS (e s : ℕ) : sProp 𝕄 := iprop(WheldT A c e s 0 ∗ WheldT A c e s 1 ∗ WheldT A c e s 2)
/-- The slot that the `j`-th expert uses, when `n` are fetched. -/
def Wj (n j : ℕ) : sProp 𝕄 := if j < n then WflyS A c (ord A j) (j % 3) else WfreeS A c (j % 3)
/-- The three slots in the listing. -/
def WScan (n : ℕ) : sProp 𝕄 := iprop(Wj A c n 0 ∗ Wj A c n 1 ∗ Wj A c n 2)
/-- The three slots at the start of a step. -/
def WStart (n i : ℕ) : sProp 𝕄 := iprop(Wj A c n i ∗ Wj A c n (i + 1) ∗ (if i = 0 then Wj A c n (i + 2) else WfreeS A c ((i + 2) % 3)))

theorem Wheld_freeS (e s : ℕ) : WheldS A c e s ⊢ WfreeS A c s := by
  unfold WheldS WfreeS
  exact Idealize.SL.BI.sep_mono (Wheld_free A c _ _ _) (Idealize.SL.BI.sep_mono (Wheld_free A c _ _ _) (Wheld_free A c _ _ _))

theorem Wj_fly {n j : ℕ} (h : j < n) : Wj A c n j = WflyS A c (ord A j) (j % 3) := if_pos h
theorem Wj_rest {n j : ℕ} (h : ¬ j < n) : Wj A c n j = WfreeS A c (j % 3) := if_neg h
theorem Wj_next {n j : ℕ} (h : j ≠ n) : Wj A c n j = Wj A c (n + 1) j := by
  unfold Wj
  have : (j < n) = (j < n + 1) := by apply propext; omega
  simp only [this]

theorem WScan_take {n : ℕ} (h : n < 3) : WScan A c n ⊢ iprop(WfreeS A c (n % 3) ∗ (WflyS A c (ord A n) (n % 3) -∗ WScan A c (n + 1))) := by
  unfold WScan
  interval_cases n
  · rw [Wj_rest A c (n := 0) (j := 0) (by omega), Wj_next A c (n := 0) (j := 1) (by omega), Wj_next A c (n := 0) (j := 2) (by omega), Wj_fly A c (n := 0 + 1) (j := 0) (by omega)]
    iintro ⟨H0, H1, H2⟩
    isplitl [H0]; · iexact H0
    iintro H
    isplitl [H]; · iexact H
    isplitl [H1]; · iexact H1
    iexact H2
  · rw [Wj_rest A c (n := 1) (j := 1) (by omega), Wj_next A c (n := 1) (j := 0) (by omega), Wj_next A c (n := 1) (j := 2) (by omega), Wj_fly A c (n := 1 + 1) (j := 1) (by omega)]
    iintro ⟨H0, H1, H2⟩
    isplitl [H1]; · iexact H1
    iintro H
    isplitl [H0]; · iexact H0
    isplitl [H]; · iexact H
    iexact H2
  · rw [Wj_rest A c (n := 2) (j := 2) (by omega), Wj_next A c (n := 2) (j := 0) (by omega), Wj_next A c (n := 2) (j := 1) (by omega), Wj_fly A c (n := 2 + 1) (j := 2) (by omega)]
    iintro ⟨H0, H1, H2⟩
    isplitl [H2]; · iexact H2
    iintro H
    isplitl [H0]; · iexact H0
    isplitl [H1]; · iexact H1
    iexact H

theorem WScan_more {n : ℕ} (h : ¬ n < 3) : WScan A c n = WScan A c (n + 1) := by
  unfold WScan Wj
  rw [if_pos (by omega), if_pos (by omega), if_pos (by omega), if_pos (by omega), if_pos (by omega), if_pos (by omega)]

theorem WScan_start (n : ℕ) : WScan A c n = WStart A c n 0 := rfl

/-! ## The results -/

variable (G : S32x16x768.Idx → Elt F .bf16) (z : Elt F .bf16)

/-- A plane of computed results, not yet computed. -/
def obAny (e : ℕ) : sProp 𝕄 := iprop(∃ f, (th c).loc cc0_scratch7 ↦[oWin e]{fullShare} f)
def obG (e : ℕ) : sProp 𝕄 := iprop((th c).loc cc0_scratch7 ↦[oWin e]{fullShare} G)
/-- Expert `e`'s planes: `k` experts seen by the listing, `q` planes sent, `s` computed. -/
def OSt (k q s e : ℕ) : sProp 𝕄 :=
  if live A e = true then
    (if pos A e < q then iprop(emp) else iprop(oAny c e ∗ (if pos A e < s then obG c G e else obAny c e)))
  else iprop((if e < k then iprop(emp) else oAny c e) ∗ obAny c e)
def OG (k q s : ℕ) : sProp 𝕄 := bigSep (Finset.range 32) (fun e => OSt A c G k q s e)

theorem OG_live {e : ℕ} (q s : ℕ) (hl : live A e = true) : OG A c G e q s = OG A c G (e + 1) q s := by
  unfold OG
  refine bigSep_congr fun a ha => ?_
  unfold OSt
  by_cases h : live A a = true
  · rw [if_pos h, if_pos h]
  · rw [if_neg h, if_neg h]
    have hne : a ≠ e := fun hh => h (hh ▸ hl)
    have : (a < e) = (a < e + 1) := by apply propext; omega
    simp only [this]

/-- A plane to compute. -/
theorem OG_store {q s : ℕ} (hq : q ≤ s) (hs : s < nl A) :
    OG A c G 32 q s ⊢ iprop(obAny c (ord A s) ∗ (obG c G (ord A s) -∗ OG A c G 32 q (s + 1))) := by
  unfold OG
  iintro HX
  ihave HX := (take_out (F := F) (Φ := fun e => OSt A c G 32 q s e) (Φ' := fun e => OSt A c G 32 q (s + 1) e) (ord A s) (ord_lt A hs)
    (fun a ha hne => by
      unfold OSt
      by_cases hl : live A a = true
      · rw [if_pos hl, if_pos hl]
        have := pos_ne A ha hl hne
        have : (pos A a < s) = (pos A a < s + 1) := by apply propext; omega
        simp only [this]
      · rw [if_neg hl, if_neg hl])) $$ HX
  have e1 : OSt A c G 32 q s (ord A s) = iprop(oAny c (ord A s) ∗ obAny c (ord A s)) := by
    unfold OSt; rw [if_pos (ord_live A hs), pos_ord A hs, if_neg (by omega), if_neg (by omega)]
  have e2 : OSt A c G 32 q (s + 1) (ord A s) = iprop(oAny c (ord A s) ∗ obG c G (ord A s)) := by
    unfold OSt; rw [if_pos (ord_live A hs), pos_ord A hs, if_neg (by omega), if_pos (by omega)]
  simp only [e1, e2]
  icases HX with ⟨⟨H1, H2⟩, Hback⟩
  isplitl [H2]; · iexact H2
  iintro H3
  iapply Hback
  isplitl [H1]; · iexact H1
  iexact H3

theorem OG_end {s : ℕ} (hs : nl A ≤ s) : OG A c G 32 s s ⊢ bigSep (Finset.range 32) (fun e => if live A e = true then iprop(emp) else obAny c e) := by
  unfold OG
  refine bigSep_mono' fun e he => ?_
  have he' := Finset.mem_range.1 he
  unfold OSt
  by_cases hl : live A e = true
  · rw [if_pos hl, if_pos (lt_of_lt_of_le (pos_lt_nl A he' hl) hs), if_pos hl]
  · rw [if_neg hl, if_pos he', if_neg hl]
    iintro ⟨-, H⟩
    iexact H

section RulesO

variable {α : Type} {Λ : Labels} {defs : Defs nD τ sig (Elt F) Λ} {𝒱 : Variants} {bd : Option 𝒱.V}

theorem wp_Z {offd inbd h1 h2 h3} {k : PUnit → Prog (TpuEff nD τ sig (Elt F) Λ (th c).2) α} {Q : α → sProp 𝕄}
    (e t : ℕ) (he : e < 32) (hl : ¬ live A e = true) (ht : t = e - cnt (live A) e) (hG : ∀ i ∈ oWin e, G i = z) (hd : offd = ![e, 0, 0]) :
    iprop(zRest c z t ∗ OG A c G e 0 0 ∗ OB A c G z t 0 ∗ ((zRest c z (t + 1) ∗ OG A c G (e + 1) 0 0 ∗ OB A c G z (t + 1) 0) -∗ wp frame (wpE defs 𝒱 (th c) bd) Set.univ (k ⟨⟩) Q))
      ⊢ wp frame (wpE defs 𝒱 (th c) bd) Set.univ
          (.op (.enqueueDmaAs zSrc (.here (oDst offd inbd)) .same (.dma (cc0_scratch13 : DmaSems sig S_).sem) h1 h2 h3) k) Q := by
  iintro ⟨Hz, HX, HB, Hk⟩
  unfold OG
  ihave HX := (take_out (F := F) (Φ := fun a => OSt A c G e 0 0 a) (Φ' := fun a => OSt A c G (e + 1) 0 0 a) e he
    (fun a ha hne => by
      unfold OSt
      have : (a < e) = (a < e + 1) := by apply propext; omega
      simp only [this])) $$ HX
  have e1 : OSt A c G e 0 0 e = iprop(oAny c e ∗ obAny c e) := by
    unfold OSt; rw [if_neg hl, if_neg (Nat.lt_irrefl e)]
  have e2 : OSt A c G (e + 1) 0 0 e = iprop(emp ∗ obAny c e) := by
    unfold OSt; rw [if_neg hl, if_pos (Nat.lt_succ_self e)]
  simp only [e1, e2]
  icases HX with ⟨⟨H1, H2⟩, Hback⟩
  iapply (wp_zIssue A c G z e t he hl ht hG hd) $$ [Hz H1 HB H2 Hback Hk]
  isplitl [Hz]; · iexact Hz
  isplitl [H1]; · iexact H1
  isplitl [HB]; · iexact HB
  iintro ⟨Hz, HB⟩
  iapply Hk
  isplitl [Hz]; · iexact Hz
  isplitl [H2 Hback]
  · iapply Hback
    isplitr; · iempintro
    iexact H2
  iexact HB

theorem wp_O {offs inbs offd inbd h1 h2 h3} {k : PUnit → Prog (TpuEff nD τ sig (Elt F) Λ (th c).2) α} {Q : α → sProp 𝕄}
    (e q s : ℕ) (hi : q < nl A) (hq : q < s) (he : e = ord A q) (hs : offs = ![e, 0, 0]) (hd : offd = ![e, 0, 0]) :
    iprop(OG A c G 32 q s ∗ OB A c G z (nd A + q) 0 ∗ ((OG A c G 32 (q + 1) s ∗ OB A c G z (nd A + (q + 1)) 0) -∗ wp frame (wpE defs 𝒱 (th c) bd) Set.univ (k ⟨⟩) Q))
      ⊢ wp frame (wpE defs 𝒱 (th c) bd) Set.univ
          (.op (.enqueueDmaAs (oSrc offs inbs) (.here (oDst offd inbd)) .same (.dma (cc0_scratch13 : DmaSems sig S_).sem) h1 h2 h3) k) Q := by
  have hel : live A e = true := he ▸ ord_live A hi
  have hp : pos A e = q := he ▸ pos_ord A hi
  iintro ⟨HX, HB, Hk⟩
  unfold OG
  ihave HX := (take_out (F := F) (Φ := fun a => OSt A c G 32 q s a) (Φ' := fun a => OSt A c G 32 (q + 1) s a) e (he ▸ ord_lt A hi)
    (fun a ha hne => by
      unfold OSt
      by_cases hl : live A a = true
      · rw [if_pos hl, if_pos hl]
        have := pos_ne A ha hl (he ▸ hne)
        have : (pos A a < q) = (pos A a < q + 1) := by apply propext; omega
        simp only [this]
      · rw [if_neg hl, if_neg hl])) $$ HX
  have e1 : OSt A c G 32 q s e = iprop(oAny c e ∗ obG c G e) := by
    unfold OSt; rw [if_pos hel, hp, if_neg (by omega), if_pos (by omega)]
  have e2 : OSt A c G 32 (q + 1) s e = iprop(emp) := by
    unfold OSt; rw [if_pos hel, hp, if_pos (by omega)]
  simp only [e1, e2]
  unfold obG
  icases HX with ⟨⟨H1, H2⟩, Hback⟩
  iapply (wp_oIssue A c G z e q (nd A + q) hi he rfl hs hd) $$ [H1 H2 HB Hback Hk]
  isplitl [H2]; · iexact H2
  isplitl [H1]; · iexact H1
  isplitl [HB]; · iexact HB
  iintro HB
  iapply Hk
  isplitl [Hback]
  · iapply Hback
    iempintro
  iexact HB

end RulesO

end Cert.Kernel.Hand

end
-- ==== Proof.Start.lean ====
/-
  The two whole copies (row counts, scales of the weights), and the stretch of the body that issues the first copies.
-/
module

public import proofs.«01_k».proof.Proof.Hold

@[expose] public section

set_option maxRecDepth 16384

noncomputable section

namespace Cert.Kernel.Hand

open Cert.Kernel Cert.Kernel.Gen Cert.Listing
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ
local notation "EC" => countersEmb (U := Pipeline.UD sig nD τ)

variable (A : Arrays F) (c : Dev nD)

/-- A program that returns, followed by another. -/
theorem ret_bind'.{v} {E : Type → Type v} {α β : Type} (a : α) (k : α → Prog E β) : (Prog.ret a).bind k = k a := rfl

section Rules

variable {α : Type} {Λ : Labels} {defs : Defs nD τ sig (Elt F) Λ} {𝒱 : Variants} {bd : Option 𝒱.V}

abbrev gSrc : Memref sig .tc .hbm S32 .i32 := Memref.whole main_arg1
abbrev gDst : Memref sig .tc .smem S32 .i32 := Memref.whole cc0_scratch0
abbrev sSrc : Memref sig .tc .hbm S32x768 .f32 := Memref.whole main_arg3
abbrev sDst : Memref sig .tc .vmem S32x768 .f32 := Memref.whole cc0_scratch6
def NG : ℕ := gDst.view.dmaCredit
def NS : ℕ := sDst.view.dmaCredit
theorem NG_pos : 0 < NG := View.dmaCredit_pos _ (by decide)
theorem NS_pos : 0 < NS := View.dmaCredit_pos _ (by decide)

def GH : sProp 𝕄 := iprop((th c).loc main_arg1 ↦[Finset.univ]{fullShare} A.GS)
def GS_ : sProp 𝕄 := iprop((th c).loc cc0_scratch0 ↦[Finset.univ]{fullShare} A.GS)
def GAny : sProp 𝕄 := iprop(∃ f, (th c).loc cc0_scratch0 ↦[Finset.univ]{fullShare} f)
def GFly : sProp 𝕄 := Flight EC (th c) (.dma (cc0_scratch9 : DmaSems sig S_).sem) () NG iprop(GS_ A c ∗ GH A c)
def SH : sProp 𝕄 := iprop((th c).loc main_arg3 ↦[Finset.univ]{fullShare} A.WS)
def SV : sProp 𝕄 := iprop((th c).loc cc0_scratch6 ↦[Finset.univ]{fullShare} A.WS)
def SAny : sProp 𝕄 := iprop(∃ f, (th c).loc cc0_scratch6 ↦[Finset.univ]{fullShare} f)
def SFly : sProp 𝕄 := Flight EC (th c) (.dma (cc0_scratch12 : DmaSems sig S_).sem) () NS iprop(SV A c ∗ SH A c)

theorem wp_gIssue {h1 h2 h3} {k : PUnit → Prog (TpuEff nD τ sig (Elt F) Λ (th c).2) α} {Q : α → sProp 𝕄} :
    iprop(GH A c ∗ GAny c ∗ sv c 0 ∗ (GFly A c -∗ wp frame (wpE defs 𝒱 (th c) bd) Set.univ (k ⟨⟩) Q))
      ⊢ wp frame (wpE defs 𝒱 (th c) bd) Set.univ
          (.op (.enqueueDmaAs gSrc (.here gDst) .same (.dma (cc0_scratch9 : DmaSems sig S_).sem) h1 h2 h3) k) Q := by
  unfold GH GAny GFly sv GS_ GH
  iintro ⟨Hg, ⟨%f, Hb⟩, Hs, Hk⟩
  have key := wp_dmaLocal EC 𝒱 (th c) bd (src := gSrc) (via := .same) (dst := gDst) (sm := .dma (cc0_scratch9 : DmaSems sig S_).sem) (hsrc := h1) (hdst := h2) (hsem := h3) (k := k) (Q := Q) (defs := defs) () NG rfl NG_pos (Sd := Finset.univ) (Finset.subset_univ _) (q := fullShare) (fs := A.GS) (fd := f)
  iapply key $$ [Hg Hb Hs]
  · isplitl [Hg]; · rw [View.set_whole]; iexact Hg
    isplitl [Hb]; · iexact Hb
    iexact Hs
  rw [View.set_whole, View.write_whole_univ]
  iexact Hk

theorem wp_gWait {h1 h2} {k : PUnit → Prog (TpuEff nD τ sig (Elt F) Λ (th c).2) α} {Q : α → sProp 𝕄} :
    iprop(GFly A c ∗ Ow c ∗ ((GS_ A c ∗ GH A c ∗ sv c 0 ∗ Ow c) -∗ wp frame (wpE defs 𝒱 (th c) bd) Set.univ (k ⟨⟩) Q))
      ⊢ wp frame (wpE defs 𝒱 (th c) bd) Set.univ
          (.op (.waitDma2 (cc0_scratch9 : DmaSems sig S_).sem gSrc gDst h1 h2) k) Q := by
  unfold GFly Ow sv
  iintro ⟨Hf, ⟨%Wt, HO⟩, Hk⟩
  iapply (wp_waitLocal EC 𝒱 (th c) bd () (N := NG) rfl) $$ [Hf HO]
  · isplitl [Hf]; · iexact Hf
    iexact HO
  iintro ⟨⟨H1, H2⟩, Hs, HO⟩
  iapply Hk
  isplitl [H1]; · iexact H1
  isplitl [H2]; · iexact H2
  isplitl [Hs]; · iexact Hs
  iexists _; iexact HO

theorem wp_sIssue {h1 h2 h3} {k : PUnit → Prog (TpuEff nD τ sig (Elt F) Λ (th c).2) α} {Q : α → sProp 𝕄} :
    iprop(SH A c ∗ SAny c ∗ sv c 42 ∗ (SFly A c -∗ wp frame (wpE defs 𝒱 (th c) bd) Set.univ (k ⟨⟩) Q))
      ⊢ wp frame (wpE defs 𝒱 (th c) bd) Set.univ
          (.op (.enqueueDmaAs sSrc (.here sDst) .same (.dma (cc0_scratch12 : DmaSems sig S_).sem) h1 h2 h3) k) Q := by
  unfold SH SAny SFly sv SV SH
  iintro ⟨Hg, ⟨%f, Hb⟩, Hs, Hk⟩
  have key := wp_dmaLocal EC 𝒱 (th c) bd (src := sSrc) (via := .same) (dst := sDst) (sm := .dma (cc0_scratch12 : DmaSems sig S_).sem) (hsrc := h1) (hdst := h2) (hsem := h3) (k := k) (Q := Q) (defs := defs) () NS rfl NS_pos (Sd := Finset.univ) (Finset.subset_univ _) (q := fullShare) (fs := A.WS) (fd := f)
  iapply key $$ [Hg Hb Hs]
  · isplitl [Hg]; · rw [View.set_whole]; iexact Hg
    isplitl [Hb]; · iexact Hb
    iexact Hs
  rw [View.set_whole, View.write_whole_univ]
  iexact Hk

theorem wp_sWait {h1 h2} {k : PUnit → Prog (TpuEff nD τ sig (Elt F) Λ (th c).2) α} {Q : α → sProp 𝕄} :
    iprop(SFly A c ∗ Ow c ∗ ((SV A c ∗ SH A c ∗ sv c 42 ∗ Ow c) -∗ wp frame (wpE defs 𝒱 (th c) bd) Set.univ (k ⟨⟩) Q))
      ⊢ wp frame (wpE defs 𝒱 (th c) bd) Set.univ
          (.op (.waitDma2 (cc0_scratch12 : DmaSems sig S_).sem sSrc sDst h1 h2) k) Q := by
  unfold SFly Ow sv
  iintro ⟨Hf, ⟨%Wt, HO⟩, Hk⟩
  iapply (wp_waitLocal EC 𝒱 (th c) bd () (N := NS) rfl) $$ [Hf HO]
  · isplitl [Hf]; · iexact Hf
    iexact HO
  iintro ⟨⟨H1, H2⟩, Hs, HO⟩
  iapply Hk
  isplitl [H1]; · iexact H1
  isplitl [H2]; · iexact H2
  isplitl [Hs]; · iexact Hs
  iexists _; iexact HO

end Rules

abbrev P29 : Prog (TpuEff nD τ sig (Elt F) Λ₀ .tc) PUnit := k0_part29 (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13
abbrev P30 : Prog (TpuEff nD τ sig (Elt F) Λ₀ .tc) PUnit := k0_part30 (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13
abbrev P31 : Prog (TpuEff nD τ sig (Elt F) Λ₀ .tc) PUnit := k0_part31 (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13
abbrev P32 : Prog (TpuEff nD τ sig (Elt F) Λ₀ .tc) PUnit := k0_part32 (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13
abbrev P33 : Prog (TpuEff nD τ sig (Elt F) Λ₀ .tc) PUnit := k0_part33 (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13
abbrev P34 : Prog (TpuEff nD τ sig (Elt F) Λ₀ .tc) PUnit := k0_part34 (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13
abbrev P35 : Prog (TpuEff nD τ sig (Elt F) Λ₀ .tc) PUnit := k0_part35 (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13
abbrev P36 : Prog (TpuEff nD τ sig (Elt F) Λ₀ .tc) PUnit := k0_part36 (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13
abbrev P38 : Prog (TpuEff nD τ sig (Elt F) Λ₀ .tc) PUnit := k0_part38 (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13
abbrev P39 : Prog (TpuEff nD τ sig (Elt F) Λ₀ .tc) PUnit := k0_part39 (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13
abbrev P40 : Prog (TpuEff nD τ sig (Elt F) Λ₀ .tc) PUnit := k0_part40 (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13
abbrev P41 : Prog (TpuEff nD τ sig (Elt F) Λ₀ .tc) PUnit := k0_part41 (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13
abbrev P42 : Prog (TpuEff nD τ sig (Elt F) Λ₀ .tc) PUnit := k0_part42 (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13
abbrev P43 : Prog (TpuEff nD τ sig (Elt F) Λ₀ .tc) PUnit := k0_part43 (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13
abbrev P44 : Prog (TpuEff nD τ sig (Elt F) Λ₀ .tc) PUnit := k0_part44 (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13
abbrev P45 : Prog (TpuEff nD τ sig (Elt F) Λ₀ .tc) PUnit := k0_part45 (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13

section Literal

variable {α : Type} {Λ : Labels} {defs : Defs nD τ sig (Elt F) Λ} {𝒱 : Variants} {bd : Option 𝒱.V}

/-- A first copy, at an expert that the program text names. -/
theorem wp_X0L {e : ℕ} {inbs inbd inbq h1 h2 h3} {k : PUnit → Prog (TpuEff nD τ sig (Elt F) Λ (th c).2) α} {Q : α → sProp 𝕄} :
    XP A c e ⊢ iprop((XP A c (e + 1) -∗ wp frame (wpE defs 𝒱 (th c) bd) Set.univ (k ⟨⟩) Q)
      -∗ wp frame (wpE defs 𝒱 (th c) bd) Set.univ
          (.op (.enqueueDmaAs (xSrc ![e, 0, 0, 0] inbs) (.here (xDst ![e, 0, 0, 0] inbd)) .same (.dma (xSem ![e] inbq)) h1 h2 h3) k) Q) := by
  iintro H1 H2
  iapply (wp_X0 A c e (by have := inbq 0; simp [S1, S32] at this; omega) rfl rfl rfl)
  isplitl [H1]; · iexact H1
  iexact H2

/-- The wait for a first copy, at an expert that the program text names. -/
theorem wp_XW0L {e f : ℕ} {inbs inbd inbq h1 h2} {k : PUnit → Prog (TpuEff nD τ sig (Elt F) Λ (th c).2) α} {Q : α → sProp 𝕄} :
    iprop(XG A c e f 0 ∗ Ow c) ⊢ iprop(((XG A c (e + 1) f 0 ∗ Ow c) -∗ wp frame (wpE defs 𝒱 (th c) bd) Set.univ (k ⟨⟩) Q)
      -∗ wp frame (wpE defs 𝒱 (th c) bd) Set.univ
          (.op (.waitDma2 (xSem ![e] inbq) (xSrc ![e, 0, 0, 0] inbs) (xDst ![e, 0, 0, 0] inbd) h1 h2) k) Q) := by
  iintro ⟨H1, H2⟩ H3
  iapply (wp_XW0 A c e f (by have := inbq 0; simp [S1, S32] at this; omega) rfl)
  isplitl [H1]; · iexact H1
  isplitl [H2]; · iexact H2
  iexact H3

end Literal

local notation "WP" => wp frame (wpE (defs₀ (F := F)) Variants.none (th c) none) Set.univ

theorem part29 : iprop(GH A c ∗ GAny c ∗ sv c 0 ∗ XP A c 0) ⊢ WP (P29 (F := F)) (fun _ => iprop(GFly A c ∗ XP A c 3)) := by
  sl_unfold [P29, k0_part29]
  iintro ⟨Hg, Hb, Hs, HX⟩
  iapply (wp_gIssue A c) $$ [Hg Hb Hs HX]
  isplitl [Hg]; · iexact Hg
  isplitl [Hb]; · iexact Hb
  isplitl [Hs]; · iexact Hs
  iintro HG
  repeat (iapply (wp_X0L A c) $$ HX; iintro HX)
  simp only [ret_bind', Prog.pure_eq_ret, wp_ret]
  imodintro
  isplitl [HG]; · iexact HG
  iexact HX

theorem part30 : XP A c 3 ⊢ WP (P30 (F := F)) (fun _ => XP A c 7) := by
  sl_unfold [P30, k0_part30]
  iintro HX
  repeat (iapply (wp_X0L A c) $$ HX; iintro HX)
  simp only [ret_bind', Prog.pure_eq_ret, wp_ret]
  imodintro
  iexact HX

theorem part31 : XP A c 7 ⊢ WP (P31 (F := F)) (fun _ => XP A c 11) := by
  sl_unfold [P31, k0_part31]
  iintro HX
  repeat (iapply (wp_X0L A c) $$ HX; iintro HX)
  simp only [ret_bind', Prog.pure_eq_ret, wp_ret]
  imodintro
  iexact HX

theorem part32 : XP A c 11 ⊢ WP (P32 (F := F)) (fun _ => XP A c 14) := by
  sl_unfold [P32, k0_part32]
  iintro HX
  repeat (iapply (wp_X0L A c) $$ HX; iintro HX)
  simp only [ret_bind', Prog.pure_eq_ret, wp_ret]
  imodintro
  iexact HX

theorem part33 : XP A c 14 ⊢ WP (P33 (F := F)) (fun _ => XP A c 18) := by
  sl_unfold [P33, k0_part33]
  iintro HX
  repeat (iapply (wp_X0L A c) $$ HX; iintro HX)
  simp only [ret_bind', Prog.pure_eq_ret, wp_ret]
  imodintro
  iexact HX

theorem part34 : XP A c 18 ⊢ WP (P34 (F := F)) (fun _ => XP A c 22) := by
  sl_unfold [P34, k0_part34]
  iintro HX
  repeat (iapply (wp_X0L A c) $$ HX; iintro HX)
  simp only [ret_bind', Prog.pure_eq_ret, wp_ret]
  imodintro
  iexact HX

theorem part35 : XP A c 22 ⊢ WP (P35 (F := F)) (fun _ => XP A c 26) := by
  sl_unfold [P35, k0_part35]
  iintro HX
  repeat (iapply (wp_X0L A c) $$ HX; iintro HX)
  simp only [ret_bind', Prog.pure_eq_ret, wp_ret]
  imodintro
  iexact HX

theorem part36 : XP A c 26 ⊢ WP (P36 (F := F)) (fun _ => XP A c 29) := by
  sl_unfold [P36, k0_part36]
  iintro HX
  repeat (iapply (wp_X0L A c) $$ HX; iintro HX)
  simp only [ret_bind', Prog.pure_eq_ret, wp_ret]
  imodintro
  iexact HX

theorem part38 (f : ℕ) : iprop(XG A c 0 f 0 ∗ Ow c) ⊢ WP (P38 (F := F)) (fun _ => iprop(XG A c 4 f 0 ∗ Ow c)) := by
  sl_unfold [P38, k0_part38]
  iintro HX
  repeat (iapply (wp_XW0L A c) $$ HX; iintro HX)
  simp only [ret_bind', Prog.pure_eq_ret, wp_ret]
  imodintro
  iexact HX

theorem part39 (f : ℕ) : iprop(XG A c 4 f 0 ∗ Ow c) ⊢ WP (P39 (F := F)) (fun _ => iprop(XG A c 8 f 0 ∗ Ow c)) := by
  sl_unfold [P39, k0_part39]
  iintro HX
  repeat (iapply (wp_XW0L A c) $$ HX; iintro HX)
  simp only [ret_bind', Prog.pure_eq_ret, wp_ret]
  imodintro
  iexact HX

theorem part40 (f : ℕ) : iprop(XG A c 8 f 0 ∗ Ow c) ⊢ WP (P40 (F := F)) (fun _ => iprop(XG A c 11 f 0 ∗ Ow c)) := by
  sl_unfold [P40, k0_part40]
  iintro HX
  repeat (iapply (wp_XW0L A c) $$ HX; iintro HX)
  simp only [ret_bind', Prog.pure_eq_ret, wp_ret]
  imodintro
  iexact HX

theorem part41 (f : ℕ) : iprop(XG A c 11 f 0 ∗ Ow c) ⊢ WP (P41 (F := F)) (fun _ => iprop(XG A c 15 f 0 ∗ Ow c)) := by
  sl_unfold [P41, k0_part41]
  iintro HX
  repeat (iapply (wp_XW0L A c) $$ HX; iintro HX)
  simp only [ret_bind', Prog.pure_eq_ret, wp_ret]
  imodintro
  iexact HX

theorem part42 (f : ℕ) : iprop(XG A c 15 f 0 ∗ Ow c) ⊢ WP (P42 (F := F)) (fun _ => iprop(XG A c 19 f 0 ∗ Ow c)) := by
  sl_unfold [P42, k0_part42]
  iintro HX
  repeat (iapply (wp_XW0L A c) $$ HX; iintro HX)
  simp only [ret_bind', Prog.pure_eq_ret, wp_ret]
  imodintro
  iexact HX

theorem part43 (f : ℕ) : iprop(XG A c 19 f 0 ∗ Ow c) ⊢ WP (P43 (F := F)) (fun _ => iprop(XG A c 23 f 0 ∗ Ow c)) := by
  sl_unfold [P43, k0_part43]
  iintro HX
  repeat (iapply (wp_XW0L A c) $$ HX; iintro HX)
  simp only [ret_bind', Prog.pure_eq_ret, wp_ret]
  imodintro
  iexact HX

theorem part44 (f : ℕ) : iprop(XG A c 23 f 0 ∗ Ow c) ⊢ WP (P44 (F := F)) (fun _ => iprop(XG A c 26 f 0 ∗ Ow c)) := by
  sl_unfold [P44, k0_part44]
  iintro HX
  repeat (iapply (wp_XW0L A c) $$ HX; iintro HX)
  simp only [ret_bind', Prog.pure_eq_ret, wp_ret]
  imodintro
  iexact HX

theorem part45 (f : ℕ) : iprop(XG A c 26 f 0 ∗ Ow c) ⊢ WP (P45 (F := F)) (fun _ => iprop(XG A c 30 f 0 ∗ Ow c)) := by
  sl_unfold [P45, k0_part45]
  iintro HX
  repeat (iapply (wp_XW0L A c) $$ HX; iintro HX)
  simp only [ret_bind', Prog.pure_eq_ret, wp_ret]
  imodintro
  iexact HX

end Cert.Kernel.Hand

end
-- ==== Proof.Words.lean ====
/-
  Facts about the words the body computes with: each is checked at every value the word can have.
-/
module

public import proofs.«01_k».proof.Proof.Hold

@[expose] public section

set_option maxRecDepth 16384

noncomputable section

namespace Cert.Kernel.Hand

open Cert.Kernel Cert.Kernel.Gen Cert.Listing
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ
local notation "EC" => countersEmb (U := Pipeline.UD sig nD τ)

variable (A : Arrays F) (c : Dev nD)

theorem chk9_0 : ∀ n : Fin 33, k0_chk9_0 (BitVec.ofNat 32 n) := by decide +kernel
theorem chk9_1 : ∀ n : Fin 33, k0_chk9_1 (BitVec.ofNat 32 n) := by decide +kernel
theorem chk9_2 : ∀ n : Fin 33, k0_chk9_2 (BitVec.ofNat 32 n) := by decide +kernel
theorem chk9_3 : ∀ n : Fin 33, k0_chk9_3 (BitVec.ofNat 32 n) := by decide +kernel
theorem chk9_4 : ∀ n : Fin 33, k0_chk9_4 (BitVec.ofNat 32 n) := by decide +kernel
theorem chk9_5 : ∀ n : Fin 33, k0_chk9_5 (BitVec.ofNat 32 n) := by decide +kernel

end Cert.Kernel.Hand

end
-- ==== Proof.Offs.lean ====
/-
  The offsets, conditions and checks of the body in closed form, at the words the body meets.
-/
module

public import proofs.«01_k».proof.Proof.Words

@[expose] public section

set_option maxRecDepth 16384

noncomputable section

namespace Cert.Kernel.Hand

open Cert.Kernel Cert.Kernel.Gen Cert.Listing
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ
local notation "EC" => countersEmb (U := Pipeline.UD sig nD τ)

variable (A : Arrays F) (c : Dev nD)

/-- A small number as a word. -/
abbrev bv (n : ℕ) : BitVec 32 := BitVec.ofNat 32 n

theorem gt_one (v w : BitVec 32) : (Scalar.cmpi .ne (Scalar.extui (Scalar.cmpi .sgt v w) : BitVec 32) 0#32 = 1#1) ↔ w.toInt < v.toInt := by
  have e : Scalar.cmpi .sgt v w = BitVec.ofBool (decide (w.toInt < v.toInt)) := rfl
  rw [e]
  by_cases h : w.toInt < v.toInt
  · simp only [h, decide_true, iff_true]; decide
  · simp only [h, decide_false, iff_false]; decide

theorem off2_aux : ∀ e : Fin 32, k0_off2 (bv e.val) = ![e.val] := by decide +kernel
theorem off2_eq {e : ℕ} (h : e < 32) : k0_off2 (bv e) = ![e] := off2_aux ⟨e, h⟩
theorem off4_aux : ∀ e : Fin 32, k0_off4 (bv e.val) = ![e.val] := by decide +kernel
theorem off4_eq {e : ℕ} (h : e < 32) : k0_off4 (bv e) = ![e] := off4_aux ⟨e, h⟩
theorem off5_aux : ∀ e : Fin 32, k0_off5 (bv e.val) = ![e.val] := by decide +kernel
theorem off5_eq {e : ℕ} (h : e < 32) : k0_off5 (bv e) = ![e] := off5_aux ⟨e, h⟩
theorem off6_aux : ∀ e : Fin 32, k0_off6 (bv e.val) = ![e.val, 1, 0, 0] := by decide +kernel
theorem off6_eq {e : ℕ} (h : e < 32) : k0_off6 (bv e) = ![e, 1, 0, 0] := off6_aux ⟨e, h⟩
theorem off10_aux : ∀ e : Fin 32, k0_off10 (bv e.val) = ![e.val, 0, 0] := by decide +kernel
theorem off10_eq {e : ℕ} (h : e < 32) : k0_off10 (bv e) = ![e, 0, 0] := off10_aux ⟨e, h⟩
theorem off14_aux : ∀ e : Fin 32, k0_off14 (bv e.val) = ![e.val, 256, 0] := by decide +kernel
theorem off14_eq {e : ℕ} (h : e < 32) : k0_off14 (bv e) = ![e, 256, 0] := off14_aux ⟨e, h⟩
theorem off18_aux : ∀ e : Fin 32, k0_off18 (bv e.val) = ![e.val, 512, 0] := by decide +kernel
theorem off18_eq {e : ℕ} (h : e < 32) : k0_off18 (bv e) = ![e, 512, 0] := off18_aux ⟨e, h⟩
theorem off20_aux : ∀ e : Fin 32, k0_off20 (bv e.val) = ![e.val] := by decide +kernel
theorem off20_eq {e : ℕ} (h : e < 32) : k0_off20 (bv e) = ![e] := off20_aux ⟨e, h⟩
theorem off21_aux : ∀ e : Fin 32, k0_off21 (bv e.val) = ![e.val] := by decide +kernel
theorem off21_eq {e : ℕ} (h : e < 32) : k0_off21 (bv e) = ![e] := off21_aux ⟨e, h⟩
theorem off22_aux : ∀ e : Fin 32, k0_off22 (bv e.val) = ![e.val, 1, 0, 0] := by decide +kernel
theorem off22_eq {e : ℕ} (h : e < 32) : k0_off22 (bv e) = ![e, 1, 0, 0] := off22_aux ⟨e, h⟩
theorem off23_aux : ∀ e : Fin 32, k0_off23 (bv e.val) = ![e.val] := by decide +kernel
theorem off23_eq {e : ℕ} (h : e < 32) : k0_off23 (bv e) = ![e] := off23_aux ⟨e, h⟩
theorem off24_aux : ∀ e : Fin 32, k0_off24 (bv e.val) = ![e.val, 0, 0, 0] := by decide +kernel
theorem off24_eq {e : ℕ} (h : e < 32) : k0_off24 (bv e) = ![e, 0, 0, 0] := off24_aux ⟨e, h⟩
theorem off28_aux : ∀ e : Fin 32, k0_off28 (bv e.val) = ![e.val, 0, 0] := by decide +kernel
theorem off28_eq {e : ℕ} (h : e < 32) : k0_off28 (bv e) = ![e, 0, 0] := off28_aux ⟨e, h⟩
theorem off30_aux : ∀ e : Fin 32, k0_off30 (bv e.val) = ![e.val] := by decide +kernel
theorem off30_eq {e : ℕ} (h : e < 32) : k0_off30 (bv e) = ![e] := off30_aux ⟨e, h⟩
theorem off31_aux : ∀ e : Fin 32, k0_off31 (bv e.val) = ![e.val] := by decide +kernel
theorem off31_eq {e : ℕ} (h : e < 32) : k0_off31 (bv e) = ![e] := off31_aux ⟨e, h⟩
theorem off32_aux : ∀ e : Fin 32, k0_off32 (bv e.val) = ![e.val, 1, 0, 0] := by decide +kernel
theorem off32_eq {e : ℕ} (h : e < 32) : k0_off32 (bv e) = ![e, 1, 0, 0] := off32_aux ⟨e, h⟩
theorem off36_aux : ∀ e : Fin 32, k0_off36 (bv e.val) = ![e.val, 0, 0] := by decide +kernel
theorem off36_eq {e : ℕ} (h : e < 32) : k0_off36 (bv e) = ![e, 0, 0] := off36_aux ⟨e, h⟩
theorem off40_aux : ∀ e : Fin 32, k0_off40 (bv e.val) = ![e.val, 256, 0] := by decide +kernel
theorem off40_eq {e : ℕ} (h : e < 32) : k0_off40 (bv e) = ![e, 256, 0] := off40_aux ⟨e, h⟩
theorem off44_aux : ∀ e : Fin 32, k0_off44 (bv e.val) = ![e.val, 512, 0] := by decide +kernel
theorem off44_eq {e : ℕ} (h : e < 32) : k0_off44 (bv e) = ![e, 512, 0] := off44_aux ⟨e, h⟩
theorem off45_aux : ∀ e : Fin 32, k0_off45 (bv e.val) = ![e.val] := by decide +kernel
theorem off45_eq {e : ℕ} (h : e < 32) : k0_off45 (bv e) = ![e] := off45_aux ⟨e, h⟩
theorem off46_aux : ∀ e : Fin 32, k0_off46 (bv e.val) = ![e.val] := by decide +kernel
theorem off46_eq {e : ℕ} (h : e < 32) : k0_off46 (bv e) = ![e] := off46_aux ⟨e, h⟩
theorem off47_aux : ∀ e : Fin 32, k0_off47 (bv e.val) = ![e.val, 1, 0, 0] := by decide +kernel
theorem off47_eq {e : ℕ} (h : e < 32) : k0_off47 (bv e) = ![e, 1, 0, 0] := off47_aux ⟨e, h⟩
theorem off51_aux : ∀ e : Fin 32, k0_off51 (bv e.val) = ![e.val, 0, 0] := by decide +kernel
theorem off51_eq {e : ℕ} (h : e < 32) : k0_off51 (bv e) = ![e, 0, 0] := off51_aux ⟨e, h⟩
theorem off55_aux : ∀ e : Fin 32, k0_off55 (bv e.val) = ![e.val, 256, 0] := by decide +kernel
theorem off55_eq {e : ℕ} (h : e < 32) : k0_off55 (bv e) = ![e, 256, 0] := off55_aux ⟨e, h⟩
theorem off59_aux : ∀ e : Fin 32, k0_off59 (bv e.val) = ![e.val, 512, 0] := by decide +kernel
theorem off59_eq {e : ℕ} (h : e < 32) : k0_off59 (bv e) = ![e, 512, 0] := off59_aux ⟨e, h⟩
theorem off60_aux : ∀ e : Fin 32, k0_off60 (bv e.val) = ![e.val, 0] := by decide +kernel
theorem off60_eq {e : ℕ} (h : e < 32) : k0_off60 (bv e) = ![e, 0] := off60_aux ⟨e, h⟩
theorem off61_aux : ∀ e : Fin 32, k0_off61 (bv e.val) = ![e.val] := by decide +kernel
theorem off61_eq {e : ℕ} (h : e < 32) : k0_off61 (bv e) = ![e] := off61_aux ⟨e, h⟩
theorem off112_aux : ∀ e : Fin 32, k0_off112 (bv e.val) = ![e.val, 0, 0] := by decide +kernel
theorem off112_eq {e : ℕ} (h : e < 32) : k0_off112 (bv e) = ![e, 0, 0] := off112_aux ⟨e, h⟩
theorem off113_aux : ∀ e : Fin 32, k0_off113 (bv e.val) = ![e.val] := by decide +kernel
theorem off113_eq {e : ℕ} (h : e < 32) : k0_off113 (bv e) = ![e] := off113_aux ⟨e, h⟩
theorem off114_aux : ∀ e : Fin 32, k0_off114 (bv e.val) = ![e.val, 0, 0, 0] := by decide +kernel
theorem off114_eq {e : ℕ} (h : e < 32) : k0_off114 (bv e) = ![e, 0, 0, 0] := off114_aux ⟨e, h⟩
theorem off210_aux : ∀ e : Fin 32, k0_off210 (bv e.val) = ![e.val, 0, 0] := by decide +kernel
theorem off210_eq {e : ℕ} (h : e < 32) : k0_off210 (bv e) = ![e, 0, 0] := off210_aux ⟨e, h⟩
theorem off3_aux : ∀ e : Fin 3, k0_off3 (bv e.val) = ![e.val] := by decide +kernel
theorem off3_eq {e : ℕ} (h : e < 3) : k0_off3 (bv e) = ![e] := off3_aux ⟨e, h⟩
theorem off7_aux : ∀ e : Fin 3, k0_off7 (bv e.val) = ![e.val] := by decide +kernel
theorem off7_eq {e : ℕ} (h : e < 3) : k0_off7 (bv e) = ![e] := off7_aux ⟨e, h⟩
theorem off11_aux : ∀ e : Fin 3, k0_off11 (bv e.val) = ![e.val] := by decide +kernel
theorem off11_eq {e : ℕ} (h : e < 3) : k0_off11 (bv e) = ![e] := off11_aux ⟨e, h⟩
theorem off15_aux : ∀ e : Fin 3, k0_off15 (bv e.val) = ![e.val] := by decide +kernel
theorem off15_eq {e : ℕ} (h : e < 3) : k0_off15 (bv e) = ![e] := off15_aux ⟨e, h⟩
theorem off8_aux : ∀ e : Fin 3, k0_off8 (bv e.val) = ![e.val, 0] := by decide +kernel
theorem off8_eq {e : ℕ} (h : e < 3) : k0_off8 (bv e) = ![e, 0] := off8_aux ⟨e, h⟩
theorem off9_aux : ∀ e : Fin 3, k0_off9 (bv e.val) = ![e.val, 0, 0] := by decide +kernel
theorem off9_eq {e : ℕ} (h : e < 3) : k0_off9 (bv e) = ![e, 0, 0] := off9_aux ⟨e, h⟩
theorem off12_aux : ∀ e : Fin 3, k0_off12 (bv e.val) = ![e.val, 1] := by decide +kernel
theorem off12_eq {e : ℕ} (h : e < 3) : k0_off12 (bv e) = ![e, 1] := off12_aux ⟨e, h⟩
theorem off13_aux : ∀ e : Fin 3, k0_off13 (bv e.val) = ![e.val, 256, 0] := by decide +kernel
theorem off13_eq {e : ℕ} (h : e < 3) : k0_off13 (bv e) = ![e, 256, 0] := off13_aux ⟨e, h⟩
theorem off16_aux : ∀ e : Fin 3, k0_off16 (bv e.val) = ![e.val, 2] := by decide +kernel
theorem off16_eq {e : ℕ} (h : e < 3) : k0_off16 (bv e) = ![e, 2] := off16_aux ⟨e, h⟩
theorem off17_aux : ∀ e : Fin 3, k0_off17 (bv e.val) = ![e.val, 512, 0] := by decide +kernel
theorem off17_eq {e : ℕ} (h : e < 3) : k0_off17 (bv e) = ![e, 512, 0] := off17_aux ⟨e, h⟩
theorem off1_eq : ∀ t : Fin k0_t1_loop.trips, k0_off1 t = ![t.val] := by decide +kernel
theorem off19_eq : ∀ t : Fin k0_t1_loop.trips, k0_off19 t = ![t.val, 0, 0] := by decide +kernel
theorem off211_eq : ∀ t : Fin k0_t4_loop.trips, k0_off211 t = ![t.val, 0, 0] := by decide +kernel
theorem off209_aux : ∀ n : Fin 33, 0 < n.val → k0_off209 (bv n.val) = ![n.val - 1] := by decide +kernel
theorem off209_eq {n : ℕ} (h : n < 33) (h0 : 0 < n) : k0_off209 (bv n) = ![n - 1] := off209_aux ⟨n, h⟩ h0
theorem trips1 : k0_t1_loop.trips = 32 := by decide +kernel
theorem trips4 : k0_t4_loop.trips = 32 := by decide +kernel
theorem trips2_aux : ∀ n : Fin 33, (k0_t2_loop (bv n.val)).trips = n.val := by decide +kernel
theorem trips2 {n : ℕ} (h : n < 33) : (k0_t2_loop (bv n)).trips = n := trips2_aux ⟨n, h⟩
theorem trips3_aux : ∀ n : Fin 33, (k0_t3_loop (bv n.val)).trips = 0 := by decide +kernel
theorem trips3 {n : ℕ} (h : n < 33) : (k0_t3_loop (bv n)).trips = 0 := trips3_aux ⟨n, h⟩
theorem off25_aux : ∀ n : Fin 33, ∀ t : Fin (k0_t2_loop (bv n.val)).trips, k0_off25 (bv n.val) t = ![t.val] := by decide +kernel
theorem off25_eq {n : ℕ} (h : n < 33) (t : Fin (k0_t2_loop (bv n)).trips) : k0_off25 (bv n) t = ![t.val] := off25_aux ⟨n, h⟩ t
theorem off26_aux : ∀ n : Fin 33, ∀ t : Fin (k0_t2_loop (bv n.val)).trips, k0_off26 (bv n.val) t = ![min (t.val + 1) (n.val - 1)] := by decide +kernel
theorem off26_eq {n : ℕ} (h : n < 33) (t : Fin (k0_t2_loop (bv n)).trips) : k0_off26 (bv n) t = ![min (t.val + 1) (n - 1)] := off26_aux ⟨n, h⟩ t
theorem off27_aux : ∀ n : Fin 33, ∀ t : Fin (k0_t2_loop (bv n.val)).trips, 0 < t.val → k0_off27 (bv n.val) t = ![t.val - 1] := by decide +kernel
theorem off27_eq {n : ℕ} (h : n < 33) (t : Fin (k0_t2_loop (bv n)).trips) (h0 : 0 < t.val) : k0_off27 (bv n) t = ![t.val - 1] := off27_aux ⟨n, h⟩ t h0
theorem off29_aux : ∀ n : Fin 33, ∀ t : Fin (k0_t2_loop (bv n.val)).trips, k0_off29 (bv n.val) t = ![t.val + 2] := by decide +kernel
theorem off29_eq {n : ℕ} (h : n < 33) (t : Fin (k0_t2_loop (bv n)).trips) : k0_off29 (bv n) t = ![t.val + 2] := off29_aux ⟨n, h⟩ t
theorem off33_eq {n : ℕ} (h : n < 33) (t : Fin (k0_t2_loop (bv n)).trips) : k0_off33 (bv n) t = ![t.val + 2] := by
  have e0 : k0_off33 (bv n) t = ![(k0_off29 (bv n) t) 0] := rfl
  rw [e0, off29_eq h t]; rfl
theorem off37_eq {n : ℕ} (h : n < 33) (t : Fin (k0_t2_loop (bv n)).trips) : k0_off37 (bv n) t = ![t.val + 2] := by
  have e0 : k0_off37 (bv n) t = ![(k0_off29 (bv n) t) 0] := rfl
  rw [e0, off29_eq h t]; rfl
theorem off41_eq {n : ℕ} (h : n < 33) (t : Fin (k0_t2_loop (bv n)).trips) : k0_off41 (bv n) t = ![t.val + 2] := by
  have e0 : k0_off41 (bv n) t = ![(k0_off29 (bv n) t) 0] := rfl
  rw [e0, off29_eq h t]; rfl
theorem off34_aux : ∀ n : Fin 33, ∀ t : Fin (k0_t2_loop (bv n.val)).trips, k0_off34 (bv n.val) t = ![(t.val + 2) % 3, 0] := by decide +kernel
theorem off34_eq {n : ℕ} (h : n < 33) (t : Fin (k0_t2_loop (bv n)).trips) : k0_off34 (bv n) t = ![(t.val + 2) % 3, 0] := off34_aux ⟨n, h⟩ t
theorem off35_eq {n : ℕ} (h : n < 33) (t : Fin (k0_t2_loop (bv n)).trips) : k0_off35 (bv n) t = ![(t.val + 2) % 3, 0, 0] := by
  have e0 : k0_off35 (bv n) t = ![(k0_off34 (bv n) t) 0, 0, 0] := rfl
  rw [e0, off34_eq h t]; rfl
theorem off38_eq {n : ℕ} (h : n < 33) (t : Fin (k0_t2_loop (bv n)).trips) : k0_off38 (bv n) t = ![(t.val + 2) % 3, 1] := by
  have e0 : k0_off38 (bv n) t = ![(k0_off34 (bv n) t) 0, 1] := rfl
  rw [e0, off34_eq h t]; rfl
theorem off39_eq {n : ℕ} (h : n < 33) (t : Fin (k0_t2_loop (bv n)).trips) : k0_off39 (bv n) t = ![(t.val + 2) % 3, 256, 0] := by
  have e0 : k0_off39 (bv n) t = ![(k0_off34 (bv n) t) 0, 256, 0] := rfl
  rw [e0, off34_eq h t]; rfl
theorem off42_eq {n : ℕ} (h : n < 33) (t : Fin (k0_t2_loop (bv n)).trips) : k0_off42 (bv n) t = ![(t.val + 2) % 3, 2] := by
  have e0 : k0_off42 (bv n) t = ![(k0_off34 (bv n) t) 0, 2] := rfl
  rw [e0, off34_eq h t]; rfl
theorem off43_eq {n : ℕ} (h : n < 33) (t : Fin (k0_t2_loop (bv n)).trips) : k0_off43 (bv n) t = ![(t.val + 2) % 3, 512, 0] := by
  have e0 : k0_off43 (bv n) t = ![(k0_off34 (bv n) t) 0, 512, 0] := rfl
  rw [e0, off34_eq h t]; rfl
theorem off48_eq {n : ℕ} (h : n < 33) (t : Fin (k0_t2_loop (bv n)).trips) : k0_off48 (bv n) t = ![t.val] := by
  have e0 : k0_off48 (bv n) t = ![(k0_off25 (bv n) t) 0] := rfl
  rw [e0, off25_eq h t]; rfl
theorem off52_eq {n : ℕ} (h : n < 33) (t : Fin (k0_t2_loop (bv n)).trips) : k0_off52 (bv n) t = ![t.val] := by
  have e0 : k0_off52 (bv n) t = ![(k0_off25 (bv n) t) 0] := rfl
  rw [e0, off25_eq h t]; rfl
theorem off56_eq {n : ℕ} (h : n < 33) (t : Fin (k0_t2_loop (bv n)).trips) : k0_off56 (bv n) t = ![t.val] := by
  have e0 : k0_off56 (bv n) t = ![(k0_off25 (bv n) t) 0] := rfl
  rw [e0, off25_eq h t]; rfl
theorem off49_aux : ∀ n : Fin 33, ∀ t : Fin (k0_t2_loop (bv n.val)).trips, k0_off49 (bv n.val) t = ![t.val % 3, 0] := by decide +kernel
theorem off49_eq {n : ℕ} (h : n < 33) (t : Fin (k0_t2_loop (bv n)).trips) : k0_off49 (bv n) t = ![t.val % 3, 0] := off49_aux ⟨n, h⟩ t
theorem off50_eq {n : ℕ} (h : n < 33) (t : Fin (k0_t2_loop (bv n)).trips) : k0_off50 (bv n) t = ![t.val % 3, 0, 0] := by
  have e0 : k0_off50 (bv n) t = ![(k0_off49 (bv n) t) 0, 0, 0] := rfl
  rw [e0, off49_eq h t]; rfl
theorem off53_eq {n : ℕ} (h : n < 33) (t : Fin (k0_t2_loop (bv n)).trips) : k0_off53 (bv n) t = ![t.val % 3, 1] := by
  have e0 : k0_off53 (bv n) t = ![(k0_off49 (bv n) t) 0, 1] := rfl
  rw [e0, off49_eq h t]; rfl
theorem off54_eq {n : ℕ} (h : n < 33) (t : Fin (k0_t2_loop (bv n)).trips) : k0_off54 (bv n) t = ![t.val % 3, 256, 0] := by
  have e0 : k0_off54 (bv n) t = ![(k0_off49 (bv n) t) 0, 256, 0] := rfl
  rw [e0, off49_eq h t]; rfl
theorem off57_eq {n : ℕ} (h : n < 33) (t : Fin (k0_t2_loop (bv n)).trips) : k0_off57 (bv n) t = ![t.val % 3, 2] := by
  have e0 : k0_off57 (bv n) t = ![(k0_off49 (bv n) t) 0, 2] := rfl
  rw [e0, off49_eq h t]; rfl
theorem off58_eq {n : ℕ} (h : n < 33) (t : Fin (k0_t2_loop (bv n)).trips) : k0_off58 (bv n) t = ![t.val % 3, 512, 0] := by
  have e0 : k0_off58 (bv n) t = ![(k0_off49 (bv n) t) 0, 512, 0] := rfl
  rw [e0, off49_eq h t]; rfl
theorem off64_eq {n : ℕ} (h : n < 33) (t : Fin (k0_t2_loop (bv n)).trips) : k0_off64 (bv n) t = ![t.val % 3, 0, 0] := by
  have e0 : k0_off64 (bv n) t = ![(k0_off49 (bv n) t) 0, 0, 0] := rfl
  rw [e0, off49_eq h t]; rfl
theorem off65_eq {n : ℕ} (h : n < 33) (t : Fin (k0_t2_loop (bv n)).trips) : k0_off65 (bv n) t = ![t.val % 3, 512, 0] := by
  have e0 : k0_off65 (bv n) t = ![(k0_off49 (bv n) t) 0, 512, 0] := rfl
  rw [e0, off49_eq h t]; rfl
theorem off66_eq {n : ℕ} (h : n < 33) (t : Fin (k0_t2_loop (bv n)).trips) : k0_off66 (bv n) t = ![t.val % 3, 0, 256] := by
  have e0 : k0_off66 (bv n) t = ![(k0_off49 (bv n) t) 0, 0, 256] := rfl
  rw [e0, off49_eq h t]; rfl
theorem off67_eq {n : ℕ} (h : n < 33) (t : Fin (k0_t2_loop (bv n)).trips) : k0_off67 (bv n) t = ![t.val % 3, 512, 256] := by
  have e0 : k0_off67 (bv n) t = ![(k0_off49 (bv n) t) 0, 512, 256] := rfl
  rw [e0, off49_eq h t]; rfl
theorem off68_eq {n : ℕ} (h : n < 33) (t : Fin (k0_t2_loop (bv n)).trips) : k0_off68 (bv n) t = ![t.val % 3, 0, 512] := by
  have e0 : k0_off68 (bv n) t = ![(k0_off49 (bv n) t) 0, 0, 512] := rfl
  rw [e0, off49_eq h t]; rfl
theorem off69_eq {n : ℕ} (h : n < 33) (t : Fin (k0_t2_loop (bv n)).trips) : k0_off69 (bv n) t = ![t.val % 3, 512, 512] := by
  have e0 : k0_off69 (bv n) t = ![(k0_off49 (bv n) t) 0, 512, 512] := rfl
  rw [e0, off49_eq h t]; rfl
theorem off70_eq {n : ℕ} (h : n < 33) (t : Fin (k0_t2_loop (bv n)).trips) : k0_off70 (bv n) t = ![t.val % 3, 0, 768] := by
  have e0 : k0_off70 (bv n) t = ![(k0_off49 (bv n) t) 0, 0, 768] := rfl
  rw [e0, off49_eq h t]; rfl
theorem off71_eq {n : ℕ} (h : n < 33) (t : Fin (k0_t2_loop (bv n)).trips) : k0_off71 (bv n) t = ![t.val % 3, 512, 768] := by
  have e0 : k0_off71 (bv n) t = ![(k0_off49 (bv n) t) 0, 512, 768] := rfl
  rw [e0, off49_eq h t]; rfl
theorem off72_eq {n : ℕ} (h : n < 33) (t : Fin (k0_t2_loop (bv n)).trips) : k0_off72 (bv n) t = ![t.val % 3, 0, 1024] := by
  have e0 : k0_off72 (bv n) t = ![(k0_off49 (bv n) t) 0, 0, 1024] := rfl
  rw [e0, off49_eq h t]; rfl
theorem off73_eq {n : ℕ} (h : n < 33) (t : Fin (k0_t2_loop (bv n)).trips) : k0_off73 (bv n) t = ![t.val % 3, 512, 1024] := by
  have e0 : k0_off73 (bv n) t = ![(k0_off49 (bv n) t) 0, 512, 1024] := rfl
  rw [e0, off49_eq h t]; rfl
theorem off74_eq {n : ℕ} (h : n < 33) (t : Fin (k0_t2_loop (bv n)).trips) : k0_off74 (bv n) t = ![t.val % 3, 0, 1280] := by
  have e0 : k0_off74 (bv n) t = ![(k0_off49 (bv n) t) 0, 0, 1280] := rfl
  rw [e0, off49_eq h t]; rfl
theorem off75_eq {n : ℕ} (h : n < 33) (t : Fin (k0_t2_loop (bv n)).trips) : k0_off75 (bv n) t = ![t.val % 3, 512, 1280] := by
  have e0 : k0_off75 (bv n) t = ![(k0_off49 (bv n) t) 0, 512, 1280] := rfl
  rw [e0, off49_eq h t]; rfl
theorem off76_eq {n : ℕ} (h : n < 33) (t : Fin (k0_t2_loop (bv n)).trips) : k0_off76 (bv n) t = ![t.val % 3, 0, 1536] := by
  have e0 : k0_off76 (bv n) t = ![(k0_off49 (bv n) t) 0, 0, 1536] := rfl
  rw [e0, off49_eq h t]; rfl
theorem off77_eq {n : ℕ} (h : n < 33) (t : Fin (k0_t2_loop (bv n)).trips) : k0_off77 (bv n) t = ![t.val % 3, 512, 1536] := by
  have e0 : k0_off77 (bv n) t = ![(k0_off49 (bv n) t) 0, 512, 1536] := rfl
  rw [e0, off49_eq h t]; rfl
theorem off78_eq {n : ℕ} (h : n < 33) (t : Fin (k0_t2_loop (bv n)).trips) : k0_off78 (bv n) t = ![t.val % 3, 0, 1792] := by
  have e0 : k0_off78 (bv n) t = ![(k0_off49 (bv n) t) 0, 0, 1792] := rfl
  rw [e0, off49_eq h t]; rfl
theorem off79_eq {n : ℕ} (h : n < 33) (t : Fin (k0_t2_loop (bv n)).trips) : k0_off79 (bv n) t = ![t.val % 3, 512, 1792] := by
  have e0 : k0_off79 (bv n) t = ![(k0_off49 (bv n) t) 0, 512, 1792] := rfl
  rw [e0, off49_eq h t]; rfl
theorem off80_eq {n : ℕ} (h : n < 33) (t : Fin (k0_t2_loop (bv n)).trips) : k0_off80 (bv n) t = ![t.val % 3, 0, 2048] := by
  have e0 : k0_off80 (bv n) t = ![(k0_off49 (bv n) t) 0, 0, 2048] := rfl
  rw [e0, off49_eq h t]; rfl
theorem off81_eq {n : ℕ} (h : n < 33) (t : Fin (k0_t2_loop (bv n)).trips) : k0_off81 (bv n) t = ![t.val % 3, 512, 2048] := by
  have e0 : k0_off81 (bv n) t = ![(k0_off49 (bv n) t) 0, 512, 2048] := rfl
  rw [e0, off49_eq h t]; rfl
theorem off82_eq {n : ℕ} (h : n < 33) (t : Fin (k0_t2_loop (bv n)).trips) : k0_off82 (bv n) t = ![t.val % 3, 0, 2304] := by
  have e0 : k0_off82 (bv n) t = ![(k0_off49 (bv n) t) 0, 0, 2304] := rfl
  rw [e0, off49_eq h t]; rfl
theorem off83_eq {n : ℕ} (h : n < 33) (t : Fin (k0_t2_loop (bv n)).trips) : k0_off83 (bv n) t = ![t.val % 3, 512, 2304] := by
  have e0 : k0_off83 (bv n) t = ![(k0_off49 (bv n) t) 0, 512, 2304] := rfl
  rw [e0, off49_eq h t]; rfl
theorem off84_eq {n : ℕ} (h : n < 33) (t : Fin (k0_t2_loop (bv n)).trips) : k0_off84 (bv n) t = ![t.val % 3, 0, 2560] := by
  have e0 : k0_off84 (bv n) t = ![(k0_off49 (bv n) t) 0, 0, 2560] := rfl
  rw [e0, off49_eq h t]; rfl
theorem off85_eq {n : ℕ} (h : n < 33) (t : Fin (k0_t2_loop (bv n)).trips) : k0_off85 (bv n) t = ![t.val % 3, 512, 2560] := by
  have e0 : k0_off85 (bv n) t = ![(k0_off49 (bv n) t) 0, 512, 2560] := rfl
  rw [e0, off49_eq h t]; rfl
theorem off86_eq {n : ℕ} (h : n < 33) (t : Fin (k0_t2_loop (bv n)).trips) : k0_off86 (bv n) t = ![t.val % 3, 0, 2816] := by
  have e0 : k0_off86 (bv n) t = ![(k0_off49 (bv n) t) 0, 0, 2816] := rfl
  rw [e0, off49_eq h t]; rfl
theorem off87_eq {n : ℕ} (h : n < 33) (t : Fin (k0_t2_loop (bv n)).trips) : k0_off87 (bv n) t = ![t.val % 3, 512, 2816] := by
  have e0 : k0_off87 (bv n) t = ![(k0_off49 (bv n) t) 0, 512, 2816] := rfl
  rw [e0, off49_eq h t]; rfl
theorem off88_eq {n : ℕ} (h : n < 33) (t : Fin (k0_t2_loop (bv n)).trips) : k0_off88 (bv n) t = ![t.val % 3, 0, 3072] := by
  have e0 : k0_off88 (bv n) t = ![(k0_off49 (bv n) t) 0, 0, 3072] := rfl
  rw [e0, off49_eq h t]; rfl
theorem off89_eq {n : ℕ} (h : n < 33) (t : Fin (k0_t2_loop (bv n)).trips) : k0_off89 (bv n) t = ![t.val % 3, 512, 3072] := by
  have e0 : k0_off89 (bv n) t = ![(k0_off49 (bv n) t) 0, 512, 3072] := rfl
  rw [e0, off49_eq h t]; rfl
theorem off90_eq {n : ℕ} (h : n < 33) (t : Fin (k0_t2_loop (bv n)).trips) : k0_off90 (bv n) t = ![t.val % 3, 0, 3328] := by
  have e0 : k0_off90 (bv n) t = ![(k0_off49 (bv n) t) 0, 0, 3328] := rfl
  rw [e0, off49_eq h t]; rfl
theorem off91_eq {n : ℕ} (h : n < 33) (t : Fin (k0_t2_loop (bv n)).trips) : k0_off91 (bv n) t = ![t.val % 3, 512, 3328] := by
  have e0 : k0_off91 (bv n) t = ![(k0_off49 (bv n) t) 0, 512, 3328] := rfl
  rw [e0, off49_eq h t]; rfl
theorem off92_eq {n : ℕ} (h : n < 33) (t : Fin (k0_t2_loop (bv n)).trips) : k0_off92 (bv n) t = ![t.val % 3, 0, 3584] := by
  have e0 : k0_off92 (bv n) t = ![(k0_off49 (bv n) t) 0, 0, 3584] := rfl
  rw [e0, off49_eq h t]; rfl
theorem off93_eq {n : ℕ} (h : n < 33) (t : Fin (k0_t2_loop (bv n)).trips) : k0_off93 (bv n) t = ![t.val % 3, 512, 3584] := by
  have e0 : k0_off93 (bv n) t = ![(k0_off49 (bv n) t) 0, 512, 3584] := rfl
  rw [e0, off49_eq h t]; rfl
theorem off94_eq {n : ℕ} (h : n < 33) (t : Fin (k0_t2_loop (bv n)).trips) : k0_off94 (bv n) t = ![t.val % 3, 0, 3840] := by
  have e0 : k0_off94 (bv n) t = ![(k0_off49 (bv n) t) 0, 0, 3840] := rfl
  rw [e0, off49_eq h t]; rfl
theorem off95_eq {n : ℕ} (h : n < 33) (t : Fin (k0_t2_loop (bv n)).trips) : k0_off95 (bv n) t = ![t.val % 3, 512, 3840] := by
  have e0 : k0_off95 (bv n) t = ![(k0_off49 (bv n) t) 0, 512, 3840] := rfl
  rw [e0, off49_eq h t]; rfl
theorem off96_eq {n : ℕ} (h : n < 33) (t : Fin (k0_t2_loop (bv n)).trips) : k0_off96 (bv n) t = ![t.val % 3, 0, 4096] := by
  have e0 : k0_off96 (bv n) t = ![(k0_off49 (bv n) t) 0, 0, 4096] := rfl
  rw [e0, off49_eq h t]; rfl
theorem off97_eq {n : ℕ} (h : n < 33) (t : Fin (k0_t2_loop (bv n)).trips) : k0_off97 (bv n) t = ![t.val % 3, 512, 4096] := by
  have e0 : k0_off97 (bv n) t = ![(k0_off49 (bv n) t) 0, 512, 4096] := rfl
  rw [e0, off49_eq h t]; rfl
theorem off98_eq {n : ℕ} (h : n < 33) (t : Fin (k0_t2_loop (bv n)).trips) : k0_off98 (bv n) t = ![t.val % 3, 0, 4352] := by
  have e0 : k0_off98 (bv n) t = ![(k0_off49 (bv n) t) 0, 0, 4352] := rfl
  rw [e0, off49_eq h t]; rfl
theorem off99_eq {n : ℕ} (h : n < 33) (t : Fin (k0_t2_loop (bv n)).trips) : k0_off99 (bv n) t = ![t.val % 3, 512, 4352] := by
  have e0 : k0_off99 (bv n) t = ![(k0_off49 (bv n) t) 0, 512, 4352] := rfl
  rw [e0, off49_eq h t]; rfl
theorem off100_eq {n : ℕ} (h : n < 33) (t : Fin (k0_t2_loop (bv n)).trips) : k0_off100 (bv n) t = ![t.val % 3, 0, 4608] := by
  have e0 : k0_off100 (bv n) t = ![(k0_off49 (bv n) t) 0, 0, 4608] := rfl
  rw [e0, off49_eq h t]; rfl
theorem off101_eq {n : ℕ} (h : n < 33) (t : Fin (k0_t2_loop (bv n)).trips) : k0_off101 (bv n) t = ![t.val % 3, 512, 4608] := by
  have e0 : k0_off101 (bv n) t = ![(k0_off49 (bv n) t) 0, 512, 4608] := rfl
  rw [e0, off49_eq h t]; rfl
theorem off102_eq {n : ℕ} (h : n < 33) (t : Fin (k0_t2_loop (bv n)).trips) : k0_off102 (bv n) t = ![t.val % 3, 0, 4864] := by
  have e0 : k0_off102 (bv n) t = ![(k0_off49 (bv n) t) 0, 0, 4864] := rfl
  rw [e0, off49_eq h t]; rfl
theorem off103_eq {n : ℕ} (h : n < 33) (t : Fin (k0_t2_loop (bv n)).trips) : k0_off103 (bv n) t = ![t.val % 3, 512, 4864] := by
  have e0 : k0_off103 (bv n) t = ![(k0_off49 (bv n) t) 0, 512, 4864] := rfl
  rw [e0, off49_eq h t]; rfl
theorem off104_eq {n : ℕ} (h : n < 33) (t : Fin (k0_t2_loop (bv n)).trips) : k0_off104 (bv n) t = ![t.val % 3, 0, 5120] := by
  have e0 : k0_off104 (bv n) t = ![(k0_off49 (bv n) t) 0, 0, 5120] := rfl
  rw [e0, off49_eq h t]; rfl
theorem off105_eq {n : ℕ} (h : n < 33) (t : Fin (k0_t2_loop (bv n)).trips) : k0_off105 (bv n) t = ![t.val % 3, 512, 5120] := by
  have e0 : k0_off105 (bv n) t = ![(k0_off49 (bv n) t) 0, 512, 5120] := rfl
  rw [e0, off49_eq h t]; rfl
theorem off106_eq {n : ℕ} (h : n < 33) (t : Fin (k0_t2_loop (bv n)).trips) : k0_off106 (bv n) t = ![t.val % 3, 0, 5376] := by
  have e0 : k0_off106 (bv n) t = ![(k0_off49 (bv n) t) 0, 0, 5376] := rfl
  rw [e0, off49_eq h t]; rfl
theorem off107_eq {n : ℕ} (h : n < 33) (t : Fin (k0_t2_loop (bv n)).trips) : k0_off107 (bv n) t = ![t.val % 3, 512, 5376] := by
  have e0 : k0_off107 (bv n) t = ![(k0_off49 (bv n) t) 0, 512, 5376] := rfl
  rw [e0, off49_eq h t]; rfl
theorem off108_eq {n : ℕ} (h : n < 33) (t : Fin (k0_t2_loop (bv n)).trips) : k0_off108 (bv n) t = ![t.val % 3, 0, 5632] := by
  have e0 : k0_off108 (bv n) t = ![(k0_off49 (bv n) t) 0, 0, 5632] := rfl
  rw [e0, off49_eq h t]; rfl
theorem off109_eq {n : ℕ} (h : n < 33) (t : Fin (k0_t2_loop (bv n)).trips) : k0_off109 (bv n) t = ![t.val % 3, 512, 5632] := by
  have e0 : k0_off109 (bv n) t = ![(k0_off49 (bv n) t) 0, 512, 5632] := rfl
  rw [e0, off49_eq h t]; rfl
theorem off110_eq {n : ℕ} (h : n < 33) (t : Fin (k0_t2_loop (bv n)).trips) : k0_off110 (bv n) t = ![t.val % 3, 0, 5888] := by
  have e0 : k0_off110 (bv n) t = ![(k0_off49 (bv n) t) 0, 0, 5888] := rfl
  rw [e0, off49_eq h t]; rfl
theorem off111_eq {n : ℕ} (h : n < 33) (t : Fin (k0_t2_loop (bv n)).trips) : k0_off111 (bv n) t = ![t.val % 3, 512, 5888] := by
  have e0 : k0_off111 (bv n) t = ![(k0_off49 (bv n) t) 0, 512, 5888] := rfl
  rw [e0, off49_eq h t]; rfl
theorem off62_aux : ∀ n : Fin 33, ∀ t : Fin (k0_t2_loop (bv n.val)).trips, k0_off62 (bv n.val) t = ![t.val % 2, 0, 0] := by decide +kernel
theorem off62_eq {n : ℕ} (h : n < 33) (t : Fin (k0_t2_loop (bv n)).trips) : k0_off62 (bv n) t = ![t.val % 2, 0, 0] := off62_aux ⟨n, h⟩ t
theorem off63_eq {n : ℕ} (h : n < 33) (t : Fin (k0_t2_loop (bv n)).trips) : k0_off63 (bv n) t = ![t.val % 2, 0, 0] := by
  have e0 : k0_off63 (bv n) t = ![(k0_off62 (bv n) t) 0, 0, 0] := rfl
  rw [e0, off62_eq h t]; rfl
theorem off115_aux : ∀ n : Fin 33, ∀ t : Fin (k0_t2_loop (bv n.val)).trips, k0_off115 (bv n.val) t = ![(t.val + 1) % 2, 0, 0] := by decide +kernel
theorem off115_eq {n : ℕ} (h : n < 33) (t : Fin (k0_t2_loop (bv n)).trips) : k0_off115 (bv n) t = ![(t.val + 1) % 2, 0, 0] := off115_aux ⟨n, h⟩ t
theorem off116_eq {n : ℕ} (h : n < 33) (t : Fin (k0_t2_loop (bv n)).trips) : k0_off116 (bv n) t = ![(t.val + 1) % 2, 0, 0] := by
  have e0 : k0_off116 (bv n) t = ![(k0_off115 (bv n) t) 0, 0, 0] := rfl
  rw [e0, off115_eq h t]; rfl
theorem cond2_iff : ∀ n : Fin 33, (k0_cond2 (bv n.val) = 1#1 ↔ n.val < 3) := by decide +kernel
theorem cond5_iff : ∀ n : Fin 33, (k0_cond5 (bv n.val) = 1#1 ↔ 0 < n.val) := by decide +kernel
theorem cond17_iff : ∀ n : Fin 33, (k0_cond17 (bv n.val) = 1#1 ↔ 0 < n.val) := by decide +kernel
theorem cond7_iff : ∀ n : Fin 33, ∀ t : Fin (k0_t2_loop (bv n.val)).trips, (k0_cond7 (bv n.val) t = 1#1 ↔ 0 < t.val) := by decide +kernel
theorem cond8_iff : ∀ n : Fin 33, ∀ t : Fin (k0_t2_loop (bv n.val)).trips, (k0_cond8 (bv n.val) t = 1#1 ↔ t.val + 2 < n.val) := by decide +kernel
theorem cond10_iff : ∀ n : Fin 33, ∀ t : Fin (k0_t2_loop (bv n.val)).trips, (k0_cond10 (bv n.val) t = 1#1 ↔ t.val + 1 < n.val) := by decide +kernel
theorem cond1_iff (v : BitVec 32) : k0_cond1 v = 1#1 ↔ 0 < v.toInt := gt_one v 0#32
theorem cond3_iff (v : BitVec 32) : k0_cond3 v = 1#1 ↔ 8 < v.toInt := gt_one v 8#32
theorem cond6_iff (v : BitVec 32) : k0_cond6 v = 1#1 ↔ 8 < v.toInt := gt_one v 8#32
theorem cond9_iff (v : BitVec 32) : k0_cond9 v = 1#1 ↔ 8 < v.toInt := gt_one v 8#32
theorem cond11_iff (v : BitVec 32) : k0_cond11 v = 1#1 ↔ 8 < v.toInt := gt_one v 8#32
theorem in0 : ∀ e : Fin 32, ∀ a, (k0_off4 (bv e.val)) a + S1.size a ≤ S32.size a := by decide +kernel
theorem chk2_ok {e : ℕ} (h : e < 32) (arg20 : BitVec 32) (v403 : BitVec 32) : k0_chk2 arg20 v403 (bv e) := fun _ _ => in0 ⟨e, h⟩
theorem in1 : ∀ e : Fin 32, ∀ a, (k0_off5 (bv e.val)) a + S1.size a ≤ S32.size a := by decide +kernel
theorem in2 : ∀ e : Fin 32, ∀ a, (k0_off6 (bv e.val)) a + S1x1x8x6144.size a ≤ S32x2x8x6144.size a := by decide +kernel
theorem in3 : ∀ e : Fin 32, ∀ (hinb : ∀ a, (k0_off6 (bv e.val)) a + S1x1x8x6144.size a ≤ S32x2x8x6144.size a), (Rect.unit (s := S32x2x8x6144) (k0_off6 (bv e.val)) S1x1x8x6144.size hinb).WholeWords (EltTy.packing .bf16) := by decide +kernel
theorem chk3_ok {e : ℕ} (h : e < 32) (arg20 : BitVec 32) (v403 : BitVec 32) (v420 : BitVec 32) : k0_chk3 arg20 v403 (bv e) v420 := ⟨fun _ _ _ => in1 ⟨e, h⟩, fun _ _ _ => in2 ⟨e, h⟩, fun _ _ _ => in3 ⟨e, h⟩⟩
theorem in4 : ∀ e : Fin 32, ∀ a, (k0_off10 (bv e.val)) a + S1x256x6144.size a ≤ S32x768x6144.size a := by decide +kernel
theorem in5 : ∀ e : Fin 32, ∀ (hinb : ∀ a, (k0_off10 (bv e.val)) a + S1x256x6144.size a ≤ S32x768x6144.size a), (Rect.unit (s := S32x768x6144) (k0_off10 (bv e.val)) S1x256x6144.size hinb).WholeWords (EltTy.packing .fp8e4m3) := by decide +kernel
theorem chk4_ok {e : ℕ} (h : e < 32) (arg20 : BitVec 32) (v403 : BitVec 32) : k0_chk4 arg20 v403 (bv e) := ⟨fun _ _ => in4 ⟨e, h⟩, fun _ _ => in5 ⟨e, h⟩⟩
theorem in6 : ∀ e : Fin 32, ∀ a, (k0_off14 (bv e.val)) a + S1x256x6144.size a ≤ S32x768x6144.size a := by decide +kernel
theorem in7 : ∀ e : Fin 32, ∀ (hinb : ∀ a, (k0_off14 (bv e.val)) a + S1x256x6144.size a ≤ S32x768x6144.size a), (Rect.unit (s := S32x768x6144) (k0_off14 (bv e.val)) S1x256x6144.size hinb).WholeWords (EltTy.packing .fp8e4m3) := by decide +kernel
theorem chk5_ok {e : ℕ} (h : e < 32) (arg20 : BitVec 32) (v403 : BitVec 32) : k0_chk5 arg20 v403 (bv e) := ⟨fun _ _ => in6 ⟨e, h⟩, fun _ _ => in7 ⟨e, h⟩⟩
theorem in8 : ∀ e : Fin 32, ∀ a, (k0_off18 (bv e.val)) a + S1x256x6144.size a ≤ S32x768x6144.size a := by decide +kernel
theorem in9 : ∀ e : Fin 32, ∀ (hinb : ∀ a, (k0_off18 (bv e.val)) a + S1x256x6144.size a ≤ S32x768x6144.size a), (Rect.unit (s := S32x768x6144) (k0_off18 (bv e.val)) S1x256x6144.size hinb).WholeWords (EltTy.packing .fp8e4m3) := by decide +kernel
theorem chk6_ok {e : ℕ} (h : e < 32) (arg20 : BitVec 32) (v403 : BitVec 32) : k0_chk6 arg20 v403 (bv e) := ⟨fun _ _ => in8 ⟨e, h⟩, fun _ _ => in9 ⟨e, h⟩⟩
theorem in10 : ∀ e : Fin 32, ∀ a, (k0_off20 (bv e.val)) a + S1.size a ≤ S32.size a := by decide +kernel
theorem in11 : ∀ e : Fin 32, ∀ a, (k0_off23 (bv e.val)) a + S1.size a ≤ S32.size a := by decide +kernel
theorem in12 : ∀ e : Fin 32, ∀ a, (k0_off24 (bv e.val)) a + S1x2x8x6144.size a ≤ S32x2x8x6144.size a := by decide +kernel
theorem chk7_ok {e : ℕ} (h : e < 32) (v197 : BitVec 32) : k0_chk7 v197 (bv e) := ⟨fun _ => in10 ⟨e, h⟩, fun _ => in11 ⟨e, h⟩, fun _ => in12 ⟨e, h⟩⟩
theorem in13 : ∀ e : Fin 32, ∀ a, (k0_off21 (bv e.val)) a + S1.size a ≤ S32.size a := by decide +kernel
theorem in14 : ∀ e : Fin 32, ∀ a, (k0_off22 (bv e.val)) a + S1x1x8x6144.size a ≤ S32x2x8x6144.size a := by decide +kernel
theorem in15 : ∀ e : Fin 32, ∀ (hinb : ∀ a, (k0_off22 (bv e.val)) a + S1x1x8x6144.size a ≤ S32x2x8x6144.size a), (Rect.unit (s := S32x2x8x6144) (k0_off22 (bv e.val)) S1x1x8x6144.size hinb).WholeWords (EltTy.packing .bf16) := by decide +kernel
theorem chk8_ok {e : ℕ} (h : e < 32) (v197 : BitVec 32) (v404 : BitVec 32) : k0_chk8 v197 (bv e) v404 := ⟨fun _ _ => in13 ⟨e, h⟩, fun _ _ => in14 ⟨e, h⟩, fun _ _ => in15 ⟨e, h⟩⟩
theorem in16 : ∀ e : Fin 32, ∀ a, (k0_off28 (bv e.val)) a + S1x16x768.size a ≤ S32x16x768.size a := by decide +kernel
theorem in17 : ∀ e : Fin 32, ∀ (hinb : ∀ a, (k0_off28 (bv e.val)) a + S1x16x768.size a ≤ S32x16x768.size a), (Rect.unit (s := S32x16x768) (k0_off28 (bv e.val)) S1x16x768.size hinb).WholeWords (EltTy.packing .bf16) := by decide +kernel
theorem chk10_ok {e : ℕ} (h : e < 32) (v197 : BitVec 32) (k0_t2 : Fin (k0_t2_loop v197).trips) : k0_chk10 v197 k0_t2 (bv e) := ⟨fun _ => in16 ⟨e, h⟩, fun _ => in17 ⟨e, h⟩⟩
theorem in18 : ∀ e : Fin 32, ∀ a, (k0_off30 (bv e.val)) a + S1.size a ≤ S32.size a := by decide +kernel
theorem chk11_ok {e : ℕ} (h : e < 32) (v197 : BitVec 32) (k0_t2 : Fin (k0_t2_loop v197).trips) : k0_chk11 v197 k0_t2 (bv e) := fun _ _ => in18 ⟨e, h⟩
theorem in19 : ∀ e : Fin 32, ∀ a, (k0_off31 (bv e.val)) a + S1.size a ≤ S32.size a := by decide +kernel
theorem in20 : ∀ e : Fin 32, ∀ a, (k0_off32 (bv e.val)) a + S1x1x8x6144.size a ≤ S32x2x8x6144.size a := by decide +kernel
theorem in21 : ∀ e : Fin 32, ∀ (hinb : ∀ a, (k0_off32 (bv e.val)) a + S1x1x8x6144.size a ≤ S32x2x8x6144.size a), (Rect.unit (s := S32x2x8x6144) (k0_off32 (bv e.val)) S1x1x8x6144.size hinb).WholeWords (EltTy.packing .bf16) := by decide +kernel
theorem chk12_ok {e : ℕ} (h : e < 32) (v197 : BitVec 32) (k0_t2 : Fin (k0_t2_loop v197).trips) (v882 : BitVec 32) : k0_chk12 v197 k0_t2 (bv e) v882 := ⟨fun _ _ _ => in19 ⟨e, h⟩, fun _ _ _ => in20 ⟨e, h⟩, fun _ _ _ => in21 ⟨e, h⟩⟩
theorem in22 : ∀ e : Fin 32, ∀ a, (k0_off36 (bv e.val)) a + S1x256x6144.size a ≤ S32x768x6144.size a := by decide +kernel
theorem in23 : ∀ e : Fin 32, ∀ (hinb : ∀ a, (k0_off36 (bv e.val)) a + S1x256x6144.size a ≤ S32x768x6144.size a), (Rect.unit (s := S32x768x6144) (k0_off36 (bv e.val)) S1x256x6144.size hinb).WholeWords (EltTy.packing .fp8e4m3) := by decide +kernel
theorem chk13_ok {e : ℕ} (h : e < 32) (v197 : BitVec 32) (k0_t2 : Fin (k0_t2_loop v197).trips) : k0_chk13 v197 k0_t2 (bv e) := ⟨fun _ _ => in22 ⟨e, h⟩, fun _ _ => in23 ⟨e, h⟩⟩
theorem in24 : ∀ e : Fin 32, ∀ a, (k0_off40 (bv e.val)) a + S1x256x6144.size a ≤ S32x768x6144.size a := by decide +kernel
theorem in25 : ∀ e : Fin 32, ∀ (hinb : ∀ a, (k0_off40 (bv e.val)) a + S1x256x6144.size a ≤ S32x768x6144.size a), (Rect.unit (s := S32x768x6144) (k0_off40 (bv e.val)) S1x256x6144.size hinb).WholeWords (EltTy.packing .fp8e4m3) := by decide +kernel
theorem chk14_ok {e : ℕ} (h : e < 32) (v197 : BitVec 32) (k0_t2 : Fin (k0_t2_loop v197).trips) : k0_chk14 v197 k0_t2 (bv e) := ⟨fun _ _ => in24 ⟨e, h⟩, fun _ _ => in25 ⟨e, h⟩⟩
theorem in26 : ∀ e : Fin 32, ∀ a, (k0_off44 (bv e.val)) a + S1x256x6144.size a ≤ S32x768x6144.size a := by decide +kernel
theorem in27 : ∀ e : Fin 32, ∀ (hinb : ∀ a, (k0_off44 (bv e.val)) a + S1x256x6144.size a ≤ S32x768x6144.size a), (Rect.unit (s := S32x768x6144) (k0_off44 (bv e.val)) S1x256x6144.size hinb).WholeWords (EltTy.packing .fp8e4m3) := by decide +kernel
theorem chk15_ok {e : ℕ} (h : e < 32) (v197 : BitVec 32) (k0_t2 : Fin (k0_t2_loop v197).trips) : k0_chk15 v197 k0_t2 (bv e) := ⟨fun _ _ => in26 ⟨e, h⟩, fun _ _ => in27 ⟨e, h⟩⟩
theorem in28 : ∀ e : Fin 32, ∀ a, (k0_off45 (bv e.val)) a + S1.size a ≤ S32.size a := by decide +kernel
theorem in29 : ∀ e : Fin 32, ∀ a, (k0_off113 (bv e.val)) a + S1.size a ≤ S32.size a := by decide +kernel
theorem in30 : ∀ e : Fin 32, ∀ a, (k0_off114 (bv e.val)) a + S1x2x8x6144.size a ≤ S32x2x8x6144.size a := by decide +kernel
theorem chk16_ok {e : ℕ} (h : e < 32) (v197 : BitVec 32) (k0_t2 : Fin (k0_t2_loop v197).trips) : k0_chk16 v197 k0_t2 (bv e) := ⟨fun _ => in28 ⟨e, h⟩, in29 ⟨e, h⟩, in30 ⟨e, h⟩⟩
theorem in31 : ∀ e : Fin 32, ∀ a, (k0_off46 (bv e.val)) a + S1.size a ≤ S32.size a := by decide +kernel
theorem in32 : ∀ e : Fin 32, ∀ a, (k0_off47 (bv e.val)) a + S1x1x8x6144.size a ≤ S32x2x8x6144.size a := by decide +kernel
theorem in33 : ∀ e : Fin 32, ∀ (hinb : ∀ a, (k0_off47 (bv e.val)) a + S1x1x8x6144.size a ≤ S32x2x8x6144.size a), (Rect.unit (s := S32x2x8x6144) (k0_off47 (bv e.val)) S1x1x8x6144.size hinb).WholeWords (EltTy.packing .bf16) := by decide +kernel
theorem chk17_ok {e : ℕ} (h : e < 32) (v197 : BitVec 32) (k0_t2 : Fin (k0_t2_loop v197).trips) (v866 : BitVec 32) : k0_chk17 v197 k0_t2 (bv e) v866 := ⟨fun _ _ => in31 ⟨e, h⟩, fun _ _ => in32 ⟨e, h⟩, fun _ _ => in33 ⟨e, h⟩⟩
theorem in34 : ∀ e : Fin 32, ∀ a, (k0_off51 (bv e.val)) a + S1x256x6144.size a ≤ S32x768x6144.size a := by decide +kernel
theorem in35 : ∀ e : Fin 32, ∀ (hinb : ∀ a, (k0_off51 (bv e.val)) a + S1x256x6144.size a ≤ S32x768x6144.size a), (Rect.unit (s := S32x768x6144) (k0_off51 (bv e.val)) S1x256x6144.size hinb).WholeWords (EltTy.packing .fp8e4m3) := by decide +kernel
theorem chk18_ok {e : ℕ} (h : e < 32)  : k0_chk18 (bv e) := ⟨in34 ⟨e, h⟩, in35 ⟨e, h⟩⟩
theorem in36 : ∀ e : Fin 32, ∀ a, (k0_off55 (bv e.val)) a + S1x256x6144.size a ≤ S32x768x6144.size a := by decide +kernel
theorem in37 : ∀ e : Fin 32, ∀ (hinb : ∀ a, (k0_off55 (bv e.val)) a + S1x256x6144.size a ≤ S32x768x6144.size a), (Rect.unit (s := S32x768x6144) (k0_off55 (bv e.val)) S1x256x6144.size hinb).WholeWords (EltTy.packing .fp8e4m3) := by decide +kernel
theorem chk19_ok {e : ℕ} (h : e < 32)  : k0_chk19 (bv e) := ⟨in36 ⟨e, h⟩, in37 ⟨e, h⟩⟩
theorem in38 : ∀ e : Fin 32, ∀ a, (k0_off59 (bv e.val)) a + S1x256x6144.size a ≤ S32x768x6144.size a := by decide +kernel
theorem in39 : ∀ e : Fin 32, ∀ (hinb : ∀ a, (k0_off59 (bv e.val)) a + S1x256x6144.size a ≤ S32x768x6144.size a), (Rect.unit (s := S32x768x6144) (k0_off59 (bv e.val)) S1x256x6144.size hinb).WholeWords (EltTy.packing .fp8e4m3) := by decide +kernel
theorem chk20_ok {e : ℕ} (h : e < 32)  : k0_chk20 (bv e) := ⟨in38 ⟨e, h⟩, in39 ⟨e, h⟩⟩
theorem in40 : ∀ e : Fin 32, ∀ a, (k0_off60 (bv e.val)) a + S1x768.size a ≤ S32x768.size a := by decide +kernel
theorem in41 : ∀ e : Fin 32, ∀ a, (k0_off61 (bv e.val)) a + S1.size a ≤ S32.size a := by decide +kernel
theorem in42 : ∀ e : Fin 32, ∀ a, (k0_off112 (bv e.val)) a + S1x16x768.size a ≤ S32x16x768.size a := by decide +kernel
theorem in43 : ∀ e : Fin 32, ∀ (hinb : ∀ a, (k0_off112 (bv e.val)) a + S1x16x768.size a ≤ S32x16x768.size a), (Rect.unit (s := S32x16x768) (k0_off112 (bv e.val)) S1x16x768.size hinb).PackedRows (EltTy.packing .bf16) := by decide +kernel
theorem chk21_ok {e : ℕ} (h : e < 32)  : k0_chk21 (bv e) := ⟨in40 ⟨e, h⟩, in41 ⟨e, h⟩, in42 ⟨e, h⟩, in43 ⟨e, h⟩⟩
theorem in44 : ∀ e : Fin 32, ∀ a, (k0_off210 (bv e.val)) a + S1x16x768.size a ≤ S32x16x768.size a := by decide +kernel
theorem in45 : ∀ e : Fin 32, ∀ (hinb : ∀ a, (k0_off210 (bv e.val)) a + S1x16x768.size a ≤ S32x16x768.size a), (Rect.unit (s := S32x16x768) (k0_off210 (bv e.val)) S1x16x768.size hinb).WholeWords (EltTy.packing .bf16) := by decide +kernel
theorem chk34_ok {e : ℕ} (h : e < 32) (v197 : BitVec 32) : k0_chk34 v197 (bv e) := ⟨fun _ => in44 ⟨e, h⟩, fun _ => in45 ⟨e, h⟩⟩
theorem one0 : ∀ e : Fin 32, ∀ a, (k0_off2 (bv e.val)) a + S1.size a ≤ S32.size a := by decide +kernel
theorem one1 : ∀ e : Fin 32, ∀ (k0_h2 : k0_cond2 (bv e.val) = 1#1), ∀ a, (k0_off3 (bv e.val)) a + S1.size a ≤ S32.size a := by decide +kernel
theorem one2 : ∀ e : Fin 32, ∀ (k0_h2 : k0_cond2 (bv e.val) = 1#1), ∀ a, (k0_off7 (bv e.val)) a + S1.size a ≤ S32.size a := by decide +kernel
theorem one3 : ∀ e : Fin 32, ∀ (k0_h2 : k0_cond2 (bv e.val) = 1#1), ∀ a, (k0_off8 (bv e.val)) a + S1x1.size a ≤ S3x3.size a := by decide +kernel
theorem one4 : ∀ e : Fin 32, ∀ (k0_h2 : k0_cond2 (bv e.val) = 1#1), ∀ a, (k0_off9 (bv e.val)) a + S1x256x6144.size a ≤ S3x768x6144.size a := by decide +kernel
theorem one5 : ∀ e : Fin 32, ∀ (k0_h2 : k0_cond2 (bv e.val) = 1#1), ∀ (hinb : ∀ a, (k0_off9 (bv e.val)) a + S1x256x6144.size a ≤ S3x768x6144.size a), (Rect.unit (s := S3x768x6144) (k0_off9 (bv e.val)) S1x256x6144.size hinb).WholeWords (EltTy.packing .fp8e4m3) := by decide +kernel
theorem one6 : ∀ e : Fin 32, ∀ (k0_h2 : k0_cond2 (bv e.val) = 1#1), ∀ a, (k0_off11 (bv e.val)) a + S1.size a ≤ S32.size a := by decide +kernel
theorem one7 : ∀ e : Fin 32, ∀ (k0_h2 : k0_cond2 (bv e.val) = 1#1), ∀ a, (k0_off12 (bv e.val)) a + S1x1.size a ≤ S3x3.size a := by decide +kernel
theorem one8 : ∀ e : Fin 32, ∀ (k0_h2 : k0_cond2 (bv e.val) = 1#1), ∀ a, (k0_off13 (bv e.val)) a + S1x256x6144.size a ≤ S3x768x6144.size a := by decide +kernel
theorem one9 : ∀ e : Fin 32, ∀ (k0_h2 : k0_cond2 (bv e.val) = 1#1), ∀ (hinb : ∀ a, (k0_off13 (bv e.val)) a + S1x256x6144.size a ≤ S3x768x6144.size a), (Rect.unit (s := S3x768x6144) (k0_off13 (bv e.val)) S1x256x6144.size hinb).WholeWords (EltTy.packing .fp8e4m3) := by decide +kernel
theorem one10 : ∀ e : Fin 32, ∀ (k0_h2 : k0_cond2 (bv e.val) = 1#1), ∀ a, (k0_off15 (bv e.val)) a + S1.size a ≤ S32.size a := by decide +kernel
theorem one11 : ∀ e : Fin 32, ∀ (k0_h2 : k0_cond2 (bv e.val) = 1#1), ∀ a, (k0_off16 (bv e.val)) a + S1x1.size a ≤ S3x3.size a := by decide +kernel
theorem one12 : ∀ e : Fin 32, ∀ (k0_h2 : k0_cond2 (bv e.val) = 1#1), ∀ a, (k0_off17 (bv e.val)) a + S1x256x6144.size a ≤ S3x768x6144.size a := by decide +kernel
theorem one13 : ∀ e : Fin 32, ∀ (k0_h2 : k0_cond2 (bv e.val) = 1#1), ∀ (hinb : ∀ a, (k0_off17 (bv e.val)) a + S1x256x6144.size a ≤ S3x768x6144.size a), (Rect.unit (s := S3x768x6144) (k0_off17 (bv e.val)) S1x256x6144.size hinb).WholeWords (EltTy.packing .fp8e4m3) := by decide +kernel
theorem chk1_ok {e : ℕ} (h : e < 32) (v403 : BitVec 32) : k0_chk1 (bv e) v403 := ⟨fun _ => one0 ⟨e, h⟩, fun _ => one1 ⟨e, h⟩, fun _ => one2 ⟨e, h⟩, fun _ => one3 ⟨e, h⟩, fun _ => one4 ⟨e, h⟩, fun _ => one5 ⟨e, h⟩, fun _ => one6 ⟨e, h⟩, fun _ => one7 ⟨e, h⟩, fun _ => one8 ⟨e, h⟩, fun _ => one9 ⟨e, h⟩, fun _ => one10 ⟨e, h⟩, fun _ => one11 ⟨e, h⟩, fun _ => one12 ⟨e, h⟩, fun _ => one13 ⟨e, h⟩⟩
theorem chk9_ok {n : ℕ} (h : n < 33) : k0_chk9 (bv n) := ⟨chk9_0 ⟨n, h⟩, chk9_1 ⟨n, h⟩, chk9_2 ⟨n, h⟩, chk9_3 ⟨n, h⟩, chk9_4 ⟨n, h⟩, chk9_5 ⟨n, h⟩⟩

end Cert.Kernel.Hand

end
-- ==== Proof.Scan.lean ====
/-
  The listing of the experts with rows, and the copies it starts.
-/
module

public import proofs.«01_k».proof.Proof.Start
public import proofs.«01_k».proof.Proof.Offs

@[expose] public section

set_option maxRecDepth 16384

noncomputable section

namespace Cert.Kernel.Hand

open Cert.Kernel Cert.Kernel.Gen Cert.Listing
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ
local notation "EC" => countersEmb (U := Pipeline.UD sig nD τ)

variable (A : Arrays F) (c : Dev nD)

local notation "WP" => wp frame (wpE (defs₀ (F := F)) Variants.none (th c) none) Set.univ

theorem XG_short' {k f x e : ℕ} (hf : f < nl A) (he : e = ord A f) (h : ¬ long A e = true) : XG A c k f x ⊢ XG A c k (f + 1) x := by
  rw [XG_short A c hf he h]
theorem XG_short_wait' {k f x e : ℕ} (hf : x < nl A) (he : e = ord A x) (h : ¬ long A e = true) : XG A c k f x ⊢ XG A c k f (x + 1) := by
  rw [XG_short_wait A c hf he h]
theorem OG_live' (G : S32x16x768.Idx → Elt F .bf16) {e : ℕ} (q s : ℕ) (hl : live A e = true) : OG A c G e q s ⊢ OG A c G (e + 1) q s := by
  rw [OG_live A c G q s hl]
theorem WScan_more' {n : ℕ} (h : ¬ n < 3) : WScan A c n ⊢ WScan A c (n + 1) := by
  rw [WScan_more A c h]

section Rules

variable {α : Type} {Λ : Labels} {defs : Defs nD τ sig (Elt F) Λ} {𝒱 : Variants} {bd : Option 𝒱.V}

abbrev oRef : Memref sig .tc .smem S32 .i32 := Memref.whole cc0_scratch1

/-- The first `k` entries of the list are written. -/
def OrdIs (k : ℕ) : sProp 𝕄 :=
  iprop(∃ f : S32.Idx → BitVec 32, ⌜∀ j, j < k → f (ValueIdx.ix1 (fe j)) = bv (ord A j)⌝ ∗ (th c).loc cc0_scratch1 ↦[Finset.univ]{fullShare} f)

theorem one_idx {e : ℕ} {inb} (x : (Rect.unit (s := S32) ![e] S1.size inb).shape.Idx) :
    (Rect.unit (s := S32) ![e] S1.size inb).emb x = ValueIdx.ix1 (fe e) := by
  have he : e < 32 := by have := inb 0; simp [S1, S32] at this; omega
  funext a
  apply Fin.ext
  fin_cases a
  have h0 : (x 0).val < 1 := (x 0).isLt
  have := fe_val he
  simp [Rect.unit, Rect.emb, ValueIdx.ix1, this]

/-- Reading a row count. -/
theorem wp_gLoad {e : ℕ} {off inb} (ho : off = ![e]) {k : Elt F .i32 → Prog (TpuEff nD τ sig (Elt F) Λ (th c).2) α} {Q : α → sProp 𝕄} :
    GS_ A c ⊢ iprop((GS_ A c -∗ wp frame (wpE defs 𝒱 (th c) bd) Set.univ (k (gw A e)) Q)
      -∗ wp frame (wpE defs 𝒱 (th c) bd) Set.univ ((smemLoad gDst (Rect.unit (s := S32) off S1.size inb) numel1_S1 rfl).bind k) Q) := by
  subst ho
  unfold GS_
  iintro H HK
  have key := wp_load_rect (defs := defs) 𝒱 (th c) bd (Γ := .empty) Set.univ (m := gDst) (r := Rect.unit (s := S32) ![e] S1.size inb) (hl := View.loadsAt_rect (View.loads_smem_one rfl numel1_S1)) (k := fun f => k (f (Shape.Idx.first (numel1_S1.symm ▸ Nat.one_pos)))) (Q := Q) (S := Finset.univ) (q := fullShare) (f := A.GS) (Finset.subset_univ _)
  iapply key $$ H
  iintro H
  have e1 : (gDst.access (Rect.unit (s := S32) ![e] S1.size inb)).read (Elt F) A.GS (Shape.Idx.first (numel1_S1.symm ▸ Nat.one_pos)) = gw A e := congrArg A.GS (one_idx _)
  rw [e1]
  iapply HK $$ H

/-- Reading an entry of the list. -/
theorem wp_ordLoad {j n : ℕ} {off inb} (ho : off = ![j]) (hj : j < n) {k : Elt F .i32 → Prog (TpuEff nD τ sig (Elt F) Λ (th c).2) α} {Q : α → sProp 𝕄} :
    OrdIs A c n ⊢ iprop((OrdIs A c n -∗ wp frame (wpE defs 𝒱 (th c) bd) Set.univ (k (bv (ord A j))) Q)
      -∗ wp frame (wpE defs 𝒱 (th c) bd) Set.univ ((smemLoad oRef (Rect.unit (s := S32) off S1.size inb) numel1_S1 rfl).bind k) Q) := by
  subst ho
  unfold OrdIs
  iintro ⟨%f, %hf, H⟩ HK
  have key := wp_load_rect (defs := defs) 𝒱 (th c) bd (Γ := .empty) Set.univ (m := oRef) (r := Rect.unit (s := S32) ![j] S1.size inb) (hl := View.loadsAt_rect (View.loads_smem_one rfl numel1_S1)) (k := fun f => k (f (Shape.Idx.first (numel1_S1.symm ▸ Nat.one_pos)))) (Q := Q) (S := Finset.univ) (q := fullShare) (f := f) (Finset.subset_univ _)
  iapply key $$ H
  iintro H
  have e1 : (oRef.access (Rect.unit (s := S32) ![j] S1.size inb)).read (Elt F) f (Shape.Idx.first (numel1_S1.symm ▸ Nat.one_pos)) = bv (ord A j) := (congrArg f (one_idx _)).trans (hf j hj)
  rw [e1]
  iapply HK
  iexists f
  isplitr
  · ipureintro; exact hf
  iexact H

/-- Reading an entry that may not be written yet. -/
theorem wp_ordPeek {n : ℕ} {off inb} {k : Elt F .i32 → Prog (TpuEff nD τ sig (Elt F) Λ (th c).2) α} {Q : α → sProp 𝕄} :
    OrdIs A c n ⊢ iprop((∀ v, OrdIs A c n -∗ wp frame (wpE defs 𝒱 (th c) bd) Set.univ (k v) Q)
      -∗ wp frame (wpE defs 𝒱 (th c) bd) Set.univ ((smemLoad oRef (Rect.unit (s := S32) off S1.size inb) numel1_S1 rfl).bind k) Q) := by
  unfold OrdIs
  iintro ⟨%f, %hf, H⟩ HK
  have key := wp_load_rect (defs := defs) 𝒱 (th c) bd (Γ := .empty) Set.univ (m := oRef) (r := Rect.unit (s := S32) off S1.size inb) (hl := View.loadsAt_rect (View.loads_smem_one rfl numel1_S1)) (k := fun f => k (f (Shape.Idx.first (numel1_S1.symm ▸ Nat.one_pos)))) (Q := Q) (S := Finset.univ) (q := fullShare) (f := f) (Finset.subset_univ _)
  iapply key $$ H
  iintro H
  iapply HK
  iexists f
  isplitr
  · ipureintro; exact hf
  iexact H

/-- Writing the next entry of the list. -/
theorem wp_ordStore {n : ℕ} {off inb hx hm} (ho : off = ![n]) (v : BitVec 32) (hv : v = bv (ord A n)) {k : PUnit → Prog (TpuEff nD τ sig (Elt F) Λ (th c).2) α} {Q : α → sProp 𝕄} :
    OrdIs A c n ⊢ iprop((OrdIs A c (n + 1) -∗ wp frame (wpE defs 𝒱 (th c) bd) Set.univ (k ⟨⟩) Q)
      -∗ wp frame (wpE defs 𝒱 (th c) bd) Set.univ (.op (.store oRef (Rect.unit (s := S32) off S1.size inb) (fun _ => v) Finset.univ hx hm) k) Q) := by
  subst ho
  unfold OrdIs
  iintro ⟨%f, %hf, H⟩ HK
  have key := wp_store (defs := defs) 𝒱 (th c) bd (Γ := .empty) Set.univ (m := oRef) (r := Rect.unit (s := S32) ![n] S1.size inb) (w := fun _ => v) (Mk := Finset.univ) (hx := hx) (hm := hm) (k := k) (Q := Q) (S := Finset.univ) (f := f) (Finset.subset_univ _)
  iapply key $$ H
  iintro H
  iapply HK
  iexists _
  isplitr
  swap
  · iexact H
  ipureintro
  intro j hj
  have hn : n < 32 := by have := inb 0; simp [S1, S32] at this; omega
  rcases Nat.lt_succ_iff_lt_or_eq.1 hj with h | h
  · have hne : ValueIdx.ix1 (fe j) ∉ (oRef.access (Rect.unit (s := S32) ![n] S1.size inb)).setOn Finset.univ := by
      intro hm
      rw [View.setOn_univ] at hm
      unfold View.set at hm
      obtain ⟨x, _, hx⟩ := Finset.mem_map.1 hm
      have h2 : (ValueIdx.ix1 (fe n) : S32.Idx) = ValueIdx.ix1 (fe j) := (one_idx x).symm.trans hx
      have h3 := congrArg (fun i : S32.Idx => (i 0).val) h2
      simp [ValueIdx.ix1, fe_val hn, fe_val (show j < 32 by omega)] at h3
      omega
    rw [View.write_of_not_mem _ _ _ hne]
    exact hf j h
  · subst h
    have x : (Rect.unit (s := S32) ![j] S1.size inb).shape.Idx := fun _ => ⟨0, by first | decide | (simp [Rect.unit, S1])⟩
    have h2 : (oRef.access (Rect.unit (s := S32) ![j] S1.size inb)).emb x = ValueIdx.ix1 (fe j) := one_idx x
    rw [← h2, View.write_emb_of_mem _ _ (Finset.mem_univ x)]
    exact hv

/-- Starting the copy of a plane of the weights. -/
theorem wp_w (e s t : ℕ) (he : e < 32) {offs inbs offd inbd offq inbq h1 h2 h3} {k : PUnit → Prog (TpuEff nD τ sig (Elt F) Λ (th c).2) α} {Q : α → sProp 𝕄}
    (hs : offs = ![e, 256 * t, 0]) (hd : offd = ![s, 256 * t, 0]) (hq : offq = ![s, t]) :
    WfreeT A c s t ⊢ iprop((WflyT A c e s t -∗ wp frame (wpE defs 𝒱 (th c) bd) Set.univ (k ⟨⟩) Q)
      -∗ wp frame (wpE defs 𝒱 (th c) bd) Set.univ (.op (.enqueueDmaAs (wSrc offs inbs) (.here (wDst offd inbd)) .same (.dma (wSem offq inbq)) h1 h2 h3) k) Q) := by
  iintro H1 H2
  iapply (wp_wIssue A c e s t he hs hd hq)
  isplitl [H1]; · iexact H1
  iexact H2

/-- Starting the second copy of an expert's activations. -/
theorem wp_X1c (m f x e : ℕ) (hf : f < nl A) (hx : x ≤ f) (ho : e = ord A f) (hl : long A e = true)
    {offs inbs offd inbd offq inbq h1 h2 h3} {k : PUnit → Prog (TpuEff nD τ sig (Elt F) Λ (th c).2) α} {Q : α → sProp 𝕄}
    (hs : offs = ![e, 1, 0, 0]) (hd : offd = ![e, 1, 0, 0]) (hq : offq = ![e]) :
    XG A c m f x ⊢ iprop((XG A c m (f + 1) x -∗ wp frame (wpE defs 𝒱 (th c) bd) Set.univ (k ⟨⟩) Q)
      -∗ wp frame (wpE defs 𝒱 (th c) bd) Set.univ
          (.op (.enqueueDmaAs (xSrc offs inbs) (.here (xDst offd inbd)) .same (.dma (xSem offq inbq)) h1 h2 h3) k) Q) := by
  iintro H1 H2
  iapply (wp_X1 A c m f x e hf hx ho hl hs hd hq)
  isplitl [H1]; · iexact H1
  iexact H2

/-- A branch whose condition holds. -/
theorem wp_yes {p : Prop} [Decidable p] (h : p) {a : p → Prog (TpuEff nD τ sig (Elt F) Λ (th c).2) α} {b : ¬ p → Prog (TpuEff nD τ sig (Elt F) Λ (th c).2) α} {Q : α → sProp 𝕄} :
    wp frame (wpE defs 𝒱 (th c) bd) Set.univ (a h) Q ⊢ wp frame (wpE defs 𝒱 (th c) bd) Set.univ (dite p a b) Q := by
  rw [dif_pos h]
/-- A branch whose condition fails. -/
theorem wp_no {p : Prop} [Decidable p] (h : ¬ p) {a : p → Prog (TpuEff nD τ sig (Elt F) Λ (th c).2) α} {b : ¬ p → Prog (TpuEff nD τ sig (Elt F) Λ (th c).2) α} {Q : α → sProp 𝕄} :
    wp frame (wpE defs 𝒱 (th c) bd) Set.univ (b h) Q ⊢ wp frame (wpE defs 𝒱 (th c) bd) Set.univ (dite p a b) Q := by
  rw [dif_neg h]

end Rules

theorem part1 {j : ℕ} (hj : j < 3) (hn : j < nl A) (v403 : BitVec 32) (hw h1 h2) :
    iprop(OrdIs A c (j + 1) ∗ GS_ A c ∗ XG A c 0 j 0 ∗ WfreeS A c j)
      ⊢ WP (k0_part1 (F := F) (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 (bv j) v403 hw h1 h2)
        (fun r => iprop(⌜r.1 = bv (ord A j)⌝ ∗ OrdIs A c (j + 1) ∗ GS_ A c ∗ XG A c 0 (j + 1) 0 ∗ WflyT A c (ord A j) j 0 ∗ WflyT A c (ord A j) j 1 ∗ WfreeT A c j 2)) := by
  have he := ord_lt A hn
  unfold WfreeS
  sl_unfold [k0_part1]
  iintro ⟨HO, HG, HX, H0, H1, H2⟩
  iapply (wp_ordLoad A c (off3_eq hj) (Nat.lt_succ_self j)) $$ HO
  iintro HO
  iapply (wp_assume _ _ _ _ (chk2_ok he (bv j) v403))
  iapply (wp_gLoad A c (off4_eq he)) $$ HG
  iintro HG
  iapply (wp_assume _ _ _ _ (chk3_ok he (bv j) v403 (gw A (ord A j))))
  by_cases hl : k0_cond3 (gw A (ord A j)) = 1#1
  · have hlong : long A (ord A j) = true := decide_eq_true ((cond3_iff _).1 hl)
    iapply (wp_yes c hl)
    iapply (wp_X1c A c 0 j 0 (ord A j) hn (Nat.zero_le _) rfl hlong (off6_eq he) (off6_eq he) (off5_eq he)) $$ HX
    iintro HX
    iapply (wp_ordLoad A c (off7_eq hj) (Nat.lt_succ_self j)) $$ HO
    iintro HO
    iapply (wp_assume _ _ _ _ (chk4_ok he (bv j) v403))
    iapply (wp_w A c (ord A j) j 0 he (off10_eq he) (off9_eq hj) (off8_eq hj)) $$ H0
    iintro H0
    iapply (wp_ordLoad A c (off11_eq hj) (Nat.lt_succ_self j)) $$ HO
    iintro HO
    iapply (wp_assume _ _ _ _ (chk5_ok he (bv j) v403))
    iapply (wp_w A c (ord A j) j 1 he (off14_eq he) (off13_eq hj) (off12_eq hj)) $$ H1
    iintro H1
    iapply (wp_ordLoad A c (off15_eq hj) (Nat.lt_succ_self j)) $$ HO
    iintro HO
    iapply (wp_assume _ _ _ _ (chk6_ok he (bv j) v403))
    simp only [ret_bind', Prog.pure_eq_ret, wp_ret]
    imodintro
    isplitr
    · ipureintro; trivial
    isplitl [HO]; · iexact HO
    isplitl [HG]; · iexact HG
    isplitl [HX]; · iexact HX
    isplitl [H0]; · iexact H0
    isplitl [H1]; · iexact H1
    iexact H2
  · have hshort : ¬ long A (ord A j) = true := fun h => hl ((cond3_iff _).2 (of_decide_eq_true h))
    iapply (wp_no c hl)
    ihave HX := (XG_short' A c hn rfl hshort) $$ HX
    iapply (wp_ordLoad A c (off7_eq hj) (Nat.lt_succ_self j)) $$ HO
    iintro HO
    iapply (wp_assume _ _ _ _ (chk4_ok he (bv j) v403))
    iapply (wp_w A c (ord A j) j 0 he (off10_eq he) (off9_eq hj) (off8_eq hj)) $$ H0
    iintro H0
    iapply (wp_ordLoad A c (off11_eq hj) (Nat.lt_succ_self j)) $$ HO
    iintro HO
    iapply (wp_assume _ _ _ _ (chk5_ok he (bv j) v403))
    iapply (wp_w A c (ord A j) j 1 he (off14_eq he) (off13_eq hj) (off12_eq hj)) $$ H1
    iintro H1
    iapply (wp_ordLoad A c (off15_eq hj) (Nat.lt_succ_self j)) $$ HO
    iintro HO
    iapply (wp_assume _ _ _ _ (chk6_ok he (bv j) v403))
    simp only [ret_bind', Prog.pure_eq_ret, wp_ret]
    imodintro
    isplitr
    · ipureintro; trivial
    isplitl [HO]; · iexact HO
    isplitl [HG]; · iexact HG
    isplitl [HX]; · iexact HX
    isplitl [H0]; · iexact H0
    isplitl [H1]; · iexact H1
    iexact H2

end Cert.Kernel.Hand

end
-- ==== Proof.Scan2.lean ====
/-
  One trip of the listing, and the stretch of the body that runs it.
-/
module

public import proofs.«01_k».proof.Proof.Scan

@[expose] public section

set_option maxRecDepth 16384

noncomputable section

namespace Cert.Kernel.Hand

open Cert.Kernel Cert.Kernel.Gen Cert.Listing
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ
local notation "EC" => countersEmb (U := Pipeline.UD sig nD τ)

variable (A : Arrays F) (c : Dev nD)

local notation "WP" => wp frame (wpE (defs₀ (F := F)) Variants.none (th c) none) Set.univ

section Rules

variable {α β : Type} {Λ : Labels} {defs : Defs nD τ sig (Elt F) Λ} {𝒱 : Variants} {bd : Option 𝒱.V}

/-- A program whose run is known, followed by another. -/
theorem wp_seq {P : sProp 𝕄} {p : Prog (TpuEff nD τ sig (Elt F) Λ (th c).2) β} {Q' : β → sProp 𝕄} (h : P ⊢ wp frame (wpE defs 𝒱 (th c) bd) Set.univ p Q')
    {k : β → Prog (TpuEff nD τ sig (Elt F) Λ (th c).2) α} {Q : α → sProp 𝕄} :
    P ⊢ iprop((∀ a, Q' a -∗ wp frame (wpE defs 𝒱 (th c) bd) Set.univ (k a) Q) -∗ wp frame (wpE defs 𝒱 (th c) bd) Set.univ (p.bind k) Q) := by
  have e : wp frame (wpE defs 𝒱 (th c) bd) Set.univ (p.bind k) Q = wp frame (wpE defs 𝒱 (th c) bd) Set.univ p (fun a => wp frame (wpE defs 𝒱 (th c) bd) Set.univ (k a) Q) := wp_bind ..
  rw [e]
  iintro HP HK
  iapply wp_wand_r
  isplitl [HP]
  · iapply h $$ HP
  iexact HK

theorem wp_ifyes {p : Prop} [Decidable p] (h : p) {a b : Prog (TpuEff nD τ sig (Elt F) Λ (th c).2) α} {Q : α → sProp 𝕄} :
    wp frame (wpE defs 𝒱 (th c) bd) Set.univ a Q ⊢ wp frame (wpE defs 𝒱 (th c) bd) Set.univ (ite p a b) Q := by
  rw [if_pos h]
theorem wp_ifno {p : Prop} [Decidable p] (h : ¬ p) {a b : Prog (TpuEff nD τ sig (Elt F) Λ (th c).2) α} {Q : α → sProp 𝕄} :
    wp frame (wpE defs 𝒱 (th c) bd) Set.univ b Q ⊢ wp frame (wpE defs 𝒱 (th c) bd) Set.univ (ite p a b) Q := by
  rw [if_neg h]

end Rules

theorem not_gt_one (v : BitVec 32) : (Scalar.cmpi .ne (Scalar.extui (Scalar.xori (Scalar.cmpi .sgt v 0#32) 1#1) : BitVec 32) 0#32 = 1#1) ↔ ¬ 0 < v.toInt := by
  have e : Scalar.cmpi .sgt v 0#32 = BitVec.ofBool (decide (0 < v.toInt)) := rfl
  rw [e]
  by_cases h : 0 < v.toInt
  · simp only [h, decide_true, not_true_eq_false, iff_false]; decide
  · simp only [h, decide_false, not_false_eq_true, iff_true]; decide

theorem add_one (j : ℕ) (v : BitVec 32) (h : 0 < v.toInt) : Scalar.addi (bv j) (Scalar.extui (Scalar.cmpi .sgt v 0#32)) = bv (j + 1) := by
  have e : Scalar.cmpi .sgt v 0#32 = BitVec.ofBool (decide (0 < v.toInt)) := rfl
  rw [e]; simp only [h, decide_true]
  have e2 : (Scalar.extui (BitVec.ofBool true) : BitVec 32) = 1#32 := by decide
  rw [e2]
  show BitVec.ofNat 32 j + 1#32 = BitVec.ofNat 32 (j + 1)
  rw [← BitVec.ofNat_add]
theorem add_zero' (j : ℕ) (v : BitVec 32) (h : ¬ 0 < v.toInt) : Scalar.addi (bv j) (Scalar.extui (Scalar.cmpi .sgt v 0#32)) = bv j := by
  have e : Scalar.cmpi .sgt v 0#32 = BitVec.ofBool (decide (0 < v.toInt)) := rfl
  rw [e]; simp only [h, decide_false]
  have e2 : (Scalar.extui (BitVec.ofBool false) : BitVec 32) = 0#32 := by decide
  rw [e2]
  show BitVec.ofNat 32 j + 0#32 = _
  simp

theorem iv1 : ∀ t : Fin k0_t1_loop.trips, Scf.iv 0#32 1#32 t.val = bv t.val := by decide +kernel

abbrev B1 : Fin k0_t1_loop.trips → BitVec 32 → Prog (TpuEff nD τ sig (Elt F) Λ₀ .tc) (BitVec 32) := k0_t1_body (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13

theorem trip_few {k : Fin k0_t1_loop.trips} {j : ℕ} (hk : k.val < 32) (hj : j < 3) (hn : j < nl A) (ho : ord A j = k.val) :
    iprop(GS_ A c ∗ OrdIs A c j ∗ XG A c 0 j 0 ∗ WScan A c j)
      ⊢ WP (B1 (F := F) k (bv j)) (fun r => iprop(⌜r = bv (j + 1)⌝ ∗ GS_ A c ∗ OrdIs A c (j + 1) ∗ XG A c 0 (j + 1) 0 ∗ WScan A c (j + 1))) := by
  have hl : live A k.val = true := ho ▸ ord_live A hn
  have hg : 0 < (gw A k.val).toInt := of_decide_eq_true hl
  have hj32 : j < 32 := by omega
  sl_unfold [B1, k0_t1_body]
  iintro ⟨HG, HO, HX, HW⟩
  iapply (wp_gLoad A c (off1_eq k)) $$ HG
  iintro HG
  iapply (wp_assume _ _ _ _ (chk1_ok hj32 (gw A k.val)))
  iapply (wp_yes c ((cond1_iff _).2 hg))
  iapply (wp_ordPeek A c) $$ HO
  iintro %v HO
  iapply (wp_ordStore A c (off2_eq hj32) _ ((iv1 k).trans (congrArg bv ho.symm))) $$ HO
  iintro HO
  iapply (wp_yes c ((cond2_iff ⟨j, by omega⟩).2 hj))
  ihave HW := (WScan_take A c hj) $$ HW
  rw [Nat.mod_eq_of_lt hj]
  icases HW with ⟨HF, HW⟩
  iapply (wp_seq c (part1 A c hj hn (gw A k.val) _ _ _)) $$ [HO HG HX HF]
  · isplitl [HO]; · iexact HO
    isplitl [HG]; · iexact HG
    isplitl [HX]; · iexact HX
    iexact HF
  iintro %r ⟨%hr, HO, HG, HX, H0, H1, H2⟩
  rcases r with ⟨v, hv⟩
  simp only at hr
  subst hr
  iapply (wp_w A c (ord A j) j 2 (ord_lt A hn) (off18_eq (ord_lt A hn)) (off17_eq hj) (off16_eq hj)) $$ H2
  iintro H2
  iapply (wp_ifno c (fun h => (not_gt_one _).1 h hg))
  simp only [ret_bind', Prog.pure_eq_ret, wp_ret]
  imodintro
  isplitr
  · ipureintro; exact add_one j _ hg
  isplitl [HG]; · iexact HG
  isplitl [HO]; · iexact HO
  isplitl [HX]; · iexact HX
  iapply HW
  unfold WflyS
  isplitl [H0]; · iexact H0
  isplitl [H1]; · iexact H1
  iexact H2

theorem trip_many {k : Fin k0_t1_loop.trips} {j : ℕ} (hk : k.val < 32) (hj : ¬ j < 3) (hn : j < nl A) (ho : ord A j = k.val) :
    iprop(GS_ A c ∗ OrdIs A c j)
      ⊢ WP (B1 (F := F) k (bv j)) (fun r => iprop(⌜r = bv (j + 1)⌝ ∗ GS_ A c ∗ OrdIs A c (j + 1))) := by
  have hl : live A k.val = true := ho ▸ ord_live A hn
  have hg : 0 < (gw A k.val).toInt := of_decide_eq_true hl
  have hj32 : j < 32 := lt_of_lt_of_le hn (nl_le A)
  sl_unfold [B1, k0_t1_body]
  iintro ⟨HG, HO⟩
  iapply (wp_gLoad A c (off1_eq k)) $$ HG
  iintro HG
  iapply (wp_assume _ _ _ _ (chk1_ok hj32 (gw A k.val)))
  iapply (wp_yes c ((cond1_iff _).2 hg))
  iapply (wp_ordPeek A c) $$ HO
  iintro %v HO
  iapply (wp_ordStore A c (off2_eq hj32) _ ((iv1 k).trans (congrArg bv ho.symm))) $$ HO
  iintro HO
  iapply (wp_no c (fun h => hj ((cond2_iff ⟨j, by omega⟩).1 h)))
  iapply (wp_ifno c (fun h => (not_gt_one _).1 h hg))
  simp only [ret_bind', Prog.pure_eq_ret, wp_ret]
  imodintro
  isplitr
  · ipureintro; exact add_one j _ hg
  isplitl [HG]; · iexact HG
  iexact HO

theorem trip_none (G : S32x16x768.Idx → Elt F .bf16) (z : Elt F .bf16) {k : Fin k0_t1_loop.trips} {j : ℕ} (hk : k.val < 32) (hj : j < 32) (hl : ¬ live A k.val = true) (hG : ∀ i ∈ oWin k.val, G i = z) :
    iprop(GS_ A c ∗ zRest c z (k.val - pos A k.val) ∗ OG A c G k.val 0 0 ∗ OB A c G z (k.val - pos A k.val) 0)
      ⊢ WP (B1 (F := F) k (bv j)) (fun r => iprop(⌜r = bv j⌝ ∗ GS_ A c ∗ zRest c z (k.val - pos A k.val + 1) ∗ OG A c G (k.val + 1) 0 0 ∗ OB A c G z (k.val - pos A k.val + 1) 0)) := by
  have hg : ¬ 0 < (gw A k.val).toInt := fun h => hl (decide_eq_true h)
  sl_unfold [B1, k0_t1_body]
  iintro ⟨HG, Hz, HX, HB⟩
  iapply (wp_gLoad A c (off1_eq k)) $$ HG
  iintro HG
  iapply (wp_assume _ _ _ _ (chk1_ok hj (gw A k.val)))
  iapply (wp_no c (fun h => hg ((cond1_iff _).1 h)))
  iapply (wp_ifyes c ((not_gt_one _).2 hg))
  iapply (wp_Z A c G z k.val (k.val - pos A k.val) hk hl rfl hG (off19_eq k))
  isplitl [Hz]; · iexact Hz
  isplitl [HX]; · iexact HX
  isplitl [HB]; · iexact HB
  iintro ⟨Hz, HX, HB⟩
  simp only [ret_bind', Prog.pure_eq_ret, wp_ret]
  imodintro
  isplitr
  · ipureintro; exact add_zero' j _ hg
  isplitl [HG]; · iexact HG
  isplitl [Hz]; · iexact Hz
  isplitl [HX]; · iexact HX
  iexact HB

/-- What holds before the listing looks at expert `k`. -/
def I1 (G : S32x16x768.Idx → Elt F .bf16) (z : Elt F .bf16) (k : ℕ) (acc : BitVec 32) : sProp 𝕄 :=
  iprop(⌜acc = bv (pos A k)⌝ ∗ GS_ A c ∗ OrdIs A c (pos A k) ∗ XG A c 0 (min 3 (pos A k)) 0 ∗ WScan A c (pos A k)
    ∗ zRest c z (k - pos A k) ∗ OG A c G k 0 0 ∗ OB A c G z (k - pos A k) 0)

theorem trip1 (G : S32x16x768.Idx → Elt F .bf16) (z : Elt F .bf16) (hG : ∀ e, e < 32 → ¬ live A e = true → ∀ i ∈ oWin e, G i = z)
    (k : Fin k0_t1_loop.trips) (acc : BitVec 32) : I1 A c G z k.val acc ⊢ WP (B1 (F := F) k acc) (I1 A c G z (k.val + 1)) := by
  have hk : k.val < 32 := lt_of_lt_of_eq k.isLt trips1
  have hpk : pos A k.val ≤ k.val := cnt_le _ _
  unfold I1
  by_cases hl : live A k.val = true
  · have hp : pos A (k.val + 1) = pos A k.val + 1 := cnt_succ_of hl
    have hn := pos_lt_nl A hk hl
    have ho := ord_pos A hk hl
    have hs : k.val + 1 - (pos A k.val + 1) = k.val - pos A k.val := by omega
    rw [hp, hs]
    by_cases hj : pos A k.val < 3
    · have hm : min 3 (pos A k.val) = pos A k.val := by omega
      have hm2 : min 3 (pos A k.val + 1) = pos A k.val + 1 := by omega
      rw [hm, hm2]
      iintro ⟨%ha, HG, HO, HX, HW, Hz, HR, HB⟩
      subst ha
      ihave HR := (OG_live' A c G 0 0 hl) $$ HR
      iapply wp_wand_r
      isplitl [HG HO HX HW]
      · iapply (trip_few A c hk hj hn ho)
        isplitl [HG]; · iexact HG
        isplitl [HO]; · iexact HO
        isplitl [HX]; · iexact HX
        iexact HW
      iintro %r ⟨%hr, HG, HO, HX, HW⟩
      isplitr
      · ipureintro; exact hr
      isplitl [HG]; · iexact HG
      isplitl [HO]; · iexact HO
      isplitl [HX]; · iexact HX
      isplitl [HW]; · iexact HW
      isplitl [Hz]; · iexact Hz
      isplitl [HR]; · iexact HR
      iexact HB
    · have hm : min 3 (pos A k.val) = 3 := by omega
      have hm2 : min 3 (pos A k.val + 1) = 3 := by omega
      rw [hm, hm2]
      iintro ⟨%ha, HG, HO, HX, HW, Hz, HR, HB⟩
      subst ha
      ihave HR := (OG_live' A c G 0 0 hl) $$ HR
      ihave HW := (WScan_more' A c hj) $$ HW
      iapply wp_wand_r
      isplitl [HG HO]
      · iapply (trip_many A c hk hj hn ho)
        isplitl [HG]; · iexact HG
        iexact HO
      iintro %r ⟨%hr, HG, HO⟩
      isplitr
      · ipureintro; exact hr
      isplitl [HG]; · iexact HG
      isplitl [HO]; · iexact HO
      isplitl [HX]; · iexact HX
      isplitl [HW]; · iexact HW
      isplitl [Hz]; · iexact Hz
      isplitl [HR]; · iexact HR
      iexact HB
  · have hp : pos A (k.val + 1) = pos A k.val := cnt_succ_not hl
    have hs : k.val + 1 - pos A k.val = k.val - pos A k.val + 1 := by omega
    rw [hp, hs]
    iintro ⟨%ha, HG, HO, HX, HW, Hz, HR, HB⟩
    subst ha
    iapply wp_wand_r
    isplitl [HG Hz HR HB]
    · iapply (trip_none A c G z hk (by omega) hl (hG _ hk hl))
      isplitl [HG]; · iexact HG
      isplitl [Hz]; · iexact Hz
      isplitl [HR]; · iexact HR
      iexact HB
    iintro %r ⟨%hr, HG, Hz, HR, HB⟩
    isplitr
    · ipureintro; exact hr
    isplitl [HG]; · iexact HG
    isplitl [HO]; · iexact HO
    isplitl [HX]; · iexact HX
    isplitl [HW]; · iexact HW
    isplitl [Hz]; · iexact Hz
    isplitl [HR]; · iexact HR
    iexact HB

end Cert.Kernel.Hand

end
-- ==== Proof.Scan3.lean ====
/-
  The stretch of the body that lists the experts with rows.
-/
module

public import proofs.«01_k».proof.Proof.Scan2

@[expose] public section

set_option maxRecDepth 16384

noncomputable section

namespace Cert.Kernel.Hand

open Cert.Kernel Cert.Kernel.Gen Cert.Listing
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ
local notation "EC" => countersEmb (U := Pipeline.UD sig nD τ)

variable (A : Arrays F) (c : Dev nD)

local notation "WP" => wp frame (wpE (defs₀ (F := F)) Variants.none (th c) none) Set.univ

section Rules

variable {α β : Type} {Λ : Labels} {defs : Defs nD τ sig (Elt F) Λ} {𝒱 : Variants} {bd : Option 𝒱.V}

/-- A counted loop by an invariant, at the head of a program. -/
theorem wp_loop {w : ℕ} {σ : Type} (l : Scf.Loop w) (hok : l.OK) (init : σ) (body : Fin l.trips → σ → Prog (TpuEff nD τ sig (Elt F) Λ (th c).2) σ) (I : ℕ → σ → sProp 𝕄)
    (hbody : ∀ (k : Fin l.trips) (acc : σ), I k.val acc ⊢ wp frame (wpE defs 𝒱 (th c) bd) Set.univ (body k acc) (I (k.val + 1)))
    {k : σ → Prog (TpuEff nD τ sig (Elt F) Λ (th c).2) α} {Q : α → sProp 𝕄} :
    I 0 init ⊢ iprop((∀ acc, I l.trips acc -∗ wp frame (wpE defs 𝒱 (th c) bd) Set.univ (k acc) Q)
      -∗ wp frame (wpE defs 𝒱 (th c) bd) Set.univ ((Scf.Loop.for l hok init body).bind k) Q) :=
  Scf.wp_for_bind frame (wpE defs 𝒱 (th c) bd) Set.univ l.lb l.ub l.st hok init body I hbody

def ZAny : sProp 𝕄 := iprop(∃ f, (th c).loc cc0_scratch8 ↦[Finset.univ]{fullShare} f)
def OrdAny : sProp 𝕄 := iprop(∃ f, (th c).loc cc0_scratch1 ↦[Finset.univ]{fullShare} f)

abbrev zRef : Memref sig .tc .vmem S16x768 .bf16 := Memref.whole cc0_scratch8

theorem wp_zLoad {r : Rect S16x768} {hl : zRef.view.LoadsAt r.toLoadRect} {k : (r.toLoadRect.shape.Idx → Elt F .bf16) → Prog (TpuEff nD τ sig (Elt F) Λ (th c).2) α} {Q : α → sProp 𝕄} :
    ZAny (F := F) c ⊢ iprop((∀ v, ZAny (F := F) c -∗ wp frame (wpE defs 𝒱 (th c) bd) Set.univ (k v) Q)
      -∗ wp frame (wpE defs 𝒱 (th c) bd) Set.univ (.op (.load zRef r.toLoadRect hl) k) Q) := by
  unfold ZAny
  iintro ⟨%f, H⟩ HK
  have key := wp_load_rect (defs := defs) 𝒱 (th c) bd (Γ := .empty) Set.univ (m := zRef) (r := r) (hl := hl) (k := k) (Q := Q) (S := Finset.univ) (q := fullShare) (f := f) (Finset.subset_univ _)
  iapply key $$ H
  iintro H
  iapply HK
  iexists f
  iexact H

theorem wp_zStore {w : S16x768.Idx → Elt F .bf16} (z : Elt F .bf16) (hw : w = fun _ => z) {inb hx hm} {k : PUnit → Prog (TpuEff nD τ sig (Elt F) Λ (th c).2) α} {Q : α → sProp 𝕄} :
    ZAny (F := F) c ⊢ iprop((zRest c z 0 -∗ wp frame (wpE defs 𝒱 (th c) bd) Set.univ (k ⟨⟩) Q)
      -∗ wp frame (wpE defs 𝒱 (th c) bd) Set.univ (.op (.store zRef (Rect.unit (s := S16x768) ![0, 0] S16x768.size inb) w Finset.univ hx hm) k) Q) := by
  unfold ZAny zRest
  iintro ⟨%f, H⟩ HK
  have key := wp_store (defs := defs) 𝒱 (th c) bd (Γ := .empty) Set.univ (m := zRef) (r := Rect.unit (s := S16x768) ![0, 0] S16x768.size inb) (w := w) (Mk := Finset.univ) (hx := hx) (hm := hm) (k := k) (Q := Q) (S := Finset.univ) (f := f) (Finset.subset_univ _)
  have e : (zRef.access (Rect.unit (s := S16x768) ![0, 0] S16x768.size inb)).write (Elt F) f w Finset.univ = fun _ => z := by
    have h := Memref.write_access_unit_zero_univ (sig := sig) (κ := .tc) (Elt F) cc0_scratch8 (off := ![0, 0]) (by funext a; fin_cases a <;> rfl) inb f w
    exact h.trans hw
  rw [e] at key
  iapply key $$ H
  iexact HK

theorem OB_alloc (G : S32x16x768.Idx → Elt F .bf16) (z : Elt F .bf16) : sv c 43 ⊢ iprop(|={Set.univ}[frame]=> OB A c G z 0 0) := by
  unfold sv OB
  rw [← oSem_eq]
  iintro Hs
  imod (batch_alloc' (Lvl := ℕ) EC (th c) () NO (fun t : Fin 32 => oD A c G z t.val) (sm := .dma (cc0_scratch13 : DmaSems sig S_).sem) (E := Set.univ)) $$ Hs with HB
  imodintro
  iexact HB

end Rules

theorem XP_XG : XP A c 32 ⊢ XG A c 0 0 0 := by
  unfold XP XG
  refine Entails.of_eq (bigSep_congr fun e he => ?_)
  rw [if_pos (Finset.mem_range.1 he)]
  simp

abbrev P37 := k0_part37 (F := F) (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13
/-- The zero the kernel writes. -/
def zv : Elt F .bf16 := (Scalar.ofBits .bf16 0x0000#16 : F .bf16)

theorem part37 (G : S32x16x768.Idx → Elt F .bf16) (hG : ∀ e, e < 32 → ¬ live A e = true → ∀ i ∈ oWin e, G i = zv) :
    iprop(XP A c 29 ∗ GFly A c ∗ SH A c ∗ SAny c ∗ sv c 42 ∗ ZAny c ∗ Ow c ∗ OrdAny c ∗ WScan A c 0 ∗ OG A c G 0 0 0 ∗ sv c 43)
      ⊢ WP (P37 (F := F)) (fun r => iprop(⌜r.1 = bv (nl A)⌝ ∗ GS_ A c ∗ GH A c ∗ sv c 0 ∗ Ow c ∗ SFly A c ∗ OrdIs A c (nl A) ∗ XG A c 0 (min 3 (nl A)) 0 ∗ WScan A c (nl A)
        ∗ zRest c zv (nd A) ∗ OG A c G 32 0 0 ∗ OB A c G zv (nd A) 0)) := by
  sl_unfold [P37, k0_part37]
  iintro ⟨HX, HG, HS, HSA, Hs42, HZ, HO, HOr, HW, HR, Hs43⟩
  iapply (wp_X0L A c) $$ HX; iintro HX
  iapply (wp_X0L A c) $$ HX; iintro HX
  iapply (wp_X0L A c) $$ HX; iintro HX
  iapply (wp_sIssue A c)
  isplitl [HS]; · iexact HS
  isplitl [HSA]; · iexact HSA
  isplitl [Hs42]; · iexact Hs42
  iintro HS
  iapply (wp_zLoad c) $$ HZ
  iintro %v HZ
  iapply (wp_zStore c zv rfl) $$ HZ
  iintro HZ
  iapply (wp_gWait A c)
  isplitl [HG]; · iexact HG
  isplitl [HO]; · iexact HO
  iintro ⟨HG, HGH, Hs0, HO⟩
  imod (OB_alloc A c G zv) $$ Hs43 with HB
  iapply (wp_loop c _ _ _ _ (I1 A c G zv) (trip1 A c G zv hG)) $$ [HX HG HOr HW HZ HR HB]
  · unfold I1
    have hp : pos A 0 = 0 := rfl
    rw [hp]
    unfold OrdAny OrdIs
    icases HOr with ⟨%f, HOr⟩
    isplitr; · ipureintro; rfl
    isplitl [HG]; · iexact HG
    isplitl [HOr]
    · iexists f
      isplitr
      · ipureintro; intro j hj; exact absurd hj (Nat.not_lt_zero _)
      iexact HOr
    isplitl [HX]; · iapply (XP_XG A c) $$ HX
    isplitl [HW]; · iexact HW
    isplitl [HZ]; · iexact HZ
    isplitl [HR]; · iexact HR
    iexact HB
  iintro %acc HI
  unfold I1
  have h32 : pos A 32 = nl A := rfl
  have hnd : 32 - pos A 32 = nd A := rfl
  rw [trips1, hnd, h32]
  icases HI with ⟨%ha, HG, HOr, HX, HW, HZ, HR, HB⟩
  subst ha
  iapply (wp_assume _ _ _ _ (chk9_ok (by have := nl_le A; omega)))
  simp only [ret_bind', Prog.pure_eq_ret, wp_ret]
  imodintro
  isplitr; · ipureintro; trivial
  isplitl [HG]; · iexact HG
  isplitl [HGH]; · iexact HGH
  isplitl [Hs0]; · iexact Hs0
  isplitl [HO]; · iexact HO
  isplitl [HS]; · iexact HS
  isplitl [HOr]; · iexact HOr
  isplitl [HX]; · iexact HX
  isplitl [HW]; · iexact HW
  isplitl [HZ]; · iexact HZ
  isplitl [HR]; · iexact HR
  iexact HB

end Cert.Kernel.Hand

end
-- ==== Proof.Vals.lean ====
/-
  The values that the kernel computes: a block's codes and scales, and an expert's plane of results.
-/
module

public import proofs.«01_k».proof.Proof.Scan3

@[expose] public section

set_option maxRecDepth 16384

noncomputable section

namespace Cert.Kernel.Hand

open Cert.Kernel Cert.Kernel.Gen Cert.Listing
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ
local notation "EC" => countersEmb (U := Pipeline.UD sig nD τ)

variable (A : Arrays F) (c : Dev nD)

local notation "WP" => wp frame (wpE (defs₀ (F := F)) Variants.none (th c) none) Set.univ

/-- A block of the activations as the kernel reads it: expert `e`'s rows. -/
def xRaw (e : ℕ) : Vec F S1x2x8x6144 .bf16 := fun i => A.X (ValueIdx.ix4 (fe e) (i 1) (i 2) (i 3))
/-- The rows as one plane. -/
def xFlat (v : Vec F S1x2x8x6144 .bf16) : FVec F S16x6144 .bf16 :=
  shapeCast S16x6144 (shapeCast S2x8x6144 v shapeCasts_S1x2x8x6144_S2x8x6144) shapeCasts_S2x8x6144_S16x6144
/-- Which rows belong to the group. -/
def rowLt (g : BitVec 32) : IVec S16x6144 1 := cmpi .slt (iota .tc S16x6144 32 [0] iota_S16x6144_d0_w32) (broadcast S16x6144 g)
/-- The rows of the group, zero elsewhere. -/
def xMask (g : BitVec 32) (v : Vec F S1x2x8x6144 .bf16) : FVec F S16x6144 .f32 :=
  select (rowLt g) (extf .f32 (xFlat v) bitsLt_bf16_f32) (broadcast S16x6144 (Scalar.ofBits .f32 0x00000000#32 : F .f32))
/-- A row's largest magnitude over 448. -/
def rowT (v : FVec F S16x6144 .f32) : FVec F S16x1 .f32 :=
  mulf (shapeCast S16x1 (multiReduction .maximumf [1] S16 (absf v) 0xFF800000#32 reduces_S16x6144_S16 (.inl rfl) rfl) shapeCasts_S16_S16x1)
    (broadcast S16x1 (Scalar.ofBits .f32 0x3B124925#32 : F .f32))
/-- Is the power of two whose exponent field is `f + b` at most `t`? -/
def bitTest (t : FVec F S16x1 .f32) (b : BitVec 32) (f : IVec S16x1 32) : IVec S16x1 1 :=
  cmpf .oge t (bitcastToFloat .f32 (shli (addi f (broadcast S16x1 b)) (broadcast S16x1 23#32)))
def bitStep (t : FVec F S16x1 .f32) (b : BitVec 32) (f : IVec S16x1 32) : IVec S16x1 32 :=
  select (bitTest t b f) (addi f (broadcast S16x1 b)) f
def fld3 (t : FVec F S16x1 .f32) : IVec S16x1 32 := bitStep t 32#32 (bitStep t 64#32 (bitStep t 128#32 (broadcast S16x1 0#32)))
def fld4 (t : FVec F S16x1 .f32) : IVec S16x1 32 := bitStep t 16#32 (fld3 t)
def fld6 (t : FVec F S16x1 .f32) : IVec S16x1 32 := bitStep t 4#32 (bitStep t 8#32 (fld4 t))
/-- The exponent field of `t`. -/
def fld (t : FVec F S16x1 .f32) : IVec S16x1 32 := bitStep t 1#32 (bitStep t 2#32 (fld6 t))
/-- The exponent of the scale, from the field. -/
def expOf (f : IVec S16x1 32) : IVec S16x1 32 :=
  select (ori (cmpi .eq f (broadcast S16x1 0#32)) (cmpi .eq f (broadcast S16x1 255#32))) (broadcast S16x1 0#32) (subi f (broadcast S16x1 126#32))
def sclOf (e : IVec S16x1 32) : FVec F S16x1 .f32 := bitcastToFloat .f32 (shli (addi (broadcast S16x1 127#32) e) (broadcast S16x1 23#32))
def invOf (e : IVec S16x1 32) : FVec F S16x1 .f32 := bitcastToFloat .f32 (shli (subi (broadcast S16x1 127#32) e) (broadcast S16x1 23#32))
/-- The codes of a block, with sixteen rows of zeros below. -/
def codes (v : FVec F S16x6144 .f32) (e : IVec S16x1 32) : FVec F S32x6144 .fp8e4m3 :=
  truncf .fp8e4m3 (concatenate S32x6144 0
    [⟨S16x6144, minimumf (broadcast S16x6144 (Scalar.ofBits .f32 0x43E00000#32 : F .f32)) (maximumf (broadcast S16x6144 (Scalar.ofBits .f32 0xC3E00000#32 : F .f32)) (mulf v (broadcastTo S16x6144 (invOf e) broadcasts_S16x1_S16x6144)))⟩,
     ⟨S16x6144, broadcast S16x6144 (Scalar.ofBits .f32 0x00000000#32 : F .f32)⟩] concatenates_S16x6144_S16x6144_S32x6144_d0) bitsLt_fp8e4m3_f32

/-- Expert `e`'s rows, masked. -/
def xm (e : ℕ) : FVec F S16x6144 .f32 := xMask (gw A e) (xRaw A e)
def ex (e : ℕ) : IVec S16x1 32 := expOf (fld (rowT (xm A e)))
/-- What the codes' slot holds for expert `e`. -/
def qv (e : ℕ) : FVec F S1x32x6144 .fp8e4m3 := shapeCast S1x32x6144 (codes (xm A e) (ex A e)) shapeCasts_S32x6144_S1x32x6144
/-- What the scales' slot holds for expert `e`. -/
def sv_ (e : ℕ) : FVec F S1x16x128 .f32 :=
  shapeCast S1x16x128 (broadcastTo S16x128 (shapeCast S16x1 (sclOf (F := F) (ex A e)) shapeCasts_S16x1_S16x1) broadcasts_S16x1_S16x128) shapeCasts_S16x128_S1x16x128

/-- The codes as the step reads them back. -/
def q2 (e : ℕ) : FVec F S32x6144 .fp8e4m3 := shapeCast S32x6144 (qv A e) shapeCasts_S1x32x6144_S32x6144
/-- The scales as the step reads them back. -/
def s2 (e : ℕ) : FVec F S16x768 .f32 :=
  concatenate S16x768 1 [⟨S16x128, shapeCast S16x128 (sv_ A e) shapeCasts_S1x16x128_S16x128⟩, ⟨S16x128, shapeCast S16x128 (sv_ A e) shapeCasts_S1x16x128_S16x128⟩,
    ⟨S16x128, shapeCast S16x128 (sv_ A e) shapeCasts_S1x16x128_S16x128⟩, ⟨S16x128, shapeCast S16x128 (sv_ A e) shapeCasts_S1x16x128_S16x128⟩,
    ⟨S16x128, shapeCast S16x128 (sv_ A e) shapeCasts_S1x16x128_S16x128⟩, ⟨S16x128, shapeCast S16x128 (sv_ A e) shapeCasts_S1x16x128_S16x128⟩]
    concatenates_S16x128_S16x128_S16x128_S16x128_S16x128_S16x128_S16x768_d1

theorem slc (j : ℕ) : S32x6144.Slices ![0, 256 * (j % 24)] S32x256 := by
  refine ⟨rfl, ?_⟩
  intro a
  have := Nat.mod_lt j (show 0 < 24 by norm_num)
  fin_cases a
  · simp [S32x6144, S32x256]
  · simp [S32x6144, S32x256]; omega

/-- The `j`-th block of columns of the codes. -/
def qj (e j : ℕ) : FVec F S32x256 .fp8e4m3 := extractStridedSlice S32x256 ![0, 256 * (j % 24)] (q2 A e) (slc j)
def cj (j : ℕ) (k : Fin 256) : Fin 6144 := ⟨256 * (j % 24) + k.val, by have := Nat.mod_lt j (show 0 < 24 by norm_num); have := k.isLt; omega⟩
/-- The `j`-th block of columns of the first 512 rows of the weights. -/
def w5 (e j : ℕ) : Vec F S1x512x256 .fp8e4m3 := fun i => A.W (ValueIdx.ix3 (fe e) ⟨(i 1).val, lt_of_lt_of_le (i 1).isLt (by decide)⟩ (cj j (i 2)))
/-- The `j`-th block of columns of the last 256 rows of the weights. -/
def w2 (e j : ℕ) : Vec F S1x256x256 .fp8e4m3 := fun i => A.W (ValueIdx.ix3 (fe e) ⟨512 + (i 1).val, by have : (i 1).val < 256 := (i 1).isLt; omega⟩ (cj j (i 2)))
def w5f (e j : ℕ) : FVec F S512x256 .fp8e4m3 := shapeCast S512x256 (w5 A e j) shapeCasts_S1x512x256_S512x256
def w2f (e j : ℕ) : FVec F S256x256 .fp8e4m3 := shapeCast S256x256 (w2 A e j) shapeCasts_S1x256x256_S256x256
def m5 (e j : ℕ) : FVec F S32x512 .f32 :=
  matmul dot_S32x256_S512x256_S32x512_1_1_0_0_n_n none (qj A e j) (w5f A e j) (constant S32x512 .f32 0x00000000#32)
def m2 (e j : ℕ) : FVec F S256x32 .f32 :=
  matmul dot_S256x256_S32x256_S256x32_1_1_0_0_n_n none (w2f A e j) (qj A e j) (constant S256x32 .f32 0x00000000#32)
def a5 (e : ℕ) : ℕ → FVec F S32x512 .f32
  | 0 => m5 A e 0
  | j + 1 => addf (a5 e j) (m5 A e (j + 1))
def a2 (e : ℕ) : ℕ → FVec F S256x32 .f32
  | 0 => m2 A e 0
  | j + 1 => addf (a2 e j) (m2 A e (j + 1))

def oLt (g : BitVec 32) : IVec S16x768 1 := cmpi .slt (iota .tc S16x768 32 [0] iota_S16x768_d0_w32) (broadcast S16x768 g)
/-- Expert `e`'s row of the weights' scales. -/
def wsr (e : ℕ) : Vec F S1x768 .f32 := fun i => A.WS (ValueIdx.ix2 (fe e) (i 1))
/-- Expert `e`'s plane of results. -/
def outv (e : ℕ) : FVec F S16x768 .bf16 :=
  truncf .bf16 (select (oLt (gw A e))
    (mulf (mulf (concatenate S16x768 1
        [⟨S16x512, extractStridedSlice S16x512 ![0, 0] (a5 A e 23) slices_S32x512_o0_0_S16x512⟩,
         ⟨S16x256, extractStridedSlice S16x256 ![0, 0] (transpose S32x256 [1, 0] (a2 A e 23) transposes_S256x32_p1_0_S32x256) slices_S32x256_o0_0_S16x256⟩]
        concatenates_S16x512_S16x256_S16x768_d1) (s2 A e)) (broadcastTo S16x768 (wsr A e) broadcasts_S1x768_S16x768))
    (broadcast S16x768 (Scalar.ofBits .f32 0x00000000#32 : F .f32))) bitsLt_bf16_f32

/-- The kernel's result. -/
def res : S32x16x768.Idx → Elt F .bf16 := fun i =>
  if live A (i 0).val = true then outv A (i 0).val (ValueIdx.ix2 (i 1) (i 2)) else zv

theorem res_dead : ∀ e, e < 32 → ¬ live A e = true → ∀ i ∈ oWin e, res A i = zv := by
  intro e _ hl i hi
  have h0 : (i 0).val = e := by simpa [oWin] using hi
  unfold res
  rw [h0, if_neg hl]

end Cert.Kernel.Hand

end
-- ==== Proof.Loads.lean ====
/-
  Loads and stores of the blocks, the codes, the scales, the weights and the planes of results.
-/
module

public import proofs.«01_k».proof.Proof.Vals

@[expose] public section

set_option maxRecDepth 16384

noncomputable section

namespace Cert.Kernel.Hand

open Cert.Kernel Cert.Kernel.Gen Cert.Listing
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ
local notation "EC" => countersEmb (U := Pipeline.UD sig nD τ)

variable (A : Arrays F) (c : Dev nD)

local notation "WP" => wp frame (wpE (defs₀ (F := F)) Variants.none (th c) none) Set.univ

section Rules

variable {α β : Type} {Λ : Labels} {defs : Defs nD τ sig (Elt F) Λ} {𝒱 : Variants} {bd : Option 𝒱.V}

/-! ## The activations -/

theorem xPlane_set {off inb} {e : ℕ} (ho : off = ![e, 0, 0, 0]) :
    (Rect.unit (s := S32x2x8x6144) off S1x2x8x6144.size inb).set ⊆ xWin e 0 ∪ xWin e 1 := by
  subst ho; intro i hi
  rw [Rect.mem_set_unit] at hi
  simp only [xWin, Finset.mem_union, Finset.mem_filter, Finset.mem_univ, true_and]
  have h0 := hi 0
  have h1 := hi 1
  simp [S32x2x8x6144, S1x2x8x6144] at h0 h1
  omega

theorem xFlat_apply (v : Vec F S1x2x8x6144 .bf16) (p : S16x6144.Idx) :
    xFlat v p = v (ValueIdx.ix4 0 ⟨(p 0).val / 8, by have : (p 0).val < 16 := (p 0).isLt; omega⟩ ⟨(p 0).val % 8, by omega⟩ (p 1)) := by
  unfold xFlat
  rw [shapeCast_comp]
  refine shapeCast_apply _ _ _ _ ?_
  rw [Shape.rowMajor_val_four, Shape.rowMajor_val_two]
  have h0 : (p 0).val < 16 := (p 0).isLt
  have h1 : (p 1).val < 6144 := (p 1).isLt
  simp [ValueIdx.ix4]
  omega

/-- Rows that the group does not have do not matter. -/
theorem xMask_congr {e : ℕ} (he : e < 32) (v : Vec F S1x2x8x6144 .bf16)
    (hv : ∀ i : S1x2x8x6144.Idx, ((i 1).val = 0 ∨ long A e = true) → v i = xRaw A e i) : xMask (gw A e) v = xm A e := by
  unfold xm xMask
  funext p
  simp only [ValueIdx.select_apply]
  unfold Scalar.select
  by_cases h : rowLt (gw A e) p = 1
  · rw [if_pos h, if_pos h]
    have hp : (p 0).val < 16 := (p 0).isLt
    have hx : xFlat v p = xFlat (xRaw A e) p := by
      rw [xFlat_apply, xFlat_apply]
      refine hv _ ?_
      by_cases h8 : (p 0).val < 8
      · left
        show (p 0).val / 8 = 0
        omega
      · right
        unfold long
        refine decide_eq_true ?_
        have h2 : (BitVec.ofNat 32 (0 * 16 + (p 0).val)).slt (gw A e) = true := by
          by_contra hc
          have : rowLt (gw A e) p = 0 := by
            show BitVec.ofBool ((BitVec.ofNat 32 (0 * 16 + (p 0).val)).slt (gw A e)) = 0
            rw [Bool.not_eq_true] at hc
            rw [hc]; rfl
          rw [this] at h
          exact absurd h (by decide)
        rw [BitVec.slt_iff_toInt_lt] at h2
        have h3 : (BitVec.ofNat 32 (0 * 16 + (p 0).val)).toInt = (p 0).val := by
          rw [BitVec.toInt_ofNat']
          simp [Int.bmod]
          omega
        omega
    unfold extf
    rw [hx]
  · rw [if_neg h, if_neg h]

theorem wp_xLoad (e : ℕ) (he : e < 32) {off inb hl} (ho : off = ![e, 0, 0, 0]) {k : Vec F S1x2x8x6144 .bf16 → Prog (TpuEff nD τ sig (Elt F) Λ (th c).2) α} {Q : α → sProp 𝕄} :
    XFin A c e ⊢ iprop((∀ v, ⌜xMask (gw A e) v = xm A e⌝ -∗ XFin A c e -∗ wp frame (wpE defs 𝒱 (th c) bd) Set.univ (k v) Q)
      -∗ wp frame (wpE defs 𝒱 (th c) bd) Set.univ (.op (.load (Memref.whole cc0_scratch3) (Rect.unit (s := S32x2x8x6144) off S1x2x8x6144.size inb).toLoadRect hl) k) Q) := by
  subst ho
  unfold XFin
  iintro ⟨H1, H2, H3, ⟨%g, %hg, H⟩⟩ HK
  have key := wp_load_rect (defs := defs) 𝒱 (th c) bd (Γ := .empty) Set.univ (m := (Memref.whole cc0_scratch3 : Memref sig .tc .vmem S32x2x8x6144 .bf16)) (r := Rect.unit (s := S32x2x8x6144) ![e, 0, 0, 0] S1x2x8x6144.size inb) (hl := hl) (k := k) (Q := Q) (S := xWin e 0 ∪ xWin e 1) (q := fullShare) (f := g) (by
    have h := xPlane_set (inb := inb) (e := e) rfl
    rw [← View.set_slice_whole cc0_scratch3] at h
    exact h)
  iapply key $$ H
  iintro H
  iapply HK
  · ipureintro
    refine xMask_congr A he _ fun i hi => ?_
    have hi' : ((Rect.unit (s := S32x2x8x6144) ![e, 0, 0, 0] S1x2x8x6144.size inb).emb i) = ValueIdx.ix4 (fe e) (i 1) (i 2) (i 3) := by
      funext a; apply Fin.ext
      have hz : (i 0).val = 0 := by have : (i 0).val < 1 := (i 0).isLt; omega
      fin_cases a <;> simp [Rect.unit, Rect.emb, ValueIdx.ix4, fe_val he, hz]
    show g ((Rect.unit (s := S32x2x8x6144) ![e, 0, 0, 0] S1x2x8x6144.size inb).emb i) = A.X _
    rw [hi']
    exact hg _ (by simp [ValueIdx.ix4, fe_val he]) (by simpa [ValueIdx.ix4] using hi)
  · isplitl [H1]; · iexact H1
    isplitl [H2]; · iexact H2
    isplitl [H3]; · iexact H3
    iexists g
    isplitr; · ipureintro; exact hg
    iexact H

/-! ## The weights -/

theorem wSlot_split (e s : ℕ) : WheldS A c e s ⊢ iprop(((th c).loc cc0_scratch2 ↦[wbWin s 0 ∪ (wbWin s 1 ∪ wbWin s 2)]{fullShare} wOf A.W e)
    ∗ (((th c).loc cc0_scratch2 ↦[wbWin s 0 ∪ (wbWin s 1 ∪ wbWin s 2)]{fullShare} wOf A.W e) -∗ WheldS A c e s)) := by
  have d1 : Disjoint (wbWin s 1) (wbWin s 2) := by
    rw [Finset.disjoint_left]; intro i h1 h2; simp [wbWin] at h1 h2; omega
  have d0 : Disjoint (wbWin s 0) (wbWin s 1 ∪ wbWin s 2) := by
    rw [Finset.disjoint_left]; intro i h1 h2; simp [wbWin] at h1 h2; omega
  unfold WheldS WheldT
  have e1 : ((th c).loc cc0_scratch2 ↦[wbWin s 0 ∪ (wbWin s 1 ∪ wbWin s 2)]{fullShare} wOf A.W e : sProp 𝕄)
      ⊣⊢ iprop(((th c).loc cc0_scratch2 ↦[wbWin s 0]{fullShare} wOf A.W e) ∗ ((th c).loc cc0_scratch2 ↦[wbWin s 1 ∪ wbWin s 2]{fullShare} wOf A.W e)) := pointsTo_union d0
  have e2 : ((th c).loc cc0_scratch2 ↦[wbWin s 1 ∪ wbWin s 2]{fullShare} wOf A.W e : sProp 𝕄)
      ⊣⊢ iprop(((th c).loc cc0_scratch2 ↦[wbWin s 1]{fullShare} wOf A.W e) ∗ ((th c).loc cc0_scratch2 ↦[wbWin s 2]{fullShare} wOf A.W e)) := pointsTo_union d1
  iintro ⟨⟨A1, A2, A3⟩, ⟨B1, B2, B3⟩, ⟨C1, C2, C3⟩⟩
  ihave H := e2.2 $$ [B2 C2]
  · isplitl [B2]; · iexact B2
    iexact C2
  ihave H := e1.2 $$ [A2 H]
  · isplitl [A2]; · iexact A2
    iexact H
  isplitl [H]; · iexact H
  iintro H
  ihave H := e1.1 $$ H
  icases H with ⟨A2, H⟩
  ihave H := e2.1 $$ H
  icases H with ⟨B2, C2⟩
  isplitl [A1 A2 A3]
  · isplitl [A1]; · iexact A1
    isplitl [A2]; · iexact A2
    iexact A3
  isplitl [B1 B2 B3]
  · isplitl [B1]; · iexact B1
    isplitl [B2]; · iexact B2
    iexact B3
  isplitl [C1]; · iexact C1
  isplitl [C2]; · iexact C2
  iexact C3

theorem wBlk_set {s r w : ℕ} {off sz : Fin 3 → ℕ} {inb : ∀ a, off a + sz a ≤ S3x768x6144.size a} (hsz : sz = ![1, r, w]) {o1 o2 : ℕ} (ho : off = ![s, o1, o2]) :
    (Rect.unit (s := S3x768x6144) off sz inb).set ⊆ wbWin s 0 ∪ (wbWin s 1 ∪ wbWin s 2) := by
  subst hsz; subst ho; intro i hi
  rw [Rect.mem_set_unit] at hi
  have h0 := hi 0
  have hb : (i 1).val < 768 := (i 1).isLt
  simp [S3x768x6144] at h0
  simp only [wbWin, Finset.mem_union, Finset.mem_filter, Finset.mem_univ, true_and]
  have : (i 0).val = s := by omega
  have : (i 1).val / 256 < 3 := by omega
  omega

theorem wp_w5 (e s j : ℕ) (hj : j < 24) {off inb hl} (ho : off = ![s, 0, 256 * j]) {k : Vec F S1x512x256 .fp8e4m3 → Prog (TpuEff nD τ sig (Elt F) Λ (th c).2) α} {Q : α → sProp 𝕄} :
    WheldS A c e s ⊢ iprop((WheldS A c e s -∗ wp frame (wpE defs 𝒱 (th c) bd) Set.univ (k (w5 A e j)) Q)
      -∗ wp frame (wpE defs 𝒱 (th c) bd) Set.univ (.op (.load (Memref.whole cc0_scratch2) (Rect.unit (s := S3x768x6144) off S1x512x256.size inb).toLoadRect hl) k) Q) := by
  subst ho
  iintro H HK
  ihave H := (wSlot_split A c e s) $$ H
  icases H with ⟨H, HB⟩
  have key := wp_load_rect (defs := defs) 𝒱 (th c) bd (Γ := .empty) Set.univ (m := (Memref.whole cc0_scratch2 : Memref sig .tc .vmem S3x768x6144 .fp8e4m3)) (r := Rect.unit (s := S3x768x6144) ![s, 0, 256 * j] S1x512x256.size inb) (hl := hl) (k := k) (Q := Q) (S := wbWin s 0 ∪ (wbWin s 1 ∪ wbWin s 2)) (q := fullShare) (f := wOf A.W e) (by
    have h := wBlk_set (inb := inb) (s := s) (r := 512) (w := 256) (sz := S1x512x256.size) (by funext a; fin_cases a <;> rfl) (o1 := 0) (o2 := 256 * j) rfl
    rw [← View.set_slice_whole cc0_scratch2] at h
    exact h)
  have hv : ((Memref.whole cc0_scratch2 : Memref sig .tc .vmem S3x768x6144 .fp8e4m3).access (Rect.unit (s := S3x768x6144) ![s, 0, 256 * j] S1x512x256.size inb)).read (Elt F) (wOf A.W e) = w5 A e j := by
    funext i
    show A.W _ = A.W _
    refine congrArg A.W ?_
    funext a; apply Fin.ext
    have hm : j % 24 = j := Nat.mod_eq_of_lt hj
    fin_cases a <;> simp [Rect.unit, Rect.emb, ValueIdx.ix3, cj, hm, View.slice, View.emb, Memref.whole, View.whole]
  rw [hv] at key
  iapply key $$ H
  iintro H
  iapply HK
  iapply HB $$ H

theorem wp_w2 (e s j : ℕ) (hj : j < 24) {off inb hl} (ho : off = ![s, 512, 256 * j]) {k : Vec F S1x256x256 .fp8e4m3 → Prog (TpuEff nD τ sig (Elt F) Λ (th c).2) α} {Q : α → sProp 𝕄} :
    WheldS A c e s ⊢ iprop((WheldS A c e s -∗ wp frame (wpE defs 𝒱 (th c) bd) Set.univ (k (w2 A e j)) Q)
      -∗ wp frame (wpE defs 𝒱 (th c) bd) Set.univ (.op (.load (Memref.whole cc0_scratch2) (Rect.unit (s := S3x768x6144) off S1x256x256.size inb).toLoadRect hl) k) Q) := by
  subst ho
  iintro H HK
  ihave H := (wSlot_split A c e s) $$ H
  icases H with ⟨H, HB⟩
  have key := wp_load_rect (defs := defs) 𝒱 (th c) bd (Γ := .empty) Set.univ (m := (Memref.whole cc0_scratch2 : Memref sig .tc .vmem S3x768x6144 .fp8e4m3)) (r := Rect.unit (s := S3x768x6144) ![s, 512, 256 * j] S1x256x256.size inb) (hl := hl) (k := k) (Q := Q) (S := wbWin s 0 ∪ (wbWin s 1 ∪ wbWin s 2)) (q := fullShare) (f := wOf A.W e) (by
    have h := wBlk_set (inb := inb) (s := s) (r := 256) (w := 256) (sz := S1x256x256.size) (by funext a; fin_cases a <;> rfl) (o1 := 512) (o2 := 256 * j) rfl
    rw [← View.set_slice_whole cc0_scratch2] at h
    exact h)
  have hv : ((Memref.whole cc0_scratch2 : Memref sig .tc .vmem S3x768x6144 .fp8e4m3).access (Rect.unit (s := S3x768x6144) ![s, 512, 256 * j] S1x256x256.size inb)).read (Elt F) (wOf A.W e) = w2 A e j := by
    funext i
    show A.W _ = A.W _
    refine congrArg A.W ?_
    funext a; apply Fin.ext
    have hm : j % 24 = j := Nat.mod_eq_of_lt hj
    fin_cases a <;> simp [Rect.unit, Rect.emb, ValueIdx.ix3, cj, hm, View.slice, View.emb, Memref.whole, View.whole]
  rw [hv] at key
  iapply key $$ H
  iintro H
  iapply HK
  iapply HB $$ H

/-! ## The two slots of the codes -/

def qAny : sProp 𝕄 := iprop(∃ f, (th c).loc cc0_scratch4 ↦[Finset.univ]{fullShare} f)
/-- Slot `s` holds the codes of expert `e`. -/
def qIs (s e : ℕ) : sProp 𝕄 :=
  iprop(∃ f : S2x32x6144.Idx → Elt F .fp8e4m3, ⌜∀ i : S1x32x6144.Idx, f (ValueIdx.ix3 (if s = 0 then 0 else 1) (i 1) (i 2)) = qv A e i⌝ ∗ (th c).loc cc0_scratch4 ↦[Finset.univ]{fullShare} f)

theorem qIs_any (s e : ℕ) : qIs A c s e ⊢ qAny (F := F) c := by
  unfold qIs qAny
  iintro ⟨%f, %_, H⟩
  iexists f
  iexact H

theorem q_emb {s : ℕ} (hs : s < 2) {inb} (i : (Rect.unit (s := S2x32x6144) ![s, 0, 0] S1x32x6144.size inb).shape.Idx) :
    (Rect.unit (s := S2x32x6144) ![s, 0, 0] S1x32x6144.size inb).emb i = ValueIdx.ix3 (if s = 0 then 0 else 1) (i 1) (i 2) := by
  funext a; apply Fin.ext
  have hz : (i 0).val = 0 := by have : (i 0).val < 1 := (i 0).isLt; omega
  fin_cases a
  · rcases Nat.lt_succ_iff_lt_or_eq.1 hs with h | h
    · have : s = 0 := by omega
      subst this; simp [Rect.unit, Rect.emb, ValueIdx.ix3, hz]
    · subst h; simp [Rect.unit, Rect.emb, ValueIdx.ix3, hz]
  · simp [Rect.unit, Rect.emb, ValueIdx.ix3]
  · simp [Rect.unit, Rect.emb, ValueIdx.ix3]

theorem wp_qLoad (s e : ℕ) (hs : s < 2) {off inb hl} (ho : off = ![s, 0, 0]) {k : Vec F S1x32x6144 .fp8e4m3 → Prog (TpuEff nD τ sig (Elt F) Λ (th c).2) α} {Q : α → sProp 𝕄} :
    qIs A c s e ⊢ iprop((qIs A c s e -∗ wp frame (wpE defs 𝒱 (th c) bd) Set.univ (k (qv A e)) Q)
      -∗ wp frame (wpE defs 𝒱 (th c) bd) Set.univ (.op (.load (Memref.whole cc0_scratch4) (Rect.unit (s := S2x32x6144) off S1x32x6144.size inb).toLoadRect hl) k) Q) := by
  subst ho
  unfold qIs
  iintro ⟨%f, %hf, H⟩ HK
  have key := wp_load_rect (defs := defs) 𝒱 (th c) bd (Γ := .empty) Set.univ (m := (Memref.whole cc0_scratch4 : Memref sig .tc .vmem S2x32x6144 .fp8e4m3)) (r := Rect.unit (s := S2x32x6144) ![s, 0, 0] S1x32x6144.size inb) (hl := hl) (k := k) (Q := Q) (S := Finset.univ) (q := fullShare) (f := f) (Finset.subset_univ _)
  have hv : ((Memref.whole cc0_scratch4 : Memref sig .tc .vmem S2x32x6144 .fp8e4m3).access (Rect.unit (s := S2x32x6144) ![s, 0, 0] S1x32x6144.size inb)).read (Elt F) f = qv A e := by
    funext i
    show f ((Rect.unit (s := S2x32x6144) ![s, 0, 0] S1x32x6144.size inb).emb i) = _
    rw [q_emb hs i]
    exact hf i
  rw [hv] at key
  iapply key $$ H
  iintro H
  iapply HK
  iexists f
  isplitr; · ipureintro; exact hf
  iexact H

theorem wp_qPeek {r : Rect S2x32x6144} {hl : ((Memref.whole cc0_scratch4 : Memref sig .tc .vmem S2x32x6144 .fp8e4m3)).view.LoadsAt r.toLoadRect} {k : (r.toLoadRect.shape.Idx → Elt F .fp8e4m3) → Prog (TpuEff nD τ sig (Elt F) Λ (th c).2) α} {Q : α → sProp 𝕄} :
    qAny (F := F) c ⊢ iprop((∀ v, qAny (F := F) c -∗ wp frame (wpE defs 𝒱 (th c) bd) Set.univ (k v) Q)
      -∗ wp frame (wpE defs 𝒱 (th c) bd) Set.univ (.op (.load (Memref.whole cc0_scratch4 : Memref sig .tc .vmem S2x32x6144 .fp8e4m3) r.toLoadRect hl) k) Q) := by
  unfold qAny
  iintro ⟨%f, H⟩ HK
  have key := wp_load_rect (defs := defs) 𝒱 (th c) bd (Γ := .empty) Set.univ (m := (Memref.whole cc0_scratch4 : Memref sig .tc .vmem S2x32x6144 .fp8e4m3)) (r := r) (hl := hl) (k := k) (Q := Q) (S := Finset.univ) (q := fullShare) (f := f) (Finset.subset_univ _)
  iapply key $$ H
  iintro H
  iapply HK
  iexists f
  iexact H

theorem wp_qStore (s e : ℕ) (hs : s < 2) {w : S1x32x6144.Idx → Elt F .fp8e4m3} (hw : w = qv A e) {off inb hx hm} (ho : off = ![s, 0, 0]) {k : PUnit → Prog (TpuEff nD τ sig (Elt F) Λ (th c).2) α} {Q : α → sProp 𝕄} :
    qAny (F := F) c ⊢ iprop((qIs A c s e -∗ wp frame (wpE defs 𝒱 (th c) bd) Set.univ (k ⟨⟩) Q)
      -∗ wp frame (wpE defs 𝒱 (th c) bd) Set.univ (.op (.store (Memref.whole cc0_scratch4 : Memref sig .tc .vmem S2x32x6144 .fp8e4m3) (Rect.unit (s := S2x32x6144) off S1x32x6144.size inb) w Finset.univ hx hm) k) Q) := by
  subst ho
  unfold qAny qIs
  iintro ⟨%f, H⟩ HK
  have key := wp_store (defs := defs) 𝒱 (th c) bd (Γ := .empty) Set.univ (m := (Memref.whole cc0_scratch4 : Memref sig .tc .vmem S2x32x6144 .fp8e4m3)) (r := Rect.unit (s := S2x32x6144) ![s, 0, 0] S1x32x6144.size inb) (w := w) (Mk := Finset.univ) (hx := hx) (hm := hm) (k := k) (Q := Q) (S := Finset.univ) (f := f) (Finset.subset_univ _)
  iapply key $$ H
  iintro H
  iapply HK
  iexists _
  isplitr
  swap
  · iexact H
  ipureintro
  intro i
  have h2 : ((Memref.whole cc0_scratch4 : Memref sig .tc .vmem S2x32x6144 .fp8e4m3).access (Rect.unit (s := S2x32x6144) ![s, 0, 0] S1x32x6144.size inb)).emb i = ValueIdx.ix3 (if s = 0 then 0 else 1) (i 1) (i 2) := q_emb hs i
  have h3 := View.write_emb_of_mem (v := (Memref.whole cc0_scratch4 : Memref sig .tc .vmem S2x32x6144 .fp8e4m3).access (Rect.unit (s := S2x32x6144) ![s, 0, 0] S1x32x6144.size inb)) (Val := Elt F) f w (M := Finset.univ) (x := i) (Finset.mem_univ i)
  rw [h2] at h3
  exact h3.trans (congrFun hw i)

/-! ## The two slots of the scales -/

def sAny : sProp 𝕄 := iprop(∃ f, (th c).loc cc0_scratch5 ↦[Finset.univ]{fullShare} f)
/-- Slot `s` holds the scales of expert `e`. -/
def sIs (s e : ℕ) : sProp 𝕄 :=
  iprop(∃ f : S2x16x128.Idx → Elt F .f32, ⌜∀ i : S1x16x128.Idx, f (ValueIdx.ix3 (if s = 0 then 0 else 1) (i 1) (i 2)) = sv_ A e i⌝ ∗ (th c).loc cc0_scratch5 ↦[Finset.univ]{fullShare} f)

theorem sIs_any (s e : ℕ) : sIs A c s e ⊢ sAny (F := F) c := by
  unfold sIs sAny
  iintro ⟨%f, %_, H⟩
  iexists f
  iexact H

theorem s_emb {s : ℕ} (hs : s < 2) {inb} (i : (Rect.unit (s := S2x16x128) ![s, 0, 0] S1x16x128.size inb).shape.Idx) :
    (Rect.unit (s := S2x16x128) ![s, 0, 0] S1x16x128.size inb).emb i = ValueIdx.ix3 (if s = 0 then 0 else 1) (i 1) (i 2) := by
  funext a; apply Fin.ext
  have hz : (i 0).val = 0 := by have : (i 0).val < 1 := (i 0).isLt; omega
  fin_cases a
  · rcases Nat.lt_succ_iff_lt_or_eq.1 hs with h | h
    · have : s = 0 := by omega
      subst this; simp [Rect.unit, Rect.emb, ValueIdx.ix3, hz]
    · subst h; simp [Rect.unit, Rect.emb, ValueIdx.ix3, hz]
  · simp [Rect.unit, Rect.emb, ValueIdx.ix3]
  · simp [Rect.unit, Rect.emb, ValueIdx.ix3]

theorem wp_sLoad (s e : ℕ) (hs : s < 2) {off inb hl} (ho : off = ![s, 0, 0]) {k : Vec F S1x16x128 .f32 → Prog (TpuEff nD τ sig (Elt F) Λ (th c).2) α} {Q : α → sProp 𝕄} :
    sIs A c s e ⊢ iprop((sIs A c s e -∗ wp frame (wpE defs 𝒱 (th c) bd) Set.univ (k (sv_ A e)) Q)
      -∗ wp frame (wpE defs 𝒱 (th c) bd) Set.univ (.op (.load (Memref.whole cc0_scratch5) (Rect.unit (s := S2x16x128) off S1x16x128.size inb).toLoadRect hl) k) Q) := by
  subst ho
  unfold sIs
  iintro ⟨%f, %hf, H⟩ HK
  have key := wp_load_rect (defs := defs) 𝒱 (th c) bd (Γ := .empty) Set.univ (m := (Memref.whole cc0_scratch5 : Memref sig .tc .vmem S2x16x128 .f32)) (r := Rect.unit (s := S2x16x128) ![s, 0, 0] S1x16x128.size inb) (hl := hl) (k := k) (Q := Q) (S := Finset.univ) (q := fullShare) (f := f) (Finset.subset_univ _)
  have hv : ((Memref.whole cc0_scratch5 : Memref sig .tc .vmem S2x16x128 .f32).access (Rect.unit (s := S2x16x128) ![s, 0, 0] S1x16x128.size inb)).read (Elt F) f = sv_ A e := by
    funext i
    show f ((Rect.unit (s := S2x16x128) ![s, 0, 0] S1x16x128.size inb).emb i) = _
    rw [s_emb hs i]
    exact hf i
  rw [hv] at key
  iapply key $$ H
  iintro H
  iapply HK
  iexists f
  isplitr; · ipureintro; exact hf
  iexact H

theorem wp_sPeek {r : Rect S2x16x128} {hl : ((Memref.whole cc0_scratch5 : Memref sig .tc .vmem S2x16x128 .f32)).view.LoadsAt r.toLoadRect} {k : (r.toLoadRect.shape.Idx → Elt F .f32) → Prog (TpuEff nD τ sig (Elt F) Λ (th c).2) α} {Q : α → sProp 𝕄} :
    sAny (F := F) c ⊢ iprop((∀ v, sAny (F := F) c -∗ wp frame (wpE defs 𝒱 (th c) bd) Set.univ (k v) Q)
      -∗ wp frame (wpE defs 𝒱 (th c) bd) Set.univ (.op (.load (Memref.whole cc0_scratch5 : Memref sig .tc .vmem S2x16x128 .f32) r.toLoadRect hl) k) Q) := by
  unfold sAny
  iintro ⟨%f, H⟩ HK
  have key := wp_load_rect (defs := defs) 𝒱 (th c) bd (Γ := .empty) Set.univ (m := (Memref.whole cc0_scratch5 : Memref sig .tc .vmem S2x16x128 .f32)) (r := r) (hl := hl) (k := k) (Q := Q) (S := Finset.univ) (q := fullShare) (f := f) (Finset.subset_univ _)
  iapply key $$ H
  iintro H
  iapply HK
  iexists f
  iexact H

theorem wp_sStore (s e : ℕ) (hs : s < 2) {w : S1x16x128.Idx → Elt F .f32} (hw : w = sv_ A e) {off inb hx hm} (ho : off = ![s, 0, 0]) {k : PUnit → Prog (TpuEff nD τ sig (Elt F) Λ (th c).2) α} {Q : α → sProp 𝕄} :
    sAny (F := F) c ⊢ iprop((sIs A c s e -∗ wp frame (wpE defs 𝒱 (th c) bd) Set.univ (k ⟨⟩) Q)
      -∗ wp frame (wpE defs 𝒱 (th c) bd) Set.univ (.op (.store (Memref.whole cc0_scratch5 : Memref sig .tc .vmem S2x16x128 .f32) (Rect.unit (s := S2x16x128) off S1x16x128.size inb) w Finset.univ hx hm) k) Q) := by
  subst ho
  unfold sAny sIs
  iintro ⟨%f, H⟩ HK
  have key := wp_store (defs := defs) 𝒱 (th c) bd (Γ := .empty) Set.univ (m := (Memref.whole cc0_scratch5 : Memref sig .tc .vmem S2x16x128 .f32)) (r := Rect.unit (s := S2x16x128) ![s, 0, 0] S1x16x128.size inb) (w := w) (Mk := Finset.univ) (hx := hx) (hm := hm) (k := k) (Q := Q) (S := Finset.univ) (f := f) (Finset.subset_univ _)
  iapply key $$ H
  iintro H
  iapply HK
  iexists _
  isplitr
  swap
  · iexact H
  ipureintro
  intro i
  have h2 : ((Memref.whole cc0_scratch5 : Memref sig .tc .vmem S2x16x128 .f32).access (Rect.unit (s := S2x16x128) ![s, 0, 0] S1x16x128.size inb)).emb i = ValueIdx.ix3 (if s = 0 then 0 else 1) (i 1) (i 2) := s_emb hs i
  have h3 := View.write_emb_of_mem (v := (Memref.whole cc0_scratch5 : Memref sig .tc .vmem S2x16x128 .f32).access (Rect.unit (s := S2x16x128) ![s, 0, 0] S1x16x128.size inb)) (Val := Elt F) f w (M := Finset.univ) (x := i) (Finset.mem_univ i)
  rw [h2] at h3
  exact h3.trans (congrFun hw i)

/-! ## The weights' scales and the planes of results -/

theorem wp_wsLoad (e : ℕ) (he : e < 32) {off inb hl} (ho : off = ![e, 0]) {k : Vec F S1x768 .f32 → Prog (TpuEff nD τ sig (Elt F) Λ (th c).2) α} {Q : α → sProp 𝕄} :
    SV A c ⊢ iprop((SV A c -∗ wp frame (wpE defs 𝒱 (th c) bd) Set.univ (k (wsr A e)) Q)
      -∗ wp frame (wpE defs 𝒱 (th c) bd) Set.univ (.op (.load (Memref.whole cc0_scratch6) (Rect.unit (s := S32x768) off S1x768.size inb).toLoadRect hl) k) Q) := by
  subst ho
  unfold SV
  iintro H HK
  have key := wp_load_rect (defs := defs) 𝒱 (th c) bd (Γ := .empty) Set.univ (m := (Memref.whole cc0_scratch6 : Memref sig .tc .vmem S32x768 .f32)) (r := Rect.unit (s := S32x768) ![e, 0] S1x768.size inb) (hl := hl) (k := k) (Q := Q) (S := Finset.univ) (q := fullShare) (f := A.WS) (Finset.subset_univ _)
  have hv : ((Memref.whole cc0_scratch6 : Memref sig .tc .vmem S32x768 .f32).access (Rect.unit (s := S32x768) ![e, 0] S1x768.size inb)).read (Elt F) A.WS = wsr A e := by
    funext i
    show A.WS ((Rect.unit (s := S32x768) ![e, 0] S1x768.size inb).emb i) = A.WS _
    refine congrArg A.WS ?_
    funext a; apply Fin.ext
    have hz : (i 0).val = 0 := by have : (i 0).val < 1 := (i 0).isLt; omega
    fin_cases a <;> simp [Rect.unit, Rect.emb, ValueIdx.ix2, fe_val he, hz]
  rw [hv] at key
  iapply key $$ H
  iexact HK

theorem wp_obPeek (e : ℕ) {off inb hl} (ho : off = ![e, 0, 0]) {k : Vec F S1x16x768 .bf16 → Prog (TpuEff nD τ sig (Elt F) Λ (th c).2) α} {Q : α → sProp 𝕄} :
    obAny (F := F) c e ⊢ iprop((∀ v, obAny (F := F) c e -∗ wp frame (wpE defs 𝒱 (th c) bd) Set.univ (k v) Q)
      -∗ wp frame (wpE defs 𝒱 (th c) bd) Set.univ (.op (.load (Memref.whole cc0_scratch7) (Rect.unit (s := S32x16x768) off S1x16x768.size inb).toLoadRect hl) k) Q) := by
  unfold obAny
  iintro ⟨%f, H⟩ HK
  have key := wp_load_rect (defs := defs) 𝒱 (th c) bd (Γ := .empty) Set.univ (m := (Memref.whole cc0_scratch7 : Memref sig .tc .vmem S32x16x768 .bf16)) (r := Rect.unit (s := S32x16x768) off S1x16x768.size inb) (hl := hl) (k := k) (Q := Q) (S := oWin e) (q := fullShare) (f := f) (by
    have h := (o_set (inb := inb) ho).subset
    rw [← View.set_slice_whole cc0_scratch7] at h
    exact h)
  iapply key $$ H
  iintro H
  iapply HK
  iexists f
  iexact H

theorem wp_obStore (e : ℕ) (he : e < 32) (hl : live A e = true) {w : S1x16x768.Idx → Elt F .bf16} (hw : w = shapeCast S1x16x768 (outv A e) shapeCasts_S16x768_S1x16x768) {off inb hx hm} (ho : off = ![e, 0, 0]) {k : PUnit → Prog (TpuEff nD τ sig (Elt F) Λ (th c).2) α} {Q : α → sProp 𝕄} :
    obAny (F := F) c e ⊢ iprop((obG c (res A) e -∗ wp frame (wpE defs 𝒱 (th c) bd) Set.univ (k ⟨⟩) Q)
      -∗ wp frame (wpE defs 𝒱 (th c) bd) Set.univ (.op (.store (Memref.whole cc0_scratch7) (Rect.unit (s := S32x16x768) off S1x16x768.size inb) w Finset.univ hx hm) k) Q) := by
  unfold obAny obG
  iintro ⟨%f, H⟩ HK
  have key := wp_store (defs := defs) 𝒱 (th c) bd (Γ := .empty) Set.univ (m := (Memref.whole cc0_scratch7 : Memref sig .tc .vmem S32x16x768 .bf16)) (r := Rect.unit (s := S32x16x768) off S1x16x768.size inb) (w := w) (Mk := Finset.univ) (hx := hx) (hm := hm) (k := k) (Q := Q) (S := oWin e) (f := f) (by
    have h := (o_set (inb := inb) ho).subset
    rw [← View.set_slice_whole cc0_scratch7] at h
    rw [View.setOn_univ]
    exact h)
  iapply key $$ H
  iintro H
  iapply HK
  have hc : ∀ i ∈ oWin e, ((Memref.whole cc0_scratch7 : Memref sig .tc .vmem S32x16x768 .bf16).access (Rect.unit (s := S32x16x768) off S1x16x768.size inb)).write (Elt F) f w Finset.univ i = res A i := by
    intro i hi
    subst ho
    have h0 : (i 0).val = e := by simpa [oWin] using hi
    have h2 : ((Memref.whole cc0_scratch7 : Memref sig .tc .vmem S32x16x768 .bf16).access (Rect.unit (s := S32x16x768) ![e, 0, 0] S1x16x768.size inb)).emb (ValueIdx.ix3 0 (i 1) (i 2)) = i := by
      show (Rect.unit (s := S32x16x768) ![e, 0, 0] S1x16x768.size inb).emb _ = i
      funext a; apply Fin.ext
      fin_cases a <;> simp [Rect.unit, Rect.emb, ValueIdx.ix3, h0]
    have h3 := View.write_emb_of_mem (v := (Memref.whole cc0_scratch7 : Memref sig .tc .vmem S32x16x768 .bf16).access (Rect.unit (s := S32x16x768) ![e, 0, 0] S1x16x768.size inb)) (Val := Elt F) f w (M := Finset.univ) (x := (ValueIdx.ix3 0 (i 1) (i 2) : S1x16x768.Idx)) (Finset.mem_univ _)
    rw [h2] at h3
    refine h3.trans ?_
    rw [hw]
    unfold res
    rw [h0, if_pos hl]
    show shapeCast S1x16x768 (outv A e) shapeCasts_S16x768_S1x16x768 (ValueIdx.ix3 0 (i 1) (i 2)) = outv A e (ValueIdx.ix2 (i 1) (i 2))
    refine shapeCast_apply _ _ _ _ ?_
    rw [Shape.rowMajor_val_three, Shape.rowMajor_val_two]
    simp [ValueIdx.ix3, ValueIdx.ix2]
  iapply (Entails.of_eq (pointsTo_congr hc)) $$ H

end Rules

end Cert.Kernel.Hand

end
-- ==== Proof.Quant.lean ====
/-
  A block of activations becomes codes and scales.
-/
module

public import proofs.«01_k».proof.Proof.Loads

@[expose] public section

set_option maxRecDepth 16384

noncomputable section

namespace Cert.Kernel.Hand

open Cert.Kernel Cert.Kernel.Gen Cert.Listing
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ
local notation "EC" => countersEmb (U := Pipeline.UD sig nD τ)

variable (A : Arrays F) (c : Dev nD)

local notation "WP" => wp frame (wpE (defs₀ (F := F)) Variants.none (th c) none) Set.univ

section Rules

variable {α β : Type} {Λ : Labels} {defs : Defs nD τ sig (Elt F) Λ} {𝒱 : Variants} {bd : Option 𝒱.V}

/-- The end of a program. -/
theorem wp_end {v : α} {Q : α → sProp 𝕄} : Q v ⊢ wp frame (wpE defs 𝒱 (th c) bd) Set.univ (Prog.ret v) Q := by
  rw [wp_ret]
  iintro H
  imodintro
  iexact H

/-- A computation without memory operations, at the head of a program. -/
theorem wp_pureq {p : Prog (TpuEff nD τ sig (Elt F) Λ (th c).2) β} {v : β} (h : p = Prog.ret v)
    {k : β → Prog (TpuEff nD τ sig (Elt F) Λ (th c).2) α} {Q : α → sProp 𝕄} :
    wp frame (wpE defs 𝒱 (th c) bd) Set.univ (k v) Q ⊢ wp frame (wpE defs 𝒱 (th c) bd) Set.univ (p.bind k) Q := by
  subst h
  exact .rfl

theorem wp_xWait1 {offs inbs offd inbd offq inbq h1 h2} {k : PUnit → Prog (TpuEff nD τ sig (Elt F) Λ (th c).2) α} {Q : α → sProp 𝕄}
    (f x e : ℕ) (hx : x < f) (hf : x < nl A) (ho : e = ord A x) (hl : long A e = true) (hq : offq = ![e]) :
    iprop(XG A c 32 f x ∗ Ow c) ⊢ iprop(((XG A c 32 f (x + 1) ∗ Ow c) -∗ wp frame (wpE defs 𝒱 (th c) bd) Set.univ (k ⟨⟩) Q)
      -∗ wp frame (wpE defs 𝒱 (th c) bd) Set.univ (.op (.waitDma2 (xSem offq inbq) (xSrc offs inbs) (xDst offd inbd) h1 h2) k) Q) := by
  iintro ⟨H1, H2⟩ HK
  iapply (wp_XW1 A c f x e hx hf ho hl hq)
  isplitl [H1]; · iexact H1
  isplitl [H2]; · iexact H2
  iexact HK

end Rules

/-- The mask, the test value and the first two steps of the search, from the masked rows. -/
def q1 (x : FVec F S16x6144 .f32) : Σ' (_ : FVec F S16x6144 .f32) (_ : FVec F S16x1 .f32) (_ : IVec S16x1 32) (_ : IVec S16x1 1), IVec S16x1 32 :=
  ⟨x, rowT x, bitStep (rowT x) 128#32 (broadcast S16x1 0#32), bitTest (rowT x) 64#32 (bitStep (rowT x) 128#32 (broadcast S16x1 0#32)),
    addi (bitStep (rowT x) 128#32 (broadcast S16x1 0#32)) (broadcast S16x1 64#32)⟩

theorem part2 (hn : 0 < nl A) (h5 : k0_cond5 (bv (nl A)) = 1#1) {f : ℕ} (hf : 0 < f) :
    iprop(GS_ A c ∗ OrdIs A c (nl A) ∗ XG A c 32 f 0 ∗ Ow c)
      ⊢ WP (k0_part2 (F := F) (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 (bv (nl A)) h5)
        (fun r => iprop(⌜r = q1 (xm A (ord A 0))⌝ ∗ GS_ A c ∗ OrdIs A c (nl A) ∗ XG A c 32 f 1 ∗ Ow c)) := by
  have he := ord_lt A hn
  sl_unfold [k0_part2]
  iintro ⟨HG, HR, HX, HO⟩
  iapply (wp_ordLoad A c (j := 0) rfl hn) $$ HR
  iintro HR
  iapply (wp_assume _ _ _ _ (chk7_ok he (bv (nl A))))
  iapply (wp_gLoad A c (off20_eq he)) $$ HG
  iintro HG
  iapply (wp_assume _ _ _ _ (chk8_ok he (bv (nl A)) (gw A (ord A 0))))
  by_cases hl : k0_cond6 (gw A (ord A 0)) = 1#1
  · have hlong : long A (ord A 0) = true := decide_eq_true ((cond6_iff _).1 hl)
    iapply (wp_yes c hl)
    iapply (wp_xWait1 A c f 0 (ord A 0) hf hn rfl hlong (off21_eq he)) $$ [HX HO]
    · isplitl [HX]; · iexact HX
      iexact HO
    iintro ⟨HX, HO⟩
    ihave HX := (XG_take A c (j := 0) (by norm_num) hn) $$ HX
    icases HX with ⟨HX, HB⟩
    iapply (wp_gLoad A c (off23_eq he)) $$ HG
    iintro HG
    iapply (wp_xLoad A c (ord A 0) he (off24_eq he)) $$ HX
    iintro %v %hv HX
    ihave HX := HB $$ HX
    iapply (wp_end c)
    isplitr
    · ipureintro; exact congrArg q1 hv
    isplitl [HG]; · iexact HG
    isplitl [HR]; · iexact HR
    isplitl [HX]; · iexact HX
    iexact HO
  · have hshort : ¬ long A (ord A 0) = true := fun h => hl ((cond6_iff _).2 (of_decide_eq_true h))
    iapply (wp_no c hl)
    ihave HX := (XG_short_wait' A c hn rfl hshort) $$ HX
    ihave HX := (XG_take A c (j := 0) (by norm_num) hn) $$ HX
    icases HX with ⟨HX, HB⟩
    iapply (wp_gLoad A c (off23_eq he)) $$ HG
    iintro HG
    iapply (wp_xLoad A c (ord A 0) he (off24_eq he)) $$ HX
    iintro %v %hv HX
    ihave HX := HB $$ HX
    iapply (wp_end c)
    isplitr
    · ipureintro; exact congrArg q1 hv
    isplitl [HG]; · iexact HG
    isplitl [HR]; · iexact HR
    isplitl [HX]; · iexact HX
    iexact HO

theorem part3 (t : FVec F S16x1 .f32) :
    k0_part3 (F := F) (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 t (bitStep t 128#32 (broadcast S16x1 0#32)) (bitTest t 64#32 (bitStep t 128#32 (broadcast S16x1 0#32))) (addi (bitStep t 128#32 (broadcast S16x1 0#32)) (broadcast S16x1 64#32))
      = Prog.ret ⟨fld6 t, bitTest t 2#32 (fld6 t), addi (fld6 t) (broadcast S16x1 2#32)⟩ := rfl

theorem part4 (e : ℕ) :
    qAny c ⊢ WP (k0_part4 (F := F) (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 (xm A e) (rowT (xm A e)) (fld6 (rowT (xm A e))) (bitTest (rowT (xm A e)) 2#32 (fld6 (rowT (xm A e)))) (addi (fld6 (rowT (xm A e))) (broadcast S16x1 2#32)))
      (fun r => iprop(⌜r = shapeCast S16x1 (sclOf (ex A e)) shapeCasts_S16x1_S16x1⌝ ∗ qIs A c 0 e)) := by
  sl_unfold [k0_part4]
  iintro HQ
  iapply (wp_qPeek c) $$ HQ
  iintro %v HQ
  iapply (wp_qStore A c 0 e (by norm_num) (w := _) rfl rfl) $$ HQ
  iintro HQ
  iapply (wp_end c)
  isplitr; · ipureintro; rfl
  iexact HQ

/-- The second search's first four steps. -/
theorem part15 (g : BitVec 32) (v : Vec F S1x2x8x6144 .bf16) (x : FVec F S16x6144 .f32) (hx : xMask g v = x) :
    k0_part15 (F := F) (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 (extf .f32 (xFlat v) bitsLt_bf16_f32) (rowLt g) = Prog.ret ⟨x, rowT x, fld4 (rowT x)⟩ := by
  subst hx; rfl
theorem part16 (t : FVec F S16x1 .f32) :
    k0_part16 (F := F) (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 t (fld4 t) = Prog.ret ⟨ori (cmpi .eq (fld t) (broadcast S16x1 0#32)) (cmpi .eq (fld t) (broadcast S16x1 255#32)), subi (fld t) (broadcast S16x1 126#32), broadcast S16x1 0#32⟩ := rfl

end Cert.Kernel.Hand

end
-- ==== Proof.Step.lean ====
/-
  The first part of a step: starting the copies of the expert two places on,
  sending out the rows of the expert before, and waiting for the rows of the next
  expert and for the first third of the weights.
-/
module

public import proofs.«01_k».proof.Proof.Quant

@[expose] public section

set_option maxRecDepth 16384

noncomputable section

namespace Cert.Kernel.Hand

open Cert.Kernel Cert.Kernel.Gen Cert.Listing
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ
local notation "EC" => countersEmb (U := Pipeline.UD sig nD τ)

variable (A : Arrays F) (c : Dev nD)

local notation "WP" => wp frame (wpE (defs₀ (F := F)) Variants.none (th c) none) Set.univ

variable (G : S32x16x768.Idx → Elt F .bf16) (z : Elt F .bf16)

section Rules
variable {α : Type} {Λ : Labels} {defs : Defs nD τ sig (Elt F) Λ} {𝒱 : Variants} {bd : Option 𝒱.V}

/-- Waiting for one third of an expert's weights. -/
theorem wp_wWait1 {offs inbs offd inbd offq inbq h1 h2} {k : PUnit → Prog (TpuEff nD τ sig (Elt F) Λ (th c).2) α} {Q : α → sProp 𝕄}
    (e s t : ℕ) (hq : offq = ![s, t]) :
    iprop(WflyT A c e s t ∗ Ow c) ⊢ iprop(((WheldT A c e s t ∗ Ow c) -∗ wp frame (wpE defs 𝒱 (th c) bd) Set.univ (k ⟨⟩) Q)
      -∗ wp frame (wpE defs 𝒱 (th c) bd) Set.univ (.op (.waitDma2 (wSem offq inbq) (wSrc offs inbs) (wDst offd inbd) h1 h2) k) Q) := by
  iintro ⟨H1, H2⟩ HK
  iapply (wp_wWait A c e s t hq)
  isplitl [H1]; · iexact H1
  isplitl [H2]; · iexact H2
  iexact HK

/-- Sending out the rows of one expert. -/
theorem wp_O1 {offs inbs offd inbd h1 h2 h3} {k : PUnit → Prog (TpuEff nD τ sig (Elt F) Λ (th c).2) α} {Q : α → sProp 𝕄}
    (e q s : ℕ) (hi : q < nl A) (hq : q < s) (he : e = ord A q) (hs : offs = ![e, 0, 0]) (hd : offd = ![e, 0, 0]) :
    iprop(OG A c G 32 q s ∗ OB A c G z (nd A + q) 0) ⊢ iprop(((OG A c G 32 (q + 1) s ∗ OB A c G z (nd A + (q + 1)) 0) -∗ wp frame (wpE defs 𝒱 (th c) bd) Set.univ (k ⟨⟩) Q)
      -∗ wp frame (wpE defs 𝒱 (th c) bd) Set.univ
          (.op (.enqueueDmaAs (oSrc offs inbs) (.here (oDst offd inbd)) .same (.dma (cc0_scratch13 : DmaSems sig S_).sem) h1 h2 h3) k) Q) := by
  iintro ⟨H1, H2⟩ HK
  iapply (wp_O A c G z e q s hi hq he hs hd)
  isplitl [H1]; · iexact H1
  isplitl [H2]; · iexact H2
  iexact HK

end Rules

/-- The activations' state, with equal counts put for the counts. -/
theorem XG_to {k f x f' x' : ℕ} (hf : f = f') (hx : x = x') : XG A c k f x ⊢ XG A c k f' x' := by
  subst hf hx; exact .rfl
/-- The results' state, with equal counts put for the counts. -/
theorem OG_to {k q s q' s' : ℕ} (hq : q = q') (hs : s = s') : OG A c G k q s ⊢ OG A c G k q' s' := by
  subst hq hs; exact .rfl
/-- The output's state, with equal counts put for the counts. -/
theorem OB_to {j u j' : ℕ} (hj : j = j') : OB A c G z j u ⊢ OB A c G z j' u := by
  subst hj; exact .rfl

/-- How many experts have their copies started at the start of step `i`. -/
def f0 (n i : ℕ) : ℕ := if i = 0 then min n 3 else min n (i + 2)

set_option maxHeartbeats 2000000 in
/-- Starting the copies of the expert two places on. -/
theorem part5 (t : Fin (k0_t2_loop (bv (nl A))).trips) (hw : k0_chk9 (bv (nl A))) (arg19 : BitVec 32)
    (h7 : k0_cond7 (bv (nl A)) t = 1#1) (h8 : k0_cond8 (bv (nl A)) t = 1#1) {x : ℕ} (hx : x ≤ t.val + 2) :
    iprop(GS_ A c ∗ OrdIs A c (nl A) ∗ XG A c 32 (t.val + 2) x ∗ WfreeS A c ((t.val + 2) % 3))
      ⊢ WP (k0_part5 (F := F) (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 (bv (nl A)) hw t arg19 h7 h8)
        (fun r => iprop(⌜r.1 = bv (ord A (t.val + 2))⌝ ∗ GS_ A c ∗ OrdIs A c (nl A) ∗ XG A c 32 (t.val + 3) x
          ∗ WflyT A c (ord A (t.val + 2)) ((t.val + 2) % 3) 0 ∗ WflyT A c (ord A (t.val + 2)) ((t.val + 2) % 3) 1 ∗ WfreeT A c ((t.val + 2) % 3) 2)) := by
  have hN : nl A < 33 := Nat.lt_succ_of_le (nl_le A)
  have h8' : t.val + 2 < nl A := (cond8_iff ⟨nl A, hN⟩ t).1 h8
  have he := ord_lt A h8'
  unfold WfreeS
  sl_unfold [k0_part5]
  iintro ⟨HG, HR, HX, H0, H1, H2⟩
  iapply (wp_ordLoad A c (off29_eq hN t) h8') $$ HR
  iintro HR
  iapply (wp_assume _ _ _ _ (chk11_ok he (bv (nl A)) t))
  iapply (wp_gLoad A c (off30_eq he)) $$ HG
  iintro HG
  iapply (wp_assume _ _ _ _ (chk12_ok he (bv (nl A)) t (gw A (ord A (t.val + 2)))))
  by_cases hl : k0_cond9 (gw A (ord A (t.val + 2))) = 1#1
  · have hlong : long A (ord A (t.val + 2)) = true := decide_eq_true ((cond9_iff _).1 hl)
    iapply (wp_yes c hl)
    iapply (wp_X1c A c 32 (t.val + 2) x (ord A (t.val + 2)) h8' hx rfl hlong (off32_eq he) (off32_eq he) (off31_eq he)) $$ HX
    iintro HX
    iapply (wp_ordLoad A c (off33_eq hN t) h8') $$ HR
    iintro HR
    iapply (wp_assume _ _ _ _ (chk13_ok he (bv (nl A)) t))
    iapply (wp_w A c (ord A (t.val + 2)) ((t.val + 2) % 3) 0 he (off36_eq he) (off35_eq hN t) (off34_eq hN t)) $$ H0
    iintro H0
    iapply (wp_ordLoad A c (off37_eq hN t) h8') $$ HR
    iintro HR
    iapply (wp_assume _ _ _ _ (chk14_ok he (bv (nl A)) t))
    iapply (wp_w A c (ord A (t.val + 2)) ((t.val + 2) % 3) 1 he (off40_eq he) (off39_eq hN t) (off38_eq hN t)) $$ H1
    iintro H1
    iapply (wp_ordLoad A c (off41_eq hN t) h8') $$ HR
    iintro HR
    iapply (wp_assume _ _ _ _ (chk15_ok he (bv (nl A)) t))
    iapply (wp_end c)
    isplitr
    · ipureintro; rfl
    isplitl [HG]; · iexact HG
    isplitl [HR]; · iexact HR
    isplitl [HX]; · iexact HX
    isplitl [H0]; · iexact H0
    isplitl [H1]; · iexact H1
    iexact H2
  · have hshort : ¬ long A (ord A (t.val + 2)) = true := fun h => hl ((cond9_iff _).2 (of_decide_eq_true h))
    iapply (wp_no c hl)
    ihave HX := (XG_short' A c h8' rfl hshort) $$ HX
    iapply (wp_ordLoad A c (off33_eq hN t) h8') $$ HR
    iintro HR
    iapply (wp_assume _ _ _ _ (chk13_ok he (bv (nl A)) t))
    iapply (wp_w A c (ord A (t.val + 2)) ((t.val + 2) % 3) 0 he (off36_eq he) (off35_eq hN t) (off34_eq hN t)) $$ H0
    iintro H0
    iapply (wp_ordLoad A c (off37_eq hN t) h8') $$ HR
    iintro HR
    iapply (wp_assume _ _ _ _ (chk14_ok he (bv (nl A)) t))
    iapply (wp_w A c (ord A (t.val + 2)) ((t.val + 2) % 3) 1 he (off40_eq he) (off39_eq hN t) (off38_eq hN t)) $$ H1
    iintro H1
    iapply (wp_ordLoad A c (off41_eq hN t) h8') $$ HR
    iintro HR
    iapply (wp_assume _ _ _ _ (chk15_ok he (bv (nl A)) t))
    iapply (wp_end c)
    isplitr
    · ipureintro; rfl
    isplitl [HG]; · iexact HG
    isplitl [HR]; · iexact HR
    isplitl [HX]; · iexact HX
    isplitl [H0]; · iexact H0
    isplitl [H1]; · iexact H1
    iexact H2

end Cert.Kernel.Hand

end
-- ==== Proof.Step2.lean ====
/-
  The first part of a step as a whole.
-/
module

public import proofs.«01_k».proof.Proof.Step

@[expose] public section

set_option maxRecDepth 16384

noncomputable section

namespace Cert.Kernel.Hand

open Cert.Kernel Cert.Kernel.Gen Cert.Listing
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ
local notation "EC" => countersEmb (U := Pipeline.UD sig nD τ)

variable (A : Arrays F) (c : Dev nD)

local notation "WP" => wp frame (wpE (defs₀ (F := F)) Variants.none (th c) none) Set.univ

variable (G : S32x16x768.Idx → Elt F .bf16) (z : Elt F .bf16)

theorem third_yes {n i : ℕ} (h : i = 0) : (if i = 0 then Wj A c n (i + 2) else WfreeS A c ((i + 2) % 3)) ⊢ Wj A c n (i + 2) := by
  rw [if_pos h]
theorem third_no {n i : ℕ} (h : ¬ i = 0) : (if i = 0 then Wj A c n (i + 2) else WfreeS A c ((i + 2) % 3)) ⊢ WfreeS A c ((i + 2) % 3) := by
  rw [if_neg h]
theorem Wj_ofrest {n j : ℕ} (h : ¬ j < n) : WfreeS A c (j % 3) ⊢ Wj A c n j := by
  rw [Wj_rest A c h]
theorem Wj_of3 {n j : ℕ} (h : j < n) : iprop(WflyT A c (ord A j) (j % 3) 0 ∗ WflyT A c (ord A j) (j % 3) 1 ∗ WflyT A c (ord A j) (j % 3) 2) ⊢ Wj A c n j := by
  rw [Wj_fly A c h]; exact .rfl
theorem Wj_to3 {n j : ℕ} (h : j < n) : Wj A c n j ⊢ iprop(WflyT A c (ord A j) (j % 3) 0 ∗ WflyT A c (ord A j) (j % 3) 1 ∗ WflyT A c (ord A j) (j % 3) 2) := by
  rw [Wj_fly A c h]; exact .rfl

set_option maxHeartbeats 1000000 in
/-- The first part of step `t`. -/
theorem part6 (t : Fin (k0_t2_loop (bv (nl A))).trips) (hT : t.val < nl A) (hw : k0_chk9 (bv (nl A))) (c0 c1 : BitVec 32) :
    iprop(GS_ A c ∗ OrdIs A c (nl A) ∗ XG A c 32 (f0 (nl A) t.val) (t.val + 1) ∗ Ow c ∗ WStart A c (nl A) t.val
        ∗ OG A c G 32 (t.val - 1) t.val ∗ OB A c G z (nd A + (t.val - 1)) 0)
      ⊢ WP (k0_part6 (F := F) (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 (bv (nl A)) hw c0 c1 t)
        (fun r => iprop(⌜r.2.2.2.1 = bv (ord A t.val) ∧ r.2.2.2.2.2.1 = bv (ord A (min (t.val + 1) (nl A - 1))) ∧ r.2.2.2.2.2.2.2.1 = bv (ord A t.val)⌝
          ∗ GS_ A c ∗ OrdIs A c (nl A) ∗ XG A c 32 (min (nl A) (t.val + 3)) (min (nl A) (t.val + 2)) ∗ Ow c
          ∗ WheldT A c (ord A t.val) (t.val % 3) 0 ∗ WflyT A c (ord A t.val) (t.val % 3) 1 ∗ WflyT A c (ord A t.val) (t.val % 3) 2
          ∗ Wj A c (nl A) (t.val + 1) ∗ Wj A c (nl A) (t.val + 2)
          ∗ OG A c G 32 t.val t.val ∗ OB A c G z (nd A + t.val) 0)) := by
  have hN : nl A < 33 := Nat.lt_succ_of_le (nl_le A)
  have he := ord_lt A hT
  have he' := ord_lt A (show min (t.val + 1) (nl A - 1) < nl A by omega)
  unfold WStart
  generalize hm : min (t.val + 1) (nl A - 1) = m at *
  sl_unfold [k0_part6]
  iintro ⟨HG, HR, HX, HO, ⟨HW0, HW1, HW2⟩, HQ, HB⟩
  ihave HW0 := (Wj_to3 A c hT) $$ HW0
  icases HW0 with ⟨H0, H1, H2⟩
  iapply (wp_ordLoad A c (off25_eq hN t) hT) $$ HR
  iintro HR
  iapply (wp_assume _ _ _ _ (chk21_ok he))
  iapply (wp_ordLoad A c ((off26_eq hN t).trans (by rw [hm])) (show m < nl A by omega)) $$ HR
  iintro HR
  iapply (wp_assume _ _ _ _ (chk16_ok he' (bv (nl A)) t))
  by_cases h7 : k0_cond7 (bv (nl A)) t = 1#1
  · have h7' : 0 < t.val := (cond7_iff ⟨nl A, hN⟩ t).1 h7
    have hp := ord_lt A (show t.val - 1 < nl A by omega)
    ihave HX := (XG_to A c (show (f0 (nl A) t.val) = min (nl A) (t.val + 2) from if_neg (by omega)) rfl) $$ HX
    ihave HW2 := (third_no A c (show ¬ t.val = 0 by omega)) $$ HW2
    iapply (wp_yes c h7)
    iapply (wp_ordLoad A c (off27_eq hN t h7') (show t.val - 1 < nl A by omega)) $$ HR
    iintro HR
    iapply (wp_assume _ _ _ _ (chk10_ok hp (bv (nl A)) t))
    iapply (wp_O1 A c G z (ord A (t.val - 1)) (t.val - 1) t.val (by omega) (by omega) rfl (off28_eq hp) (off28_eq hp)) $$ [HQ HB]
    · isplitl [HQ]; · iexact HQ
      iexact HB
    iintro ⟨HQ, HB⟩
    ihave HQ := (OG_to A c G (show t.val - 1 + 1 = t.val by omega) rfl) $$ HQ
    ihave HB := (OB_to A c G z (show nd A + (t.val - 1 + 1) = nd A + t.val by omega)) $$ HB
    by_cases h8 : k0_cond8 (bv (nl A)) t = 1#1
    · have h8' : t.val + 2 < nl A := (cond8_iff ⟨nl A, hN⟩ t).1 h8
      have he2 := ord_lt A h8'
      iapply (wp_yes c h8)
      ihave HX := (XG_to A c (show min (nl A) (t.val + 2) = t.val + 2 by omega) rfl) $$ HX
      iapply (wp_seq c (part5 A c t hw _ h7 h8 (x := t.val + 1) (by omega))) $$ [HG HR HX HW2]
      · isplitl [HG]; · iexact HG
        isplitl [HR]; · iexact HR
        isplitl [HX]; · iexact HX
        iexact HW2
      iintro %r ⟨%hr, HG, HR, HX, HW20, HW21, HW22⟩
      rcases r with ⟨v, hv⟩
      obtain rfl : v = bv (ord A (t.val + 2)) := hr
      iapply (wp_w A c (ord A (t.val + 2)) ((t.val + 2) % 3) 2 he2 (off44_eq he2) (off43_eq hN t) (off42_eq hN t)) $$ HW22
      iintro HW22
      ihave HX := (XG_to A c (show t.val + 3 = min (nl A) (t.val + 3) by omega) rfl) $$ HX
      ihave HW2 := (Wj_of3 A c h8') $$ [HW20 HW21 HW22]
      · isplitl [HW20]; · iexact HW20
        isplitl [HW21]; · iexact HW21
        iexact HW22
      by_cases h10 : k0_cond10 (bv (nl A)) t = 1#1
      · have h10' : t.val + 1 < nl A := (cond10_iff ⟨nl A, hN⟩ t).1 h10
        obtain rfl : m = t.val + 1 := by omega
        iapply (wp_yes c h10)
        iapply (wp_gLoad A c (off45_eq he')) $$ HG
        iintro HG
        iapply (wp_assume _ _ _ _ (chk17_ok he' (bv (nl A)) t (gw A (ord A (t.val + 1)))))
        by_cases h11 : k0_cond11 (gw A (ord A (t.val + 1))) = 1#1
        · have hlong : long A (ord A (t.val + 1)) = true := decide_eq_true ((cond11_iff _).1 h11)
          iapply (wp_yes c h11)
          iapply (wp_xWait1 A c (min (nl A) (t.val + 3)) (t.val + 1) (ord A (t.val + 1)) (by omega) h10' rfl hlong (off46_eq he')) $$ [HX HO]
          · isplitl [HX]; · iexact HX
            iexact HO
          iintro ⟨HX, HO⟩
          ihave HX := (XG_to A c rfl (show t.val + 1 + 1 = min (nl A) (t.val + 2) by omega)) $$ HX
          iapply (wp_ordLoad A c (off48_eq hN t) hT) $$ HR
          iintro HR
          iapply (wp_assume _ _ _ _ (chk18_ok he))
          iapply (wp_wWait1 A c (ord A t.val) (t.val % 3) 0 (off49_eq hN t)) $$ [H0 HO]
          · isplitl [H0]; · iexact H0
            iexact HO
          iintro ⟨H0, HO⟩
          iapply (wp_ordLoad A c (off52_eq hN t) hT) $$ HR
          iintro HR
          iapply (wp_assume _ _ _ _ (chk19_ok he))
          iapply (wp_end c)
          isplitr
          · ipureintro; exact ⟨rfl, rfl, rfl⟩
          isplitl [HG]; · iexact HG
          isplitl [HR]; · iexact HR
          isplitl [HX]; · iexact HX
          isplitl [HO]; · iexact HO
          isplitl [H0]; · iexact H0
          isplitl [H1]; · iexact H1
          isplitl [H2]; · iexact H2
          isplitl [HW1]; · iexact HW1
          isplitl [HW2]; · iexact HW2
          isplitl [HQ]; · iexact HQ
          iexact HB
        · have hshort : ¬ long A (ord A (t.val + 1)) = true := fun h => h11 ((cond11_iff _).2 (of_decide_eq_true h))
          iapply (wp_no c h11)
          ihave HX := (XG_short_wait' A c h10' rfl hshort) $$ HX
          ihave HX := (XG_to A c rfl (show t.val + 1 + 1 = min (nl A) (t.val + 2) by omega)) $$ HX
          iapply (wp_ordLoad A c (off48_eq hN t) hT) $$ HR
          iintro HR
          iapply (wp_assume _ _ _ _ (chk18_ok he))
          iapply (wp_wWait1 A c (ord A t.val) (t.val % 3) 0 (off49_eq hN t)) $$ [H0 HO]
          · isplitl [H0]; · iexact H0
            iexact HO
          iintro ⟨H0, HO⟩
          iapply (wp_ordLoad A c (off52_eq hN t) hT) $$ HR
          iintro HR
          iapply (wp_assume _ _ _ _ (chk19_ok he))
          iapply (wp_end c)
          isplitr
          · ipureintro; exact ⟨rfl, rfl, rfl⟩
          isplitl [HG]; · iexact HG
          isplitl [HR]; · iexact HR
          isplitl [HX]; · iexact HX
          isplitl [HO]; · iexact HO
          isplitl [H0]; · iexact H0
          isplitl [H1]; · iexact H1
          isplitl [H2]; · iexact H2
          isplitl [HW1]; · iexact HW1
          isplitl [HW2]; · iexact HW2
          isplitl [HQ]; · iexact HQ
          iexact HB
      · have h10' : ¬ t.val + 1 < nl A := fun h => h10 ((cond10_iff ⟨nl A, hN⟩ t).2 h)
        iapply (wp_no c h10)
        ihave HX := (XG_to A c rfl (show t.val + 1 = min (nl A) (t.val + 2) by omega)) $$ HX
        iapply (wp_ordLoad A c (off48_eq hN t) hT) $$ HR
        iintro HR
        iapply (wp_assume _ _ _ _ (chk18_ok he))
        iapply (wp_wWait1 A c (ord A t.val) (t.val % 3) 0 (off49_eq hN t)) $$ [H0 HO]
        · isplitl [H0]; · iexact H0
          iexact HO
        iintro ⟨H0, HO⟩
        iapply (wp_ordLoad A c (off52_eq hN t) hT) $$ HR
        iintro HR
        iapply (wp_assume _ _ _ _ (chk19_ok he))
        iapply (wp_end c)
        isplitr
        · ipureintro; exact ⟨rfl, rfl, rfl⟩
        isplitl [HG]; · iexact HG
        isplitl [HR]; · iexact HR
        isplitl [HX]; · iexact HX
        isplitl [HO]; · iexact HO
        isplitl [H0]; · iexact H0
        isplitl [H1]; · iexact H1
        isplitl [H2]; · iexact H2
        isplitl [HW1]; · iexact HW1
        isplitl [HW2]; · iexact HW2
        isplitl [HQ]; · iexact HQ
        iexact HB
    · have h8' : ¬ t.val + 2 < nl A := fun h => h8 ((cond8_iff ⟨nl A, hN⟩ t).2 h)
      iapply (wp_no c h8)
      ihave HX := (XG_to A c (show min (nl A) (t.val + 2) = min (nl A) (t.val + 3) by omega) rfl) $$ HX
      ihave HW2 := (Wj_ofrest A c h8') $$ HW2
      by_cases h10 : k0_cond10 (bv (nl A)) t = 1#1
      · have h10' : t.val + 1 < nl A := (cond10_iff ⟨nl A, hN⟩ t).1 h10
        obtain rfl : m = t.val + 1 := by omega
        iapply (wp_yes c h10)
        iapply (wp_gLoad A c (off45_eq he')) $$ HG
        iintro HG
        iapply (wp_assume _ _ _ _ (chk17_ok he' (bv (nl A)) t (gw A (ord A (t.val + 1)))))
        by_cases h11 : k0_cond11 (gw A (ord A (t.val + 1))) = 1#1
        · have hlong : long A (ord A (t.val + 1)) = true := decide_eq_true ((cond11_iff _).1 h11)
          iapply (wp_yes c h11)
          iapply (wp_xWait1 A c (min (nl A) (t.val + 3)) (t.val + 1) (ord A (t.val + 1)) (by omega) h10' rfl hlong (off46_eq he')) $$ [HX HO]
          · isplitl [HX]; · iexact HX
            iexact HO
          iintro ⟨HX, HO⟩
          ihave HX := (XG_to A c rfl (show t.val + 1 + 1 = min (nl A) (t.val + 2) by omega)) $$ HX
          iapply (wp_ordLoad A c (off48_eq hN t) hT) $$ HR
          iintro HR
          iapply (wp_assume _ _ _ _ (chk18_ok he))
          iapply (wp_wWait1 A c (ord A t.val) (t.val % 3) 0 (off49_eq hN t)) $$ [H0 HO]
          · isplitl [H0]; · iexact H0
            iexact HO
          iintro ⟨H0, HO⟩
          iapply (wp_ordLoad A c (off52_eq hN t) hT) $$ HR
          iintro HR
          iapply (wp_assume _ _ _ _ (chk19_ok he))
          iapply (wp_end c)
          isplitr
          · ipureintro; exact ⟨rfl, rfl, rfl⟩
          isplitl [HG]; · iexact HG
          isplitl [HR]; · iexact HR
          isplitl [HX]; · iexact HX
          isplitl [HO]; · iexact HO
          isplitl [H0]; · iexact H0
          isplitl [H1]; · iexact H1
          isplitl [H2]; · iexact H2
          isplitl [HW1]; · iexact HW1
          isplitl [HW2]; · iexact HW2
          isplitl [HQ]; · iexact HQ
          iexact HB
        · have hshort : ¬ long A (ord A (t.val + 1)) = true := fun h => h11 ((cond11_iff _).2 (of_decide_eq_true h))
          iapply (wp_no c h11)
          ihave HX := (XG_short_wait' A c h10' rfl hshort) $$ HX
          ihave HX := (XG_to A c rfl (show t.val + 1 + 1 = min (nl A) (t.val + 2) by omega)) $$ HX
          iapply (wp_ordLoad A c (off48_eq hN t) hT) $$ HR
          iintro HR
          iapply (wp_assume _ _ _ _ (chk18_ok he))
          iapply (wp_wWait1 A c (ord A t.val) (t.val % 3) 0 (off49_eq hN t)) $$ [H0 HO]
          · isplitl [H0]; · iexact H0
            iexact HO
          iintro ⟨H0, HO⟩
          iapply (wp_ordLoad A c (off52_eq hN t) hT) $$ HR
          iintro HR
          iapply (wp_assume _ _ _ _ (chk19_ok he))
          iapply (wp_end c)
          isplitr
          · ipureintro; exact ⟨rfl, rfl, rfl⟩
          isplitl [HG]; · iexact HG
          isplitl [HR]; · iexact HR
          isplitl [HX]; · iexact HX
          isplitl [HO]; · iexact HO
          isplitl [H0]; · iexact H0
          isplitl [H1]; · iexact H1
          isplitl [H2]; · iexact H2
          isplitl [HW1]; · iexact HW1
          isplitl [HW2]; · iexact HW2
          isplitl [HQ]; · iexact HQ
          iexact HB
      · have h10' : ¬ t.val + 1 < nl A := fun h => h10 ((cond10_iff ⟨nl A, hN⟩ t).2 h)
        iapply (wp_no c h10)
        ihave HX := (XG_to A c rfl (show t.val + 1 = min (nl A) (t.val + 2) by omega)) $$ HX
        iapply (wp_ordLoad A c (off48_eq hN t) hT) $$ HR
        iintro HR
        iapply (wp_assume _ _ _ _ (chk18_ok he))
        iapply (wp_wWait1 A c (ord A t.val) (t.val % 3) 0 (off49_eq hN t)) $$ [H0 HO]
        · isplitl [H0]; · iexact H0
          iexact HO
        iintro ⟨H0, HO⟩
        iapply (wp_ordLoad A c (off52_eq hN t) hT) $$ HR
        iintro HR
        iapply (wp_assume _ _ _ _ (chk19_ok he))
        iapply (wp_end c)
        isplitr
        · ipureintro; exact ⟨rfl, rfl, rfl⟩
        isplitl [HG]; · iexact HG
        isplitl [HR]; · iexact HR
        isplitl [HX]; · iexact HX
        isplitl [HO]; · iexact HO
        isplitl [H0]; · iexact H0
        isplitl [H1]; · iexact H1
        isplitl [H2]; · iexact H2
        isplitl [HW1]; · iexact HW1
        isplitl [HW2]; · iexact HW2
        isplitl [HQ]; · iexact HQ
        iexact HB
  · have h7' : t.val = 0 := by rcases Nat.eq_zero_or_pos t.val with h | h; exacts [h, absurd ((cond7_iff ⟨nl A, hN⟩ t).2 h) h7]
    ihave HX := (XG_to A c (show (f0 (nl A) t.val) = min (nl A) (t.val + 3) by rw [h7']; rfl) rfl) $$ HX
    ihave HW2 := (third_yes A c h7') $$ HW2
    iapply (wp_no c h7)
    ihave HQ := (OG_to A c G (show t.val - 1 = t.val by omega) rfl) $$ HQ
    ihave HB := (OB_to A c G z (show nd A + (t.val - 1) = nd A + t.val by omega)) $$ HB
    by_cases h10 : k0_cond10 (bv (nl A)) t = 1#1
    · have h10' : t.val + 1 < nl A := (cond10_iff ⟨nl A, hN⟩ t).1 h10
      obtain rfl : m = t.val + 1 := by omega
      iapply (wp_yes c h10)
      iapply (wp_gLoad A c (off45_eq he')) $$ HG
      iintro HG
      iapply (wp_assume _ _ _ _ (chk17_ok he' (bv (nl A)) t (gw A (ord A (t.val + 1)))))
      by_cases h11 : k0_cond11 (gw A (ord A (t.val + 1))) = 1#1
      · have hlong : long A (ord A (t.val + 1)) = true := decide_eq_true ((cond11_iff _).1 h11)
        iapply (wp_yes c h11)
        iapply (wp_xWait1 A c (min (nl A) (t.val + 3)) (t.val + 1) (ord A (t.val + 1)) (by omega) h10' rfl hlong (off46_eq he')) $$ [HX HO]
        · isplitl [HX]; · iexact HX
          iexact HO
        iintro ⟨HX, HO⟩
        ihave HX := (XG_to A c rfl (show t.val + 1 + 1 = min (nl A) (t.val + 2) by omega)) $$ HX
        iapply (wp_ordLoad A c (off48_eq hN t) hT) $$ HR
        iintro HR
        iapply (wp_assume _ _ _ _ (chk18_ok he))
        iapply (wp_wWait1 A c (ord A t.val) (t.val % 3) 0 (off49_eq hN t)) $$ [H0 HO]
        · isplitl [H0]; · iexact H0
          iexact HO
        iintro ⟨H0, HO⟩
        iapply (wp_ordLoad A c (off52_eq hN t) hT) $$ HR
        iintro HR
        iapply (wp_assume _ _ _ _ (chk19_ok he))
        iapply (wp_end c)
        isplitr
        · ipureintro; exact ⟨rfl, rfl, rfl⟩
        isplitl [HG]; · iexact HG
        isplitl [HR]; · iexact HR
        isplitl [HX]; · iexact HX
        isplitl [HO]; · iexact HO
        isplitl [H0]; · iexact H0
        isplitl [H1]; · iexact H1
        isplitl [H2]; · iexact H2
        isplitl [HW1]; · iexact HW1
        isplitl [HW2]; · iexact HW2
        isplitl [HQ]; · iexact HQ
        iexact HB
      · have hshort : ¬ long A (ord A (t.val + 1)) = true := fun h => h11 ((cond11_iff _).2 (of_decide_eq_true h))
        iapply (wp_no c h11)
        ihave HX := (XG_short_wait' A c h10' rfl hshort) $$ HX
        ihave HX := (XG_to A c rfl (show t.val + 1 + 1 = min (nl A) (t.val + 2) by omega)) $$ HX
        iapply (wp_ordLoad A c (off48_eq hN t) hT) $$ HR
        iintro HR
        iapply (wp_assume _ _ _ _ (chk18_ok he))
        iapply (wp_wWait1 A c (ord A t.val) (t.val % 3) 0 (off49_eq hN t)) $$ [H0 HO]
        · isplitl [H0]; · iexact H0
          iexact HO
        iintro ⟨H0, HO⟩
        iapply (wp_ordLoad A c (off52_eq hN t) hT) $$ HR
        iintro HR
        iapply (wp_assume _ _ _ _ (chk19_ok he))
        iapply (wp_end c)
        isplitr
        · ipureintro; exact ⟨rfl, rfl, rfl⟩
        isplitl [HG]; · iexact HG
        isplitl [HR]; · iexact HR
        isplitl [HX]; · iexact HX
        isplitl [HO]; · iexact HO
        isplitl [H0]; · iexact H0
        isplitl [H1]; · iexact H1
        isplitl [H2]; · iexact H2
        isplitl [HW1]; · iexact HW1
        isplitl [HW2]; · iexact HW2
        isplitl [HQ]; · iexact HQ
        iexact HB
    · have h10' : ¬ t.val + 1 < nl A := fun h => h10 ((cond10_iff ⟨nl A, hN⟩ t).2 h)
      iapply (wp_no c h10)
      ihave HX := (XG_to A c rfl (show t.val + 1 = min (nl A) (t.val + 2) by omega)) $$ HX
      iapply (wp_ordLoad A c (off48_eq hN t) hT) $$ HR
      iintro HR
      iapply (wp_assume _ _ _ _ (chk18_ok he))
      iapply (wp_wWait1 A c (ord A t.val) (t.val % 3) 0 (off49_eq hN t)) $$ [H0 HO]
      · isplitl [H0]; · iexact H0
        iexact HO
      iintro ⟨H0, HO⟩
      iapply (wp_ordLoad A c (off52_eq hN t) hT) $$ HR
      iintro HR
      iapply (wp_assume _ _ _ _ (chk19_ok he))
      iapply (wp_end c)
      isplitr
      · ipureintro; exact ⟨rfl, rfl, rfl⟩
      isplitl [HG]; · iexact HG
      isplitl [HR]; · iexact HR
      isplitl [HX]; · iexact HX
      isplitl [HO]; · iexact HO
      isplitl [H0]; · iexact H0
      isplitl [H1]; · iexact H1
      isplitl [H2]; · iexact H2
      isplitl [HW1]; · iexact HW1
      isplitl [HW2]; · iexact HW2
      isplitl [HQ]; · iexact HQ
      iexact HB

end Cert.Kernel.Hand

end
-- ==== Proof.Step3.lean ====
/-
  The products of a step, one block of columns after another.
-/
module

public import proofs.«01_k».proof.Proof.Step2

@[expose] public section

set_option maxRecDepth 16384

noncomputable section

namespace Cert.Kernel.Hand

open Cert.Kernel Cert.Kernel.Gen Cert.Listing
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ
local notation "EC" => countersEmb (U := Pipeline.UD sig nD τ)

variable (A : Arrays F) (c : Dev nD)

local notation "WP" => wp frame (wpE (defs₀ (F := F)) Variants.none (th c) none) Set.univ

/-- The rest of the weights arrive, and the first block's products. -/
theorem part7 (t : Fin (k0_t2_loop (bv (nl A))).trips) (hT : t.val < nl A) (hw : k0_chk9 (bv (nl A))) (a b d : BitVec 32) (h21 : k0_chk21 (bv (ord A t.val))) (h19 : k0_chk19 (bv (ord A t.val))) :
    iprop(GS_ A c ∗ OrdIs A c (nl A) ∗ Ow c ∗ WheldT A c (ord A t.val) (t.val % 3) 0 ∗ WflyT A c (ord A t.val) (t.val % 3) 1 ∗ WflyT A c (ord A t.val) (t.val % 3) 2
        ∗ SV A c ∗ qIs A c (t.val % 2) (ord A t.val) ∗ sIs A c (t.val % 2) (ord A t.val))
      ⊢ WP (k0_part7 (F := F) (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 (bv (nl A)) hw t a b d (bv (ord A t.val)) h21 (bv (ord A t.val)) h19)
        (fun r => iprop(⌜r = ⟨wsr A (ord A t.val), oLt (gw A (ord A t.val)), s2 A (ord A t.val), q2 A (ord A t.val), a5 A (ord A t.val) 0, a2 A (ord A t.val) 0, qj A (ord A t.val) 1, w5f A (ord A t.val) 1⟩⌝
          ∗ GS_ A c ∗ OrdIs A c (nl A) ∗ Ow c ∗ WheldS A c (ord A t.val) (t.val % 3) ∗ SV A c ∗ qIs A c (t.val % 2) (ord A t.val) ∗ sIs A c (t.val % 2) (ord A t.val))) := by
  have hN : nl A < 33 := Nat.lt_succ_of_le (nl_le A)
  have he := ord_lt A hT
  have h2 : t.val % 2 < 2 := Nat.mod_lt _ (by norm_num)
  generalize heq : ord A t.val = e at *
  sl_unfold [k0_part7]
  iintro ⟨HG, HR, HO, H0, H1, H2, HS, Hq, Hs⟩
  iapply (wp_wWait1 A c e (t.val % 3) 1 (off53_eq hN t)) $$ [H1 HO]
  · isplitl [H1]; · iexact H1
    iexact HO
  iintro ⟨H1, HO⟩
  iapply (wp_ordLoad A c (off56_eq hN t) hT) $$ HR
  iintro HR
  iapply (wp_assume _ _ _ _ (chk20_ok (heq ▸ he)))
  iapply (wp_wWait1 A c e (t.val % 3) 2 (off57_eq hN t)) $$ [H2 HO]
  · isplitl [H2]; · iexact H2
    iexact HO
  iintro ⟨H2, HO⟩
  ihave HW : iprop(WheldS A c e (t.val % 3)) $$ [H0 H1 H2]
  · unfold WheldS
    isplitl [H0]; · iexact H0
    isplitl [H1]; · iexact H1
    iexact H2
  iapply (wp_wsLoad A c e he (off60_eq he)) $$ HS
  iintro HS
  iapply (wp_gLoad A c (off61_eq he)) $$ HG
  iintro HG
  iapply (wp_sLoad A c (t.val % 2) e h2 (off62_eq hN t)) $$ Hs
  iintro Hs
  iapply (wp_qLoad A c (t.val % 2) e h2 (off63_eq hN t)) $$ Hq
  iintro Hq
  iapply (wp_w5 A c e (t.val % 3) 0 (by norm_num) (off64_eq hN t)) $$ HW
  iintro HW
  iapply (wp_w2 A c e (t.val % 3) 0 (by norm_num) (off65_eq hN t)) $$ HW
  iintro HW
  iapply (wp_w5 A c e (t.val % 3) 1 (by norm_num) (off66_eq hN t)) $$ HW
  iintro HW
  iapply (wp_end c)
  isplitr
  · ipureintro; rfl
  isplitl [HG]; · iexact HG
  isplitl [HR]; · iexact HR
  isplitl [HO]; · iexact HO
  isplitl [HW]; · iexact HW
  isplitl [HS]; · iexact HS
  isplitl [Hq]; · iexact Hq
  iexact Hs

theorem part8 (t : Fin (k0_t2_loop (bv (nl A))).trips) (hw : k0_chk9 (bv (nl A))) (a : BitVec 32) (e : ℕ) :
    WheldS A c e (t.val % 3)
      ⊢ WP (k0_part8 (F := F) (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 (bv (nl A)) hw t a (q2 A e) (a5 A e 0) (a2 A e 0) (qj A e 1) (w5f A e 1))
        (fun r => iprop(⌜r = ⟨a5 A e 3, a2 A e 3, m5 A e 4, m2 A e 4⟩⌝ ∗ WheldS A c e (t.val % 3))) := by
  have hN : nl A < 33 := Nat.lt_succ_of_le (nl_le A)
  sl_unfold [k0_part8]
  iintro HW
  iapply (wp_w2 A c e (t.val % 3) 1 (by norm_num) (off67_eq hN t)) $$ HW
  iintro HW
  iapply (wp_w5 A c e (t.val % 3) 2 (by norm_num) (off68_eq hN t)) $$ HW
  iintro HW
  iapply (wp_w2 A c e (t.val % 3) 2 (by norm_num) (off69_eq hN t)) $$ HW
  iintro HW
  iapply (wp_w5 A c e (t.val % 3) 3 (by norm_num) (off70_eq hN t)) $$ HW
  iintro HW
  iapply (wp_w2 A c e (t.val % 3) 3 (by norm_num) (off71_eq hN t)) $$ HW
  iintro HW
  iapply (wp_w5 A c e (t.val % 3) 4 (by norm_num) (off72_eq hN t)) $$ HW
  iintro HW
  iapply (wp_w2 A c e (t.val % 3) 4 (by norm_num) (off73_eq hN t)) $$ HW
  iintro HW
  iapply (wp_end c)
  isplitr
  · ipureintro; rfl
  iexact HW

theorem part9 (t : Fin (k0_t2_loop (bv (nl A))).trips) (hw : k0_chk9 (bv (nl A))) (a : BitVec 32) (e : ℕ) :
    WheldS A c e (t.val % 3)
      ⊢ WP (k0_part9 (F := F) (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 (bv (nl A)) hw t a (q2 A e) (a5 A e 3) (a2 A e 3) (m5 A e 4) (m2 A e 4))
        (fun r => iprop(⌜r = ⟨a5 A e 7, a2 A e 7, qj A e 8, w5f A e 8, constant S32x512 .f32 0x00000000#32⟩⌝ ∗ WheldS A c e (t.val % 3))) := by
  have hN : nl A < 33 := Nat.lt_succ_of_le (nl_le A)
  sl_unfold [k0_part9]
  iintro HW
  iapply (wp_w5 A c e (t.val % 3) 5 (by norm_num) (off74_eq hN t)) $$ HW
  iintro HW
  iapply (wp_w2 A c e (t.val % 3) 5 (by norm_num) (off75_eq hN t)) $$ HW
  iintro HW
  iapply (wp_w5 A c e (t.val % 3) 6 (by norm_num) (off76_eq hN t)) $$ HW
  iintro HW
  iapply (wp_w2 A c e (t.val % 3) 6 (by norm_num) (off77_eq hN t)) $$ HW
  iintro HW
  iapply (wp_w5 A c e (t.val % 3) 7 (by norm_num) (off78_eq hN t)) $$ HW
  iintro HW
  iapply (wp_w2 A c e (t.val % 3) 7 (by norm_num) (off79_eq hN t)) $$ HW
  iintro HW
  iapply (wp_w5 A c e (t.val % 3) 8 (by norm_num) (off80_eq hN t)) $$ HW
  iintro HW
  iapply (wp_end c)
  isplitr
  · ipureintro; rfl
  iexact HW

theorem part10 (t : Fin (k0_t2_loop (bv (nl A))).trips) (hw : k0_chk9 (bv (nl A))) (a : BitVec 32) (e : ℕ) :
    WheldS A c e (t.val % 3)
      ⊢ WP (k0_part10 (F := F) (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 (bv (nl A)) hw t a (q2 A e) (a5 A e 7) (a2 A e 7) (qj A e 8) (w5f A e 8) (constant S32x512 .f32 0x00000000#32))
        (fun r => iprop(⌜r = ⟨a2 A e 10, m2 A e 11, a5 A e 11⟩⌝ ∗ WheldS A c e (t.val % 3))) := by
  have hN : nl A < 33 := Nat.lt_succ_of_le (nl_le A)
  sl_unfold [k0_part10]
  iintro HW
  iapply (wp_w2 A c e (t.val % 3) 8 (by norm_num) (off81_eq hN t)) $$ HW
  iintro HW
  iapply (wp_w5 A c e (t.val % 3) 9 (by norm_num) (off82_eq hN t)) $$ HW
  iintro HW
  iapply (wp_w2 A c e (t.val % 3) 9 (by norm_num) (off83_eq hN t)) $$ HW
  iintro HW
  iapply (wp_w5 A c e (t.val % 3) 10 (by norm_num) (off84_eq hN t)) $$ HW
  iintro HW
  iapply (wp_w2 A c e (t.val % 3) 10 (by norm_num) (off85_eq hN t)) $$ HW
  iintro HW
  iapply (wp_w5 A c e (t.val % 3) 11 (by norm_num) (off86_eq hN t)) $$ HW
  iintro HW
  iapply (wp_w2 A c e (t.val % 3) 11 (by norm_num) (off87_eq hN t)) $$ HW
  iintro HW
  iapply (wp_end c)
  isplitr
  · ipureintro; rfl
  iexact HW

theorem part11 (t : Fin (k0_t2_loop (bv (nl A))).trips) (hw : k0_chk9 (bv (nl A))) (a : BitVec 32) (e : ℕ) :
    WheldS A c e (t.val % 3)
      ⊢ WP (k0_part11 (F := F) (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 (bv (nl A)) hw t a (q2 A e) (a2 A e 10) (m2 A e 11) (a5 A e 11))
        (fun r => iprop(⌜r = ⟨a5 A e 14, a2 A e 14, qj A e 15, m5 A e 15⟩⌝ ∗ WheldS A c e (t.val % 3))) := by
  have hN : nl A < 33 := Nat.lt_succ_of_le (nl_le A)
  sl_unfold [k0_part11]
  iintro HW
  iapply (wp_w5 A c e (t.val % 3) 12 (by norm_num) (off88_eq hN t)) $$ HW
  iintro HW
  iapply (wp_w2 A c e (t.val % 3) 12 (by norm_num) (off89_eq hN t)) $$ HW
  iintro HW
  iapply (wp_w5 A c e (t.val % 3) 13 (by norm_num) (off90_eq hN t)) $$ HW
  iintro HW
  iapply (wp_w2 A c e (t.val % 3) 13 (by norm_num) (off91_eq hN t)) $$ HW
  iintro HW
  iapply (wp_w5 A c e (t.val % 3) 14 (by norm_num) (off92_eq hN t)) $$ HW
  iintro HW
  iapply (wp_w2 A c e (t.val % 3) 14 (by norm_num) (off93_eq hN t)) $$ HW
  iintro HW
  iapply (wp_w5 A c e (t.val % 3) 15 (by norm_num) (off94_eq hN t)) $$ HW
  iintro HW
  iapply (wp_end c)
  isplitr
  · ipureintro; rfl
  iexact HW

theorem part12 (t : Fin (k0_t2_loop (bv (nl A))).trips) (hw : k0_chk9 (bv (nl A))) (a : BitVec 32) (e : ℕ) :
    WheldS A c e (t.val % 3)
      ⊢ WP (k0_part12 (F := F) (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 (bv (nl A)) hw t a (q2 A e) (a5 A e 14) (a2 A e 14) (qj A e 15) (m5 A e 15))
        (fun r => iprop(⌜r = ⟨a5 A e 18, a2 A e 18⟩⌝ ∗ WheldS A c e (t.val % 3))) := by
  have hN : nl A < 33 := Nat.lt_succ_of_le (nl_le A)
  sl_unfold [k0_part12]
  iintro HW
  iapply (wp_w2 A c e (t.val % 3) 15 (by norm_num) (off95_eq hN t)) $$ HW
  iintro HW
  iapply (wp_w5 A c e (t.val % 3) 16 (by norm_num) (off96_eq hN t)) $$ HW
  iintro HW
  iapply (wp_w2 A c e (t.val % 3) 16 (by norm_num) (off97_eq hN t)) $$ HW
  iintro HW
  iapply (wp_w5 A c e (t.val % 3) 17 (by norm_num) (off98_eq hN t)) $$ HW
  iintro HW
  iapply (wp_w2 A c e (t.val % 3) 17 (by norm_num) (off99_eq hN t)) $$ HW
  iintro HW
  iapply (wp_w5 A c e (t.val % 3) 18 (by norm_num) (off100_eq hN t)) $$ HW
  iintro HW
  iapply (wp_w2 A c e (t.val % 3) 18 (by norm_num) (off101_eq hN t)) $$ HW
  iintro HW
  iapply (wp_end c)
  isplitr
  · ipureintro; rfl
  iexact HW

theorem part13 (t : Fin (k0_t2_loop (bv (nl A))).trips) (hw : k0_chk9 (bv (nl A))) (a : BitVec 32) (e : ℕ) :
    WheldS A c e (t.val % 3)
      ⊢ WP (k0_part13 (F := F) (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 (bv (nl A)) hw t a (q2 A e) (a5 A e 18) (a2 A e 18))
        (fun r => iprop(⌜r = ⟨a5 A e 21, a2 A e 21, qj A e 22, m5 A e 22⟩⌝ ∗ WheldS A c e (t.val % 3))) := by
  have hN : nl A < 33 := Nat.lt_succ_of_le (nl_le A)
  sl_unfold [k0_part13]
  iintro HW
  iapply (wp_w5 A c e (t.val % 3) 19 (by norm_num) (off102_eq hN t)) $$ HW
  iintro HW
  iapply (wp_w2 A c e (t.val % 3) 19 (by norm_num) (off103_eq hN t)) $$ HW
  iintro HW
  iapply (wp_w5 A c e (t.val % 3) 20 (by norm_num) (off104_eq hN t)) $$ HW
  iintro HW
  iapply (wp_w2 A c e (t.val % 3) 20 (by norm_num) (off105_eq hN t)) $$ HW
  iintro HW
  iapply (wp_w5 A c e (t.val % 3) 21 (by norm_num) (off106_eq hN t)) $$ HW
  iintro HW
  iapply (wp_w2 A c e (t.val % 3) 21 (by norm_num) (off107_eq hN t)) $$ HW
  iintro HW
  iapply (wp_w5 A c e (t.val % 3) 22 (by norm_num) (off108_eq hN t)) $$ HW
  iintro HW
  iapply (wp_end c)
  isplitr
  · ipureintro; rfl
  iexact HW

/-- The last block's products, the expert's plane of results, and the next expert's rows. -/
theorem part14 (t : Fin (k0_t2_loop (bv (nl A))).trips) (hT : t.val < nl A) (hw : k0_chk9 (bv (nl A))) (a b : BitVec 32) (h21 : k0_chk21 (bv (ord A t.val)))
    (h16 : k0_chk16 (bv (nl A)) t (bv (ord A (min (t.val + 1) (nl A - 1))))) :
    iprop(WheldS A c (ord A t.val) (t.val % 3) ∗ OG A c (res A) 32 t.val t.val ∗ GS_ A c ∗ XG A c 32 (min (nl A) (t.val + 3)) (min (nl A) (t.val + 2)))
      ⊢ WP (k0_part14 (F := F) (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 (bv (nl A)) hw t a b (bv (ord A t.val)) h21 (bv (ord A (min (t.val + 1) (nl A - 1)))) h16
          (wsr A (ord A t.val)) (oLt (gw A (ord A t.val))) (s2 A (ord A t.val)) (q2 A (ord A t.val)) (a5 A (ord A t.val) 21) (a2 A (ord A t.val) 21) (qj A (ord A t.val) 22) (m5 A (ord A t.val) 22))
        (fun r => iprop(⌜∃ v, xMask (gw A (ord A (min (t.val + 1) (nl A - 1)))) v = xm A (ord A (min (t.val + 1) (nl A - 1))) ∧ r.2.2.1 = extf .f32 (xFlat v) bitsLt_bf16_f32 ∧ r.2.2.2 = rowLt (gw A (ord A (min (t.val + 1) (nl A - 1))))⌝
          ∗ WheldS A c (ord A t.val) (t.val % 3) ∗ OG A c (res A) 32 t.val (t.val + 1) ∗ GS_ A c ∗ XG A c 32 (min (nl A) (t.val + 3)) (min (nl A) (t.val + 2)))) := by
  have hN : nl A < 33 := Nat.lt_succ_of_le (nl_le A)
  have he := ord_lt A hT
  have hl := ord_live A hT
  have hm : min (t.val + 1) (nl A - 1) < nl A := by omega
  have he' := ord_lt A hm
  have hm2 : min (t.val + 1) (nl A - 1) < min (nl A) (t.val + 2) := by omega
  have hOG := OG_store A c (res A) (q := t.val) (s := t.val) le_rfl hT
  generalize min (t.val + 1) (nl A - 1) = m at *
  generalize ord A t.val = e at *
  sl_unfold [k0_part14]
  iintro ⟨HW, HQ, HG, HX⟩
  iapply (wp_w2 A c e (t.val % 3) 22 (by norm_num) (off109_eq hN t)) $$ HW
  iintro HW
  iapply (wp_w5 A c e (t.val % 3) 23 (by norm_num) (off110_eq hN t)) $$ HW
  iintro HW
  iapply (wp_w2 A c e (t.val % 3) 23 (by norm_num) (off111_eq hN t)) $$ HW
  iintro HW
  ihave HQ := hOG $$ HQ
  icases HQ with ⟨HQ, HB⟩
  iapply (wp_obPeek c e (off112_eq he)) $$ HQ
  iintro %v0 HQ
  iapply (wp_obStore A c e he hl rfl (off112_eq he)) $$ HQ
  iintro HQ
  ihave HQ := HB $$ HQ
  iapply (wp_gLoad A c (off113_eq he')) $$ HG
  iintro HG
  ihave HX := (XG_take A c (j := m) hm2 hm) $$ HX
  icases HX with ⟨HX, HB⟩
  iapply (wp_xLoad A c (ord A m) he' (off114_eq he')) $$ HX
  iintro %v %hv HX
  ihave HX := HB $$ HX
  iapply (wp_end c)
  isplitr
  · ipureintro; exact ⟨v, hv, rfl, rfl⟩
  isplitl [HW]; · iexact HW
  isplitl [HQ]; · iexact HQ
  isplitl [HG]; · iexact HG
  iexact HX

end Cert.Kernel.Hand

end
-- ==== Proof.Step4.lean ====
/-
  A whole step, and the kernel's program from start to end.
-/
module

public import proofs.«01_k».proof.Proof.Step3

@[expose] public section

set_option maxRecDepth 16384

noncomputable section

namespace Cert.Kernel.Hand

open Cert.Kernel Cert.Kernel.Gen Cert.Listing
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ
local notation "EC" => countersEmb (U := Pipeline.UD sig nD τ)

variable (A : Arrays F) (c : Dev nD)

local notation "WP" => wp frame (wpE (defs₀ (F := F)) Variants.none (th c) none) Set.univ

local notation "GR" => res A

section Rules
variable {α : Type} {Λ : Labels} {defs : Defs nD τ sig (Elt F) Λ} {𝒱 : Variants} {bd : Option 𝒱.V}
/-- A loop that makes no trip. -/
theorem wp_loop0 {w : ℕ} {σ : Type} (l : Scf.Loop w) (hok : l.OK) (init : σ) (body : Fin l.trips → σ → Prog (TpuEff nD τ sig (Elt F) Λ (th c).2) σ) (h : l.trips = 0)
    {k : σ → Prog (TpuEff nD τ sig (Elt F) Λ (th c).2) α} {Q : α → sProp 𝕄} :
    wp frame (wpE defs 𝒱 (th c) bd) Set.univ (k init) Q ⊢ wp frame (wpE defs 𝒱 (th c) bd) Set.univ ((Scf.Loop.for l hok init body).bind k) Q := by
  iintro H
  iapply (wp_loop c l hok init body (fun _ acc => iprop(⌜acc = init⌝)) (fun k => absurd k.isLt (by omega))) $$ []
  · ipureintro; rfl
  iintro %acc %ha
  subst ha
  iexact H
/-- Waiting for one plane of the output. -/
theorem wp_oWait1 (G : S32x16x768.Idx → Elt F .bf16) (z : Elt F .bf16) {s' : Shape} {e' : EltTy} {sp' : Space} {srcw : Memref sig (th c).2.kind sp' s' e'} {offd inbd h1 h2}
    {k : PUnit → Prog (TpuEff nD τ sig (Elt F) Λ (th c).2) α} {Q : α → sProp 𝕄} (u : ℕ) (hu : u < 32) :
    iprop(OB A c G z 32 (NO * u) ∗ Ow c) ⊢ iprop(((OB A c G z 32 (NO * (u + 1)) ∗ Ow c) -∗ wp frame (wpE defs 𝒱 (th c) bd) Set.univ (k ⟨⟩) Q)
      -∗ wp frame (wpE defs 𝒱 (th c) bd) Set.univ
          (.op (.waitDma2 (cc0_scratch13 : DmaSems sig S_).sem srcw (oDst offd inbd) h1 h2) k) Q) := by
  iintro ⟨H1, H2⟩ HK
  iapply (wp_oWait A c G z u hu)
  isplitl [H1]; · iexact H1
  isplitl [H2]; · iexact H2
  iexact HK
end Rules

/-- What holds before step `i`. -/
def I2 (i : ℕ) (_ : Unit) : sProp 𝕄 :=
  iprop(GS_ A c ∗ OrdIs A c (nl A) ∗ XG A c 32 (f0 (nl A) i) (min (nl A) (i + 1)) ∗ Ow c ∗ WStart A c (nl A) i
    ∗ OG A c GR 32 (i - 1) i ∗ OB A c GR zv (nd A + (i - 1)) 0 ∗ SV A c
    ∗ qIs A c (i % 2) (ord A (min i (nl A - 1))) ∗ sIs A c (i % 2) (ord A (min i (nl A - 1))))

theorem qIs_to {s e s' e' : ℕ} (hs : s = s') (he : e = e') : qIs A c s e ⊢ qIs A c s' e' := by subst hs he; exact .rfl
theorem sIs_to {s e s' e' : ℕ} (hs : s = s') (he : e = e') : sIs A c s e ⊢ sIs A c s' e' := by subst hs he; exact .rfl
theorem third_mk {n i s : ℕ} (h : ¬ i = 0) (hs : s = (i + 2) % 3) : WfreeS A c s ⊢ (if i = 0 then Wj A c n (i + 2) else WfreeS A c ((i + 2) % 3)) := by
  subst hs; rw [if_neg h]

set_option maxHeartbeats 2000000 in
/-- One step. -/
theorem trip2 (hw : k0_chk9 (bv (nl A))) (t : Fin (k0_t2_loop (bv (nl A))).trips) (acc : Unit) :
    I2 A c t.val acc ⊢ WP (k0_t2_body (F := F) (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 (bv (nl A)) hw t acc) (I2 A c (t.val + 1)) := by
  have hN : nl A < 33 := Nat.lt_succ_of_le (nl_le A)
  have hT : t.val < nl A := lt_of_lt_of_eq t.isLt (trips2 hN)
  have hm : min (t.val + 1) (nl A - 1) < nl A := by omega
  have h2' : (t.val + 1) % 2 < 2 := Nat.mod_lt _ (by norm_num)
  unfold I2
  sl_unfold [k0_t2_body]
  iintro ⟨HG, HR, HX, HO, HW, HQ, HB, HS, Hq, Hs⟩
  ihave HX := (XG_to A c rfl (show min (nl A) (t.val + 1) = t.val + 1 by omega)) $$ HX
  ihave Hq := (qIs_to A c rfl (show ord A (min t.val (nl A - 1)) = ord A t.val by rw [show min t.val (nl A - 1) = t.val by omega])) $$ Hq
  ihave Hs := (sIs_to A c rfl (show ord A (min t.val (nl A - 1)) = ord A t.val by rw [show min t.val (nl A - 1) = t.val by omega])) $$ Hs
  iapply (wp_seq c (part6 A c GR zv t hT hw _ _)) $$ [HG HR HX HO HW HQ HB]
  · isplitl [HG]; · iexact HG
    isplitl [HR]; · iexact HR
    isplitl [HX]; · iexact HX
    isplitl [HO]; · iexact HO
    isplitl [HW]; · iexact HW
    isplitl [HQ]; · iexact HQ
    iexact HB
  iintro %r ⟨%hr, HG, HR, HX, HO, H0, H1, H2, HW1, HW2, HQ, HB⟩
  rcases r with ⟨a19, v402, v403, v405, h21, v410, h16, v429, h19⟩
  obtain ⟨e1, e2, e3⟩ := hr
  dsimp only at e1 e2 e3
  subst e1 e2 e3
  iapply (wp_seq c (part7 A c t hT hw _ _ _ h21 h19)) $$ [HG HR HO H0 H1 H2 HS Hq Hs]
  · isplitl [HG]; · iexact HG
    isplitl [HR]; · iexact HR
    isplitl [HO]; · iexact HO
    isplitl [H0]; · iexact H0
    isplitl [H1]; · iexact H1
    isplitl [H2]; · iexact H2
    isplitl [HS]; · iexact HS
    isplitl [Hq]; · iexact Hq
    iexact Hs
  iintro %r ⟨%hr, HG, HR, HO, HW, HS, Hq, Hs⟩
  subst hr
  iapply (wp_seq c (part8 A c t hw _ (ord A t.val))) $$ [HW]
  · iexact HW
  iintro %r ⟨%hr, HW⟩
  subst hr
  iapply (wp_seq c (part9 A c t hw _ (ord A t.val))) $$ [HW]
  · iexact HW
  iintro %r ⟨%hr, HW⟩
  subst hr
  iapply (wp_seq c (part10 A c t hw _ (ord A t.val))) $$ [HW]
  · iexact HW
  iintro %r ⟨%hr, HW⟩
  subst hr
  iapply (wp_seq c (part11 A c t hw _ (ord A t.val))) $$ [HW]
  · iexact HW
  iintro %r ⟨%hr, HW⟩
  subst hr
  iapply (wp_seq c (part12 A c t hw _ (ord A t.val))) $$ [HW]
  · iexact HW
  iintro %r ⟨%hr, HW⟩
  subst hr
  iapply (wp_seq c (part13 A c t hw _ (ord A t.val))) $$ [HW]
  · iexact HW
  iintro %r ⟨%hr, HW⟩
  subst hr
  iapply (wp_seq c (part14 A c t hT hw _ _ h21 h16)) $$ [HW HQ HG HX]
  · isplitl [HW]; · iexact HW
    isplitl [HQ]; · iexact HQ
    isplitl [HG]; · iexact HG
    iexact HX
  iintro %r ⟨%hr, HW, HQ, HG, HX⟩
  rcases r with ⟨v737, v738, v743, v746⟩
  obtain ⟨v, hv, e1, e2⟩ := hr
  dsimp only at e1 e2
  subst e1 e2
  iapply (wp_pureq c (part15 _ v _ hv))
  iapply (wp_pureq c (part16 _))
  ihave Hq := (qIs_any A c _ _) $$ Hq
  iapply (wp_qPeek c) $$ Hq
  iintro %v1 Hq
  iapply (wp_qStore A c ((t.val + 1) % 2) (ord A (min (t.val + 1) (nl A - 1))) h2' (w := _) rfl (off115_eq hN t)) $$ Hq
  iintro Hq
  ihave Hs := (sIs_any A c _ _) $$ Hs
  iapply (wp_sPeek c) $$ Hs
  iintro %v2 Hs
  iapply (wp_sStore A c ((t.val + 1) % 2) (ord A (min (t.val + 1) (nl A - 1))) h2' (w := _) rfl (off116_eq hN t)) $$ Hs
  iintro Hs
  iapply (wp_end c)
  ihave HW := (Wheld_freeS A c _ _) $$ HW
  isplitl [HG]; · iexact HG
  isplitl [HR]; · iexact HR
  isplitl [HX]
  · iapply (XG_to A c (show min (nl A) (t.val + 3) = f0 (nl A) (t.val + 1) from (if_neg (by omega)).symm) (show min (nl A) (t.val + 2) = min (nl A) (t.val + 1 + 1) from rfl)) $$ HX
  isplitl [HO]; · iexact HO
  isplitl [HW HW1 HW2]
  · unfold WStart
    isplitl [HW1]; · iexact HW1
    isplitl [HW2]; · iexact HW2
    iapply (third_mk A c (by omega) (by omega)) $$ HW
  isplitl [HQ]; · iexact HQ
  isplitl [HB]; · iexact HB
  isplitl [HS]; · iexact HS
  isplitl [Hq]; · iexact Hq
  iexact Hs

end Cert.Kernel.Hand

end
-- ==== Proof.Body.lean ====
/-
  The kernel's program from start to end.
-/
module

public import proofs.«01_k».proof.Proof.Step4

@[expose] public section

set_option maxRecDepth 16384

noncomputable section

namespace Cert.Kernel.Hand

open Cert.Kernel Cert.Kernel.Gen Cert.Listing
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ
local notation "EC" => countersEmb (U := Pipeline.UD sig nD τ)

variable (A : Arrays F) (c : Dev nD)

local notation "WP" => wp frame (wpE (defs₀ (F := F)) Variants.none (th c) none) Set.univ

local notation "GR" => res A

/-- The three slots of weights, all free. -/
def WFree : sProp 𝕄 := iprop(WfreeS A c 0 ∗ WfreeS A c 1 ∗ WfreeS A c 2)

theorem WStart_end : WStart A c (nl A) (nl A) ⊢ WFree A c := by
  unfold WStart WFree
  rw [Wj_rest A c (lt_irrefl _), Wj_rest A c (show ¬ nl A + 1 < nl A by omega)]
  have key : ∀ a : ℕ, iprop(WfreeS A c (a % 3) ∗ WfreeS A c ((a + 1) % 3) ∗ WfreeS A c ((a + 2) % 3)) ⊢ iprop(WfreeS A c 0 ∗ WfreeS A c 1 ∗ WfreeS A c 2) := by
    intro a
    have h : a % 3 = 0 ∨ a % 3 = 1 ∨ a % 3 = 2 := by omega
    rcases h with h | h | h
    · rw [h, show (a + 1) % 3 = 1 by omega, show (a + 2) % 3 = 2 by omega]
    · rw [h, show (a + 1) % 3 = 2 by omega, show (a + 2) % 3 = 0 by omega]
      iintro ⟨H1, H2, H3⟩
      isplitl [H3]; · iexact H3
      isplitl [H1]; · iexact H1
      iexact H2
    · rw [h, show (a + 1) % 3 = 0 by omega, show (a + 2) % 3 = 1 by omega]
      iintro ⟨H1, H2, H3⟩
      isplitl [H2]; · iexact H2
      isplitl [H3]; · iexact H3
      iexact H1
  by_cases h0 : nl A = 0
  · rw [if_pos h0, Wj_rest A c (show ¬ nl A + 2 < nl A by omega)]
    exact key _
  · rw [if_neg h0]
    exact key _

theorem WScan_WStart : WScan A c (nl A) ⊢ WStart A c (nl A) 0 := by
  unfold WScan WStart
  rw [if_pos rfl]

theorem WScan_free (h : nl A = 0) : WScan A c (nl A) ⊢ WFree A c := by
  unfold WScan WFree
  rw [Wj_rest A c (show ¬ 0 < nl A by omega), Wj_rest A c (show ¬ 1 < nl A by omega), Wj_rest A c (show ¬ 2 < nl A by omega)]

/-- Waiting for the scales of the weights. -/
theorem wp_sWait1 {α : Type} {Λ : Labels} {defs : Defs nD τ sig (Elt F) Λ} {𝒱 : Variants} {bd : Option 𝒱.V} {h1 h2} {k : PUnit → Prog (TpuEff nD τ sig (Elt F) Λ (th c).2) α} {Q : α → sProp 𝕄} :
    iprop(SFly A c ∗ Ow c) ⊢ iprop(((SV A c ∗ SH A c ∗ sv c 42 ∗ Ow c) -∗ wp frame (wpE defs 𝒱 (th c) bd) Set.univ (k ⟨⟩) Q)
      -∗ wp frame (wpE defs 𝒱 (th c) bd) Set.univ
          (.op (.waitDma2 (cc0_scratch12 : DmaSems sig S_).sem sSrc sDst h1 h2) k) Q) := by
  iintro ⟨H1, H2⟩ HK
  iapply (wp_sWait A c)
  isplitl [H1]; · iexact H1
  isplitl [H2]; · iexact H2
  iexact HK

/-- What holds when the steps are over. -/
def IEnd : sProp 𝕄 :=
  iprop(GS_ A c ∗ OrdIs A c (nl A) ∗ XG A c 32 (nl A) (nl A) ∗ Ow c ∗ WFree A c
    ∗ OG A c GR 32 (nl A - 1) (nl A) ∗ OB A c GR zv (nd A + (nl A - 1)) 0 ∗ SV A c ∗ qAny c ∗ sAny c)

theorem I2_end (h : 0 < nl A) (u : Unit) : I2 A c (nl A) u ⊢ IEnd A c := by
  unfold I2 IEnd
  iintro ⟨HG, HR, HX, HO, HW, HQ, HB, HS, Hq, Hs⟩
  isplitl [HG]; · iexact HG
  isplitl [HR]; · iexact HR
  isplitl [HX]
  · iapply (XG_to A c (show f0 (nl A) (nl A) = nl A by unfold f0; rw [if_neg (by omega)]; omega) (show min (nl A) (nl A + 1) = nl A by omega)) $$ HX
  isplitl [HO]; · iexact HO
  isplitl [HW]; · iapply (WStart_end A c) $$ HW
  isplitl [HQ]; · iexact HQ
  isplitl [HB]; · iexact HB
  isplitl [HS]; · iexact HS
  isplitl [Hq]; · iapply (qIs_any A c _ _) $$ Hq
  iapply (sIs_any A c _ _) $$ Hs

theorem I2_last (h : 0 < nl A) (u : Unit) : I2 A c (k0_t2_loop (bv (nl A))).trips u ⊢ IEnd A c := by
  rw [trips2 (Nat.lt_succ_of_le (nl_le A))]
  exact I2_end A c h u

set_option maxHeartbeats 4000000 in
/-- The program up to the last plane. -/
theorem part46 :
    iprop(GH A c ∗ GAny c ∗ sv c 0 ∗ XP A c 0 ∗ SH A c ∗ SAny c ∗ sv c 42 ∗ ZAny c ∗ Ow c ∗ OrdAny c ∗ WScan A c 0 ∗ OG A c GR 0 0 0 ∗ sv c 43 ∗ qAny c ∗ sAny c)
      ⊢ WP (k0_part46 (F := F) (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13) (fun r => iprop(⌜r.1 = bv (nl A)⌝ ∗ IEnd A c ∗ GH A c ∗ sv c 0 ∗ SH A c ∗ sv c 42 ∗ zRest c zv (nd A))) := by
  have hN : nl A < 33 := Nat.lt_succ_of_le (nl_le A)
  sl_unfold [k0_part46]
  iintro ⟨Hg, Hga, Hs0, HX, Hh, Hsa, Hs42, HZ, HO, HR, HW, HQ, Hs43, Hq, Hs⟩
  iapply (wp_seq c (part29 A c)) $$ [Hg Hga Hs0 HX]
  · isplitl [Hg]; · iexact Hg
    isplitl [Hga]; · iexact Hga
    isplitl [Hs0]; · iexact Hs0
    iexact HX
  iintro %r0 ⟨Hgf, HX⟩
  iapply (wp_seq c (part30 A c)) $$ HX
  iintro %r30 HX
  iapply (wp_seq c (part31 A c)) $$ HX
  iintro %r31 HX
  iapply (wp_seq c (part32 A c)) $$ HX
  iintro %r32 HX
  iapply (wp_seq c (part33 A c)) $$ HX
  iintro %r33 HX
  iapply (wp_seq c (part34 A c)) $$ HX
  iintro %r34 HX
  iapply (wp_seq c (part35 A c)) $$ HX
  iintro %r35 HX
  iapply (wp_seq c (part36 A c)) $$ HX
  iintro %r36 HX
  iapply (wp_seq c (part37 A c GR (fun e he hl i hi => res_dead A e he hl i hi))) $$ [HX Hgf Hh Hsa Hs42 HZ HO HR HW HQ Hs43]
  · isplitl [HX]; · iexact HX
    isplitl [Hgf]; · iexact Hgf
    isplitl [Hh]; · iexact Hh
    isplitl [Hsa]; · iexact Hsa
    isplitl [Hs42]; · iexact Hs42
    isplitl [HZ]; · iexact HZ
    isplitl [HO]; · iexact HO
    isplitl [HR]; · iexact HR
    isplitl [HW]; · iexact HW
    isplitl [HQ]; · iexact HQ
    iexact Hs43
  iintro %r ⟨%hr, HG, Hg, Hs0, HO, Hsf, HR, HX, HW, HZ, HQ, HB⟩
  rcases r with ⟨v, hw⟩
  obtain rfl : v = bv (nl A) := hr
  ihave HX : iprop(XG A c 0 (min 3 (nl A)) 0 ∗ Ow c) $$ [HX HO]
  · isplitl [HX]; · iexact HX
    iexact HO
  iapply (wp_seq c (part38 A c _)) $$ HX
  iintro %r38 HX
  iapply (wp_seq c (part39 A c _)) $$ HX
  iintro %r39 HX
  iapply (wp_seq c (part40 A c _)) $$ HX
  iintro %r40 HX
  iapply (wp_seq c (part41 A c _)) $$ HX
  iintro %r41 HX
  iapply (wp_seq c (part42 A c _)) $$ HX
  iintro %r42 HX
  iapply (wp_seq c (part43 A c _)) $$ HX
  iintro %r43 HX
  iapply (wp_seq c (part44 A c _)) $$ HX
  iintro %r44 HX
  iapply (wp_seq c (part45 A c _)) $$ HX
  iintro %r45 HX
  iapply (wp_XW0L A c) $$ HX
  iintro HX
  iapply (wp_XW0L A c) $$ HX
  iintro ⟨HX, HO⟩
  iapply (wp_sWait1 A c) $$ [Hsf HO]
  · isplitl [Hsf]; · iexact Hsf
    iexact HO
  iintro ⟨HS, Hh, Hs42, HO⟩
  by_cases h5 : k0_cond5 (bv (nl A)) = 1#1
  · have hn : 0 < nl A := (cond5_iff ⟨nl A, hN⟩).1 h5
    iapply (wp_yes c h5)
    iapply (wp_seq c (part2 A c hn h5 (f := min 3 (nl A)) (by omega))) $$ [HG HR HX HO]
    · isplitl [HG]; · iexact HG
      isplitl [HR]; · iexact HR
      isplitl [HX]; · iexact HX
      iexact HO
    iintro %r ⟨%hr, HG, HR, HX, HO⟩
    subst hr
    iapply (wp_pureq c (part3 _))
    iapply (wp_seq c (part4 A c (ord A 0))) $$ Hq
    iintro %r ⟨%hr, Hq⟩
    subst hr
    iapply (wp_sPeek c) $$ Hs
    iintro %v2 Hs
    iapply (wp_sStore A c 0 (ord A 0) (by norm_num) (w := _) rfl rfl) $$ Hs
    iintro Hs
    iapply (wp_loop c _ _ _ _ (I2 A c) (trip2 A c hw)) $$ [HG HR HX HO HW HQ HB HS Hq Hs]
    · unfold I2
      isplitl [HG]; · iexact HG
      isplitl [HR]; · iexact HR
      isplitl [HX]
      · iapply (XG_to A c (show min 3 (nl A) = f0 (nl A) 0 from Nat.min_comm _ _) (show 1 = min (nl A) (0 + 1) by omega)) $$ HX
      isplitl [HO]; · iexact HO
      isplitl [HW]; · iapply (WScan_WStart A c) $$ HW
      isplitl [HQ]; · iexact HQ
      isplitl [HB]; · iexact HB
      isplitl [HS]; · iexact HS
      isplitl [Hq]; · iapply (qIs_to A c (show 0 = 0 % 2 from rfl) (show ord A 0 = ord A (min 0 (nl A - 1)) by rw [Nat.zero_min])) $$ Hq
      iapply (sIs_to A c (show 0 = 0 % 2 from rfl) (show ord A 0 = ord A (min 0 (nl A - 1)) by rw [Nat.zero_min])) $$ Hs
    iintro %acc HI
    ihave HI := (I2_last A c hn acc) $$ HI
    iapply (wp_loop0 c _ _ _ _ (trips3 hN))
    iapply (wp_end c)
    isplitr
    · ipureintro; rfl
    isplitl [HI]; · iexact HI
    isplitl [Hg]; · iexact Hg
    isplitl [Hs0]; · iexact Hs0
    isplitl [Hh]; · iexact Hh
    isplitl [Hs42]; · iexact Hs42
    iexact HZ
  · have hn : nl A = 0 := by
      rcases Nat.eq_zero_or_pos (nl A) with h | h
      · exact h
      · exact absurd ((cond5_iff ⟨nl A, hN⟩).2 h) h5
    iapply (wp_no c h5)
    iapply (wp_loop0 c _ _ _ _ ((trips2 hN).trans hn))
    iapply (wp_loop0 c _ _ _ _ (trips3 hN))
    iapply (wp_end c)
    isplitr
    · ipureintro; rfl
    isplitl [HG HR HX HO HW HQ HB HS Hq Hs]
    · unfold IEnd
      isplitl [HG]; · iexact HG
      isplitl [HR]; · iexact HR
      isplitl [HX]
      · iapply (XG_to A c (show min 3 (nl A) = nl A by omega) (show 0 = nl A by omega)) $$ HX
      isplitl [HO]; · iexact HO
      isplitl [HW]; · iapply (WScan_free A c hn) $$ HW
      isplitl [HQ]; · iapply (OG_to A c GR (show 0 = nl A - 1 by omega) (show 0 = nl A by omega)) $$ HQ
      isplitl [HB]; · iapply (OB_to A c GR zv (show nd A = nd A + (nl A - 1) by omega)) $$ HB
      isplitl [HS]; · iexact HS
      isplitl [Hq]; · iexact Hq
      iexact Hs
    isplitl [Hg]; · iexact Hg
    isplitl [Hs0]; · iexact Hs0
    isplitl [Hh]; · iexact Hh
    isplitl [Hs42]; · iexact Hs42
    iexact HZ

/-- What holds when the program is over. -/
def Done : sProp 𝕄 :=
  iprop(GS_ A c ∗ OrdIs A c (nl A) ∗ XG A c 32 (nl A) (nl A) ∗ Ow c ∗ WFree A c
    ∗ OG A c GR 32 (nl A) (nl A) ∗ OB A c GR zv 32 (NO * 32) ∗ SV A c ∗ qAny c ∗ sAny c
    ∗ GH A c ∗ sv c 0 ∗ SH A c ∗ sv c 42 ∗ zRest c zv (nd A))

def I4 (u : ℕ) (_ : Unit) : sProp 𝕄 := iprop(OB A c GR zv 32 (NO * u) ∗ Ow c)

theorem trip4 (t : Fin k0_t4_loop.trips) (acc : Unit) :
    I4 A c t.val acc ⊢ WP (k0_t4_body (F := F) (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 t acc) (I4 A c (t.val + 1)) := by
  have hu : t.val < 32 := lt_of_lt_of_eq t.isLt trips4
  unfold I4
  sl_unfold [k0_t4_body]
  iintro H
  iapply (wp_oWait1 A c GR zv t.val hu) $$ H
  iintro H
  iapply (wp_end c)
  iexact H

theorem nd_nl : nd A + nl A = 32 := by
  unfold nd; have := nl_le A; omega

theorem I4_last (u : Unit) : I4 A c k0_t4_loop.trips u ⊢ I4 A c 32 u := by
  rw [trips4]

set_option maxHeartbeats 4000000 in
/-- The whole program. -/
theorem whole :
    iprop(GH A c ∗ GAny c ∗ sv c 0 ∗ XP A c 0 ∗ SH A c ∗ SAny c ∗ sv c 42 ∗ ZAny c ∗ Ow c ∗ OrdAny c ∗ WScan A c 0 ∗ OG A c GR 0 0 0 ∗ sv c 43 ∗ qAny c ∗ sAny c)
      ⊢ WP (cc0_grouped_fp8_matmul (F := F) (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13) (fun _ => Done A c) := by
  have hN : nl A < 33 := Nat.lt_succ_of_le (nl_le A)
  sl_unfold [cc0_grouped_fp8_matmul]
  iintro H
  iapply (wp_seq c (part46 A c)) $$ H
  iintro %r ⟨%hr, HI, Hg, Hs0, Hh, Hs42, HZ⟩
  rcases r with ⟨v, hw, c0⟩
  obtain rfl : v = bv (nl A) := hr
  unfold IEnd
  icases HI with ⟨HG, HR, HX, HO, HW, HQ, HB, HS, Hq, Hs⟩
  by_cases h17 : k0_cond17 (bv (nl A)) = 1#1
  · have hn : 0 < nl A := (cond17_iff ⟨nl A, hN⟩).1 h17
    have he := ord_lt A (show nl A - 1 < nl A by omega)
    iapply (wp_yes c h17)
    iapply (wp_ordLoad A c (off209_eq hN hn) (show nl A - 1 < nl A by omega)) $$ HR
    iintro HR
    iapply (wp_assume _ _ _ _ (chk34_ok he (bv (nl A))))
    iapply (wp_O1 A c GR zv (ord A (nl A - 1)) (nl A - 1) (nl A) (by omega) (by omega) rfl (off210_eq he) (off210_eq he)) $$ [HQ HB]
    · isplitl [HQ]; · iexact HQ
      iexact HB
    iintro ⟨HQ, HB⟩
    ihave HQ := (OG_to A c GR (show nl A - 1 + 1 = nl A by omega) rfl) $$ HQ
    ihave HB := (OB_to A c GR zv (show nd A + (nl A - 1 + 1) = 32 by have := nd_nl A; omega)) $$ HB
    iapply (wp_loop c _ _ _ _ (I4 A c) (trip4 A c)) $$ [HB HO]
    · unfold I4
      isplitl [HB]; · iexact HB
      iexact HO
    iintro %acc HI
    ihave HI := (I4_last A c acc) $$ HI
    unfold I4
    icases HI with ⟨HB, HO⟩
    iapply (wp_end c)
    unfold Done
    isplitl [HG]; · iexact HG
    isplitl [HR]; · iexact HR
    isplitl [HX]; · iexact HX
    isplitl [HO]; · iexact HO
    isplitl [HW]; · iexact HW
    isplitl [HQ]; · iexact HQ
    isplitl [HB]; · iexact HB
    isplitl [HS]; · iexact HS
    isplitl [Hq]; · iexact Hq
    isplitl [Hs]; · iexact Hs
    isplitl [Hg]; · iexact Hg
    isplitl [Hs0]; · iexact Hs0
    isplitl [Hh]; · iexact Hh
    isplitl [Hs42]; · iexact Hs42
    iexact HZ
  · have hn : nl A = 0 := by
      rcases Nat.eq_zero_or_pos (nl A) with h | h
      · exact h
      · exact absurd ((cond17_iff ⟨nl A, hN⟩).2 h) h17
    iapply (wp_no c h17)
    ihave HQ := (OG_to A c GR (show nl A - 1 = nl A by omega) rfl) $$ HQ
    ihave HB := (OB_to A c GR zv (show nd A + (nl A - 1) = 32 by have := nd_nl A; omega)) $$ HB
    iapply (wp_loop c _ _ _ _ (I4 A c) (trip4 A c)) $$ [HB HO]
    · unfold I4
      isplitl [HB]; · iexact HB
      iexact HO
    iintro %acc HI
    ihave HI := (I4_last A c acc) $$ HI
    unfold I4
    icases HI with ⟨HB, HO⟩
    iapply (wp_end c)
    unfold Done
    isplitl [HG]; · iexact HG
    isplitl [HR]; · iexact HR
    isplitl [HX]; · iexact HX
    isplitl [HO]; · iexact HO
    isplitl [HW]; · iexact HW
    isplitl [HQ]; · iexact HQ
    isplitl [HB]; · iexact HB
    isplitl [HS]; · iexact HS
    isplitl [Hq]; · iexact Hq
    isplitl [Hs]; · iexact Hs
    isplitl [Hg]; · iexact Hg
    isplitl [Hs0]; · iexact Hs0
    isplitl [Hh]; · iexact Hh
    isplitl [Hs42]; · iexact Hs42
    iexact HZ

end Cert.Kernel.Hand

end
-- ==== Proof.Split.lean ====
/-
  The launch's buffers and semaphores, cut into the windows the program moves, and put together again at its end.
-/
module

public import proofs.«01_k».proof.Proof.Body

@[expose] public section

set_option maxRecDepth 16384

noncomputable section

namespace Cert.Kernel.Hand

open Cert.Kernel Cert.Kernel.Gen Cert.Listing
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ
local notation "EC" => countersEmb (U := Pipeline.UD sig nD τ)

variable (A : Arrays F) (c : Dev nD)

local notation "WP" => wp frame (wpE (defs₀ (F := F)) Variants.none (th c) none) Set.univ

/-- A buffer held whole at some contents. -/
def Any (b : Ref sig .tc) : sProp 𝕄 := iprop(∃ f : Buf (Elt F) ((th c).loc b), (th c).loc b ↦[Finset.univ]{fullShare} f)

theorem range_add (a b : ℕ) (Φ : ℕ → sProp 𝕄) :
    bigSep (Finset.range (a + b)) Φ = iprop(bigSep (Finset.range a) Φ ∗ bigSep (Finset.range b) (fun i => Φ (a + i))) := by
  have hd : Disjoint (Finset.range a) ((Finset.range b).image (fun i => a + i)) := by
    rw [Finset.disjoint_left]; intro x hx hx'
    obtain ⟨y, _, rfl⟩ := Finset.mem_image.1 hx'
    have := Finset.mem_range.1 hx
    omega
  have hu : Finset.range (a + b) = Finset.range a ∪ (Finset.range b).image (fun i => a + i) := by
    ext x
    simp only [Finset.mem_range, Finset.mem_union, Finset.mem_image]
    constructor
    · intro h
      by_cases hx : x < a
      · exact Or.inl hx
      · exact Or.inr ⟨x - a, by omega, by omega⟩
    · rintro (h | ⟨y, h, rfl⟩) <;> omega
  rw [hu, bigSep_union hd, bigSep_image_of_injOn (fun x _ y _ h => Nat.add_left_cancel h)]
  rfl

theorem univ_range (n : ℕ) (Φ : ℕ → sProp 𝕄) : bigSep Finset.univ (fun t : Fin n => Φ t.val) = bigSep (Finset.range n) Φ := by
  have hu : Finset.range n = (Finset.univ : Finset (Fin n)).map Fin.valEmbedding := by
    ext x
    simp only [Finset.mem_range, Finset.mem_map, Finset.mem_univ, true_and, Fin.valEmbedding_apply]
    exact ⟨fun h => ⟨⟨x, h⟩, rfl⟩, by rintro ⟨y, rfl⟩; exact y.isLt⟩
  rw [hu, bigSep_map]
  rfl

theorem range_succ (k : ℕ) (Φ : ℕ → sProp 𝕄) : bigSep (Finset.range (k + 1)) Φ = iprop(Φ k ∗ bigSep (Finset.range k) Φ) := by
  rw [Finset.range_add_one, bigSep_insert Finset.notMem_range_self]
  rfl
theorem zip (n : ℕ) (Φ Ψ : ℕ → sProp 𝕄) : iprop(bigSep (Finset.range n) Φ ∗ bigSep (Finset.range n) Ψ) ⊢ bigSep (Finset.range n) (fun i => iprop(Φ i ∗ Ψ i)) :=
  Entails.of_eq (bigSep_sep _ Φ Ψ).symm
theorem unzip (n : ℕ) (Φ Ψ : ℕ → sProp 𝕄) : bigSep (Finset.range n) (fun i => iprop(Φ i ∗ Ψ i)) ⊢ iprop(bigSep (Finset.range n) Φ ∗ bigSep (Finset.range n) Ψ) :=
  Entails.of_eq (bigSep_sep _ Φ Ψ)

/-- Windows that cover a buffer, each at some contents, are the buffer at some contents. -/
theorem any_join (b : Ref sig .tc) (n : ℕ) (K : ℕ → Finset (Idx ((th c).loc b)))
    (hd : ∀ t ∈ Finset.range n, ∀ t' ∈ Finset.range n, t ≠ t' → Disjoint (K t) (K t')) (hu : (Finset.range n).biUnion K = Finset.univ) :
    bigSep (Finset.range n) (fun t => iprop(∃ f : Buf (Elt F) ((th c).loc b), (th c).loc b ↦[K t]{fullShare} f)) ⊢ (Any c b : sProp 𝕄) := by
  haveI : Nonempty (Buf (Elt F) ((th c).loc b)) := ⟨fun _ => Classical.choice inferInstance⟩
  refine (bigSep_exists_pi (Y := fun _ => Buf (Elt F) ((th c).loc b)) _ _).trans ?_
  iintro ⟨%fs, H⟩
  ihave H := (pointsTo_biUnion_join (Finset.range n) K fs (Classical.choice this) hd) $$ H
  icases H with ⟨%g, -, H⟩
  unfold Any
  rw [hu]
  iexists g
  iexact H

theorem x_cut (b : Ref sig .tc) (K : ℕ → Finset (Idx ((th c).loc b))) (n : ℕ) (f : Buf (Elt F) ((th c).loc b))
    (hd : ∀ t ∈ Finset.range n, ∀ t' ∈ Finset.range n, t ≠ t' → Disjoint (K t) (K t')) (hu : (Finset.range n).biUnion K = Finset.univ) :
    ((th c).loc b ↦[Finset.univ]{fullShare} f : sProp 𝕄) = bigSep (Finset.range n) (fun t => (th c).loc b ↦[K t]{fullShare} f) := by
  rw [← hu]; exact pointsTo_biUnion (Finset.range n) K hd

/-! ## The windows of each buffer -/

theorem o_cover : (Finset.range 32).biUnion oWin = (Finset.univ : Finset S32x16x768.Idx) := by
  ext i
  simp only [Finset.mem_biUnion, Finset.mem_range, oWin, Finset.mem_filter, Finset.mem_univ, true_and, iff_true]
  exact ⟨(i 0).val, (i 0).isLt, rfl⟩
theorem o_disj : ∀ t ∈ Finset.range 32, ∀ t' ∈ Finset.range 32, t ≠ t' → Disjoint (oWin t) (oWin t') := by
  intro t _ t' _ h
  rw [Finset.disjoint_left]
  intro i h1 h2
  simp only [oWin, Finset.mem_filter] at h1 h2
  omega
theorem x_cover : (Finset.range 32).biUnion (fun e => xWin e 0 ∪ xWin e 1) = (Finset.univ : Finset S32x2x8x6144.Idx) := by
  ext i
  simp only [Finset.mem_biUnion, Finset.mem_range, Finset.mem_union, xWin, Finset.mem_filter, Finset.mem_univ, true_and, iff_true]
  refine ⟨(i 0).val, (i 0).isLt, ?_⟩
  have := (i 1).isLt
  simp [S32x2x8x6144] at this
  omega
theorem x_disj : ∀ t ∈ Finset.range 32, ∀ t' ∈ Finset.range 32, t ≠ t' → Disjoint (xWin t 0 ∪ xWin t 1) (xWin t' 0 ∪ xWin t' 1) := by
  intro t _ t' _ h
  rw [Finset.disjoint_left]
  intro i h1 h2
  simp only [Finset.mem_union, xWin, Finset.mem_filter] at h1 h2
  omega
theorem wb_cover : (Finset.range 9).biUnion (fun k => wbWin (k / 3) (k % 3)) = (Finset.univ : Finset S3x768x6144.Idx) := by
  ext i
  simp only [Finset.mem_biUnion, Finset.mem_range, wbWin, Finset.mem_filter, Finset.mem_univ, true_and, iff_true]
  have h0 := (i 0).isLt
  have h1 := (i 1).isLt
  simp [S3x768x6144] at h0 h1
  refine ⟨3 * (i 0).val + (i 1).val / 256, ?_, ?_, ?_⟩ <;> omega
theorem wb_disj : ∀ t ∈ Finset.range 9, ∀ t' ∈ Finset.range 9, t ≠ t' → Disjoint (wbWin (t / 3) (t % 3)) (wbWin (t' / 3) (t' % 3)) := by
  intro t _ t' _ h
  rw [Finset.disjoint_left]
  intro i h1 h2
  simp only [wbWin, Finset.mem_filter] at h1 h2
  omega

/-! ## What the launch hands over -/

/-- The weights cut in shares, one for each tile in flight. -/
theorem w_shares (f : Buf (Elt F) ((th c).loc main_arg2)) :
    ((th c).loc main_arg2 ↦[Finset.univ]{fullShare} f : sProp 𝕄)
      ⊣⊢ iprop(((th c).loc main_arg2 ↦[Finset.univ]{shareDrop fullShare 9} f) ∗ bigSep (Finset.range 9) (fun i => (th c).loc main_arg2 ↦[Finset.univ]{shareTokN fullShare i} f)) :=
  pointsTo_toks_range fullShare 9

def WT (k : ℕ) : sProp 𝕄 := iprop(((th c).loc main_arg2 ↦[Finset.univ]{shareTokN fullShare k} A.W) ∗ (∃ f, (th c).loc cc0_scratch2 ↦[wbWin (k / 3) (k % 3)]{fullShare} f) ∗ sv c (1 + k))

theorem WT_free : bigSep (Finset.range 9) (WT A c) ⊣⊢ WFree A c := by
  have e : bigSep (Finset.range 9) (WT A c) = iprop(WT A c 8 ∗ WT A c 7 ∗ WT A c 6 ∗ WT A c 5 ∗ WT A c 4 ∗ WT A c 3 ∗ WT A c 2 ∗ WT A c 1 ∗ WT A c 0 ∗ emp) := by
    simp only [range_succ, Finset.range_zero, bigSep_empty]
    rfl
  have h : ∀ s t, s < 3 → t < 3 → WT A c (3 * s + t) = WfreeT A c s t := by
    intro s t hs ht
    unfold WT WfreeT
    rw [show (3 * s + t) / 3 = s by omega, show (3 * s + t) % 3 = t by omega, Nat.add_assoc 1]
  rw [e, ← show WT A c 0 = _ from rfl]
  rw [show WT A c 8 = _ from h 2 2 (by omega) (by omega), show WT A c 7 = _ from h 2 1 (by omega) (by omega), show WT A c 6 = _ from h 2 0 (by omega) (by omega),
    show WT A c 5 = _ from h 1 2 (by omega) (by omega), show WT A c 4 = _ from h 1 1 (by omega) (by omega), show WT A c 3 = _ from h 1 0 (by omega) (by omega),
    show WT A c 2 = _ from h 0 2 (by omega) (by omega), show WT A c 1 = _ from h 0 1 (by omega) (by omega), show WT A c 0 = _ from h 0 0 (by omega) (by omega)]
  unfold WFree WfreeS
  constructor
  · iintro ⟨H8, H7, H6, H5, H4, H3, H2, H1, H0, -⟩
    isplitl [H0 H1 H2]
    · isplitl [H0]; · iexact H0
      isplitl [H1]; · iexact H1
      iexact H2
    isplitl [H3 H4 H5]
    · isplitl [H3]; · iexact H3
      isplitl [H4]; · iexact H4
      iexact H5
    isplitl [H6]; · iexact H6
    isplitl [H7]; · iexact H7
    iexact H8
  · iintro ⟨⟨H0, H1, H2⟩, ⟨H3, H4, H5⟩, ⟨H6, H7, H8⟩⟩
    isplitl [H8]; · iexact H8
    isplitl [H7]; · iexact H7
    isplitl [H6]; · iexact H6
    isplitl [H5]; · iexact H5
    isplitl [H4]; · iexact H4
    isplitl [H3]; · iexact H3
    isplitl [H2]; · iexact H2
    isplitl [H1]; · iexact H1
    isplitl [H0]; · iexact H0
    iempintro

/-- The weights' share that no tile uses. -/
def WDrop : sProp 𝕄 := iprop((th c).loc main_arg2 ↦[Finset.univ]{shareDrop fullShare 9} A.W)

theorem w_start : iprop(((th c).loc main_arg2 ↦[Finset.univ]{fullShare} A.W) ∗ Any c cc0_scratch2 ∗ bigSep (Finset.range 9) (fun k => sv c (1 + k)))
    ⊢ iprop(WFree A c ∗ WDrop A c) := by
  suffices key : iprop(((th c).loc main_arg2 ↦[Finset.univ]{fullShare} A.W) ∗ Any c cc0_scratch2 ∗ bigSep (Finset.range 9) (fun k => sv c (1 + k)))
      ⊢ iprop(bigSep (Finset.range 9) (WT A c) ∗ WDrop A c) from key.trans (Idealize.SL.BI.sep_mono (WT_free A c).1 (BI.Entails.refl _))
  unfold Any WDrop
  iintro ⟨Hw, ⟨%f, Hb⟩, Hs⟩
  ihave Hw := ((w_shares c A.W).1) $$ Hw
  icases Hw with ⟨Hd, Hw⟩
  isplitr [Hd]
  swap; · iexact Hd
  ihave Hb := (Entails.of_eq (x_cut c cc0_scratch2 (fun k => wbWin (k / 3) (k % 3)) 9 f wb_disj wb_cover)) $$ Hb
  ihave Hb := (bigSep_mono' (F := F) (Ψ := fun k => iprop(∃ f, (th c).loc cc0_scratch2 ↦[wbWin (k / 3) (k % 3)]{fullShare} f)) (fun k _ => by iintro H; iexists f; iexact H)) $$ Hb
  ihave H := (zip 9 _ _) $$ [Hb Hs]
  · isplitl [Hb]; · iexact Hb
    iexact Hs
  ihave H := (zip 9 _ _) $$ [Hw H]
  · isplitl [Hw]; · iexact Hw
    iexact H
  iexact H

theorem w_end : iprop(WFree A c ∗ WDrop A c)
    ⊢ iprop(((th c).loc main_arg2 ↦[Finset.univ]{fullShare} A.W) ∗ Any c cc0_scratch2 ∗ bigSep (Finset.range 9) (fun k => sv c (1 + k))) := by
  refine (Idealize.SL.BI.sep_mono (WT_free A c).2 (BI.Entails.refl _)).trans ?_
  suffices key : iprop(bigSep (Finset.range 9) (WT A c) ∗ WDrop A c)
      ⊢ iprop(((th c).loc main_arg2 ↦[Finset.univ]{fullShare} A.W) ∗ Any c cc0_scratch2 ∗ bigSep (Finset.range 9) (fun k => sv c (1 + k))) from key
  unfold WDrop
  iintro ⟨H, Hd⟩
  ihave H := (Entails.of_eq (show bigSep (Finset.range 9) (WT A c) = bigSep (Finset.range 9) (fun k => iprop(((th c).loc main_arg2 ↦[Finset.univ]{shareTokN fullShare k} A.W)
    ∗ (∃ f, (th c).loc cc0_scratch2 ↦[wbWin (k / 3) (k % 3)]{fullShare} f) ∗ sv c (1 + k))) from rfl)) $$ H
  ihave H := (unzip 9 _ _) $$ H
  icases H with ⟨Hw, H⟩
  ihave H := (unzip 9 _ _) $$ H
  icases H with ⟨Hb, Hs⟩
  isplitl [Hw Hd]
  · iapply ((w_shares c A.W).2)
    isplitl [Hd]; · iexact Hd
    iexact Hw
  isplitl [Hb]
  · iapply (any_join c cc0_scratch2 9 (fun k => wbWin (k / 3) (k % 3)) wb_disj wb_cover)
    iexact Hb
  iexact Hs

theorem x_start : iprop(((th c).loc main_call0_v0 ↦[Finset.univ]{fullShare} A.X) ∗ Any c cc0_scratch3 ∗ bigSep (Finset.range 32) (fun e => sv c (10 + e)))
    ⊢ XP A c 0 := by
  have e0 : XP A c 0 = bigSep (Finset.range 32) (fun e => XS0 A c e) := by
    unfold XP
    exact bigSep_congr fun e _ => if_neg (by omega)
  rw [e0]
  unfold Any
  iintro ⟨Hx, ⟨%f, Hb⟩, Hs⟩
  ihave Hx := (Entails.of_eq (x_cut c main_call0_v0 (fun e => xWin e 0 ∪ xWin e 1) 32 A.X x_disj x_cover)) $$ Hx
  ihave Hb := (Entails.of_eq (x_cut c cc0_scratch3 (fun e => xWin e 0 ∪ xWin e 1) 32 f x_disj x_cover)) $$ Hb
  ihave H := (zip 32 _ _) $$ [Hb Hs]
  · isplitl [Hb]; · iexact Hb
    iexact Hs
  ihave H := (zip 32 _ _) $$ [Hx H]
  · isplitl [Hx]; · iexact Hx
    iexact H
  iapply (bigSep_mono' (F := F) (fun e _ => ?_)) $$ H
  unfold XS0 X1
  iintro ⟨Hx, Hb, Hs⟩
  ihave Hx := ((pointsTo_union (xWin_disj e)).1) $$ Hx
  ihave Hb := ((pointsTo_union (xWin_disj e)).1) $$ Hb
  icases Hx with ⟨Hx0, Hx1⟩
  icases Hb with ⟨Hb0, Hb1⟩
  isplitl [Hx0 Hb0]
  · isplitl [Hx0]; · iexact Hx0
    iexists f; iexact Hb0
  isplitl [Hx1 Hb1]
  · isplitl [Hx1]; · iexact Hx1
    iexists f; iexact Hb1
  iexact Hs

theorem x_end : XG A c 32 (nl A) (nl A)
    ⊢ iprop(((th c).loc main_call0_v0 ↦[Finset.univ]{fullShare} A.X) ∗ Any c cc0_scratch3 ∗ bigSep (Finset.range 32) (fun e => sv c (10 + e))) := by
  refine (XG_end A c le_rfl).trans ?_
  refine (bigSep_mono' (F := F) (Ψ := fun e => iprop(((th c).loc main_call0_v0 ↦[xWin e 0 ∪ xWin e 1]{fullShare} A.X)
    ∗ (∃ f, (th c).loc cc0_scratch3 ↦[xWin e 0 ∪ xWin e 1]{fullShare} f) ∗ sv c (10 + e))) (fun e _ => ?_)).trans ?_
  · unfold XFin
    iintro ⟨H0, H1, Hs, ⟨%g, -, Hb⟩⟩
    isplitl [H0 H1]
    · iapply ((pointsTo_union (xWin_disj e)).2)
      isplitl [H0]; · iexact H0
      iexact H1
    isplitl [Hb]; · iexists g; iexact Hb
    iexact Hs
  iintro H
  ihave H := (unzip 32 _ _) $$ H
  icases H with ⟨Hx, H⟩
  ihave H := (unzip 32 _ _) $$ H
  icases H with ⟨Hb, Hs⟩
  isplitl [Hx]
  · iapply (Entails.of_eq (x_cut c main_call0_v0 (fun e => xWin e 0 ∪ xWin e 1) 32 A.X x_disj x_cover).symm)
    iexact Hx
  isplitl [Hb]
  · iapply (any_join c cc0_scratch3 32 (fun e => xWin e 0 ∪ xWin e 1) x_disj x_cover)
    iexact Hb
  iexact Hs

/-! ## The results -/

variable (G : S32x16x768.Idx → Elt F .bf16) (z : Elt F .bf16)

theorem o_start : iprop(Any c main_v0 ∗ Any c cc0_scratch7) ⊢ OG A c G 0 0 0 := by
  unfold Any OG
  iintro ⟨⟨%f, Ho⟩, ⟨%g, Hb⟩⟩
  ihave Ho := (Entails.of_eq (x_cut c main_v0 oWin 32 f o_disj o_cover)) $$ Ho
  ihave Hb := (Entails.of_eq (x_cut c cc0_scratch7 oWin 32 g o_disj o_cover)) $$ Hb
  ihave H := (zip 32 _ _) $$ [Ho Hb]
  · isplitl [Ho]; · iexact Ho
    iexact Hb
  iapply (bigSep_mono' (F := F) (fun e _ => ?_)) $$ H
  have key : OSt A c G 0 0 0 e = iprop(oAny c e ∗ obAny c e) := by
    unfold OSt
    split <;> simp
  rw [key]
  unfold oAny obAny
  iintro ⟨H1, H2⟩
  isplitl [H1]; · iexists f; iexact H1
  iexists g; iexact H2

theorem both_image : (Finset.range 32).image (both (live A)) = Finset.range 32 := by
  refine Finset.eq_of_subset_of_card_le ?_ ?_
  · intro x hx
    obtain ⟨y, hy, rfl⟩ := Finset.mem_image.1 hx
    exact Finset.mem_range.2 (both_lt (Finset.mem_range.1 hy))
  · rw [Finset.card_image_of_injOn]
    intro x hx y hy h
    exact both_inj (Finset.mem_range.1 hx) (Finset.mem_range.1 hy) h

theorem ord_inj : Set.InjOn (ord A) (Finset.range (nl A)) := by
  intro x hx y hy h
  have hx' := pos_ord A (Finset.mem_range.1 hx)
  have hy' := pos_ord A (Finset.mem_range.1 hy)
  rw [← hx', ← hy', h]

theorem ord_image : (Finset.range (nl A)).image (ord A) = (Finset.range 32).filter (fun e => live A e = true) := by
  ext e
  simp only [Finset.mem_image, Finset.mem_range, Finset.mem_filter]
  constructor
  · rintro ⟨j, hj, rfl⟩
    exact ⟨ord_lt A hj, ord_live A hj⟩
  · rintro ⟨he, hl⟩
    exact ⟨pos A e, pos_lt_nl A he hl, ord_pos A he hl⟩

theorem both_late {i : ℕ} (hi : i < nl A) : both (live A) (nd A + i) = ord A i := by
  have hnl : nl A = cnt (live A) 32 := rfl
  have hnd : nd A = 32 - nl A := rfl
  unfold both
  rw [if_neg (by omega)]
  unfold ord
  congr 1
  omega

/-- The two parts of what a plane's transfer delivers. -/
def oP (t : ℕ) : sProp 𝕄 := (th c).loc main_v0 ↦[oWin (both (live A) t)]{fullShare} G
def oQ (t : ℕ) : sProp 𝕄 :=
  if t < nd A then ((th c).loc cc0_scratch8 ↦[Finset.univ]{shareTokN fullShare t} (fun _ => z))
  else ((th c).loc cc0_scratch7 ↦[oWin (both (live A) t)]{fullShare} G)

theorem oP_all : bigSep (Finset.range 32) (oP A c G) = ((th c).loc main_v0 ↦[Finset.univ]{fullShare} G : sProp 𝕄) := by
  have h := bigSep_image_of_injOn (f := both (live A)) (s := Finset.range 32) (fun x hx y hy h => both_inj (Finset.mem_range.1 hx) (Finset.mem_range.1 hy) h)
    (fun e => ((th c).loc main_v0 ↦[oWin e]{fullShare} G : sProp 𝕄))
  rw [both_image] at h
  exact h.symm.trans (x_cut c main_v0 oWin 32 G o_disj o_cover).symm

theorem oQ_all : bigSep (Finset.range 32) (oQ A c G z)
    ⊢ iprop(bigSep (Finset.range (nd A)) (fun t => (th c).loc cc0_scratch8 ↦[Finset.univ]{shareTokN fullShare t} (fun _ => z))
      ∗ bigSep (Finset.range 32) (fun e => if live A e = true then obAny (F := F) c e else iprop(emp))) := by
  have h32 : bigSep (Finset.range 32) (oQ A c G z) = bigSep (Finset.range (nd A + nl A)) (oQ A c G z) := by rw [nd_nl]
  rw [h32, range_add]
  refine Idealize.SL.BI.sep_mono (Entails.of_eq (bigSep_congr fun t ht => ?_)) ?_
  · unfold oQ; exact if_pos (Finset.mem_range.1 ht)
  · show (_ : sProp 𝕄) ⊢ _
    have e := bigSep_filter (Finset.range 32) (fun e => live A e = true) (fun e => obAny (F := F) c e)
    rw [← ord_image, bigSep_image_of_injOn (ord_inj A)] at e
    refine BI.Entails.trans ?_ (Entails.of_eq e)
    refine bigSep_mono' fun i hi => ?_
    unfold oQ
    rw [if_neg (by omega), both_late A (Finset.mem_range.1 hi)]
    unfold obAny
    iintro H; iexists G; iexact H

theorem o_end : iprop(bigSep (Finset.range 32) (fun t => oD A c G z t) ∗ zRest c z (nd A)
      ∗ bigSep (Finset.range 32) (fun e => if live A e = true then iprop(emp) else obAny c e))
    ⊢ iprop(((th c).loc main_v0 ↦[Finset.univ]{fullShare} G) ∗ Any c cc0_scratch7 ∗ Any c cc0_scratch8) := by
  rw [show (fun t => oD A c G z t) = (fun t => iprop(oP A c G t ∗ oQ A c G z t)) from rfl]
  iintro ⟨H, Hz, Hr⟩
  ihave H := (unzip 32 (oP A c G) (oQ A c G z)) $$ H
  icases H with ⟨Ho, H⟩
  isplitl [Ho]
  · iapply (Entails.of_eq (oP_all A c G))
    iexact Ho
  ihave H := (oQ_all A c G z) $$ H
  icases H with ⟨Ht, Hb⟩
  isplitl [Hb Hr]
  · ihave H := (zip 32 _ _) $$ [Hb Hr]
    · isplitl [Hb]; · iexact Hb
      iexact Hr
    iapply (any_join c cc0_scratch7 32 oWin o_disj o_cover)
    iapply (bigSep_mono' (F := F) (fun e _ => ?_)) $$ H
    by_cases h : live A e = true
    · rw [if_pos h, if_pos h]; unfold obAny; iintro ⟨H, -⟩; iexact H
    · rw [if_neg h, if_neg h]; unfold obAny; iintro ⟨-, H⟩; iexact H
  · unfold zRest Any
    iexists (fun _ => z)
    iapply (pointsTo_toks_range fullShare (nd A)).2
    isplitl [Hz]; · iexact Hz
    iexact Ht

/-! ## The whole -/

/-- Everything a launch hands over: the arrays, the results' array as `O` says, the scratch buffers, the semaphores at zero. -/
def Hold (O : sProp 𝕄) : sProp 𝕄 :=
  iprop(((th c).loc main_arg1 ↦[Finset.univ]{fullShare} A.GS) ∗ ((th c).loc main_call0_v0 ↦[Finset.univ]{fullShare} A.X)
    ∗ ((th c).loc main_arg2 ↦[Finset.univ]{fullShare} A.W) ∗ ((th c).loc main_arg3 ↦[Finset.univ]{fullShare} A.WS) ∗ O
    ∗ Any c cc0_scratch0 ∗ Any c cc0_scratch1 ∗ Any c cc0_scratch2 ∗ Any c cc0_scratch3 ∗ Any c cc0_scratch4 ∗ Any c cc0_scratch5 ∗ Any c cc0_scratch6 ∗ Any c cc0_scratch7 ∗ Any c cc0_scratch8
    ∗ bigSep (Finset.range 44) (fun n => sv c n))

theorem sems : bigSep (Finset.range 44) (fun n => (sv c n : sProp 𝕄))
    = iprop(sv c 0 ∗ bigSep (Finset.range 9) (fun k => sv c (1 + k)) ∗ bigSep (Finset.range 32) (fun e => sv c (10 + e)) ∗ sv c 42 ∗ sv c 43) := by
  have assoc : ∀ P Q R' : sProp 𝕄, iprop((P ∗ Q) ∗ R') = iprop(P ∗ Q ∗ R') :=
    fun _ _ _ => BI.Entails.antisymm Idealize.SL.BI.sep_assoc Idealize.SL.BI.sep_assoc'
  rw [show (44 : ℕ) = (1 + 9) + (32 + (1 + 1)) from rfl, range_add (1 + 9), range_add 1 9, range_add 32, range_add 1 1]
  simp only [Finset.range_one, bigSep_singleton]
  rw [assoc]

theorem start : iprop(Hold A c (Any c main_v0) ∗ Ow c)
    ⊢ iprop(WDrop A c ∗ GH A c ∗ GAny c ∗ sv c 0 ∗ XP A c 0 ∗ SH A c ∗ SAny c ∗ sv c 42 ∗ ZAny c ∗ Ow c ∗ OrdAny c ∗ WScan A c 0 ∗ OG A c G 0 0 0 ∗ sv c 43 ∗ qAny c ∗ sAny c) := by
  have hW : WFree A c ⊢ WScan A c 0 := by
    unfold WScan WFree Wj
    rw [if_neg (lt_irrefl _), if_neg (by omega), if_neg (by omega)]
  unfold Hold
  rw [sems]
  iintro ⟨⟨Hg, Hx, Hw, Hs, Ho, B0, B1, B2, B3, B4, B5, B6, B7, B8, ⟨S0, SW, SX, S42, S43⟩⟩, HO⟩
  ihave H := (w_start A c) $$ [Hw B2 SW]
  · isplitl [Hw]; · iexact Hw
    isplitl [B2]; · iexact B2
    iexact SW
  icases H with ⟨HW, HD⟩
  isplitl [HD]; · iexact HD
  isplitl [Hg]; · unfold GH; iexact Hg
  isplitl [B0]; · unfold GAny Any; iexact B0
  isplitl [S0]; · iexact S0
  isplitl [Hx B3 SX]
  · iapply (x_start A c)
    isplitl [Hx]; · iexact Hx
    isplitl [B3]; · iexact B3
    iexact SX
  isplitl [Hs]; · unfold SH; iexact Hs
  isplitl [B6]; · unfold SAny Any; iexact B6
  isplitl [S42]; · iexact S42
  isplitl [B8]; · unfold ZAny Any; iexact B8
  isplitl [HO]; · iexact HO
  isplitl [B1]; · unfold OrdAny Any; iexact B1
  isplitl [HW]; · iapply hW; iexact HW
  isplitl [Ho B7]
  · iapply (o_start A c G)
    isplitl [Ho]; · iexact Ho
    iexact B7
  isplitl [S43]; · iexact S43
  isplitl [B4]; · unfold qAny Any; iexact B4
  unfold sAny Any; iexact B5

theorem finish : iprop(WDrop A c ∗ Done A c)
    ⊢ (|={Set.univ}=> iprop(Hold A c ((th c).loc main_v0 ↦[Finset.univ]{fullShare} res A) ∗ Ow c) : sProp 𝕄) := by
  unfold Done Hold
  rw [sems]
  iintro ⟨HD, B0, B1, HX, HO, HW, HG, HB, B6, B4, B5, Hg, S0, Hs, S42, Hz⟩
  unfold OB
  imod (batch_collect' EC (th c) NO_pos) $$ HB with ⟨HB, S43⟩
  imodintro
  isplitr [HO]
  swap; · iexact HO
  ihave HG := (OG_end A c (res A) le_rfl) $$ HG
  ihave HB := (Entails.of_eq (univ_range (F := F) 32 (fun t => oD A c (res A) zv t))) $$ HB
  ihave H := (o_end A c (res A) zv) $$ [HB Hz HG]
  · isplitl [HB]; · iexact HB
    isplitl [Hz]; · iexact Hz
    iexact HG
  icases H with ⟨Ho, B7, B8⟩
  ihave H := (w_end A c) $$ [HW HD]
  · isplitl [HW]; · iexact HW
    iexact HD
  icases H with ⟨Hw, B2, SW⟩
  ihave H := (x_end A c) $$ HX
  icases H with ⟨Hx, B3, SX⟩
  unfold GH SH GS_ SV qAny sAny
  isplitl [Hg]; · iexact Hg
  isplitl [Hx]; · iexact Hx
  isplitl [Hw]; · iexact Hw
  isplitl [Hs]; · iexact Hs
  isplitl [Ho]; · iexact Ho
  unfold Any
  isplitl [B0]; · iexists A.GS; iexact B0
  isplitl [B1]
  · unfold OrdIs
    icases B1 with ⟨%f, -, B1⟩
    iexists f; iexact B1
  isplitl [B2]; · iexact B2
  isplitl [B3]; · iexact B3
  isplitl [B4]; · iexact B4
  isplitl [B5]; · iexact B5
  isplitl [B6]; · iexists A.WS; iexact B6
  isplitl [B7]; · iexact B7
  isplitl [B8]; · iexact B8
  isplitl [S0]; · iexact S0
  isplitl [SW]; · iexact SW
  isplitl [SX]; · iexact SX
  isplitl [S42]; · iexact S42
  iapply (Entails.of_eq (show semVal (th c, SemLoc.dma (SemArray.sem cc0_scratch13)) 0 = (sv c 43 : sProp 𝕄) from rfl))
  iexact S43

/-- The kernel, from everything a launch hands over to everything it gives back. -/
theorem core : iprop(Hold A c (Any c main_v0) ∗ Ow c)
    ⊢ WP (cc0_grouped_fp8_matmul (F := F) (Memref.whole main_arg1) (Memref.isWhole_whole _) (Memref.whole main_call0_v0) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13)
        (fun _ => iprop(Hold A c ((th c).loc main_v0 ↦[Finset.univ]{fullShare} res A) ∗ Ow c)) := by
  refine (start A c (res A)).trans ?_
  refine BI.Entails.trans ?_ (wp_fupd _ _ _ _ _)
  refine BI.Entails.trans ?_ (wp_mono _ _ _ (fun _ => finish A c))
  refine BI.Entails.trans ?_ (wp_frame_l _ _ _)
  exact Idealize.SL.BI.sep_mono (BI.Entails.refl _) (whole A c)

end Cert.Kernel.Hand

end
-- ==== Proof.Run.lean ====
/-
  The launch: the program terminates without a fault, its arguments end as they were, every semaphore ends at zero, and the results' array ends at the values the program computes.
-/
module

public import proofs.«01_k».proof.Proof.Gen.Kernel.Frame
public import Idealize.ShloMosaic.Lib.Pipeline.FrameValue
public import proofs.«01_k».proof.Proof.Split

@[expose] public section

set_option maxRecDepth 16384

noncomputable section

namespace Cert.Kernel.Hand

open Cert.Kernel Cert.Kernel.Gen Cert.Listing
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
local notation "EC" => countersEmb (U := Pipeline.UD sig nD τ)

variable (m : (ℓ : Loc nD τ sig) → Buf (Elt F) ℓ) (ρ : Dev nD → PrngReg)

/-! ## The program up to its launch -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The arrays core `c` launches on. -/
def arrs (c : Dev nD) : Arrays F := ⟨V m c main_arg1, V m c main_call0_v0, V m c main_arg2, V m c main_arg3⟩

/-- The buffer the program writes its results to, and those it reads. -/
def R0 : Finset (Ref sig .tc) := {main_v0}
def H0 : Finset (Ref sig .tc) := {main_arg1, main_call0_v0, main_arg2, main_arg3}
theorem H0_sub : H0 ⊆ Pipeline.restRefs sig (cfg0.spec) := by decide
theorem R0_sub : R0 ⊆ Pipeline.restRefs sig (cfg0.spec) \ H0 := by decide

/-- What the buffers hold afterwards, where that is stated: the results. -/
def G (c : Dev nD) (b : Ref sig .tc) : Buf (Elt F) ((c : Thread nD τ).loc b) :=
  if h : b = main_v0 then h ▸ (res (arrs m c) : Buf (Elt F) ((c : Thread nD τ).loc main_v0)) else V m c b
theorem G_main_v0 (c : Dev nD) : G m c main_v0 = res (arrs m c) := by unfold G; rw [dif_pos rfl]

abbrev osem0 : Fin 44 → SemLoc sig := fun j => .dma (dsem j.val)
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = bigSep (Finset.range 44) (fun n => sv c n) :=
  univ_range 44 (fun n => sv c n)
theorem hbmPts0_eq (c : Dev nD) :
    (bigSep H0 (fun b => ((c : Thread nD τ).loc b) ↦{fullShare} V m c b) : sProp 𝕄)
      = iprop((((c : Thread nD τ).loc main_arg1) ↦{fullShare} V m c main_arg1) ∗ (((c : Thread nD τ).loc main_call0_v0) ↦{fullShare} V m c main_call0_v0)
          ∗ (((c : Thread nD τ).loc main_arg2) ↦{fullShare} V m c main_arg2) ∗ (((c : Thread nD τ).loc main_arg3) ↦{fullShare} V m c main_arg3)) := by
  rw [BI.bigSep_eq_bigSepL_of_eq [main_arg1, main_call0_v0, main_arg2, main_arg3] (by decide) (by decide)]; rfl

theorem Phi_eq (c : Dev nD) (W : (c : Dev nD) → (b : Ref sig .tc) → Buf (Elt F) ((c : Thread nD τ).loc b)) :
    (Pipeline.ΦDRG osem0 (cfg0.spec) H0 R0 (V m) W c : sProp 𝕄)
      ⊣⊢ iprop(Hold (arrs m c) c ((th c).loc main_v0 ↦[Finset.univ]{fullShare} W c main_v0) ∗ (∃ r, prngReg c r)) := by
  rw [Pipeline.ΦDRG_eq, scopedRest0_eq, ownSems00_eq, hbmPts0_eq, R0, Pipeline.routed_singleton]
  unfold Hold Any arrs
  constructor
  · iintro ⟨⟨B2, B3, B4, B5, B6, B7, B8, B0, B1⟩, Hr, HS, ⟨Hg, Hx, Hw, Hs⟩, Ho⟩
    isplitr [Hr]
    swap; · iexact Hr
    isplitl [Hg]; · iexact Hg
    isplitl [Hx]; · iexact Hx
    isplitl [Hw]; · iexact Hw
    isplitl [Hs]; · iexact Hs
    isplitl [Ho]; · iexact Ho
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexact HS
  · iintro ⟨⟨Hg, Hx, Hw, Hs, Ho, B0, B1, B2, B3, B4, B5, B6, B7, B8, HS⟩, Hr⟩
    isplitl [B0 B1 B2 B3 B4 B5 B6 B7 B8]
    · isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B0]; · iexact B0
      iexact B1
    isplitl [Hr]; · iexact Hr
    isplitl [HS]; · iexact HS
    isplitr [Ho]
    swap; · iexact Ho
    isplitl [Hg]; · iexact Hg
    isplitl [Hx]; · iexact Hx
    isplitl [Hw]; · iexact Hw
    iexact Hs

/-! ## The body -/

def dats (_ : Fin 1) (c : Dev nD) : Dat τ (Elt F) Unit ℕ (Pipeline.UD sig nD τ) ℕ cfg0 c where
  A w := V m c (Pipeline.arrRef (cfg0.spec) w)
  after w t := w.elim0
  Φ t := if t.val = 0 then Pipeline.ΦDRG osem0 (cfg0.spec) H0 R0 (V m) (V m) c else Pipeline.ΦDRG osem0 (cfg0.spec) H0 R0 (V m) (G m) c
  q _ := fullShare
  owed _ := 0

theorem A_eq (c : Dev nD) (w : Fin cfg0.W) : (dats m 0 c).A w = V m c (Pipeline.arrRef (cfg0.spec) w) := by
  dsimp only [dats]

def bodyPre (c : Dev nD) (t : Fin cfg0.N) : sProp 𝕄 :=
  iprop((dats m 0 c).Φ t.castSucc ∗ (dats m 0 c).owesAt () t.castSucc)
def bodyPost (c : Dev nD) (t : Fin cfg0.N) : sProp 𝕄 :=
  iprop((dats m 0 c).Φ t.succ ∗ (dats m 0 c).owesAt () t.succ)

theorem sound_body (c : Dev nD) (t : Fin cfg0.N) :
    bodyPre m c t ⊢ wp frame (wpE (defs₀ (F := F)) Variants.none c none) Set.univ (bodyAt0 t) (fun _ => bodyPost m c t) := by
  have ht : t = t0_0 := fin_N0 t
  subst ht
  unfold bodyPre bodyPost bodyAt0
  rw [show (dats m 0 c).Φ (Fin.succ t0_0) = Pipeline.ΦDRG osem0 (cfg0.spec) H0 R0 (V m) (G m) c from rfl,
    show (dats m 0 c).Φ (Fin.castSucc t0_0) = Pipeline.ΦDRG osem0 (cfg0.spec) H0 R0 (V m) (V m) c from rfl]
  unfold Dat.owesAt Pipeline.owesWithin
  rw [show (dats m 0 c).owed (Fin.castSucc t0_0) = 0 from rfl, show (dats m 0 c).owed (Fin.succ t0_0) = 0 from rfl]
  iintro ⟨HP, ⟨%W, -, HW⟩⟩
  ihave HP := (Phi_eq m c (V m)).1 $$ HP
  icases HP with ⟨HH, Hr⟩
  iapply (wp_wand _ _ _) $$ [HH HW]
  · iapply (core (arrs m c) c) $$ [HH HW]
    isplitl [HH]
    · unfold Hold
      icases HH with ⟨Hg, Hx, Hw, Hs, Ho, HB⟩
      isplitl [Hg]; · iexact Hg
      isplitl [Hx]; · iexact Hx
      isplitl [Hw]; · iexact Hw
      isplitl [Hs]; · iexact Hs
      isplitl [Ho]
      · unfold Any
        iexists (V m c main_v0); iexact Ho
      iexact HB
    · unfold Ow
      iexists W; iexact HW
  iintro %r ⟨HH, HO⟩
  isplitl [HH Hr]
  · iapply (Phi_eq m c (G m)).2
    isplitl [HH]
    · rw [G_main_v0]; iexact HH
    iexact Hr
  unfold Ow
  icases HO with ⟨%W', HO⟩
  iexists W'
  isplitr; · ipureintro; exact fun _ _ => Or.inl trivial
  iexact HO

theorem defs₀_row (t : Fin cfg0.N) :
    defs₀ (F := F) .tc cfg0.body (cfg0.bodyArgs t (cfg0.slots t)) = bodyAt0 t := by
  unfold defs₀; rw [Defs.onTc_tc]

theorem bigSep_W0 (Φ : Fin cfg0.W → sProp 𝕄) : bigSep Finset.univ Φ = iprop(emp) := by
  rw [show (Finset.univ : Finset (Fin cfg0.W)) = ∅ from rfl, bigSep_empty]; rfl

theorem body_obligation (c : Dev nD) : BodyObligation (dats (F := F) m 0 c) (defs₀ (F := F)) Variants.none () Set.univ := fun t => by
  rw [bigSep_W0, bigSep_W0, defs₀_row]
  refine triple_restated (sound_body m c t) rfl ?_ fun _ => ?_
  · unfold bodyPre
    iintro ⟨H1, H2, -⟩
    isplitl [H1]; · iexact H1
    iexact H2
  · unfold bodyPost
    iintro ⟨H1, H2⟩
    isplitl [H1]; · iexact H1
    isplitl [H2]; · iexact H2
    iempintro

/-! ## The run -/

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := G m)
    (hin := fun _ => BI.Entails.refl _) (hout := fun _ => BI.Entails.refl _)

/-- The program terminates without a fault; its arguments end as they were, every semaphore at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c)⟩, h.2⟩) (run_main m ρ)

/-- What the results' array holds at the end, and the arguments. -/
theorem value : θ_run defs (onTc (τ := τ) (main (F := F))) ⟨m, fun _ => 0, ρ⟩ (fun r => ∀ c : Dev nD,
      r.2.mem ((c.tc : Thread nD τ).loc main_v0) = res (arrs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1.2 c main_v0 (Finset.mem_singleton_self _)).trans (G_main_v0 m c),
      ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c)⟩) (run_main m ρ)

end Cert.Kernel.Hand

end
-- ==== Proof.Same.lean ====
/-
  The program printed for reading over the reals is, rewrites apart, the same text as the kernel's: here the two are
  equal term for term, so that what `Run` proves of the one holds of the other.
-/
module

public import proofs.«01_k».proof.Proof.Run
public import proofs.«01_k».proof.Proof.Gen.KernelIdeal.Launch

@[expose] public section

noncomputable section

namespace Cert.Same

open Idealize.ShloMosaic Idealize.ShloMosaic.TcCoe
open Idealize.SL Idealize.SL.Sem

variable {F : FTy → Type} [FloatOps F]

theorem main_eq (c : Dev Cert.Kernel.nD) : Cert.KernelIdeal.main (F := F) c = Cert.Kernel.main (F := F) c := by
  with_unfolding_all rfl

set_option maxHeartbeats 8000000 in
open Cert.KernelIdeal in
/-- What `Cert.Kernel.Hand.quiescent` says of the kernel, of the program printed for the reals. -/
theorem quiescent (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  with_unfolding_all exact Cert.Kernel.Hand.quiescent (F := F) m ρ

set_option maxHeartbeats 8000000 in
open Cert.KernelIdeal in
/-- What `Cert.Kernel.Hand.value` says of the kernel, of the program printed for the reals. -/
theorem value (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v0) = Cert.Kernel.Hand.res (F := F) (Cert.Kernel.Hand.arrs (F := F) m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  with_unfolding_all exact Cert.Kernel.Hand.value (F := F) m ρ

end Cert.Same

end
-- ==== Proof.Expo.lean ====
/-
  The scale of a row, over the reals: the binary search for a float's exponent field finds the floor of its logarithm.
-/
module

public import Idealize.ShloMosaic.PureOps.Ideal.Laws

@[expose] public section

noncomputable section

namespace Cert.Expo

open Idealize.ShloMosaic

/-- The float whose exponent field is `f` and whose mantissa is zero. -/
def pw (f : ℕ) : EReal := Ideal.ofBits .f32 (BitVec.ofNat 32 f <<< 23)

theorem fields : ∀ f : Fin 256, ((BitVec.ofNat 32 f.val <<< 23).extractLsb' 31 1 == 1#1) = false
    ∧ ((BitVec.ofNat 32 f.val <<< 23).extractLsb' 23 8).toNat = f.val
    ∧ ((BitVec.ofNat 32 f.val <<< 23).extractLsb' 0 23).toNat = 0 := by decide +kernel

/-- A word with sign zero and mantissa zero denotes a power of two, -/
theorem ieee_norm (b : BitVec 32) (f : ℕ) (h1 : 1 ≤ f) (h2 : f ≤ 254) (ha : (b.extractLsb' 31 1 == 1#1) = false)
    (hb : (b.extractLsb' 23 8).toNat = f) (hc : (b.extractLsb' 0 23).toNat = 0) :
    Ideal.ieee 8 23 b = (((2 : ℝ) ^ ((f : ℤ) - 127) : ℝ) : EReal) := by
  unfold Ideal.ieee
  simp only [Nat.reduceAdd, ha, hb, hc]
  rw [if_neg (by norm_num; omega), if_neg (by omega)]
  congr 1
  have e : (f : ℤ) - 127 = 23 + ((f : ℤ) - 127 - 23) := by ring
  conv_rhs => rw [e, zpow_add₀ (by norm_num : (2 : ℝ) ≠ 0)]
  norm_num

/-- or infinity. -/
theorem ieee_top (b : BitVec 32) (ha : (b.extractLsb' 31 1 == 1#1) = false)
    (hb : (b.extractLsb' 23 8).toNat = 255) (hc : (b.extractLsb' 0 23).toNat = 0) :
    Ideal.ieee 8 23 b = ⊤ := by
  unfold Ideal.ieee
  simp only [Nat.reduceAdd, ha, hb, hc]
  norm_num

/-- Such a float is a power of two. -/
theorem pw_norm {f : ℕ} (h1 : 1 ≤ f) (h2 : f ≤ 254) : pw f = (((2 : ℝ) ^ ((f : ℤ) - 127) : ℝ) : EReal) :=
  ieee_norm _ f h1 h2 (fields ⟨f, by omega⟩).1 (fields ⟨f, by omega⟩).2.1 (fields ⟨f, by omega⟩).2.2

theorem pw_zero : pw 0 = 0 := by
  simp [pw, Ideal.ofBits, Ideal.ieee]

theorem pw_top : pw 255 = ⊤ :=
  ieee_top (BitVec.ofNat 32 255 <<< 23) (by decide +kernel) (by decide +kernel) (by decide +kernel)

theorem pw_mono {f g : ℕ} (h : f ≤ g) (hg : g ≤ 255) : pw f ≤ pw g := by
  rcases Nat.lt_or_ge g 255 with h' | h'
  · rcases Nat.eq_zero_or_pos f with rfl | hf
    · rw [pw_zero]
      rcases Nat.eq_zero_or_pos g with rfl | hg'
      · rw [pw_zero]
      · rw [pw_norm hg' (by omega)]; exact_mod_cast (by positivity)
    · rw [pw_norm hf (by omega), pw_norm (by omega) (by omega)]
      have e : (f : ℤ) - 127 ≤ (g : ℤ) - 127 := by omega
      exact EReal.coe_le_coe_iff.mpr (zpow_le_zpow_right₀ (by norm_num : (1 : ℝ) ≤ 2) e)
  · rw [show g = 255 by omega, pw_top]; exact le_top

/-- One step of the search: add `b` to the field if the power of two is still at most `t`. -/
def stp (t : EReal) (b f : ℕ) : ℕ := if pw (f + b) ≤ t then f + b else f

/-- The search has narrowed the field to `[f, f + w)`. -/
def Within (t : EReal) (w f : ℕ) : Prop := f + w ≤ 256 ∧ pw f ≤ t ∧ ∀ g, f + w ≤ g → g ≤ 255 → t < pw g

theorem Within.step {t : EReal} {b f : ℕ} (hb : 0 < b) (h : Within t (2 * b) f) : Within t b (stp t b f) := by
  obtain ⟨h0, h1, h2⟩ := h
  unfold stp
  split
  · next h => exact ⟨by omega, h, fun g hg hg' => h2 g (by omega) hg'⟩
  · next h =>
    exact ⟨by omega, h1, fun g hg hg' => lt_of_lt_of_le (not_le.mp h) (pw_mono (by omega) hg')⟩

/-- The field found by the search over the eight bits. -/
def field (t : EReal) : ℕ := stp t 1 (stp t 2 (stp t 4 (stp t 8 (stp t 16 (stp t 32 (stp t 64 (stp t 128 0)))))))

theorem field_within {t : EReal} (h : 0 ≤ t) : Within t 1 (field t) := by
  have h0 : Within t (2 * 128) 0 := ⟨by norm_num, by rw [pw_zero]; exact h, fun g hg hg' => by omega⟩
  exact (((((((h0.step (by norm_num)).step (b := 64) (by norm_num)).step (b := 32) (by norm_num)).step (b := 16) (by norm_num)).step
    (b := 8) (by norm_num)).step (b := 4) (by norm_num)).step (b := 2) (by norm_num)).step (b := 1) (by norm_num)

/-- The exponent of the scale: one more than the floor of the logarithm, zero below the normal range. -/
def expo (t : EReal) : EReal :=
  if t < pw 1 then 0 else Ideal.liftRound Int.floor (Ideal.div (Ideal.log t) (Ideal.log 2)) + 1

theorem exp2_zero : Ideal.exp2 0 = 1 := by
  show ((Real.rpow 2 0 : ℝ) : EReal) = 1
  simp

theorem pw_127 : pw 127 = 1 := by rw [pw_norm (by norm_num) (by norm_num)]; norm_num

theorem expo_norm {t : EReal} (h1 : 1 ≤ field t) (hf : field t ≤ 252) (h : 0 ≤ t) :
    expo t = (((field t : ℤ) - 126 : ℤ) : ℝ) := by
  obtain ⟨_, lo, hi⟩ := field_within h
  set f := field t with hfd
  have hi' := hi (f + 1) le_rfl (by omega)
  rw [pw_norm h1 (by omega)] at lo
  rw [pw_norm (by omega) (by omega)] at hi'
  unfold expo
  rw [if_neg (not_lt.mpr (le_trans (pw_mono h1 (by omega)) (by rw [pw_norm h1 (by omega)]; exact lo)))]
  induction t using EReal.rec with
  | bot => exact absurd h (by simp)
  | top => exact absurd hi' (by simp)
  | coe r =>
    have lo' : (2 : ℝ) ^ ((f : ℤ) - 127) ≤ r := by exact_mod_cast lo
    have hi'' : r < (2 : ℝ) ^ (((f + 1 : ℕ) : ℤ) - 127) := by exact_mod_cast hi'
    have rp : 0 < r := lt_of_lt_of_le (by positivity) lo'
    have l2 : (0 : ℝ) < Real.log 2 := Real.log_pos (by norm_num)
    have e2 : Ideal.log 2 = ((Real.log 2 : ℝ) : EReal) := by
      show (if (2 : ℝ) ≤ 0 then ⊥ else ((Real.log 2 : ℝ) : EReal)) = _
      rw [if_neg (by norm_num)]
    have e1 : Ideal.log (r : EReal) = ((Real.log r : ℝ) : EReal) := by
      show (if r ≤ 0 then ⊥ else ((Real.log r : ℝ) : EReal)) = _
      rw [if_neg (not_le.mpr rp)]
    rw [e1, e2]
    unfold Ideal.div
    rw [if_neg (by exact_mod_cast l2.ne')]
    rw [← EReal.coe_inv, ← EReal.coe_mul, Ideal.liftRound_coe]
    have fl : ⌊Real.log r * (Real.log 2)⁻¹⌋ = (f : ℤ) - 127 := by
      rw [Int.floor_eq_iff, ← div_eq_mul_inv]
      constructor
      · rw [le_div_iff₀ l2, ← Real.log_zpow]
        exact Real.log_le_log (by positivity) lo'
      · rw [div_lt_iff₀ l2]
        have : ((((f : ℤ) - 127 : ℤ) : ℝ) + 1) = ((((f + 1 : ℕ) : ℤ) - 127 : ℤ) : ℝ) := by push_cast; ring
        rw [this, ← Real.log_zpow]
        exact Real.log_lt_log rp hi''
    rw [fl]
    rw [← EReal.coe_one, ← EReal.coe_add]
    congr 1
    push_cast; ring

theorem exp2_int (k : ℤ) : Ideal.exp2 (((k : ℤ) : ℝ) : EReal) = (((2 : ℝ) ^ k : ℝ) : EReal) := by
  show ((Real.rpow 2 (k : ℝ) : ℝ) : EReal) = _
  rw [show Real.rpow 2 (k : ℝ) = (2 : ℝ) ^ (k : ℝ) from rfl, Real.rpow_intCast]

theorem expo_small {t : EReal} (h0 : field t = 0) (h : 0 ≤ t) : expo t = 0 := by
  obtain ⟨_, _, hi⟩ := field_within h
  rw [h0] at hi
  unfold expo
  rw [if_pos (hi 1 le_rfl (by norm_num))]

theorem field_lt {t : EReal} (h : 0 ≤ t) (ht : t < pw 253) : field t ≤ 252 := by
  obtain ⟨h1, lo, _⟩ := field_within h
  by_contra hc
  exact absurd (lt_of_le_of_lt lo ht) (not_lt.mpr (pw_mono (by omega) (by omega)))

/-- The scale's exponent field, from the field of `t`. -/
def sclF (f : ℕ) : ℕ := if f = 0 then 127 else f + 1
/-- The inverse scale's. -/
def invF (f : ℕ) : ℕ := if f = 0 then 127 else 253 - f

/-- The scale is two to the exponent, -/
theorem scale_eq {t : EReal} (h : 0 ≤ t) (ht : t < pw 253) : pw (sclF (field t)) = Ideal.exp2 (expo t) := by
  have hf := field_lt h ht
  unfold sclF
  split
  · next h0 => rw [expo_small h0 h, exp2_zero, pw_127]
  · next h0 =>
    rw [expo_norm (by omega) hf h, exp2_int, pw_norm (by omega) (by omega)]
    congr 2; push_cast; ring

/-- and its inverse two to minus the exponent. -/
theorem inv_eq {t : EReal} (h : 0 ≤ t) (ht : t < pw 253) : pw (invF (field t)) = Ideal.exp2 (0 - expo t) := by
  have hf := field_lt h ht
  unfold invF
  split
  · next h0 => rw [expo_small h0 h, sub_zero, exp2_zero, pw_127]
  · next h0 =>
    rw [expo_norm (by omega) hf h, ← EReal.coe_zero, ← EReal.coe_sub, ← Int.cast_zero, ← Int.cast_sub, exp2_int, pw_norm (by omega) (by omega)]
    congr 2; push_cast [Nat.cast_sub (show field t ≤ 253 by omega)]; ring

/-! ## One row -/

/-- A row's largest magnitude over 448. -/
def rowTop (u : Fin 6144 → EReal) : EReal :=
  Finset.univ.fold max (Ideal.ofBits .f32 0xFF800000#32) (fun k => max (u k) (-(u k))) * Ideal.ofBits .f32 0x3B124925#32

/-- A row's code: the entry over the scale, clipped to ±448. -/
def code (u : Fin 6144 → EReal) (k : Fin 6144) : EReal :=
  min (Ideal.ofBits .f32 0x43E00000#32) (max (Ideal.ofBits .f32 0xC3E00000#32) (u k * Ideal.exp2 (0 - expo (rowTop u))))

/-- The product of a quantised row with a column of weights, scaled by the row's and the column's scale. -/
def entry (u w : Fin 6144 → EReal) (s : EReal) : EReal :=
  (∑ k : Fin 6144, code u k * w k) * Ideal.exp2 (expo (rowTop u)) * s

theorem pw_one_bits : (0x00800000#32 : BitVec 32) = BitVec.ofNat 32 1 <<< 23 := by decide +kernel

theorem two_bits : Ideal.ofBits .f32 0x40000000#32 = ((2 : ℝ) : EReal) := by
  have h : Ideal.ofBits .f32 0x40000000#32 = pw 128 := by
    unfold pw; rw [show (0x40000000#32 : BitVec 32) = BitVec.ofNat 32 128 <<< 23 by decide +kernel]
  rw [h, pw_norm (by norm_num) (by norm_num)]; norm_num

theorem one_bits : Ideal.ofBits .f32 0x3F800000#32 = 1 := by
  have h : Ideal.ofBits .f32 0x3F800000#32 = pw 127 := by
    unfold pw; rw [show (0x3F800000#32 : BitVec 32) = BitVec.ofNat 32 127 <<< 23 by decide +kernel]
  rw [h, pw_127]

/-- The exponent as the reference prints it. -/
theorem expo_printed (t : EReal) :
    Scalar.select (Ideal.cmp .olt t (Ideal.ofBits .f32 0x00800000#32)) (Ideal.ofBits .f32 0x00000000#32)
      (Ideal.liftRound Int.floor (Ideal.div (Ideal.log t) (Ideal.log (Ideal.ofBits .f32 0x40000000#32))) + Ideal.ofBits .f32 0x3F800000#32) = expo t := by
  rw [two_bits, one_bits, Ideal.ofBits_zero_f32, pw_one_bits]
  unfold expo
  show (if BitVec.ofBool (decide (t < pw 1)) = 1 then _ else _) = _
  by_cases h : t < pw 1
  · rw [if_pos h, decide_eq_true h]; rfl
  · rw [if_neg h, decide_eq_false h]; rfl

end Cert.Expo

end
-- ==== Proof.KerVal.lean ====
/-
  What the kernel computes, read at one index.
-/
module

public import proofs.«01_k».proof.Proof.Vals
public import proofs.«01_k».proof.Proof.Expo
public import Idealize.ShloMosaic.Lib.Pointwise

@[expose] public section

set_option maxRecDepth 16384

noncomputable section

namespace Cert.KerVal

open Cert.Kernel Cert.Kernel.Gen Cert.Kernel.Hand Idealize.ShloMosaic Cert.Expo

theorem flat_apply (v : Vec Ideal S1x2x8x6144 .bf16) (r : Fin 16) (k : Fin 6144) :
    xFlat v (ix2 r k) = v (ix4 (0 : Fin 1) (⟨r.val / 8, by omega⟩ : Fin 2) (⟨r.val % 8, by omega⟩ : Fin 8) k) := by
  unfold xFlat
  pointwise

theorem max_apply (y : FVec Ideal S16x6144 .f32) (r : Fin 16) :
    shapeCast S16x1 (multiReduction .maximumf [1] S16 y 0xFF800000#32 reduces_S16x6144_S16 (.inl rfl) rfl) shapeCasts_S16_S16x1
      (ix2 r (0 : Fin 1)) = Finset.univ.fold max (Ideal.ofBits .f32 0xFF800000#32) (fun k : Fin 6144 => y (ix2 r k)) := by
  pointwise

theorem bcK (v : FVec Ideal S16x1 .f32) (r : Fin 16) (k : Fin 6144) :
    broadcastTo S16x6144 v broadcasts_S16x1_S16x6144 (ix2 r k) = v (ix2 r (0 : Fin 1)) := by
  pointwise

theorem cat_apply (a b : FVec Ideal S16x6144 .f32) (r : Fin 16) (k : Fin 6144) :
    concatenate S32x6144 0 [⟨S16x6144, a⟩, ⟨S16x6144, b⟩] concatenates_S16x6144_S16x6144_S32x6144_d0 (ix2 (⟨r.val, by omega⟩ : Fin 32) k) = a (ix2 r k) := by
  pointwise

theorem back_apply (q : FVec Ideal S32x6144 .fp8e4m3) (r : Fin 32) (k : Fin 6144) :
    shapeCast S32x6144 (shapeCast S1x32x6144 q shapeCasts_S32x6144_S1x32x6144) shapeCasts_S1x32x6144_S32x6144 (ix2 r k) = q (ix2 r k) := by
  pointwise

theorem sback_apply (s : FVec Ideal S16x1 .f32) (r : Fin 16) (k : Fin 128) :
    shapeCast S16x128 (shapeCast S1x16x128 (broadcastTo S16x128 (shapeCast S16x1 s shapeCasts_S16x1_S16x1) broadcasts_S16x1_S16x128) shapeCasts_S16x128_S1x16x128)
      shapeCasts_S1x16x128_S16x128 (ix2 r k) = s (ix2 r (0 : Fin 1)) := by
  pointwise

theorem cat6_apply (a : FVec Ideal S16x128 .f32) (r : Fin 16) (n : Fin 768) (c : EReal) (h : ∀ k : Fin 128, a (ix2 r k) = c) :
    concatenate S16x768 1 [⟨S16x128, a⟩, ⟨S16x128, a⟩, ⟨S16x128, a⟩, ⟨S16x128, a⟩, ⟨S16x128, a⟩, ⟨S16x128, a⟩]
      concatenates_S16x128_S16x128_S16x128_S16x128_S16x128_S16x128_S16x768_d1 (ix2 r n) = c := by
  pointwise
  simp only [h, dite_eq_ite, ite_self]

theorem dot5_apply (l : FVec Ideal S32x256 .fp8e4m3) (w : FVec Ideal S512x256 .fp8e4m3) (r : Fin 32) (n : Fin 512) :
    matmul dot_S32x256_S512x256_S32x512_1_1_0_0_n_n none l w (constant S32x512 .f32 0x00000000#32) (ix2 r n)
      = ∑ k : Fin 256, l (ix2 r k) * w (ix2 n k) := by
  pointwise

theorem dot2_apply (w : FVec Ideal S256x256 .fp8e4m3) (l : FVec Ideal S32x256 .fp8e4m3) (r : Fin 32) (n : Fin 256) :
    matmul dot_S256x256_S32x256_S256x32_1_1_0_0_n_n none w l (constant S256x32 .f32 0x00000000#32) (ix2 n r)
      = ∑ k : Fin 256, w (ix2 n k) * l (ix2 r k) := by
  pointwise

theorem slice_apply (q : FVec Ideal S32x6144 .fp8e4m3) (j : ℕ) (r : Fin 32) (k : Fin 256) :
    extractStridedSlice S32x256 ![0, 256 * (j % 24)] q (slc j) (ix2 r k) = q (ix2 r (cj j k)) := by
  unfold extractStridedSlice
  congr 1
  funext a
  fin_cases a
  · exact Fin.ext (Nat.zero_add _)
  · rfl

theorem out_apply (a : FVec Ideal S32x512 .f32) (b : FVec Ideal S256x32 .f32) (r : Fin 16) (n : Fin 768) (c : EReal)
    (h1 : ∀ h : n.val < 512, a (ix2 (⟨r.val, by omega⟩ : Fin 32) (⟨n.val, h⟩ : Fin 512)) = c)
    (h2 : ∀ _ : ¬ n.val < 512, b (ix2 (⟨n.val - 512, by omega⟩ : Fin 256) (⟨r.val, by omega⟩ : Fin 32)) = c) :
    concatenate S16x768 1
        [⟨S16x512, extractStridedSlice S16x512 ![0, 0] a slices_S32x512_o0_0_S16x512⟩,
         ⟨S16x256, extractStridedSlice S16x256 ![0, 0] (transpose S32x256 [1, 0] b transposes_S256x32_p1_0_S32x256) slices_S32x256_o0_0_S16x256⟩]
        concatenates_S16x512_S16x256_S16x768_d1 (ix2 r n) = c := by
  pointwise
  split
  · exact h1 _
  · exact h2 ‹_›

theorem wsr_bc (s : FVec Ideal S1x768 .f32) (r : Fin 16) (n : Fin 768) :
    broadcastTo S16x768 s broadcasts_S1x768_S16x768 (ix2 r n) = s (ix2 (0 : Fin 1) n) := by
  pointwise

theorem w5_cast (w : FVec Ideal S1x512x256 .fp8e4m3) (n : Fin 512) (k : Fin 256) :
    shapeCast S512x256 w shapeCasts_S1x512x256_S512x256 (ix2 n k) = w (ix3 (0 : Fin 1) n k) := by
  pointwise

theorem w2_cast (w : FVec Ideal S1x256x256 .fp8e4m3) (n : Fin 256) (k : Fin 256) :
    shapeCast S256x256 w shapeCasts_S1x256x256_S256x256 (ix2 n k) = w (ix3 (0 : Fin 1) n k) := by
  pointwise

theorem iota_apply (r : Fin 16) (n : Fin 768) : iota .tc S16x768 32 [0] iota_S16x768_d0_w32 (ix2 r n) = BitVec.ofNat 32 r.val := by
  pointwise

theorem iotaK_apply (r : Fin 16) (n : Fin 6144) : iota .tc S16x6144 32 [0] iota_S16x6144_d0_w32 (ix2 r n) = BitVec.ofNat 32 r.val := by
  pointwise

/-! ## Words -/

theorem step_word (t : FVec Ideal S16x1 .f32) (i : S16x1.Idx) (n b : ℕ) (f : IVec S16x1 32) (hf : f i = BitVec.ofNat 32 n) :
    bitStep t (BitVec.ofNat 32 b) f i = BitVec.ofNat 32 (stp (t i) b n) := by
  have h1 : addi f (broadcast S16x1 (BitVec.ofNat 32 b)) i = BitVec.ofNat 32 (n + b) := by
    show f i + BitVec.ofNat 32 b = _
    rw [hf, BitVec.ofNat_add]
  have h2 : bitTest t (BitVec.ofNat 32 b) f i = BitVec.ofBool (decide (pw (n + b) ≤ t i)) := by
    show Ideal.cmp .oge (t i) (Ideal.ofBits .f32 (addi f (broadcast S16x1 (BitVec.ofNat 32 b)) i <<< 23)) = _
    rw [h1]
    rfl
  show Scalar.select (bitTest t (BitVec.ofNat 32 b) f i) (addi f (broadcast S16x1 (BitVec.ofNat 32 b)) i) (f i) = _
  rw [h1, h2, hf]
  unfold stp
  by_cases h : pw (n + b) ≤ t i
  · rw [if_pos h, decide_eq_true h]; rfl
  · rw [if_neg h, decide_eq_false h]; rfl

theorem fld_word (t : FVec Ideal S16x1 .f32) (i : S16x1.Idx) : fld t i = BitVec.ofNat 32 (field (t i)) :=
  step_word t i _ 1 _ (step_word t i _ 2 _ (step_word t i _ 4 _ (step_word t i _ 8 _ (step_word t i _ 16 _
    (step_word t i _ 32 _ (step_word t i _ 64 _ (step_word t i 0 128 _ rfl)))))))

/-- The exponent of the scale from the field, on one word. -/
def exW (f : BitVec 32) : BitVec 32 :=
  Scalar.select (IntOp.ori (IntOp.cmpi .eq f 0#32) (IntOp.cmpi .eq f 255#32)) 0#32 (IntOp.subi f 126#32)

theorem scl_words : ∀ n : Fin 253, (127#32 + exW (BitVec.ofNat 32 n.val)) <<< 23 = BitVec.ofNat 32 (sclF n.val) <<< 23 := by decide +kernel
theorem inv_words : ∀ n : Fin 253, (127#32 - exW (BitVec.ofNat 32 n.val)) <<< 23 = BitVec.ofNat 32 (invF n.val) <<< 23 := by decide +kernel

theorem scl_word (t : FVec Ideal S16x1 .f32) (i : S16x1.Idx) (h0 : 0 ≤ t i) (h : t i < pw 253) :
    sclOf (F := Ideal) (expOf (fld t)) i = Ideal.exp2 (expo (t i)) := by
  show Ideal.ofBits .f32 ((127#32 + exW (fld t i)) <<< 23) = _
  have := field_lt h0 h
  rw [fld_word, scl_words ⟨field (t i), by omega⟩, ← scale_eq h0 h]
  rfl

theorem inv_word (t : FVec Ideal S16x1 .f32) (i : S16x1.Idx) (h0 : 0 ≤ t i) (h : t i < pw 253) :
    invOf (F := Ideal) (expOf (fld t)) i = Ideal.exp2 (0 - expo (t i)) := by
  show Ideal.ofBits .f32 ((127#32 - exW (fld t i)) <<< 23) = _
  have := field_lt h0 h
  rw [fld_word, inv_words ⟨field (t i), by omega⟩, ← inv_eq h0 h]
  rfl

/-! ## The rows -/

theorem mulf_at {s : Shape} {t : FTy} (a b : FVec Ideal s t) (i : s.Idx) : mulf a b i = a i * b i := rfl

theorem rowT_apply (v : FVec Ideal S16x6144 .f32) (r : Fin 16) : rowT v (ix2 r (0 : Fin 1)) = rowTop (fun k => v (ix2 r k)) := by
  unfold rowT
  rw [mulf_at, max_apply]
  rfl

theorem codes_apply (v : FVec Ideal S16x6144 .f32) (e : IVec S16x1 32) (r : Fin 16) (k : Fin 6144) :
    codes v e (ix2 (⟨r.val, by omega⟩ : Fin 32) k)
      = min (Ideal.ofBits .f32 0x43E00000#32) (max (Ideal.ofBits .f32 0xC3E00000#32) (v (ix2 r k) * invOf (F := Ideal) e (ix2 r (0 : Fin 1)))) := by
  unfold codes
  rw [← bcK (invOf e) r k]
  exact cat_apply _ _ r k

variable (A : Arrays Ideal)

/-- Row `r` of expert `e`. -/
def row (e : Fin 32) (r : Fin 16) (k : Fin 6144) : EReal :=
  A.X (ValueIdx.ix4 e (⟨r.val / 8, by omega⟩ : Fin 2) (⟨r.val % 8, by omega⟩ : Fin 8) k)

theorem fe_self (e : Fin 32) : fe e.val = e := Fin.ext (Nat.mod_eq_of_lt e.isLt)

theorem xm_apply (e : Fin 32) (r : Fin 16) (k : Fin 6144) (h : (BitVec.ofNat 32 r.val).slt (gw A e.val) = true) :
    xm A e.val (ix2 r k) = row A e r k := by
  show Scalar.select (BitVec.ofBool (BitVec.slt (iota .tc S16x6144 32 [0] iota_S16x6144_d0_w32 (ix2 r k)) (gw A e.val))) (xFlat (xRaw A e.val) (ix2 r k)) _ = _
  rw [iotaK_apply, h, flat_apply]
  show A.X (ValueIdx.ix4 (fe e.val) _ _ _) = _
  rw [fe_self]
  rfl

section
variable {A} {e : Fin 32} {r : Fin 16} (h : (BitVec.ofNat 32 r.val).slt (gw A e.val) = true)
  (h0 : 0 ≤ rowTop (row A e r)) (h1 : rowTop (row A e r) < pw 253)
include h h0 h1

theorem top_apply : rowT (xm A e.val) (ix2 r (0 : Fin 1)) = rowTop (row A e r) := by
  rw [rowT_apply]
  exact congrArg rowTop (funext fun k => xm_apply A e r k h)

theorem ex_scl : sclOf (F := Ideal) (ex A e.val) (ix2 r (0 : Fin 1)) = Ideal.exp2 (expo (rowTop (row A e r))) := by
  have ht := top_apply h h0 h1
  rw [← ht] at h0 h1 ⊢
  exact scl_word _ _ h0 h1

theorem ex_inv : invOf (F := Ideal) (ex A e.val) (ix2 r (0 : Fin 1)) = Ideal.exp2 (0 - expo (rowTop (row A e r))) := by
  have ht := top_apply h h0 h1
  rw [← ht] at h0 h1 ⊢
  exact inv_word _ _ h0 h1

theorem q_apply (k : Fin 6144) : q2 A e.val (ix2 (⟨r.val, by omega⟩ : Fin 32) k) = code (row A e r) k := by
  unfold q2 qv
  rw [back_apply, codes_apply, ex_inv h h0 h1, xm_apply A e r k h]
  rfl

theorem s_apply (n : Fin 768) : s2 A e.val (ix2 r n) = Ideal.exp2 (expo (rowTop (row A e r))) := by
  refine cat6_apply _ r n _ fun k => ?_
  unfold sv_
  rw [sback_apply, ex_scl h h0 h1]

theorem m5_apply (j : ℕ) (n : Fin 512) : m5 A e.val j (ix2 (⟨r.val, by omega⟩ : Fin 32) n)
    = ∑ k : Fin 256, code (row A e r) (cj j k) * A.W (ValueIdx.ix3 e (⟨n.val, by omega⟩ : Fin 768) (cj j k)) := by
  unfold m5
  rw [dot5_apply]
  refine Finset.sum_congr rfl fun k _ => ?_
  unfold qj w5f
  rw [slice_apply, q_apply h h0 h1, w5_cast]
  show _ * A.W (ValueIdx.ix3 (fe e.val) _ _) = _
  rw [fe_self]
  rfl

theorem m2_apply (j : ℕ) (n : Fin 256) : m2 A e.val j (ix2 n (⟨r.val, by omega⟩ : Fin 32))
    = ∑ k : Fin 256, code (row A e r) (cj j k) * A.W (ValueIdx.ix3 e (⟨512 + n.val, by omega⟩ : Fin 768) (cj j k)) := by
  unfold m2
  rw [dot2_apply]
  refine Finset.sum_congr rfl fun k _ => ?_
  unfold qj w2f
  rw [slice_apply, q_apply h h0 h1, w2_cast, mul_comm]
  show _ * A.W (ValueIdx.ix3 (fe e.val) _ _) = _
  rw [fe_self]
  rfl

end

theorem sum_blocks (f : Fin 6144 → EReal) : ∑ j ∈ Finset.range 24, ∑ k : Fin 256, f (cj j k) = ∑ k, f k := by
  rw [Finset.sum_range fun j => ∑ k : Fin 256, f (cj j k), ← Fintype.sum_prod_type' (f := fun (j : Fin 24) (k : Fin 256) => f (cj j.val k))]
  refine Fintype.sum_equiv (finProdFinEquiv (m := 24) (n := 256)) _ f fun p => ?_
  congr 1
  refine Fin.ext ?_
  show 256 * (p.1.val % 24) + p.2.val = p.2.val + 256 * p.1.val
  have := p.1.isLt
  omega

theorem a5_sum (e : ℕ) (i : S32x512.Idx) : ∀ j, a5 A e j i = ∑ l ∈ Finset.range (j + 1), m5 A e l i
  | 0 => by rw [Finset.sum_range_one]; rfl
  | j + 1 => by rw [Finset.sum_range_succ, ← a5_sum e i j]; rfl

theorem a2_sum (e : ℕ) (i : S256x32.Idx) : ∀ j, a2 A e j i = ∑ l ∈ Finset.range (j + 1), m2 A e l i
  | 0 => by rw [Finset.sum_range_one]; rfl
  | j + 1 => by rw [Finset.sum_range_succ, ← a2_sum e i j]; rfl

/-- An expert's plane at one index. -/
theorem outv_apply (e : Fin 32) (r : Fin 16) (n : Fin 768) (h0 : 0 ≤ rowTop (row A e r)) (h1 : rowTop (row A e r) < pw 253) :
    outv A e.val (ix2 r n) = if (BitVec.ofNat 32 r.val).slt (gw A e.val)
      then entry (row A e r) (fun k => A.W (ValueIdx.ix3 e n k)) (A.WS (ValueIdx.ix2 e n)) else 0 := by
  unfold outv
  show Scalar.select (BitVec.ofBool (BitVec.slt (iota .tc S16x768 32 [0] iota_S16x768_d0_w32 (ix2 r n)) (gw A e.val)))
    (mulf (mulf _ (s2 A e.val)) _ (ix2 r n)) (Ideal.ofBits .f32 0x00000000#32) = _
  rw [iota_apply, Ideal.ofBits_zero_f32]
  by_cases h : (BitVec.ofNat 32 r.val).slt (gw A e.val) = true
  · rw [h, mulf_at, mulf_at, s_apply h h0 h1, wsr_bc,
      out_apply _ _ r n (∑ k : Fin 6144, code (row A e r) k * A.W (ValueIdx.ix3 e n k))]
    · show _ * _ * A.WS (ValueIdx.ix2 (fe e.val) n) = entry _ _ _
      rw [fe_self]
      rfl
    · intro hn
      rw [a5_sum]
      simp only [m5_apply h h0 h1]
      exact sum_blocks fun k => code (row A e r) k * A.W (ValueIdx.ix3 e n k)
    · intro hn
      rw [a2_sum]
      simp only [m2_apply h h0 h1]
      rw [show ∀ p, (⟨512 + (n.val - 512), p⟩ : Fin 768) = n from fun p => Fin.ext (by show 512 + (n.val - 512) = n.val; omega)]
      exact sum_blocks fun k => code (row A e r) k * A.W (ValueIdx.ix3 e n k)
  · rw [Bool.not_eq_true] at h
    rw [h]
    rfl

theorem small : ∀ r : Fin 16, (BitVec.ofNat 32 r.val).toInt = r.val := by decide +kernel

/-- The kernel's result at one index. -/
theorem res_apply (e : Fin 32) (r : Fin 16) (n : Fin 768) (h0 : 0 ≤ rowTop (row A e r)) (h1 : rowTop (row A e r) < pw 253) :
    Cert.Kernel.Hand.res A (ix3 e r n) = if (BitVec.ofNat 32 r.val).slt (A.GS (ValueIdx.ix1 e))
      then entry (row A e r) (fun k => A.W (ValueIdx.ix3 e n k)) (A.WS (ValueIdx.ix2 e n)) else 0 := by
  have hg : gw A e.val = A.GS (ValueIdx.ix1 e) := by unfold gw; rw [fe_self]
  have ho := outv_apply A e r n h0 h1
  rw [hg] at ho
  show (if live A e.val = true then (outv A e.val (ix2 r n) : EReal) else (zv (F := Ideal) : EReal)) = _
  by_cases hl : live A e.val = true
  · rw [if_pos hl, ho]
  · rw [if_neg hl, if_neg]
    · exact Ideal.ofBits_zero_bf16
    · intro hs
      apply hl
      unfold live
      rw [hg]
      refine decide_eq_true ?_
      rw [BitVec.slt_iff_toInt_lt] at hs
      have := small r
      omega

end Cert.KerVal

end
-- ==== Proof.RefVal.lean ====
/-
  What the reference computes, read at one index.
-/
module

public import proofs.«01_k».proof.Proof.Gen.ReferenceIdeal.Value
public import proofs.«01_k».proof.Proof.Expo
public import Idealize.ShloMosaic.Lib.Pointwise

@[expose] public section

set_option maxRecDepth 16384

noncomputable section

namespace Cert.RefVal

open Cert.ReferenceIdeal Cert.ReferenceIdeal.Gen Idealize.ShloMosaic Cert.Expo

/-- Each row's largest magnitude over 448. -/
def rT (x : FVec Ideal S32x16x6144 .f32) : FVec Ideal S32x16x1 .f32 :=
  mulf (shapeCast S32x16x1 (multiReduction .maximumf [2] S32x16 (absf x) 0xFF800000#32 reduces_S32x16x6144_S32x16 (.inl rfl) rfl) shapeCasts_S32x16_S32x16x1)
    (broadcast S32x16x1 (Scalar.ofBits .f32 0x3B124925#32 : Ideal .f32))

/-- Each row's exponent. -/
def rE (t : FVec Ideal S32x16x1 .f32) : FVec Ideal S32x16x1 .f32 :=
  select (cmpf .olt t (broadcast S32x16x1 (Scalar.ofBits .f32 0x00800000#32 : Ideal .f32)))
    (broadcast S32x16x1 (Scalar.ofBits .f32 0x00000000#32 : Ideal .f32))
    (addf (floor (divf (log t) (log (broadcast S32x16x1 (Scalar.ofBits .f32 0x40000000#32 : Ideal .f32)))))
      (broadcast S32x16x1 (Scalar.ofBits .f32 0x3F800000#32 : Ideal .f32)))

/-- The codes. -/
def rC (x : FVec Ideal S32x16x6144 .f32) (i : FVec Ideal S32x16x1 .f32) : FVec Ideal S32x16x6144 .fp8e4m3 :=
  truncf .fp8e4m3 (minimumf (broadcast S32x16x6144 (Scalar.ofBits .f32 0x43E00000#32 : Ideal .f32))
    (maximumf (broadcast S32x16x6144 (Scalar.ofBits .f32 0xC3E00000#32 : Ideal .f32))
      (mulf x (broadcastTo S32x16x6144 i broadcasts_S32x16x1_S32x16x6144)))) bitsLt_fp8e4m3_f32

theorem pay2_eq (x : Vec Ideal S32x16x6144 .bf16) (w : Vec Ideal S32x768x6144 .fp8e4m3) (s : Vec Ideal S32x768 .f32) :
    k0_pay2 (F := Ideal) x w s
      = mulf (mulf (matmul (φ₂ := .fp8e4m3) dot_S32x16x6144_S32x768x6144_S32x16x768_2_2_1_1_0_0 none
            (rC (extf .f32 x bitsLt_bf16_f32) (exp2 (subf (broadcast S32x16x1 (Scalar.ofBits .f32 0x00000000#32 : Ideal .f32)) (rE (rT (extf .f32 x bitsLt_bf16_f32))))))
            (w : FVec Ideal S32x768x6144 .fp8e4m3) (constant S32x16x768 .f32 0x00000000#32))
          (broadcastTo S32x16x768 (exp2 (rE (rT (extf .f32 x bitsLt_bf16_f32)))) broadcasts_S32x16x1_S32x16x768))
        (broadcastTo S32x16x768 (shapeCast S32x1x768 s shapeCasts_S32x768_S32x1x768) broadcasts_S32x1x768_S32x16x768) := rfl

theorem max_apply (y : FVec Ideal S32x16x6144 .f32) (e : Fin 32) (r : Fin 16) :
    shapeCast S32x16x1 (multiReduction .maximumf [2] S32x16 y 0xFF800000#32 reduces_S32x16x6144_S32x16 (.inl rfl) rfl) shapeCasts_S32x16_S32x16x1
      (ix3 e r (0 : Fin 1)) = Finset.univ.fold max (Ideal.ofBits .f32 0xFF800000#32) (fun k : Fin 6144 => y (ix3 e r k)) := by
  pointwise

theorem mulf_at {s : Shape} {t : FTy} (a b : FVec Ideal s t) (i : s.Idx) : mulf a b i = a i * b i := rfl

theorem exp2_at {s : Shape} {t : FTy} (a : FVec Ideal s t) (i : s.Idx) : exp2 a i = Ideal.exp2 (a i) := rfl

theorem neg_at {s : Shape} (a : FVec Ideal s .f32) (i : s.Idx) :
    subf (broadcast s (Scalar.ofBits .f32 0x00000000#32 : Ideal .f32)) a i = Ideal.ofBits .f32 0x00000000#32 - a i := rfl

theorem rT_apply (x : FVec Ideal S32x16x6144 .f32) (e : Fin 32) (r : Fin 16) :
    rT x (ix3 e r (0 : Fin 1)) = rowTop (fun k => x (ix3 e r k)) := by
  unfold rT
  rw [mulf_at, max_apply]
  rfl

theorem rE_apply (t : FVec Ideal S32x16x1 .f32) (i : S32x16x1.Idx) : rE t i = expo (t i) := expo_printed (t i)

theorem bcK (v : FVec Ideal S32x16x1 .f32) (e : Fin 32) (r : Fin 16) (k : Fin 6144) :
    broadcastTo S32x16x6144 v broadcasts_S32x16x1_S32x16x6144 (ix3 e r k) = v (ix3 e r (0 : Fin 1)) := by
  pointwise

theorem bcN (v : FVec Ideal S32x16x1 .f32) (e : Fin 32) (r : Fin 16) (n : Fin 768) :
    broadcastTo S32x16x768 v broadcasts_S32x16x1_S32x16x768 (ix3 e r n) = v (ix3 e r (0 : Fin 1)) := by
  pointwise

theorem bcS (s : FVec Ideal S32x768 .f32) (e : Fin 32) (r : Fin 16) (n : Fin 768) :
    broadcastTo S32x16x768 (shapeCast S32x1x768 s shapeCasts_S32x768_S32x1x768) broadcasts_S32x1x768_S32x16x768 (ix3 e r n) = s (ix2 e n) := by
  pointwise

theorem dot_apply (l : FVec Ideal S32x16x6144 .fp8e4m3) (w : FVec Ideal S32x768x6144 .fp8e4m3) (e : Fin 32) (r : Fin 16) (n : Fin 768) :
    matmul dot_S32x16x6144_S32x768x6144_S32x16x768_2_2_1_1_0_0 none l w (constant S32x16x768 .f32 0x00000000#32) (ix3 e r n)
      = ∑ k : Fin 6144, l (ix3 e r k) * w (ix3 e n k) := by
  pointwise

theorem rC_apply (y : FVec Ideal S32x16x6144 .f32) (i : FVec Ideal S32x16x1 .f32) (e : Fin 32) (r : Fin 16) (k : Fin 6144) :
    rC y i (ix3 e r k) = min (Ideal.ofBits .f32 0x43E00000#32) (max (Ideal.ofBits .f32 0xC3E00000#32) (y (ix3 e r k) * i (ix3 e r (0 : Fin 1)))) := by
  rw [← bcK i e r k]
  rfl

theorem scl_apply (x : FVec Ideal S32x16x6144 .f32) (e : Fin 32) (r : Fin 16) :
    exp2 (rE (rT x)) (ix3 e r (0 : Fin 1)) = Ideal.exp2 (expo (rowTop (fun k => x (ix3 e r k)))) := by
  rw [exp2_at, rE_apply, rT_apply]

theorem inv_apply (x : FVec Ideal S32x16x6144 .f32) (e : Fin 32) (r : Fin 16) :
    exp2 (subf (broadcast S32x16x1 (Scalar.ofBits .f32 0x00000000#32 : Ideal .f32)) (rE (rT x))) (ix3 e r (0 : Fin 1))
      = Ideal.exp2 (0 - expo (rowTop (fun k => x (ix3 e r k)))) := by
  rw [exp2_at, neg_at, rE_apply, rT_apply, Ideal.ofBits_zero_f32]

theorem pay2_apply (x : Vec Ideal S32x16x6144 .bf16) (w : Vec Ideal S32x768x6144 .fp8e4m3) (s : Vec Ideal S32x768 .f32)
    (e : Fin 32) (r : Fin 16) (n : Fin 768) :
    k0_pay2 (F := Ideal) x w s (ix3 e r n) = entry (fun k => x (ix3 e r k)) (fun k => w (ix3 e n k)) (s (ix2 e n)) := by
  rw [pay2_eq, mulf_at, mulf_at, bcS, bcN, dot_apply, scl_apply]
  simp only [rC_apply, inv_apply]
  rfl

theorem iota_apply (e : Fin 32) (r : Fin 16) (n : Fin 768) :
    iota .tc S32x16x768 32 [1] iota_S32x16x768_d1_w32 (ix3 e r n) = BitVec.ofNat 32 r.val := by
  pointwise

theorem pay3_apply (g : Vec Ideal S32 .i32) (e : Fin 32) (r : Fin 16) (n : Fin 768) :
    k0_pay3 (F := Ideal) g (ix3 e r n) = g (ix1 e) := by
  unfold k0_pay3
  pointwise

/-- The reference's result at one index. -/
theorem ref_apply (x : Vec Ideal S32x16x6144 .bf16) (g : Vec Ideal S32 .i32) (w : Vec Ideal S32x768x6144 .fp8e4m3) (s : Vec Ideal S32x768 .f32)
    (e : Fin 32) (r : Fin 16) (n : Fin 768) :
    Cert.ReferenceIdeal.Value.G4 (F := Ideal) x g w s (ix3 e r n)
      = if (BitVec.ofNat 32 r.val).slt (g (ix1 e)) then entry (fun k => x (ix3 e r k)) (fun k => w (ix3 e n k)) (s (ix2 e n)) else 0 := by
  show Scalar.select (BitVec.ofBool (BitVec.slt (iota .tc S32x16x768 32 [1] iota_S32x16x768_d1_w32 (ix3 e r n)) (k0_pay3 (F := Ideal) g (ix3 e r n))))
    (k0_pay2 (F := Ideal) x w s (ix3 e r n)) (Ideal.ofBits .f32 0x00000000#32) = _
  rw [iota_apply, pay3_apply, pay2_apply, Ideal.ofBits_zero_f32]
  cases (BitVec.ofNat 32 r.val).slt (g (ix1 e)) <;> rfl

end Cert.RefVal

end
-- ==== Proof.Equal.lean ====
/-
  The kernel's result and the reference's are equal over the reals, where the activations are in the range of their type.
-/
module

public import proofs.«01_k».proof.Proof.Run
public import proofs.«01_k».proof.Proof.KerVal
public import proofs.«01_k».proof.Proof.RefVal
public import proofs.«01_k».proof.Proof.Gen.Pre_finite

@[expose] public section

set_option maxRecDepth 16384

noncomputable section

namespace Cert.Equal

open Idealize.ShloMosaic Idealize.ShloMosaic.TcCoe Idealize.SL.Sem Cert.Expo

/-! ## The range of a row -/

theorem hi_bits : Ideal.ofBits .bf16 0x7F7F#16 = ((255 * 2 ^ 120 : ℝ) : EReal) := by
  show Ideal.ieee 8 7 (0x7F7F#16) = _
  unfold Ideal.ieee
  simp only [show ((0x7F7F#16).extractLsb' (8 + 7) 1 == 1#1) = false by decide, show ((0x7F7F#16).extractLsb' 7 8).toNat = 254 by decide,
    show ((0x7F7F#16).extractLsb' 0 7).toNat = 127 by decide]
  rw [if_neg (by norm_num), if_neg (by norm_num)]
  congr 1
  norm_num

theorem lo_bits : Ideal.ofBits .bf16 0xFF7F#16 = ((-(255 * 2 ^ 120) : ℝ) : EReal) := by
  show Ideal.ieee 8 7 (0xFF7F#16) = _
  unfold Ideal.ieee
  simp only [show ((0xFF7F#16).extractLsb' (8 + 7) 1 == 1#1) = true by decide, show ((0xFF7F#16).extractLsb' 7 8).toNat = 254 by decide,
    show ((0xFF7F#16).extractLsb' 0 7).toNat = 127 by decide]
  rw [if_neg (by norm_num), if_neg (by norm_num)]
  congr 1
  norm_num

theorem c_bits : Ideal.ofBits .f32 0x3B124925#32 = ((9586981 / 2 ^ 32 : ℝ) : EReal) := by
  show Ideal.ieee 8 23 (0x3B124925#32) = _
  unfold Ideal.ieee
  simp only [show ((0x3B124925#32).extractLsb' (8 + 23) 1 == 1#1) = false by decide, show ((0x3B124925#32).extractLsb' 23 8).toNat = 118 by decide,
    show ((0x3B124925#32).extractLsb' 0 23).toNat = 1198373 by decide]
  rw [if_neg (by norm_num), if_neg (by norm_num)]
  congr 1
  norm_num

theorem bot_bits : Ideal.ofBits .f32 0xFF800000#32 = ⊥ := by
  show Ideal.ieee 8 23 (0xFF800000#32) = _
  unfold Ideal.ieee
  simp only [show ((0xFF800000#32).extractLsb' (8 + 23) 1 == 1#1) = true by decide, show ((0xFF800000#32).extractLsb' 23 8).toNat = 255 by decide,
    show ((0xFF800000#32).extractLsb' 0 23).toNat = 0 by decide]
  norm_num

/-- An entry of the activations in the range of its type. -/
def InRange (v : EReal) : Prop := Ideal.ofBits .bf16 0xFF7F#16 ≤ v ∧ v ≤ Ideal.ofBits .bf16 0x7F7F#16

theorem abs_nonneg (v : EReal) : 0 ≤ max v (-v) := by
  rcases le_total 0 v with h | h
  · exact le_max_of_le_left h
  · exact le_max_of_le_right (EReal.neg_nonneg.mpr h)

theorem abs_le {v : EReal} (h : InRange v) : max v (-v) ≤ ((255 * 2 ^ 120 : ℝ) : EReal) := by
  obtain ⟨h1, h2⟩ := h
  rw [hi_bits] at h2
  rw [lo_bits, EReal.coe_neg] at h1
  exact max_le h2 (EReal.neg_le.mp h1)

/-- A row's largest magnitude over 448 is not negative, -/
theorem top_nonneg (u : Fin 6144 → EReal) : 0 ≤ rowTop u := by
  unfold rowTop
  refine mul_nonneg ?_ ?_
  · exact (Finset.le_fold_max 0).mpr (Or.inr ⟨0, Finset.mem_univ _, abs_nonneg _⟩)
  · rw [c_bits]; exact EReal.coe_nonneg.mpr (by norm_num)

/-- and far below the largest power of two whose inverse is a normal float. -/
theorem top_lt {u : Fin 6144 → EReal} (h : ∀ k, InRange (u k)) : rowTop u < pw 253 := by
  unfold rowTop
  have hM : Finset.univ.fold max (Ideal.ofBits .f32 0xFF800000#32) (fun k => max (u k) (-(u k))) ≤ ((255 * 2 ^ 120 : ℝ) : EReal) :=
    (Finset.fold_max_le _).mpr ⟨by rw [bot_bits]; exact bot_le, fun k _ => abs_le (h k)⟩
  have hc : (0 : EReal) ≤ Ideal.ofBits .f32 0x3B124925#32 := by rw [c_bits]; exact EReal.coe_nonneg.mpr (by norm_num)
  refine lt_of_le_of_lt (mul_le_mul_of_nonneg_right hM hc) ?_
  rw [c_bits, pw_norm (by norm_num) (by norm_num), ← EReal.coe_mul]
  exact EReal.coe_lt_coe_iff.mpr (by norm_num)

/-! ## The equation -/

section
open Cert.Kernel Cert.Kernel.Gen Cert.Kernel.Hand

variable (m : (ℓ : Loc nD τ sig) → Buf (Elt Ideal) ℓ) (c : Dev nD)

/-- The activations as the kernel's launch finds them: the argument, reshaped. -/
theorem X_eq : (arrs m c).X = shapeCast S32x2x8x6144 (m ((c : Thread nD τ).loc main_arg0)) shapeCasts_S32x16x6144_S32x2x8x6144 := by
  show StableHlo.after hostOps0 (fun b => m (c, b)) (Proc.devRef .tc main_call0_v0) = _
  rw [StableHlo.after_cons, StableHlo.after_nil]
  exact StableHlo.reshape_result' ..

theorem cast_apply (x : FVec Ideal S32x16x6144 .bf16) (e : Fin 32) (r : Fin 16) (k : Fin 6144) :
    shapeCast S32x2x8x6144 x shapeCasts_S32x16x6144_S32x2x8x6144 (ix4 e (⟨r.val / 8, by omega⟩ : Fin 2) (⟨r.val % 8, by omega⟩ : Fin 8) k)
      = x (ix3 e r k) := by
  pointwise

theorem row_eq (e : Fin 32) (r : Fin 16) : Cert.KerVal.row (arrs m c) e r = fun k => m ((c : Thread nD τ).loc main_arg0) (ix3 e r k) := by
  funext k
  unfold Cert.KerVal.row
  rw [X_eq]
  exact cast_apply _ e r k

theorem res_eq (h : ∀ i, InRange (m ((c : Thread nD τ).loc main_arg0) i)) :
    res (arrs m c) = Cert.ReferenceIdeal.Value.G4 (F := Ideal) (m ((c : Thread nD τ).loc main_arg0)) (m ((c : Thread nD τ).loc main_arg1))
      (m ((c : Thread nD τ).loc main_arg2)) (m ((c : Thread nD τ).loc main_arg3)) := by
  funext i
  obtain ⟨e, r, n, rfl⟩ : ∃ (e : Fin 32) (r : Fin 16) (n : Fin 768), i = ix3 e r n := ⟨i 0, i 1, i 2, eq_ix3 i⟩
  rw [Cert.RefVal.ref_apply, Cert.KerVal.res_apply _ e r n (top_nonneg _) (top_lt fun k => by rw [row_eq]; exact h _), row_eq]
  rw [show (arrs m c).GS = m ((c : Thread nD τ).loc main_arg1) from V_main_arg1 m c,
    show (arrs m c).W = m ((c : Thread nD τ).loc main_arg2) from V_main_arg2 m c,
    show (arrs m c).WS = m ((c : Thread nD τ).loc main_arg3) from V_main_arg3 m c]
  rfl

end

/-- The precondition read at an index. -/
theorem range_of (x : FVec Ideal Cert.Pre_finite.S32x16x6144 .bf16) (g : IVec Cert.Pre_finite.S32 32) (w : FVec Ideal Cert.Pre_finite.S32x768x6144 .fp8e4m3)
    (s : FVec Ideal Cert.Pre_finite.S32x768 .f32) (h : Cert.Pre_finite.fn (F := Ideal) x g w s = fun _ => 1#1) (i : Cert.Pre_finite.S32x16x6144.Idx) :
    InRange (x i) := by
  have := congrFun h i
  change BitVec.ofBool (decide (Ideal.ofBits .bf16 0xFF7F#16 ≤ x i)) &&& BitVec.ofBool (decide (x i ≤ Ideal.ofBits .bf16 0x7F7F#16)) = 1#1 at this
  unfold InRange
  by_cases h1 : Ideal.ofBits .bf16 0xFF7F#16 ≤ x i <;> by_cases h2 : x i ≤ Ideal.ofBits .bf16 0x7F7F#16 <;> simp [h1, h2] at this ⊢

end Cert.Equal

end
-- ==== Proof.lean ====
/-
  The proof of `Cert.Claim`: the kernel and the reference run to their end, their arguments unchanged and every semaphore
  at zero, and over the reals their results are equal.
-/
module

public import proofs.«01_k».proof.Defs
public import proofs.«01_k».proof.Proof.Gen.Kernel
public import proofs.«01_k».proof.Proof.Gen.KernelIdeal
public import proofs.«01_k».proof.Proof.Gen.ReferenceIdeal.Value
public import proofs.«01_k».proof.Proof.Gen.Pre_finite
public import proofs.«01_k».proof.Proof.Same
public import proofs.«01_k».proof.Proof.Equal
public import Idealize.ShloMosaic.Adequacy
public import Idealize.ShloMosaic.Init

@[expose] public section

noncomputable section

namespace Cert.Proof

open Idealize.ShloMosaic Idealize.SL.Sem

theorem algebraic : Cert.algebraic_KernelIdeal_ReferenceIdeal_pre_finite := by
  intro m g m' g' hpre hargs
  refine ⟨fun c => Cert.ReferenceIdeal.Value.G4 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run _ _ _).mono (fun r h c => ?_) (Cert.Same.value (F := Ideal) m g)
    refine ⟨(h c).1.trans ?_, (h c).2⟩
    exact Cert.Equal.res_eq m c (Cert.Equal.range_of _ _ _ _ (hpre c))
  · refine (θ_run _ _ _).mono (fun r h c => ?_) (Cert.ReferenceIdeal.Value.run (F := Ideal) m' g')
    refine ⟨(h c).1.trans ?_, (h c).2⟩
    obtain ⟨h0, h1, h2, h3⟩ := hargs c
    rw [h0, h1, h2, h3]

theorem claim : Cert.Claim :=
  ⟨Cert.Kernel.Gen.facts, Cert.KernelIdeal.Gen.facts, Cert.ReferenceIdeal.Gen.facts, Cert.Pre_finite.Gen.facts,
    fun m g _ => Cert.Kernel.Hand.quiescent m g,
    fun m g _ => Cert.Same.quiescent m g,
    fun m g _ => Cert.Same.quiescent m g,
    fun m g _ => Cert.ReferenceIdeal.Gen.frame m g,
    fun m g _ => Cert.ReferenceIdeal.Gen.frame m g,
    trivial,
    algebraic⟩

end Cert.Proof

end
